-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def preserves_Kernel_KernelIdeal : Prop :=
  IdealRules.named_const.Statement Cert.KernelIdeal.κ "ln_2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)) (v2 : (c : Dev Cert.KernelIdeal.nD) → Buf (Elt Ideal) ((c.tc : Thread Cert.KernelIdeal.nD Cert.KernelIdeal.τ).loc Cert.KernelIdeal.main_v32_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_v32_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_v11) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_v9) = v1 c
          ∧ r.2.mem ((c.tc : Thread Cert.Reference7Ideal.nD Cert.Reference7Ideal.τ).loc Cert.Reference7Ideal.main_v10) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  IdealRules.named_const.Statement Cert.Kernel8Ideal.κ "log2_e" .f32 0x3FB8AA3B#32 (((Real.log 2)⁻¹ : ℝ) : EReal)

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v11_0)) (v1 : (c : Dev Cert.Kernel8Ideal.nD) → Buf (Elt Ideal) ((c.tc : Thread Cert.Kernel8Ideal.nD Cert.Kernel8Ideal.τ).loc Cert.Kernel8Ideal.main_v11_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v11_0) = v0 c
          ∧ r.2.mem ((c.tc : Thread Cert.Kernel8Ideal.nD Cert.Kernel8Ideal.τ).loc Cert.Kernel8Ideal.main_v11_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v28) = v0 c
          ∧ r.2.mem ((c.tc : Thread Cert.Reference8Ideal.nD Cert.Reference8Ideal.τ).loc Cert.Reference8Ideal.main_v29) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  IdealRules.named_const.Statement Cert.Kernel9Ideal.κ "scale" .f32 0x3DD105EC#32 (((Real.sqrt 96)⁻¹ : ℝ) : EReal)
  ∧ IdealRules.named_const.Statement Cert.Kernel9Ideal.κ "ln_2" .f32 0x3F317218#32 ((Real.log 2 : ℝ) : EReal)

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v31_0)) (v1 : (c : Dev Cert.Kernel9Ideal.nD) → Buf (Elt Ideal) ((c.tc : Thread Cert.Kernel9Ideal.nD Cert.Kernel9Ideal.τ).loc Cert.Kernel9Ideal.main_v31_1)) (v2 : (c : Dev Cert.Kernel9Ideal.nD) → Buf (Elt Ideal) ((c.tc : Thread Cert.Kernel9Ideal.nD Cert.Kernel9Ideal.τ).loc Cert.Kernel9Ideal.main_v31_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v31_0) = v0 c
          ∧ r.2.mem ((c.tc : Thread Cert.Kernel9Ideal.nD Cert.Kernel9Ideal.τ).loc Cert.Kernel9Ideal.main_v31_1) = v1 c
          ∧ r.2.mem ((c.tc : Thread Cert.Kernel9Ideal.nD Cert.Kernel9Ideal.τ).loc Cert.Kernel9Ideal.main_v31_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v52) = v0 c
          ∧ r.2.mem ((c.tc : Thread Cert.Reference9Ideal.nD Cert.Reference9Ideal.τ).loc Cert.Reference9Ideal.main_v54) = v1 c
          ∧ r.2.mem ((c.tc : Thread Cert.Reference9Ideal.nD Cert.Reference9Ideal.τ).loc Cert.Reference9Ideal.main_v56) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  IdealRules.named_const.Statement Cert.Kernel10Ideal.κ "log2_e" .f32 0x3FB8AA3B#32 (((Real.log 2)⁻¹ : ℝ) : EReal)

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v12_0)) (v1 : (c : Dev Cert.Kernel10Ideal.nD) → Buf (Elt Ideal) ((c.tc : Thread Cert.Kernel10Ideal.nD Cert.Kernel10Ideal.τ).loc Cert.Kernel10Ideal.main_v12_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v12_0) = v0 c
          ∧ r.2.mem ((c.tc : Thread Cert.Kernel10Ideal.nD Cert.Kernel10Ideal.τ).loc Cert.Kernel10Ideal.main_v12_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v27) = v0 c
          ∧ r.2.mem ((c.tc : Thread Cert.Reference10Ideal.nD Cert.Reference10Ideal.τ).loc Cert.Reference10Ideal.main_v28) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite : Cert.Pre_finite.Facts) (hPre_finite2 : Cert.Pre_finite2.Facts) (hPre_finite8 : Cert.Pre_finite8.Facts) (hPre_finite9 : Cert.Pre_finite9.Facts) (hPre_finite10 : Cert.Pre_finite10.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_finite.lean ====
abbrev S16x8192x64 : Shape := ⟨3, ![16, 8192, 64]⟩
abbrev S4x8192x64 : Shape := ⟨3, ![4, 8192, 64]⟩
abbrev S_ : Shape := ⟨0, ![]⟩

class Facts : Prop where
  bcast_S_S16x8192x64 : S_.BroadcastsInDim S16x8192x64 (![] : Fin 0 → Fin S16x8192x64.rank)
  reducesTo_S16x8192x64_S_d0_1_2 : S16x8192x64.ReducesTo [0, 1, 2] S_
  h_S_ : 0 < S_.numel
  bcast_S_S4x8192x64 : S_.BroadcastsInDim S4x8192x64 (![] : Fin 0 → Fin S4x8192x64.rank)
  reducesTo_S4x8192x64_S_d0_1_2 : S4x8192x64.ReducesTo [0, 1, 2] S_

variable [Facts]

def fn_part1 {F : FTy → Type} [FloatOps F] (main_v13 : IVec S_ 1) (main_v16 : IVec S16x8192x64 1) : IVec S_ 1 :=
  let main_c_5 : IVec S_ 1 := constantI S_ 1 1#1
  let main_v17 : IVec S_ 1 := (fun x v => Host.reduce IntOp.andi x v reducesTo_S16x8192x64_S_d0_1_2 h_S_) main_v16 main_c_5
  let main_v18 : IVec S_ 1 := andi main_v13 main_v17
  main_v18

def fn {F : FTy → Type} [FloatOps F] (main_arg0 : FVec F S16x8192x64 .f32) (main_arg1 : FVec F S4x8192x64 .f32) (main_arg2 : FVec F S4x8192x64 .f32) (main_arg3 : FVec F S16x8192x64 .f32) : IVec S_ 1 :=
  let main_v0 : FVec F S16x8192x64 .f32 := Host.absf main_arg0
  let main_cst : FVec F S_ .f32 := constant S_ .f32 0x7F800000#32
  let main_v1 : FVec F S16x8192x64 .f32 := broadcastInDim S16x8192x64 ![] bcast_S_S16x8192x64 main_cst
  let main_v2 : IVec S16x8192x64 1 := cmpf .olt main_v0 main_v1
  let main_c : IVec S_ 1 := constantI S_ 1 1#1
  let main_v3 : IVec S_ 1 := (fun x v => Host.reduce IntOp.andi x v reducesTo_S16x8192x64_S_d0_1_2 h_S_) main_v2 main_c
  let main_v4 : FVec F S4x8192x64 .f32 := Host.absf main_arg1
  let main_cst_0 : FVec F S_ .f32 := constant S_ .f32 0x7F800000#32
  let main_v5 : FVec F S4x8192x64 .f32 := broadcastInDim S4x8192x64 ![] bcast_S_S4x8192x64 main_cst_0
  let main_v6 : IVec S4x8192x64 1 := cmpf .olt main_v4 main_v5
  let main_c_1 : IVec S_ 1 := constantI S_ 1 1#1
  let main_v7 : IVec S_ 1 := (fun x v => Host.reduce IntOp.andi x v reducesTo_S4x8192x64_S_d0_1_2 h_S_) main_v6 main_c_1
  let main_v8 : IVec S_ 1 := andi main_v3 main_v7
  let main_v9 : FVec F S4x8192x64 .f32 := Host.absf main_arg2
  let main_cst_2 : FVec F S_ .f32 := constant S_ .f32 0x7F800000#32
  let main_v10 : FVec F S4x8192x64 .f32 := broadcastInDim S4x8192x64 ![] bcast_S_S4x8192x64 main_cst_2
  let main_v11 : IVec S4x8192x64 1 := cmpf .olt main_v9 main_v10
  let main_c_3 : IVec S_ 1 := constantI S_ 1 1#1
  let main_v12 : IVec S_ 1 := (fun x v => Host.reduce IntOp.andi x v reducesTo_S4x8192x64_S_d0_1_2 h_S_) main_v11 main_c_3
  let main_v13 : IVec S_ 1 := andi main_v8 main_v12
  let main_v14 : FVec F S16x8192x64 .f32 := Host.absf main_arg3
  let main_cst_4 : FVec F S_ .f32 := constant S_ .f32 0x7F800000#32
  let main_v15 : FVec F S16x8192x64 .f32 := broadcastInDim S16x8192x64 ![] bcast_S_S16x8192x64 main_cst_4
  let main_v16 : IVec S16x8192x64 1 := cmpf .olt main_v14 main_v15
  fn_part1 (F := F) main_v13 main_v16
-- ==== Pre_finite10.lean ====
abbrev S8x8192x96 : Shape := ⟨3, ![8, 8192, 96]⟩
abbrev S8x8192x64 : Shape := ⟨3, ![8, 8192, 64]⟩
abbrev S_ : Shape := ⟨0, ![]⟩

class Facts : Prop where
  bcast_S_S8x8192x96 : S_.BroadcastsInDim S8x8192x96 (![] : Fin 0 → Fin S8x8192x96.rank)
  reducesTo_S8x8192x96_S_d0_1_2 : S8x8192x96.ReducesTo [0, 1, 2] S_
  h_S_ : 0 < S_.numel

variable [Facts]

def fn {F : FTy → Type} [FloatOps F] (main_arg0 : FVec F S8x8192x96 .f32) (main_arg1 : FVec F S8x8192x96 .f32) (main_arg2 : FVec F S8x8192x64 .f32) : IVec S_ 1 :=
  let main_v0 : FVec F S8x8192x96 .f32 := Host.absf main_arg0
  let main_cst : FVec F S_ .f32 := constant S_ .f32 0x7F800000#32
  let main_v1 : FVec F S8x8192x96 .f32 := broadcastInDim S8x8192x96 ![] bcast_S_S8x8192x96 main_cst
  let main_v2 : IVec S8x8192x96 1 := cmpf .olt main_v0 main_v1
  let main_c : IVec S_ 1 := constantI S_ 1 1#1
  let main_v3 : IVec S_ 1 := (fun x v => Host.reduce IntOp.andi x v reducesTo_S8x8192x96_S_d0_1_2 h_S_) main_v2 main_c
  let main_v4 : FVec F S8x8192x96 .f32 := Host.absf main_arg1
  let main_cst_0 : FVec F S_ .f32 := constant S_ .f32 0x7F800000#32
  let main_v5 : FVec F S8x8192x96 .f32 := broadcastInDim S8x8192x96 ![] bcast_S_S8x8192x96 main_cst_0
  let main_v6 : IVec S8x8192x96 1 := cmpf .olt main_v4 main_v5
  let main_c_1 : IVec S_ 1 := constantI S_ 1 1#1
  let main_v7 : IVec S_ 1 := (fun x v => Host.reduce IntOp.andi x v reducesTo_S8x8192x96_S_d0_1_2 h_S_) main_v6 main_c_1
  let main_v8 : IVec S_ 1 := andi main_v3 main_v7
  main_v8
-- ==== Pre_finite2.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S2816x1024 : S_.BroadcastsInDim S2816x1024 (![] : Fin 0 → Fin S2816x1024.rank)
  reducesTo_S2816x1024_S_d0_1 : S2816x1024.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn {F : FTy → Type} [FloatOps F] (main_arg0 : FVec F S8192x1024 .f32) (main_arg1 : FVec F S2816x1024 .bf16) (main_arg2 : FVec F S8192x2816 .bf16) (main_arg3 : FVec F S8192x2816 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_c_1 : IVec S_ 1 := constantI S_ 1 1#1
  let main_v8 : IVec S_ 1 := (fun x v => Host.reduce IntOp.andi x v reducesTo_S2816x1024_S_d0_1 h_S_) main_v7 main_c_1
  let main_v9 : IVec S_ 1 := andi main_v3 main_v8
  let main_v10 : FVec F S8192x2816 .f32 := (extf .f32 · bitsLt_bf16_f32) main_arg3
  let main_v11 : FVec F S8192x2816 .f32 := Host.absf main_v10
  let main_cst_2 : FVec F S_ .f32 := constant S_ .f32 0x7F800000#32
  let main_v12 : FVec F S8192x2816 .f32 := broadcastInDim S8192x2816 ![] bcast_S_S8192x2816 main_cst_2
  let main_v13 : IVec S8192x2816 1 := cmpf .olt main_v11 main_v12
  let main_c_3 : IVec S_ 1 := constantI S_ 1 1#1
  let main_v14 : IVec S_ 1 := (fun x v => Host.reduce IntOp.andi x v reducesTo_S8192x2816_S_d0_1 h_S_) main_v13 main_c_3
  let main_v15 : IVec S_ 1 := andi main_v9 main_v14
  main_v15
-- ==== Pre_finite8.lean ====
abbrev S16x8192x64 : Shape := ⟨3, ![16, 8192, 64]⟩
abbrev S4x8192x64 : Shape := ⟨3, ![4, 8192, 64]⟩
abbrev S_ : Shape := ⟨0, ![]⟩

class Facts : Prop where
  bcast_S_S16x8192x64 : S_.BroadcastsInDim S16x8192x64 (![] : Fin 0 → Fin S16x8192x64.rank)
  reducesTo_S16x8192x64_S_d0_1_2 : S16x8192x64.ReducesTo [0, 1, 2] S_
  h_S_ : 0 < S_.numel
  bcast_S_S4x8192x64 : S_.BroadcastsInDim S4x8192x64 (![] : Fin 0 → Fin S4x8192x64.rank)
  reducesTo_S4x8192x64_S_d0_1_2 : S4x8192x64.ReducesTo [0, 1, 2] S_

variable [Facts]

def fn {F : FTy → Type} [FloatOps F] (main_arg0 : FVec F S16x8192x64 .f32) (main_arg1 : FVec F S4x8192x64 .f32) (main_arg2 : FVec F S4x8192x64 .f32) : IVec S_ 1 :=
  let main_v0 : FVec F S16x8192x64 .f32 := Host.absf main_arg0
  let main_cst : FVec F S_ .f32 := constant S_ .f32 0x7F800000#32
  let main_v1 : FVec F S16x8192x64 .f32 := broadcastInDim S16x8192x64 ![] bcast_S_S16x8192x64 main_cst
  let main_v2 : IVec S16x8192x64 1 := cmpf .olt main_v0 main_v1
  let main_c : IVec S_ 1 := constantI S_ 1 1#1
  let main_v3 : IVec S_ 1 := (fun x v => Host.reduce IntOp.andi x v reducesTo_S16x8192x64_S_d0_1_2 h_S_) main_v2 main_c
  let main_v4 : FVec F S4x8192x64 .f32 := Host.absf main_arg1
  let main_cst_0 : FVec F S_ .f32 := constant S_ .f32 0x7F800000#32
  let main_v5 : FVec F S4x8192x64 .f32 := broadcastInDim S4x8192x64 ![] bcast_S_S4x8192x64 main_cst_0
  let main_v6 : IVec S4x8192x64 1 := cmpf .olt main_v4 main_v5
  let main_c_1 : IVec S_ 1 := constantI S_ 1 1#1
  let main_v7 : IVec S_ 1 := (fun x v => Host.reduce IntOp.andi x v reducesTo_S4x8192x64_S_d0_1_2 h_S_) main_v6 main_c_1
  let main_v8 : IVec S_ 1 := andi main_v3 main_v7
  main_v8
-- ==== Pre_finite9.lean ====
abbrev S8x8192x96 : Shape := ⟨3, ![8, 8192, 96]⟩
abbrev S8x8192x64 : Shape := ⟨3, ![8, 8192, 64]⟩
abbrev S_ : Shape := ⟨0, ![]⟩

class Facts : Prop where
  bcast_S_S8x8192x96 : S_.BroadcastsInDim S8x8192x96 (![] : Fin 0 → Fin S8x8192x96.rank)
  reducesTo_S8x8192x96_S_d0_1_2 : S8x8192x96.ReducesTo [0, 1, 2] S_
  h_S_ : 0 < S_.numel
  bcast_S_S8x8192x64 : S_.BroadcastsInDim S8x8192x64 (![] : Fin 0 → Fin S8x8192x64.rank)
  reducesTo_S8x8192x64_S_d0_1_2 : S8x8192x64.ReducesTo [0, 1, 2] S_

variable [Facts]

def fn_part1 {F : FTy → Type} [FloatOps F] (main_v13 : IVec S_ 1) (main_v16 : IVec S8x8192x64 1) : IVec S_ 1 :=
  let main_c_5 : IVec S_ 1 := constantI S_ 1 1#1
  let main_v17 : IVec S_ 1 := (fun x v => Host.reduce IntOp.andi x v reducesTo_S8x8192x64_S_d0_1_2 h_S_) main_v16 main_c_5
  let main_v18 : IVec S_ 1 := andi main_v13 main_v17
  main_v18

def fn {F : FTy → Type} [FloatOps F] (main_arg0 : FVec F S8x8192x96 .f32) (main_arg1 : FVec F S8x8192x96 .f32) (main_arg2 : FVec F S8x8192x64 .f32) (main_arg3 : FVec F S8x8192x64 .f32) : IVec S_ 1 :=
  let main_v0 : FVec F S8x8192x96 .f32 := Host.absf main_arg0
  let main_cst : FVec F S_ .f32 := constant S_ .f32 0x7F800000#32
  let main_v1 : FVec F S8x8192x96 .f32 := broadcastInDim S8x8192x96 ![] bcast_S_S8x8192x96 main_cst
  let main_v2 : IVec S8x8192x96 1 := cmpf .olt main_v0 main_v1
  let main_c : IVec S_ 1 := constantI S_ 1 1#1
  let main_v3 : IVec S_ 1 := (fun x v => Host.reduce IntOp.andi x v reducesTo_S8x8192x96_S_d0_1_2 h_S_) main_v2 main_c
  let main_v4 : FVec F S8x8192x96 .f32 := Host.absf main_arg1
  let main_cst_0 : FVec F S_ .f32 := constant S_ .f32 0x7F800000#32
  let main_v5 : FVec F S8x8192x96 .f32 := broadcastInDim S8x8192x96 ![] bcast_S_S8x8192x96 main_cst_0
  let main_v6 : IVec S8x8192x96 1 := cmpf .olt main_v4 main_v5
  let main_c_1 : IVec S_ 1 := constantI S_ 1 1#1
  let main_v7 : IVec S_ 1 := (fun x v => Host.reduce IntOp.andi x v reducesTo_S8x8192x96_S_d0_1_2 h_S_) main_v6 main_c_1
  let main_v8 : IVec S_ 1 := andi main_v3 main_v7
  let main_v9 : FVec F S8x8192x64 .f32 := Host.absf main_arg2
  let main_cst_2 : FVec F S_ .f32 := constant S_ .f32 0x7F800000#32
  let main_v10 : FVec F S8x8192x64 .f32 := broadcastInDim S8x8192x64 ![] bcast_S_S8x8192x64 main_cst_2
  let main_v11 : IVec S8x8192x64 1 := cmpf .olt main_v9 main_v10
  let main_c_3 : IVec S_ 1 := constantI S_ 1 1#1
  let main_v12 : IVec S_ 1 := (fun x v => Host.reduce IntOp.andi x v reducesTo_S8x8192x64_S_d0_1_2 h_S_) main_v11 main_c_3
  let main_v13 : IVec S_ 1 := andi main_v8 main_v12
  let main_v14 : FVec F S8x8192x64 .f32 := Host.absf main_arg3
  let main_cst_4 : FVec F S_ .f32 := constant S_ .f32 0x7F800000#32
  let main_v15 : FVec F S8x8192x64 .f32 := broadcastInDim S8x8192x64 ![] bcast_S_S8x8192x64 main_cst_4
  let main_v16 : IVec S8x8192x64 1 := cmpf .olt main_v14 main_v15
  fn_part1 (F := F) main_v13 main_v16
-- ==== Kernel.lean ====
abbrev S16x8192x64 : Shape := ⟨3, ![16, 8192, 64]⟩
abbrev S4x8192x64 : Shape := ⟨3, ![4, 8192, 64]⟩
abbrev S4x4x8192x64 : Shape := ⟨4, ![4, 4, 8192, 64]⟩
abbrev S4x4x8192x8192 : Shape := ⟨4, ![4, 4, 8192, 8192]⟩
abbrev S_ : Shape := ⟨0, ![]⟩
abbrev S4x4x8192 : Shape := ⟨3, ![4, 4, 8192]⟩
abbrev S4x4x8192x1 : Shape := ⟨4, ![4, 4, 8192, 1]⟩
abbrev S16x1x8192 : Shape := ⟨3, ![16, 1, 8192]⟩
abbrev S16x64x8192 : Shape := ⟨3, ![16, 64, 8192]⟩
abbrev S4x2x64x4096 : Shape := ⟨4, ![4, 2, 64, 4096]⟩
abbrev S2x64x256 : Shape := ⟨3, ![2, 64, 256]⟩
abbrev S1x8192x64 : Shape := ⟨3, ![1, 8192, 64]⟩
abbrev S2x256x64 : Shape := ⟨3, ![2, 256, 64]⟩
abbrev S2x1x256 : Shape := ⟨3, ![2, 1, 256]⟩
abbrev S1x2x64x4096 : Shape := ⟨4, ![1, 2, 64, 4096]⟩
abbrev S1x64x256 : Shape := ⟨3, ![1, 64, 256]⟩
abbrev S64x256 : Shape := ⟨2, ![64, 256]⟩
abbrev S256x64 : Shape := ⟨2, ![256, 64]⟩
abbrev S1x256x64 : Shape := ⟨3, ![1, 256, 64]⟩
abbrev S1x1x256 : Shape := ⟨3, ![1, 1, 256]⟩
abbrev S1x256 : Shape := ⟨2, ![1, 256]⟩
abbrev S256x1 : Shape := ⟨2, ![256, 1]⟩
abbrev S256 : Shape := ⟨1, ![256]⟩
abbrev S1x4096x64 : Shape := ⟨3, ![1, 4096, 64]⟩
abbrev S4096x64 : Shape := ⟨2, ![4096, 64]⟩
abbrev S256x4096 : Shape := ⟨2, ![256, 4096]⟩
abbrev S1x1x64x4096 : Shape := ⟨4, ![1, 1, 64, 4096]⟩
abbrev S64x4096 : Shape := ⟨2, ![64, 4096]⟩

abbrev nBuf : Space → Nat
  | .hbm => 44
  | .vmem => 18
  | .smem => 0
  | _ => 0

abbrev bufTy : (tb : Table) → Fin (tcTables nBuf tb) → BufTy
  | .hbm, ⟨0, _⟩ => ⟨S16x8192x64, .f32⟩
  | .hbm, ⟨1, _⟩ => ⟨S4x8192x64, .f32⟩
  | .hbm, ⟨2, _⟩ => ⟨S4x8192x64, .f32⟩
  | .hbm, ⟨3, _⟩ => ⟨S16x8192x64, .f32⟩
  | .hbm, ⟨4, _⟩ => ⟨S4x4x8192x64, .f32⟩
  | .hbm, ⟨5, _⟩ => ⟨S4x4x8192x8192, .f32⟩
  | .hbm, ⟨6, _⟩ => ⟨S_, .f32⟩
  | .hbm, ⟨7, _⟩ => ⟨S4x4x8192x8192, .f32⟩
  | .hbm, ⟨8, _⟩ => ⟨S4x4x8192x8192, .f32⟩
  | .hbm, ⟨9, _⟩ => ⟨S_, .f32⟩
  | .hbm, ⟨10, _⟩ => ⟨S4x4x8192, .f32⟩
  | .hbm, ⟨11, _⟩ => ⟨S4x4x8192x1, .f32⟩
  | .hbm, ⟨12, _⟩ => ⟨S4x4x8192x8192, .f32⟩
  | .hbm, ⟨13, _⟩ => ⟨S4x4x8192x8192, .f32⟩
  | .hbm, ⟨14, _⟩ => ⟨S4x4x8192x8192, .f32⟩
  | .hbm, ⟨15, _⟩ => ⟨S_, .f32⟩
  | .hbm, ⟨16, _⟩ => ⟨S4x4x8192, .f32⟩
  | .hbm, ⟨17, _⟩ => ⟨S4x4x8192x1, .f32⟩
  | .hbm, ⟨18, _⟩ => ⟨S4x4x8192x8192, .f32⟩
  | .hbm, ⟨19, _⟩ => ⟨S4x4x8192x8192, .f32⟩
  | .hbm, ⟨20, _⟩ => ⟨S4x4x8192x64, .f32⟩
  | .hbm, ⟨21, _⟩ => ⟨S16x8192x64, .f32⟩
  | .hbm, ⟨22, _⟩ => ⟨S_, .f32⟩
  | .hbm, ⟨23, _⟩ => ⟨S_, .f32⟩
  | .hbm, ⟨24, _⟩ => ⟨S4x4x8192x1, .f32⟩
  | .hbm, ⟨25, _⟩ => ⟨S4x4x8192x1, .f32⟩
  | .hbm, ⟨26, _⟩ => ⟨S4x4x8192x1, .f32⟩
  | .hbm, ⟨27, _⟩ => ⟨S4x4x8192x1, .f32⟩
  | .hbm, ⟨28, _⟩ => ⟨S16x1x8192, .f32⟩
  | .hbm, ⟨29, _⟩ => ⟨S_, .f32⟩
  | .hbm, ⟨30, _⟩ => ⟨S16x8192x64, .f32⟩
  | .hbm, ⟨31, _⟩ => ⟨S16x8192x64, .f32⟩
  | .hbm, ⟨32, _⟩ => ⟨S16x8192x64, .f32⟩
  | .hbm, ⟨33, _⟩ => ⟨S16x8192x64, .f32⟩
  | .hbm, ⟨34, _⟩ => ⟨S16x64x8192, .f32⟩
  | .hbm, ⟨35, _⟩ => ⟨S16x64x8192, .bf16⟩
  | .hbm, ⟨36, _⟩ => ⟨S16x64x8192, .f32⟩
  | .hbm, ⟨37, _⟩ => ⟨S16x64x8192, .bf16⟩
  | .hbm, ⟨38, _⟩ => ⟨S4x8192x64, .bf16⟩
  | .hbm, ⟨39, _⟩ => ⟨S4x8192x64, .bf16⟩
  | .hbm, ⟨40, _⟩ => ⟨S16x8192x64, .bf16⟩
  | .hbm, ⟨41, _⟩ => ⟨S16x8192x64, .bf16⟩
  | .hbm, ⟨42, _⟩ => ⟨S4x2x64x4096, .f32⟩
  | .hbm, ⟨43, _⟩ => ⟨S4x2x64x4096, .f32⟩
  | .local _ .vmem, ⟨0, _⟩ => ⟨S2x64x256, .bf16⟩
  | .local _ .vmem, ⟨1, _⟩ => ⟨S2x64x256, .bf16⟩
  | .local _ .vmem, ⟨2, _⟩ => ⟨S1x8192x64, .bf16⟩
  | .local _ .vmem, ⟨3, _⟩ => ⟨S1x8192x64, .bf16⟩
  | .local _ .vmem, ⟨4, _⟩ => ⟨S1x8192x64, .bf16⟩
  | .local _ .vmem, ⟨5, _⟩ => ⟨S1x8192x64, .bf16⟩
  | .local _ .vmem, ⟨6, _⟩ => ⟨S2x64x256, .bf16⟩
  | .local _ .vmem, ⟨7, _⟩ => ⟨S2x64x256, .bf16⟩
  | .local _ .vmem, ⟨8, _⟩ => ⟨S2x256x64, .bf16⟩
  | .local _ .vmem, ⟨9, _⟩ => ⟨S2x256x64, .bf16⟩
  | .local _ .vmem, ⟨10, _⟩ => ⟨S2x1x256, .f32⟩
  | .local _ .vmem, ⟨11, _⟩ => ⟨S2x1x256, .f32⟩
  | .local _ .vmem, ⟨12, _⟩ => ⟨S2x256x64, .bf16⟩
  | .local _ .vmem, ⟨13, _⟩ => ⟨S2x256x64, .bf16⟩
  | .local _ .vmem, ⟨14, _⟩ => ⟨S1x2x64x4096, .f32⟩
  | .local _ .vmem, ⟨15, _⟩ => ⟨S1x2x64x4096, .f32⟩
  | .local _ .vmem, ⟨16, _⟩ => ⟨S1x2x64x4096, .f32⟩
  | .local _ .vmem, ⟨17, _⟩ => ⟨S1x2x64x4096, .f32⟩
  | _, _ => ⟨S16x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32_0 : Ref sig .tc := ⟨.hbm, 41, rfl⟩
abbrev main_v32_1 : Ref sig .tc := ⟨.hbm, 42, rfl⟩
abbrev main_v32_2 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 2, 32], ![false, false, false]⟩

@[reducible] def k0_t1_loop : Scf.Loop 32 :=
  let c0_i32_45 : BitVec 32 := 0#32
  let c2_i32 : BitVec 32 := 2#32
  let v53 : BitVec 32 := Scalar.addi c0_i32_45 c2_i32
  let c1_i32 : BitVec 32 := 1#32
  ⟨c0_i32_45, v53, c1_i32⟩
def k0_mult1 (k0_t1 : Fin k0_t1_loop.trips) : BitVec 32 :=
  let c0_i32_45 : BitVec 32 := 0#32
  let c1_i32 : BitVec 32 := 1#32
  let arg12 : BitVec 32 := Scf.iv c0_i32_45 c1_i32 k0_t1
  let c4096_i32 : BitVec 32 := 4096#32
  let v72 : BitVec 32 := Scalar.muli arg12 c4096_i32
  v72
def k0_off1 (k0_t1 : Fin k0_t1_loop.trips) : Fin 3 → Nat :=
  let c0_57 : Index := 0#32
  let c0_i32_45 : BitVec 32 := 0#32
  let c1_i32 : BitVec 32 := 1#32
  let arg12 : BitVec 32 := Scf.iv c0_i32_45 c1_i32 k0_t1
  let c4096_i32 : BitVec 32 := 4096#32
  let v72 : BitVec 32 := Scalar.muli arg12 c4096_i32
  let v73 : BitVec 32 := v72
  let v74 : Index := Scalar.indexCast v73
  let c0_58 : Index := 0#32
  ![0, v74.toNat, 0]
def k0_off2 (k0_t1 : Fin k0_t1_loop.trips) : Fin 4 → Nat :=
  let c0_63 : Index := 0#32
  let c0_i32_45 : BitVec 32 := 0#32
  let c1_i32 : BitVec 32 := 1#32
  let arg12 : BitVec 32 := Scf.iv c0_i32_45 c1_i32 k0_t1
  let v89 : Index := Scalar.indexCast arg12
  let c0_64 : Index := 0#32
  let c0_65 : Index := 0#32
  ![0, v89.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x8192x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S2x64x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S2x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S2x256x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x2x64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x2x64x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== KernelIdeal.lean ====
variable {F : FTy → Type} [FloatOps F] [Named F]
def κ : String → Option EReal := fun
  | "ln_2" => some ((Real.log 2 : ℝ) : EReal)
  | _ => none
-- ==== ReferenceIdeal.lean ====
abbrev S16x8192x64 : Shape := ⟨3, ![16, 8192, 64]⟩
abbrev S4x8192x64 : Shape := ⟨3, ![4, 8192, 64]⟩
abbrev S4x4x8192x64 : Shape := ⟨4, ![4, 4, 8192, 64]⟩
abbrev S4x4x8192x8192 : Shape := ⟨4, ![4, 4, 8192, 8192]⟩
abbrev S_ : Shape := ⟨0, ![]⟩
abbrev S4x4x8192 : Shape := ⟨3, ![4, 4, 8192]⟩
abbrev S4x4x8192x1 : Shape := ⟨4, ![4, 4, 8192, 1]⟩
abbrev S4x64x8192 : Shape := ⟨3, ![4, 64, 8192]⟩
abbrev S4x2x4096x64 : Shape := ⟨4, ![4, 2, 4096, 64]⟩
abbrev S4x2x64x4096 : Shape := ⟨4, ![4, 2, 64, 4096]⟩

abbrev nBuf : Space → Nat
  | .hbm => 78
  | .vmem => 0
  | .smem => 0
  | _ => 0

abbrev bufTy : (tb : Table) → Fin (tcTables nBuf tb) → BufTy
  | .hbm, ⟨0, _⟩ => ⟨S16x8192x64, .f32⟩
  | .hbm, ⟨1, _⟩ => ⟨S4x8192x64, .f32⟩
  | .hbm, ⟨2, _⟩ => ⟨S4x8192x64, .f32⟩
  | .hbm, ⟨3, _⟩ => ⟨S16x8192x64, .f32⟩
  | .hbm, ⟨4, _⟩ => ⟨S4x4x8192x64, .f32⟩
  | .hbm, ⟨5, _⟩ => ⟨S4x4x8192x8192, .f32⟩
  | .hbm, ⟨6, _⟩ => ⟨S_, .f32⟩
  | .hbm, ⟨7, _⟩ => ⟨S4x4x8192x8192, .f32⟩
  | .hbm, ⟨8, _⟩ => ⟨S4x4x8192x8192, .f32⟩
  | .hbm, ⟨9, _⟩ => ⟨S_, .f32⟩
  | .hbm, ⟨10, _⟩ => ⟨S4x4x8192, .f32⟩
  | .hbm, ⟨11, _⟩ => ⟨S4x4x8192x1, .f32⟩
  | .hbm, ⟨12, _⟩ => ⟨S4x4x8192x8192, .f32⟩
  | .hbm, ⟨13, _⟩ => ⟨S4x4x8192x8192, .i1⟩
  | .hbm, ⟨14, _⟩ => ⟨S4x4x8192x8192, .f32⟩
  | .hbm, ⟨15, _⟩ => ⟨S_, .f32⟩
  | .hbm, ⟨16, _⟩ => ⟨S4x4x8192, .f32⟩
  | .hbm, ⟨17, _⟩ => ⟨S_, .f32⟩
  | .hbm, ⟨18, _⟩ => ⟨S4x4x8192, .f32⟩
  | .hbm, ⟨19, _⟩ => ⟨S4x4x8192, .f32⟩
  | .hbm, ⟨20, _⟩ => ⟨S_, .f32⟩
  | .hbm, ⟨21, _⟩ => ⟨S4x4x8192, .f32⟩
  | .hbm, ⟨22, _⟩ => ⟨S4x4x8192, .i1⟩
  | .hbm, ⟨23, _⟩ => ⟨S_, .f32⟩
  | .hbm, ⟨24, _⟩ => ⟨S4x4x8192, .f32⟩
  | .hbm, ⟨25, _⟩ => ⟨S4x4x8192, .i1⟩
  | .hbm, ⟨26, _⟩ => ⟨S_, .f32⟩
  | .hbm, ⟨27, _⟩ => ⟨S4x4x8192, .f32⟩
  | .hbm, ⟨28, _⟩ => ⟨S_, .f32⟩
  | .hbm, ⟨29, _⟩ => ⟨S4x4x8192, .f32⟩
  | .hbm, ⟨30, _⟩ => ⟨S_, .f32⟩
  | .hbm, ⟨31, _⟩ => ⟨S4x4x8192, .f32⟩
  | .hbm, ⟨32, _⟩ => ⟨S4x4x8192, .f32⟩
  | .hbm, ⟨33, _⟩ => ⟨S4x4x8192, .f32⟩
  | .hbm, ⟨34, _⟩ => ⟨S4x4x8192x1, .f32⟩
  | .hbm, ⟨35, _⟩ => ⟨S4x4x8192x8192, .f32⟩
  | .hbm, ⟨36, _⟩ => ⟨S4x4x8192x8192, .f32⟩
  | .hbm, ⟨37, _⟩ => ⟨S4x4x8192x8192, .f32⟩
  | .hbm, ⟨38, _⟩ => ⟨S_, .f32⟩
  | .hbm, ⟨39, _⟩ => ⟨S4x4x8192, .f32⟩
  | .hbm, ⟨40, _⟩ => ⟨S4x4x8192x1, .f32⟩
  | .hbm, ⟨41, _⟩ => ⟨S4x4x8192x8192, .f32⟩
  | .hbm, ⟨42, _⟩ => ⟨S4x4x8192x8192, .f32⟩
  | .hbm, ⟨43, _⟩ => ⟨S4x4x8192x1, .f32⟩
  | .hbm, ⟨44, _⟩ => ⟨S_, .f32⟩
  | .hbm, ⟨45, _⟩ => ⟨S4x4x8192x1, .f32⟩
  | .hbm, ⟨46, _⟩ => ⟨S4x4x8192x1, .f32⟩
  | .hbm, ⟨47, _⟩ => ⟨S4x4x8192x64, .f32⟩
  | .hbm, ⟨48, _⟩ => ⟨S16x8192x64, .f32⟩
  | .hbm, ⟨49, _⟩ => ⟨S4x4x8192x64, .f32⟩
  | .hbm, ⟨50, _⟩ => ⟨S4x64x8192, .f32⟩
  | .hbm, ⟨51, _⟩ => ⟨S4x8192x64, .f32⟩
  | .hbm, ⟨52, _⟩ => ⟨S4x4x8192x8192, .f32⟩
  | .hbm, ⟨53, _⟩ => ⟨S4x4x8192x8192, .f32⟩
  | .hbm, ⟨54, _⟩ => ⟨S4x4x8192x8192, .f32⟩
  | .hbm, ⟨55, _⟩ => ⟨S4x4x8192x8192, .f32⟩
  | .hbm, ⟨56, _⟩ => ⟨S_, .f32⟩
  | .hbm, ⟨57, _⟩ => ⟨S4x4x8192, .f32⟩
  | .hbm, ⟨58, _⟩ => ⟨S4x4x8192x1, .f32⟩
  | .hbm, ⟨59, _⟩ => ⟨S4x4x8192x1, .f32⟩
  | .hbm, ⟨60, _⟩ => ⟨S4x4x8192x8192, .f32⟩
  | .hbm, ⟨61, _⟩ => ⟨S4x4x8192x8192, .f32⟩
  | .hbm, ⟨62, _⟩ => ⟨S_, .f32⟩
  | .hbm, ⟨63, _⟩ => ⟨S4x4x8192, .f32⟩
  | .hbm, ⟨64, _⟩ => ⟨S4x4x8192x8192, .f32⟩
  | .hbm, ⟨65, _⟩ => ⟨S4x4x8192x8192, .f32⟩
  | .hbm, ⟨66, _⟩ => ⟨S4x4x8192x8192, .f32⟩
  | .hbm, ⟨67, _⟩ => ⟨S_, .f32⟩
  | .hbm, ⟨68, _⟩ => ⟨S4x4x8192x8192, .f32⟩
  | .hbm, ⟨69, _⟩ => ⟨S4x4x8192x8192, .f32⟩
  | .hbm, ⟨70, _⟩ => ⟨S4x8192x64, .f32⟩
  | .hbm, ⟨71, _⟩ => ⟨S4x4x8192x64, .f32⟩
  | .hbm, ⟨72, _⟩ => ⟨S16x8192x64, .f32⟩
  | .hbm, ⟨73, _⟩ => ⟨S16x8192x64, .bf16⟩
  | .hbm, ⟨74, _⟩ => ⟨S4x2x4096x64, .f32⟩
  | .hbm, ⟨75, _⟩ => ⟨S4x2x64x4096, .f32⟩
  | .hbm, ⟨76, _⟩ => ⟨S4x2x4096x64, .f32⟩
  | .hbm, ⟨77, _⟩ => ⟨S4x2x64x4096, .f32⟩
  | _, _ => ⟨S16x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== Kernel2.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 6
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference2Ideal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .f32⟩
  | .hbm, ⟨5, _⟩ => ⟨S8192x2816, .f32⟩
  | .hbm, ⟨6, _⟩ => ⟨S2816x1024, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .bf16⟩
  | .hbm, ⟨30, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== Kernel3.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S2816x1024, .f32⟩
  | .hbm, ⟨5, _⟩ => ⟨S1024x2816, .f32⟩
  | .hbm, ⟨6, _⟩ => ⟨S8192x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x2816, .f32⟩
  | .hbm, ⟨3, _⟩ => ⟨S_, .f32⟩
  | .hbm, ⟨4, _⟩ => ⟨S2816x1024, .f32⟩
  | .hbm, ⟨5, _⟩ => ⟨S8192x1024, .f32⟩
  | .hbm, ⟨6, _⟩ => ⟨S1024x2816, .f32⟩
  | .hbm, ⟨7, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2816 : Shape := ⟨2, ![8192, 2816]⟩
abbrev S2816x1024 : Shape := ⟨2, ![2816, 1024]⟩
abbrev S_ : Shape := ⟨0, ![]⟩
abbrev S8192x1024 : Shape := ⟨2, ![8192, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S2816x1024, .f32⟩
  | .hbm, ⟨3, _⟩ => ⟨S_, .f32⟩
  | .hbm, ⟨4, _⟩ => ⟨S8192x1024, .f32⟩
  | .hbm, ⟨5, _⟩ => ⟨S1024x2816, .f32⟩
  | .hbm, ⟨6, _⟩ => ⟨S8192x2816, .f32⟩
  | .hbm, ⟨7, _⟩ => ⟨S8192x2816, .f32⟩
  | .hbm, ⟨8, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8192x1024 : Shape := ⟨2, ![8192, 1024]⟩
abbrev S5632x1024 : Shape := ⟨2, ![5632, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 5
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x1408, .f32⟩
  | .local _ .vmem, ⟨13, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_15 : BitVec 32 := 0#32
  let v18 : BitVec 1 := Scalar.cmpi .eq arg2 c0_i32_15
  let v19 : BitVec 32 := Scalar.extui v18
  let c0_i32_16 : BitVec 32 := 0#32
  let v20 : BitVec 1 := Scalar.cmpi .ne v19 c0_i32_16
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![v0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference7Ideal.lean ====
abbrev S8192x1024 : Shape := ⟨2, ![8192, 1024]⟩
abbrev S5632x1024 : Shape := ⟨2, ![5632, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x1024, .f32⟩
  | .hbm, ⟨3, _⟩ => ⟨S5632x1024, .f32⟩
  | .hbm, ⟨4, _⟩ => ⟨S1024x5632, .f32⟩
  | .hbm, ⟨5, _⟩ => ⟨S8192x5632, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .bf16⟩
  | .hbm, ⟨19, _⟩ => ⟨S8192x2816, .bf16⟩
  | .hbm, ⟨20, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== Kernel8.lean ====
abbrev S16x8192x64 : Shape := ⟨3, ![16, 8192, 64]⟩
abbrev S4x8192x64 : Shape := ⟨3, ![4, 8192, 64]⟩
abbrev S_ : Shape := ⟨0, ![]⟩
abbrev S16x64x8192 : Shape := ⟨3, ![16, 64, 8192]⟩
abbrev S4x8x1024x64 : Shape := ⟨4, ![4, 8, 1024, 64]⟩
abbrev S4x8x64x1024 : Shape := ⟨4, ![4, 8, 64, 1024]⟩
abbrev S16x1x8192 : Shape := ⟨3, ![16, 1, 8192]⟩
abbrev S2x64x2048 : Shape := ⟨3, ![2, 64, 2048]⟩
abbrev S1x8192x64 : Shape := ⟨3, ![1, 8192, 64]⟩
abbrev S1x8x64x1024 : Shape := ⟨4, ![1, 8, 64, 1024]⟩
abbrev S2x1x2048 : Shape := ⟨3, ![2, 1, 2048]⟩
abbrev S1x64x2048 : Shape := ⟨3, ![1, 64, 2048]⟩
abbrev S64x2048 : Shape := ⟨2, ![64, 2048]⟩
abbrev S1x2048 : Shape := ⟨2, ![1, 2048]⟩
abbrev S1x1024x64 : Shape := ⟨3, ![1, 1024, 64]⟩
abbrev S1024x64 : Shape := ⟨2, ![1024, 64]⟩
abbrev S1x1x64x1024 : Shape := ⟨4, ![1, 1, 64, 1024]⟩
abbrev S64x1024 : Shape := ⟨2, ![64, 1024]⟩
abbrev S1024x2048 : Shape := ⟨2, ![1024, 2048]⟩
abbrev S2048 : Shape := ⟨1, ![2048]⟩
abbrev S1x1x2048 : Shape := ⟨3, ![1, 1, 2048]⟩

abbrev nBuf : Space → Nat
  | .hbm => 18
  | .vmem => 10
  | .smem => 0
  | _ => 0

abbrev bufTy : (tb : Table) → Fin (tcTables nBuf tb) → BufTy
  | .hbm, ⟨0, _⟩ => ⟨S16x8192x64, .f32⟩
  | .hbm, ⟨1, _⟩ => ⟨S4x8192x64, .f32⟩
  | .hbm, ⟨2, _⟩ => ⟨S4x8192x64, .f32⟩
  | .hbm, ⟨3, _⟩ => ⟨S_, .f32⟩
  | .hbm, ⟨4, _⟩ => ⟨S16x8192x64, .f32⟩
  | .hbm, ⟨5, _⟩ => ⟨S16x8192x64, .f32⟩
  | .hbm, ⟨6, _⟩ => ⟨S_, .f32⟩
  | .hbm, ⟨7, _⟩ => ⟨S_, .f32⟩
  | .hbm, ⟨8, _⟩ => ⟨S16x8192x64, .f32⟩
  | .hbm, ⟨9, _⟩ => ⟨S16x8192x64, .f32⟩
  | .hbm, ⟨10, _⟩ => ⟨S16x64x8192, .f32⟩
  | .hbm, ⟨11, _⟩ => ⟨S16x64x8192, .bf16⟩
  | .hbm, ⟨12, _⟩ => ⟨S4x8x1024x64, .f32⟩
  | .hbm, ⟨13, _⟩ => ⟨S4x8x64x1024, .f32⟩
  | .hbm, ⟨14, _⟩ => ⟨S4x8x64x1024, .bf16⟩
  | .hbm, ⟨15, _⟩ => ⟨S4x8192x64, .bf16⟩
  | .hbm, ⟨16, _⟩ => ⟨S16x64x8192, .bf16⟩
  | .hbm, ⟨17, _⟩ => ⟨S16x1x8192, .f32⟩
  | .local _ .vmem, ⟨0, _⟩ => ⟨S2x64x2048, .bf16⟩
  | .local _ .vmem, ⟨1, _⟩ => ⟨S2x64x2048, .bf16⟩
  | .local _ .vmem, ⟨2, _⟩ => ⟨S1x8192x64, .bf16⟩
  | .local _ .vmem, ⟨3, _⟩ => ⟨S1x8192x64, .bf16⟩
  | .local _ .vmem, ⟨4, _⟩ => ⟨S1x8x64x1024, .bf16⟩
  | .local _ .vmem, ⟨5, _⟩ => ⟨S1x8x64x1024, .bf16⟩
  | .local _ .vmem, ⟨6, _⟩ => ⟨S2x64x2048, .bf16⟩
  | .local _ .vmem, ⟨7, _⟩ => ⟨S2x64x2048, .bf16⟩
  | .local _ .vmem, ⟨8, _⟩ => ⟨S2x1x2048, .f32⟩
  | .local _ .vmem, ⟨9, _⟩ => ⟨S2x1x2048, .f32⟩
  | _, _ => ⟨S16x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 4], ![false, false, false]⟩

@[reducible] def k0_t1_loop : Scf.Loop 32 :=
  let c0_i32 : BitVec 32 := 0#32
  let c8_i32 : BitVec 32 := 8#32
  let v10 : BitVec 32 := Scalar.addi c0_i32 c8_i32
  let c1_i32 : BitVec 32 := 1#32
  ⟨c0_i32, v10, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c1024_i32 : BitVec 32 := 1024#32
  let v38 : BitVec 32 := Scalar.muli arg8 c1024_i32
  v38
def k0_off1 (k0_t1 : Fin k0_t1_loop.trips) : Fin 3 → Nat :=
  let c0_24 : Index := 0#32
  let c0_i32 : BitVec 32 := 0#32
  let c1_i32 : BitVec 32 := 1#32
  let arg8 : BitVec 32 := Scf.iv c0_i32 c1_i32 k0_t1
  let c1024_i32 : BitVec 32 := 1024#32
  let v38 : BitVec 32 := Scalar.muli arg8 c1024_i32
  let v39 : BitVec 32 := v38
  let v40 : Index := Scalar.indexCast v39
  let c0_25 : Index := 0#32
  ![0, v40.toNat, 0]
def k0_off2 (k0_t1 : Fin k0_t1_loop.trips) : Fin 4 → Nat :=
  let c0_26 : Index := 0#32
  let c0_i32 : BitVec 32 := 0#32
  let c1_i32 : BitVec 32 := 1#32
  let arg8 : BitVec 32 := Scf.iv c0_i32 c1_i32 k0_t1
  let v43 : Index := Scalar.indexCast arg8
  let c0_27 : Index := 0#32
  let c0_28 : Index := 0#32
  ![0, v43.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat, arg2.toNat]

abbrev stage0_0 : Fin 2 → Memref sig .tc .vmem S2x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x8x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S2x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Kernel8Ideal.lean ====
variable {F : FTy → Type} [FloatOps F] [Named F]
def κ : String → Option EReal := fun
  | "log2_e" => some (((Real.log 2)⁻¹ : ℝ) : EReal)
  | _ => none
-- ==== Reference8Ideal.lean ====
abbrev S16x8192x64 : Shape := ⟨3, ![16, 8192, 64]⟩
abbrev S4x8192x64 : Shape := ⟨3, ![4, 8192, 64]⟩
abbrev S4x4x8192x64 : Shape := ⟨4, ![4, 4, 8192, 64]⟩
abbrev S4x4x8192x8192 : Shape := ⟨4, ![4, 4, 8192, 8192]⟩
abbrev S_ : Shape := ⟨0, ![]⟩
abbrev S4x4x8192 : Shape := ⟨3, ![4, 4, 8192]⟩
abbrev S4x4x8192x1 : Shape := ⟨4, ![4, 4, 8192, 1]⟩
abbrev S16x64x8192 : Shape := ⟨3, ![16, 64, 8192]⟩
abbrev S16x1x8192 : Shape := ⟨3, ![16, 1, 8192]⟩

abbrev nBuf : Space → Nat
  | .hbm => 40
  | .vmem => 0
  | .smem => 0
  | _ => 0

abbrev bufTy : (tb : Table) → Fin (tcTables nBuf tb) → BufTy
  | .hbm, ⟨0, _⟩ => ⟨S16x8192x64, .f32⟩
  | .hbm, ⟨1, _⟩ => ⟨S4x8192x64, .f32⟩
  | .hbm, ⟨2, _⟩ => ⟨S4x8192x64, .f32⟩
  | .hbm, ⟨3, _⟩ => ⟨S4x4x8192x64, .f32⟩
  | .hbm, ⟨4, _⟩ => ⟨S4x4x8192x8192, .f32⟩
  | .hbm, ⟨5, _⟩ => ⟨S_, .f32⟩
  | .hbm, ⟨6, _⟩ => ⟨S4x4x8192x8192, .f32⟩
  | .hbm, ⟨7, _⟩ => ⟨S4x4x8192x8192, .f32⟩
  | .hbm, ⟨8, _⟩ => ⟨S4x4x8192x8192, .f32⟩
  | .hbm, ⟨9, _⟩ => ⟨S_, .f32⟩
  | .hbm, ⟨10, _⟩ => ⟨S4x4x8192, .f32⟩
  | .hbm, ⟨11, _⟩ => ⟨S4x4x8192, .f32⟩
  | .hbm, ⟨12, _⟩ => ⟨S_, .f32⟩
  | .hbm, ⟨13, _⟩ => ⟨S_, .f32⟩
  | .hbm, ⟨14, _⟩ => ⟨S4x4x8192, .f32⟩
  | .hbm, ⟨15, _⟩ => ⟨S4x4x8192, .f32⟩
  | .hbm, ⟨16, _⟩ => ⟨S4x4x8192x64, .f32⟩
  | .hbm, ⟨17, _⟩ => ⟨S4x4x8192x8192, .f32⟩
  | .hbm, ⟨18, _⟩ => ⟨S_, .f32⟩
  | .hbm, ⟨19, _⟩ => ⟨S4x4x8192x8192, .f32⟩
  | .hbm, ⟨20, _⟩ => ⟨S4x4x8192x8192, .f32⟩
  | .hbm, ⟨21, _⟩ => ⟨S_, .f32⟩
  | .hbm, ⟨22, _⟩ => ⟨S4x4x8192, .f32⟩
  | .hbm, ⟨23, _⟩ => ⟨S_, .f32⟩
  | .hbm, ⟨24, _⟩ => ⟨S4x4x8192, .f32⟩
  | .hbm, ⟨25, _⟩ => ⟨S4x4x8192, .f32⟩
  | .hbm, ⟨26, _⟩ => ⟨S4x4x8192x1, .f32⟩
  | .hbm, ⟨27, _⟩ => ⟨S4x4x8192x8192, .f32⟩
  | .hbm, ⟨28, _⟩ => ⟨S4x4x8192x8192, .f32⟩
  | .hbm, ⟨29, _⟩ => ⟨S4x4x8192x8192, .f32⟩
  | .hbm, ⟨30, _⟩ => ⟨S_, .f32⟩
  | .hbm, ⟨31, _⟩ => ⟨S4x4x8192, .f32⟩
  | .hbm, ⟨32, _⟩ => ⟨S4x4x8192x1, .f32⟩
  | .hbm, ⟨33, _⟩ => ⟨S4x4x8192x8192, .f32⟩
  | .hbm, ⟨34, _⟩ => ⟨S4x4x8192x8192, .f32⟩
  | .hbm, ⟨35, _⟩ => ⟨S4x4x8192x64, .f32⟩
  | .hbm, ⟨36, _⟩ => ⟨S16x8192x64, .f32⟩
  | .hbm, ⟨37, _⟩ => ⟨S16x64x8192, .f32⟩
  | .hbm, ⟨38, _⟩ => ⟨S16x64x8192, .bf16⟩
  | .hbm, ⟨39, _⟩ => ⟨S16x1x8192, .f32⟩
  | _, _ => ⟨S16x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel9.lean ====
abbrev S8x8192x96 : Shape := ⟨3, ![8, 8192, 96]⟩
abbrev S8x8192x64 : Shape := ⟨3, ![8, 8192, 64]⟩
abbrev S_ : Shape := ⟨0, ![]⟩
abbrev S8x8192x8192 : Shape := ⟨3, ![8, 8192, 8192]⟩
abbrev S8x8192 : Shape := ⟨2, ![8, 8192]⟩
abbrev S8x8192x1 : Shape := ⟨3, ![8, 8192, 1]⟩
abbrev S8x1x8192 : Shape := ⟨3, ![8, 1, 8192]⟩
abbrev S8x96x8192 : Shape := ⟨3, ![8, 96, 8192]⟩
abbrev S8x64x8192 : Shape := ⟨3, ![8, 64, 8192]⟩
abbrev S8x2x96x4096 : Shape := ⟨4, ![8, 2, 96, 4096]⟩
abbrev S8x2x64x4096 : Shape := ⟨4, ![8, 2, 64, 4096]⟩
abbrev S1x96x512 : Shape := ⟨3, ![1, 96, 512]⟩
abbrev S1x8192x96 : Shape := ⟨3, ![1, 8192, 96]⟩
abbrev S1x8192x64 : Shape := ⟨3, ![1, 8192, 64]⟩
abbrev S1x64x512 : Shape := ⟨3, ![1, 64, 512]⟩
abbrev S1x512x64 : Shape := ⟨3, ![1, 512, 64]⟩
abbrev S1x1x512 : Shape := ⟨3, ![1, 1, 512]⟩
abbrev S1x512x96 : Shape := ⟨3, ![1, 512, 96]⟩
abbrev S1x2x96x4096 : Shape := ⟨4, ![1, 2, 96, 4096]⟩
abbrev S1x2x64x4096 : Shape := ⟨4, ![1, 2, 64, 4096]⟩
abbrev S96x512 : Shape := ⟨2, ![96, 512]⟩
abbrev S512x96 : Shape := ⟨2, ![512, 96]⟩
abbrev S512x64 : Shape := ⟨2, ![512, 64]⟩
abbrev S64x512 : Shape := ⟨2, ![64, 512]⟩
abbrev S1x512 : Shape := ⟨2, ![1, 512]⟩
abbrev S512x1 : Shape := ⟨2, ![512, 1]⟩
abbrev S512 : Shape := ⟨1, ![512]⟩
abbrev S1x4096x96 : Shape := ⟨3, ![1, 4096, 96]⟩
abbrev S4096x96 : Shape := ⟨2, ![4096, 96]⟩
abbrev S1x4096x64 : Shape := ⟨3, ![1, 4096, 64]⟩
abbrev S4096x64 : Shape := ⟨2, ![4096, 64]⟩
abbrev S512x4096 : Shape := ⟨2, ![512, 4096]⟩
abbrev S1x1x64x4096 : Shape := ⟨4, ![1, 1, 64, 4096]⟩
abbrev S64x4096 : Shape := ⟨2, ![64, 4096]⟩
abbrev S1x1x96x4096 : Shape := ⟨4, ![1, 1, 96, 4096]⟩
abbrev S96x4096 : Shape := ⟨2, ![96, 4096]⟩

abbrev nBuf : Space → Nat
  | .hbm => 42
  | .vmem => 18
  | .smem => 0
  | _ => 0

abbrev bufTy : (tb : Table) → Fin (tcTables nBuf tb) → BufTy
  | .hbm, ⟨0, _⟩ => ⟨S8x8192x96, .f32⟩
  | .hbm, ⟨1, _⟩ => ⟨S8x8192x96, .f32⟩
  | .hbm, ⟨2, _⟩ => ⟨S8x8192x64, .f32⟩
  | .hbm, ⟨3, _⟩ => ⟨S8x8192x64, .f32⟩
  | .hbm, ⟨4, _⟩ => ⟨S_, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S8x8192x8192, .f32⟩
  | .hbm, ⟨9, _⟩ => ⟨S_, .f32⟩
  | .hbm, ⟨10, _⟩ => ⟨S8x8192, .f32⟩
  | .hbm, ⟨11, _⟩ => ⟨S8x8192x1, .f32⟩
  | .hbm, ⟨12, _⟩ => ⟨S8x8192x8192, .f32⟩
  | .hbm, ⟨13, _⟩ => ⟨S8x8192x8192, .f32⟩
  | .hbm, ⟨14, _⟩ => ⟨S8x8192x8192, .f32⟩
  | .hbm, ⟨15, _⟩ => ⟨S_, .f32⟩
  | .hbm, ⟨16, _⟩ => ⟨S8x8192, .f32⟩
  | .hbm, ⟨17, _⟩ => ⟨S8x8192x1, .f32⟩
  | .hbm, ⟨18, _⟩ => ⟨S8x8192x8192, .f32⟩
  | .hbm, ⟨19, _⟩ => ⟨S8x8192x8192, .f32⟩
  | .hbm, ⟨20, _⟩ => ⟨S8x8192x64, .f32⟩
  | .hbm, ⟨21, _⟩ => ⟨S_, .f32⟩
  | .hbm, ⟨22, _⟩ => ⟨S_, .f32⟩
  | .hbm, ⟨23, _⟩ => ⟨S8x8192x1, .f32⟩
  | .hbm, ⟨24, _⟩ => ⟨S8x8192x1, .f32⟩
  | .hbm, ⟨25, _⟩ => ⟨S8x8192x1, .f32⟩
  | .hbm, ⟨26, _⟩ => ⟨S8x8192x1, .f32⟩
  | .hbm, ⟨27, _⟩ => ⟨S8x1x8192, .f32⟩
  | .hbm, ⟨28, _⟩ => ⟨S8x8192x96, .f32⟩
  | .hbm, ⟨29, _⟩ => ⟨S8x8192x96, .f32⟩
  | .hbm, ⟨30, _⟩ => ⟨S8x8192x96, .f32⟩
  | .hbm, ⟨31, _⟩ => ⟨S8x8192x96, .f32⟩
  | .hbm, ⟨32, _⟩ => ⟨S8x96x8192, .f32⟩
  | .hbm, ⟨33, _⟩ => ⟨S8x96x8192, .bf16⟩
  | .hbm, ⟨34, _⟩ => ⟨S8x64x8192, .f32⟩
  | .hbm, ⟨35, _⟩ => ⟨S8x64x8192, .bf16⟩
  | .hbm, ⟨36, _⟩ => ⟨S8x8192x96, .bf16⟩
  | .hbm, ⟨37, _⟩ => ⟨S8x8192x64, .bf16⟩
  | .hbm, ⟨38, _⟩ => ⟨S8x8192x64, .bf16⟩
  | .hbm, ⟨39, _⟩ => ⟨S8x8192x96, .bf16⟩
  | .hbm, ⟨40, _⟩ => ⟨S8x2x96x4096, .f32⟩
  | .hbm, ⟨41, _⟩ => ⟨S8x2x64x4096, .f32⟩
  | .local _ .vmem, ⟨0, _⟩ => ⟨S1x96x512, .bf16⟩
  | .local _ .vmem, ⟨1, _⟩ => ⟨S1x96x512, .bf16⟩
  | .local _ .vmem, ⟨2, _⟩ => ⟨S1x8192x96, .bf16⟩
  | .local _ .vmem, ⟨3, _⟩ => ⟨S1x8192x96, .bf16⟩
  | .local _ .vmem, ⟨4, _⟩ => ⟨S1x8192x64, .bf16⟩
  | .local _ .vmem, ⟨5, _⟩ => ⟨S1x8192x64, .bf16⟩
  | .local _ .vmem, ⟨6, _⟩ => ⟨S1x64x512, .bf16⟩
  | .local _ .vmem, ⟨7, _⟩ => ⟨S1x64x512, .bf16⟩
  | .local _ .vmem, ⟨8, _⟩ => ⟨S1x512x64, .bf16⟩
  | .local _ .vmem, ⟨9, _⟩ => ⟨S1x512x64, .bf16⟩
  | .local _ .vmem, ⟨10, _⟩ => ⟨S1x1x512, .f32⟩
  | .local _ .vmem, ⟨11, _⟩ => ⟨S1x1x512, .f32⟩
  | .local _ .vmem, ⟨12, _⟩ => ⟨S1x512x96, .bf16⟩
  | .local _ .vmem, ⟨13, _⟩ => ⟨S1x512x96, .bf16⟩
  | .local _ .vmem, ⟨14, _⟩ => ⟨S1x2x96x4096, .f32⟩
  | .local _ .vmem, ⟨15, _⟩ => ⟨S1x2x96x4096, .f32⟩
  | .local _ .vmem, ⟨16, _⟩ => ⟨S1x2x64x4096, .f32⟩
  | .local _ .vmem, ⟨17, _⟩ => ⟨S1x2x64x4096, .f32⟩
  | _, _ => ⟨S8x8192x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31_0 : Ref sig .tc := ⟨.hbm, 39, rfl⟩
abbrev main_v31_1 : Ref sig .tc := ⟨.hbm, 40, rfl⟩
abbrev main_v31_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 1, 16], ![false, false, false]⟩

@[reducible] def k0_t1_loop : Scf.Loop 32 :=
  let c0_i32_23 : BitVec 32 := 0#32
  let c2_i32 : BitVec 32 := 2#32
  let v29 : BitVec 32 := Scalar.addi c0_i32_23 c2_i32
  let c1_i32 : BitVec 32 := 1#32
  ⟨c0_i32_23, v29, c1_i32⟩
def k0_mult1 (k0_t1 : Fin k0_t1_loop.trips) : BitVec 32 :=
  let c0_i32_23 : BitVec 32 := 0#32
  let c1_i32 : BitVec 32 := 1#32
  let arg12 : BitVec 32 := Scf.iv c0_i32_23 c1_i32 k0_t1
  let c4096_i32 : BitVec 32 := 4096#32
  let v42 : BitVec 32 := Scalar.muli arg12 c4096_i32
  v42
def k0_off1 (k0_t1 : Fin k0_t1_loop.trips) : Fin 3 → Nat :=
  let c0_31 : Index := 0#32
  let c0_i32_23 : BitVec 32 := 0#32
  let c1_i32 : BitVec 32 := 1#32
  let arg12 : BitVec 32 := Scf.iv c0_i32_23 c1_i32 k0_t1
  let c4096_i32 : BitVec 32 := 4096#32
  let v42 : BitVec 32 := Scalar.muli arg12 c4096_i32
  let v43 : BitVec 32 := v42
  let v44 : Index := Scalar.indexCast v43
  let c0_32 : Index := 0#32
  ![0, v44.toNat, 0]
def k0_off2 (k0_t1 : Fin k0_t1_loop.trips) : Fin 3 → Nat :=
  let c0_33 : Index := 0#32
  let c0_i32_23 : BitVec 32 := 0#32
  let c1_i32 : BitVec 32 := 1#32
  let arg12 : BitVec 32 := Scf.iv c0_i32_23 c1_i32 k0_t1
  let c4096_i32 : BitVec 32 := 4096#32
  let v42 : BitVec 32 := Scalar.muli arg12 c4096_i32
  let v43 : BitVec 32 := v42
  let v47 : Index := Scalar.indexCast v43
  let c0_34 : Index := 0#32
  ![0, v47.toNat, 0]
def k0_off3 (k0_t1 : Fin k0_t1_loop.trips) : Fin 4 → Nat :=
  let c0_37 : Index := 0#32
  let c0_i32_23 : BitVec 32 := 0#32
  let c1_i32 : BitVec 32 := 1#32
  let arg12 : BitVec 32 := Scf.iv c0_i32_23 c1_i32 k0_t1
  let v59 : Index := Scalar.indexCast arg12
  let c0_38 : Index := 0#32
  let c0_39 : Index := 0#32
  ![0, v59.toNat, 0, 0]
def k0_off4 (k0_t1 : Fin k0_t1_loop.trips) : Fin 4 → Nat :=
  let c0_44 : Index := 0#32
  let c0_i32_23 : BitVec 32 := 0#32
  let c1_i32 : BitVec 32 := 1#32
  let arg12 : BitVec 32 := Scf.iv c0_i32_23 c1_i32 k0_t1
  let v69 : Index := Scalar.indexCast arg12
  let c0_45 : Index := 0#32
  let c0_46 : Index := 0#32
  ![0, v69.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x96x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x8192x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x96 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x2x96x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x2x64x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== Kernel9Ideal.lean ====
variable {F : FTy → Type} [FloatOps F] [Named F]
def κ : String → Option EReal := fun
  | "ln_2" => some ((Real.log 2 : ℝ) : EReal)
  | "scale" => some (((Real.sqrt 96)⁻¹ : ℝ) : EReal)
  | _ => none
-- ==== Reference9Ideal.lean ====
abbrev S8x8192x96 : Shape := ⟨3, ![8, 8192, 96]⟩
abbrev S8x8192x64 : Shape := ⟨3, ![8, 8192, 64]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x64x8192 : Shape := ⟨3, ![8, 64, 8192]⟩
abbrev S8x2x4096x96 : Shape := ⟨4, ![8, 2, 4096, 96]⟩
abbrev S8x2x96x4096 : Shape := ⟨4, ![8, 2, 96, 4096]⟩
abbrev S8x2x4096x64 : Shape := ⟨4, ![8, 2, 4096, 64]⟩
abbrev S8x2x64x4096 : Shape := ⟨4, ![8, 2, 64, 4096]⟩

abbrev nBuf : Space → Nat
  | .hbm => 74
  | .vmem => 0
  | .smem => 0
  | _ => 0

abbrev bufTy : (tb : Table) → Fin (tcTables nBuf tb) → BufTy
  | .hbm, ⟨0, _⟩ => ⟨S8x8192x96, .f32⟩
  | .hbm, ⟨1, _⟩ => ⟨S8x8192x96, .f32⟩
  | .hbm, ⟨2, _⟩ => ⟨S8x8192x64, .f32⟩
  | .hbm, ⟨3, _⟩ => ⟨S8x8192x64, .f32⟩
  | .hbm, ⟨4, _⟩ => ⟨S8x8192x8192, .f32⟩
  | .hbm, ⟨5, _⟩ => ⟨S_, .f32⟩
  | .hbm, ⟨6, _⟩ => ⟨S_, .f32⟩
  | .hbm, ⟨7, _⟩ => ⟨S8x8192x8192, .f32⟩
  | .hbm, ⟨8, _⟩ => ⟨S8x8192x8192, .f32⟩
  | .hbm, ⟨9, _⟩ => ⟨S_, .f32⟩
  | .hbm, ⟨10, _⟩ => ⟨S8x8192, .f32⟩
  | .hbm, ⟨11, _⟩ => ⟨S8x8192x1, .f32⟩
  | .hbm, ⟨12, _⟩ => ⟨S8x8192x8192, .f32⟩
  | .hbm, ⟨13, _⟩ => ⟨S8x8192x8192, .i1⟩
  | .hbm, ⟨14, _⟩ => ⟨S8x8192x8192, .f32⟩
  | .hbm, ⟨15, _⟩ => ⟨S_, .f32⟩
  | .hbm, ⟨16, _⟩ => ⟨S8x8192, .f32⟩
  | .hbm, ⟨17, _⟩ => ⟨S_, .f32⟩
  | .hbm, ⟨18, _⟩ => ⟨S8x8192, .f32⟩
  | .hbm, ⟨19, _⟩ => ⟨S8x8192, .f32⟩
  | .hbm, ⟨20, _⟩ => ⟨S_, .f32⟩
  | .hbm, ⟨21, _⟩ => ⟨S8x8192, .f32⟩
  | .hbm, ⟨22, _⟩ => ⟨S8x8192, .i1⟩
  | .hbm, ⟨23, _⟩ => ⟨S_, .f32⟩
  | .hbm, ⟨24, _⟩ => ⟨S8x8192, .f32⟩
  | .hbm, ⟨25, _⟩ => ⟨S8x8192, .i1⟩
  | .hbm, ⟨26, _⟩ => ⟨S_, .f32⟩
  | .hbm, ⟨27, _⟩ => ⟨S8x8192, .f32⟩
  | .hbm, ⟨28, _⟩ => ⟨S_, .f32⟩
  | .hbm, ⟨29, _⟩ => ⟨S8x8192, .f32⟩
  | .hbm, ⟨30, _⟩ => ⟨S_, .f32⟩
  | .hbm, ⟨31, _⟩ => ⟨S8x8192, .f32⟩
  | .hbm, ⟨32, _⟩ => ⟨S8x8192, .f32⟩
  | .hbm, ⟨33, _⟩ => ⟨S8x8192, .f32⟩
  | .hbm, ⟨34, _⟩ => ⟨S8x8192x1, .f32⟩
  | .hbm, ⟨35, _⟩ => ⟨S8x8192x8192, .f32⟩
  | .hbm, ⟨36, _⟩ => ⟨S8x8192x8192, .f32⟩
  | .hbm, ⟨37, _⟩ => ⟨S8x8192x8192, .f32⟩
  | .hbm, ⟨38, _⟩ => ⟨S_, .f32⟩
  | .hbm, ⟨39, _⟩ => ⟨S8x8192, .f32⟩
  | .hbm, ⟨40, _⟩ => ⟨S8x8192x1, .f32⟩
  | .hbm, ⟨41, _⟩ => ⟨S8x8192x8192, .f32⟩
  | .hbm, ⟨42, _⟩ => ⟨S8x8192x8192, .f32⟩
  | .hbm, ⟨43, _⟩ => ⟨S8x8192x1, .f32⟩
  | .hbm, ⟨44, _⟩ => ⟨S_, .f32⟩
  | .hbm, ⟨45, _⟩ => ⟨S8x8192x1, .f32⟩
  | .hbm, ⟨46, _⟩ => ⟨S8x8192x1, .f32⟩
  | .hbm, ⟨47, _⟩ => ⟨S8x8192x64, .f32⟩
  | .hbm, ⟨48, _⟩ => ⟨S8x64x8192, .f32⟩
  | .hbm, ⟨49, _⟩ => ⟨S8x8192x64, .f32⟩
  | .hbm, ⟨50, _⟩ => ⟨S8x8192x8192, .f32⟩
  | .hbm, ⟨51, _⟩ => ⟨S8x8192x8192, .f32⟩
  | .hbm, ⟨52, _⟩ => ⟨S8x8192x8192, .f32⟩
  | .hbm, ⟨53, _⟩ => ⟨S8x8192x8192, .f32⟩
  | .hbm, ⟨54, _⟩ => ⟨S_, .f32⟩
  | .hbm, ⟨55, _⟩ => ⟨S8x8192, .f32⟩
  | .hbm, ⟨56, _⟩ => ⟨S8x8192x1, .f32⟩
  | .hbm, ⟨57, _⟩ => ⟨S8x8192x1, .f32⟩
  | .hbm, ⟨58, _⟩ => ⟨S8x8192x8192, .f32⟩
  | .hbm, ⟨59, _⟩ => ⟨S8x8192x8192, .f32⟩
  | .hbm, ⟨60, _⟩ => ⟨S_, .f32⟩
  | .hbm, ⟨61, _⟩ => ⟨S8x8192, .f32⟩
  | .hbm, ⟨62, _⟩ => ⟨S8x8192x8192, .f32⟩
  | .hbm, ⟨63, _⟩ => ⟨S8x8192x8192, .f32⟩
  | .hbm, ⟨64, _⟩ => ⟨S8x8192x8192, .f32⟩
  | .hbm, ⟨65, _⟩ => ⟨S8x8192x8192, .f32⟩
  | .hbm, ⟨66, _⟩ => ⟨S8x8192x8192, .f32⟩
  | .hbm, ⟨67, _⟩ => ⟨S8x8192x96, .f32⟩
  | .hbm, ⟨68, _⟩ => ⟨S8x8192x96, .f32⟩
  | .hbm, ⟨69, _⟩ => ⟨S8x8192x96, .bf16⟩
  | .hbm, ⟨70, _⟩ => ⟨S8x2x4096x96, .f32⟩
  | .hbm, ⟨71, _⟩ => ⟨S8x2x96x4096, .f32⟩
  | .hbm, ⟨72, _⟩ => ⟨S8x2x4096x64, .f32⟩
  | .hbm, ⟨73, _⟩ => ⟨S8x2x64x4096, .f32⟩
  | _, _ => ⟨S8x8192x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_10 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_11 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩

abbrev nD : Nat := 1
abbrev τ : Topo := Topo.v7x

variable {F : FTy → Type} [FloatOps F]
-- ==== Kernel10.lean ====
abbrev S8x8192x96 : Shape := ⟨3, ![8, 8192, 96]⟩
abbrev S8x8192x64 : Shape := ⟨3, ![8, 8192, 64]⟩
abbrev S_ : Shape := ⟨0, ![]⟩
abbrev S8x96x8192 : Shape := ⟨3, ![8, 96, 8192]⟩
abbrev S8x8x1024x64 : Shape := ⟨4, ![8, 8, 1024, 64]⟩
abbrev S8x8x64x1024 : Shape := ⟨4, ![8, 8, 64, 1024]⟩
abbrev S8x64x8192 : Shape := ⟨3, ![8, 64, 8192]⟩
abbrev S8x1x8192 : Shape := ⟨3, ![8, 1, 8192]⟩
abbrev S1x96x4096 : Shape := ⟨3, ![1, 96, 4096]⟩
abbrev S1x8192x96 : Shape := ⟨3, ![1, 8192, 96]⟩
abbrev S1x8x64x1024 : Shape := ⟨4, ![1, 8, 64, 1024]⟩
abbrev S1x64x4096 : Shape := ⟨3, ![1, 64, 4096]⟩
abbrev S1x1x4096 : Shape := ⟨3, ![1, 1, 4096]⟩
abbrev S1x96x2048 : Shape := ⟨3, ![1, 96, 2048]⟩
abbrev S96x2048 : Shape := ⟨2, ![96, 2048]⟩
abbrev S1x2048 : Shape := ⟨2, ![1, 2048]⟩
abbrev S64x2048 : Shape := ⟨2, ![64, 2048]⟩
abbrev S1x1024x96 : Shape := ⟨3, ![1, 1024, 96]⟩
abbrev S1024x96 : Shape := ⟨2, ![1024, 96]⟩
abbrev S1x1x64x1024 : Shape := ⟨4, ![1, 1, 64, 1024]⟩
abbrev S64x1024 : Shape := ⟨2, ![64, 1024]⟩
abbrev S1024x2048 : Shape := ⟨2, ![1024, 2048]⟩
abbrev S2048 : Shape := ⟨1, ![2048]⟩
abbrev S1x64x2048 : Shape := ⟨3, ![1, 64, 2048]⟩
abbrev S1x1x2048 : Shape := ⟨3, ![1, 1, 2048]⟩

abbrev nBuf : Space → Nat
  | .hbm => 19
  | .vmem => 10
  | .smem => 0
  | _ => 0

abbrev bufTy : (tb : Table) → Fin (tcTables nBuf tb) → BufTy
  | .hbm, ⟨0, _⟩ => ⟨S8x8192x96, .f32⟩
  | .hbm, ⟨1, _⟩ => ⟨S8x8192x96, .f32⟩
  | .hbm, ⟨2, _⟩ => ⟨S8x8192x64, .f32⟩
  | .hbm, ⟨3, _⟩ => ⟨S_, .f32⟩
  | .hbm, ⟨4, _⟩ => ⟨S_, .f32⟩
  | .hbm, ⟨5, _⟩ => ⟨S8x8192x96, .f32⟩
  | .hbm, ⟨6, _⟩ => ⟨S8x8192x96, .f32⟩
  | .hbm, ⟨7, _⟩ => ⟨S_, .f32⟩
  | .hbm, ⟨8, _⟩ => ⟨S_, .f32⟩
  | .hbm, ⟨9, _⟩ => ⟨S8x8192x96, .f32⟩
  | .hbm, ⟨10, _⟩ => ⟨S8x8192x96, .f32⟩
  | .hbm, ⟨11, _⟩ => ⟨S8x96x8192, .f32⟩
  | .hbm, ⟨12, _⟩ => ⟨S8x96x8192, .bf16⟩
  | .hbm, ⟨13, _⟩ => ⟨S8x8x1024x64, .f32⟩
  | .hbm, ⟨14, _⟩ => ⟨S8x8x64x1024, .f32⟩
  | .hbm, ⟨15, _⟩ => ⟨S8x8x64x1024, .bf16⟩
  | .hbm, ⟨16, _⟩ => ⟨S8x8192x96, .bf16⟩
  | .hbm, ⟨17, _⟩ => ⟨S8x64x8192, .bf16⟩
  | .hbm, ⟨18, _⟩ => ⟨S8x1x8192, .f32⟩
  | .local _ .vmem, ⟨0, _⟩ => ⟨S1x96x4096, .bf16⟩
  | .local _ .vmem, ⟨1, _⟩ => ⟨S1x96x4096, .bf16⟩
  | .local _ .vmem, ⟨2, _⟩ => ⟨S1x8192x96, .bf16⟩
  | .local _ .vmem, ⟨3, _⟩ => ⟨S1x8192x96, .bf16⟩
  | .local _ .vmem, ⟨4, _⟩ => ⟨S1x8x64x1024, .bf16⟩
  | .local _ .vmem, ⟨5, _⟩ => ⟨S1x8x64x1024, .bf16⟩
  | .local _ .vmem, ⟨6, _⟩ => ⟨S1x64x4096, .bf16⟩
  | .local _ .vmem, ⟨7, _⟩ => ⟨S1x64x4096, .bf16⟩
  | .local _ .vmem, ⟨8, _⟩ => ⟨S1x1x4096, .f32⟩
  | .local _ .vmem, ⟨9, _⟩ => ⟨S1x1x4096, .f32⟩
  | _, _ => ⟨S8x8192x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 1, 2], ![false, false, false]⟩

@[reducible] def k0_t1_loop : Scf.Loop 32 :=
  let c0_i32 : BitVec 32 := 0#32
  let c8_i32 : BitVec 32 := 8#32
  let v10 : BitVec 32 := Scalar.addi c0_i32 c8_i32
  let c1_i32 : BitVec 32 := 1#32
  ⟨c0_i32, v10, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c1024_i32 : BitVec 32 := 1024#32
  let v38 : BitVec 32 := Scalar.muli arg8 c1024_i32
  v38
def k0_off1 (k0_t1 : Fin k0_t1_loop.trips) : Fin 3 → Nat :=
  let c0_24 : Index := 0#32
  let c0_i32 : BitVec 32 := 0#32
  let c1_i32 : BitVec 32 := 1#32
  let arg8 : BitVec 32 := Scf.iv c0_i32 c1_i32 k0_t1
  let c1024_i32 : BitVec 32 := 1024#32
  let v38 : BitVec 32 := Scalar.muli arg8 c1024_i32
  let v39 : BitVec 32 := v38
  let v40 : Index := Scalar.indexCast v39
  let c0_25 : Index := 0#32
  ![0, v40.toNat, 0]
def k0_off2 (k0_t1 : Fin k0_t1_loop.trips) : Fin 4 → Nat :=
  let c0_26 : Index := 0#32
  let c0_i32 : BitVec 32 := 0#32
  let c1_i32 : BitVec 32 := 1#32
  let arg8 : BitVec 32 := Scf.iv c0_i32 c1_i32 k0_t1
  let v43 : Index := Scalar.indexCast arg8
  let c0_27 : Index := 0#32
  let c0_28 : Index := 0#32
  ![0, v43.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat, arg2.toNat]

abbrev stage0_0 : Fin 2 → Memref sig .tc .vmem S1x96x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x8x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x64x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Kernel10Ideal.lean ====
variable {F : FTy → Type} [FloatOps F] [Named F]
def κ : String → Option EReal := fun
  | "log2_e" => some (((Real.log 2)⁻¹ : ℝ) : EReal)
  | _ => none
-- ==== Reference10Ideal.lean ====
abbrev S8x8192x96 : Shape := ⟨3, ![8, 8192, 96]⟩
abbrev S8x8192x64 : Shape := ⟨3, ![8, 8192, 64]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x64x8192 : Shape := ⟨3, ![8, 64, 8192]⟩
abbrev S8x1x8192 : Shape := ⟨3, ![8, 1, 8192]⟩

abbrev nBuf : Space → Nat
  | .hbm => 39
  | .vmem => 0
  | .smem => 0
  | _ => 0

abbrev bufTy : (tb : Table) → Fin (tcTables nBuf tb) → BufTy
  | .hbm, ⟨0, _⟩ => ⟨S8x8192x96, .f32⟩
  | .hbm, ⟨1, _⟩ => ⟨S8x8192x96, .f32⟩
  | .hbm, ⟨2, _⟩ => ⟨S8x8192x64, .f32⟩
  | .hbm, ⟨3, _⟩ => ⟨S8x8192x8192, .f32⟩
  | .hbm, ⟨4, _⟩ => ⟨S_, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S8x8192x8192, .f32⟩
  | .hbm, ⟨9, _⟩ => ⟨S_, .f32⟩
  | .hbm, ⟨10, _⟩ => ⟨S8x8192, .f32⟩
  | .hbm, ⟨11, _⟩ => ⟨S8x8192, .f32⟩
  | .hbm, ⟨12, _⟩ => ⟨S_, .f32⟩
  | .hbm, ⟨13, _⟩ => ⟨S_, .f32⟩
  | .hbm, ⟨14, _⟩ => ⟨S8x8192, .f32⟩
  | .hbm, ⟨15, _⟩ => ⟨S8x8192, .f32⟩
  | .hbm, ⟨16, _⟩ => ⟨S8x8192x8192, .f32⟩
  | .hbm, ⟨17, _⟩ => ⟨S_, .f32⟩
  | .hbm, ⟨18, _⟩ => ⟨S_, .f32⟩
  | .hbm, ⟨19, _⟩ => ⟨S8x8192x8192, .f32⟩
  | .hbm, ⟨20, _⟩ => ⟨S8x8192x8192, .f32⟩
  | .hbm, ⟨21, _⟩ => ⟨S_, .f32⟩
  | .hbm, ⟨22, _⟩ => ⟨S8x8192, .f32⟩
  | .hbm, ⟨23, _⟩ => ⟨S_, .f32⟩
  | .hbm, ⟨24, _⟩ => ⟨S8x8192, .f32⟩
  | .hbm, ⟨25, _⟩ => ⟨S8x8192, .f32⟩
  | .hbm, ⟨26, _⟩ => ⟨S8x8192x1, .f32⟩
  | .hbm, ⟨27, _⟩ => ⟨S8x8192x8192, .f32⟩
  | .hbm, ⟨28, _⟩ => ⟨S8x8192x8192, .f32⟩
  | .hbm, ⟨29, _⟩ => ⟨S8x8192x8192, .f32⟩
  | .hbm, ⟨30, _⟩ => ⟨S_, .f32⟩
  | .hbm, ⟨31, _⟩ => ⟨S8x8192, .f32⟩
  | .hbm, ⟨32, _⟩ => ⟨S8x8192x1, .f32⟩
  | .hbm, ⟨33, _⟩ => ⟨S8x8192x8192, .f32⟩
  | .hbm, ⟨34, _⟩ => ⟨S8x8192x8192, .f32⟩
  | .hbm, ⟨35, _⟩ => ⟨S8x8192x64, .f32⟩
  | .hbm, ⟨36, _⟩ => ⟨S8x64x8192, .f32⟩
  | .hbm, ⟨37, _⟩ => ⟨S8x64x8192, .bf16⟩
  | .hbm, ⟨38, _⟩ => ⟨S8x1x8192, .f32⟩
  | _, _ => ⟨S8x8192x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Kernel11.lean ====
abbrev S8192x1024 : Shape := ⟨2, ![8192, 1024]⟩
abbrev S1024x2304 : Shape := ⟨2, ![1024, 2304]⟩
abbrev S8192x2304 : Shape := ⟨2, ![8192, 2304]⟩
abbrev S1024x1024 : Shape := ⟨2, ![1024, 1024]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x2304, .bf16⟩
  | .hbm, ⟨2, _⟩ => ⟨S8192x2304, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .bf16⟩
  | .local _ .vmem, ⟨5, _⟩ => ⟨S1024x1152, .bf16⟩
  | .local _ .vmem, ⟨6, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S1024x2304 : Shape := ⟨2, ![1024, 2304]⟩
abbrev S8192x2304 : Shape := ⟨2, ![8192, 2304]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2304, .bf16⟩
  | .hbm, ⟨2, _⟩ => ⟨S8192x1024, .f32⟩
  | .hbm, ⟨3, _⟩ => ⟨S1024x2304, .f32⟩
  | .hbm, ⟨4, _⟩ => ⟨S8192x2304, .f32⟩
  | .hbm, ⟨5, _⟩ => ⟨S8192x2304, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S8192x1024 : Shape := ⟨2, ![8192, 1024]⟩
abbrev S8192x2304 : Shape := ⟨2, ![8192, 2304]⟩
abbrev S1024x2304 : Shape := ⟨2, ![1024, 2304]⟩
abbrev S1024x1024 : Shape := ⟨2, ![1024, 1024]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2304, .bf16⟩
  | .hbm, ⟨2, _⟩ => ⟨S1024x2304, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .f32⟩
  | .local _ .vmem, ⟨5, _⟩ => ⟨S1024x1152, .f32⟩
  | .local _ .vmem, ⟨6, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S8192x2304 : Shape := ⟨2, ![8192, 2304]⟩
abbrev S_ : Shape := ⟨0, ![]⟩
abbrev S1024x2304 : Shape := ⟨2, ![1024, 2304]⟩
abbrev S2304x1024 : Shape := ⟨2, ![2304, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2304, .bf16⟩
  | .hbm, ⟨2, _⟩ => ⟨S8192x1024, .f32⟩
  | .hbm, ⟨3, _⟩ => ⟨S_, .f32⟩
  | .hbm, ⟨4, _⟩ => ⟨S1024x2304, .f32⟩
  | .hbm, ⟨5, _⟩ => ⟨S8192x2304, .f32⟩
  | .hbm, ⟨6, _⟩ => ⟨S8192x2304, .f32⟩
  | .hbm, ⟨7, _⟩ => ⟨S2304x1024, .f32⟩
  | .hbm, ⟨8, _⟩ => ⟨S1024x2304, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S8192x2304 : Shape := ⟨2, ![8192, 2304]⟩
abbrev S1024x2304 : Shape := ⟨2, ![1024, 2304]⟩
abbrev S8192x1024 : Shape := ⟨2, ![8192, 1024]⟩
abbrev S1024x1152 : Shape := ⟨2, ![1024, 1152]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2304, .bf16⟩
  | .hbm, ⟨1, _⟩ => ⟨S1024x2304, .bf16⟩
  | .hbm, ⟨2, _⟩ => ⟨S8192x1024, .f32⟩
  | .hbm, ⟨3, _⟩ => ⟨S8192x1024, .f32⟩
  | .local _ .vmem, ⟨0, _⟩ => ⟨S1024x1152, .bf16⟩
  | .local _ .vmem, ⟨1, _⟩ => ⟨S1024x1152, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S8192x2304 : Shape := ⟨2, ![8192, 2304]⟩
abbrev S1024x2304 : Shape := ⟨2, ![1024, 2304]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2304, .bf16⟩
  | .hbm, ⟨1, _⟩ => ⟨S1024x2304, .bf16⟩
  | .hbm, ⟨2, _⟩ => ⟨S8192x1024, .f32⟩
  | .hbm, ⟨3, _⟩ => ⟨S1024x2304, .f32⟩
  | .hbm, ⟨4, _⟩ => ⟨S_, .f32⟩
  | .hbm, ⟨5, _⟩ => ⟨S8192x1024, .f32⟩
  | .hbm, ⟨6, _⟩ => ⟨S8192x2304, .f32⟩
  | .hbm, ⟨7, _⟩ => ⟨S8192x2304, .f32⟩
  | .hbm, ⟨8, _⟩ => ⟨S8192x1024, .f32⟩
  | .hbm, ⟨9, _⟩ => ⟨S8192x1024, .f32⟩
  | _, _ => ⟨S8192x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel14.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S8192x1024 : Shape := ⟨2, ![8192, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel18.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Pre.lean ====
module
public import proofs.«01_k».proof.Defs
public import Idealize.ShloMosaic.Lib.Pointwise
public import Idealize.ShloMosaic.Lib.ReduceAll

/-! The precondition: its side conditions, and that an array it holds of is an array of real numbers. -/

@[expose] public section
set_option maxRecDepth 16384
noncomputable section
namespace Cert.Attn.Pre
open Idealize.ShloMosaic Idealize.ShloMosaic.Tactic
open Cert.Pre_finite

instance facts : Cert.Pre_finite.Facts where
  bcast_S_S16x8192x64 := by decide
  reducesTo_S16x8192x64_S_d0_1_2 := by decide
  h_S_ := by decide
  bcast_S_S4x8192x64 := by decide
  reducesTo_S4x8192x64_S_d0_1_2 := by decide

theorem and_one (a b : BitVec 1) (h : a &&& b = 1#1) : a = 1#1 ∧ b = 1#1 := by
  revert a b; decide

/-- A number whose absolute value is below the infinite one is real. -/
theorem real_of_lt (x : EReal)
    (h : BitVec.ofBool (decide (FloatOps.absf (F := Ideal) (φ := .f32) x < Ideal.ofBits FTy.f32 0x7F800000#32)) = 1#1) :
    ∃ r : ℝ, x = (r : EReal) := by
  have hl : Ideal.ofBits FTy.f32 0x7F800000#32 = (⊤ : EReal) := by
    simp [Ideal.ofBits, Ideal.ieee, -EReal.coe_mul]
  have h1 : max x (-x) < ⊤ := by
    by_contra hn
    have e : decide (FloatOps.absf (F := Ideal) (φ := .f32) x < Ideal.ofBits FTy.f32 0x7F800000#32) = false := by
      rw [hl]
      exact decide_eq_false hn
    rw [e] at h
    exact absurd h (by decide)
  have hb : x ≠ ⊥ := by
    rintro rfl
    simp at h1
  have ht : x ≠ ⊤ := by
    rintro rfl
    simp at h1
  exact ⟨_, (EReal.coe_toReal ht hb).symm⟩

theorem big (x : FVec Ideal S16x8192x64 .f32)
    (h : Host.reduce IntOp.andi (cmpf .olt (Host.absf x) (broadcastInDim S16x8192x64 ![] Facts.bcast_S_S16x8192x64
      (constant S_ .f32 0x7F800000#32))) (constantI S_ 1 1#1) Facts.reducesTo_S16x8192x64_S_d0_1_2 Facts.h_S_ ix0 = 1#1)
    (i : S16x8192x64.Idx) : ∃ r : ℝ, x i = (r : EReal) := by
  have h1 := Host.reduce_andi_all _ _ _ _ _ h i
  revert h1
  pointwise
  exact real_of_lt _

theorem small (x : FVec Ideal S4x8192x64 .f32)
    (h : Host.reduce IntOp.andi (cmpf .olt (Host.absf x) (broadcastInDim S4x8192x64 ![] Facts.bcast_S_S4x8192x64
      (constant S_ .f32 0x7F800000#32))) (constantI S_ 1 1#1) Facts.reducesTo_S4x8192x64_S_d0_1_2 Facts.h_S_ ix0 = 1#1)
    (i : S4x8192x64.Idx) : ∃ r : ℝ, x i = (r : EReal) := by
  have h1 := Host.reduce_andi_all _ _ _ _ _ h i
  revert h1
  pointwise
  exact real_of_lt _

/-- The precondition gives four arrays of real numbers. -/
theorem reals (x0 : FVec Ideal S16x8192x64 .f32) (x1 x2 : FVec Ideal S4x8192x64 .f32) (x3 : FVec Ideal S16x8192x64 .f32)
    (h : fn (F := Ideal) x0 x1 x2 x3 = fun _ => 1#1) :
    (∀ i, ∃ r : ℝ, x0 i = (r : EReal)) ∧ (∀ i, ∃ r : ℝ, x1 i = (r : EReal))
      ∧ (∀ i, ∃ r : ℝ, x2 i = (r : EReal)) ∧ ∀ i, ∃ r : ℝ, x3 i = (r : EReal) := by
  have h0 := congrFun h ix0
  dsimp only [fn, fn_part1] at h0
  obtain ⟨h0, h3⟩ := and_one _ _ h0
  obtain ⟨h0, h2⟩ := and_one _ _ h0
  obtain ⟨h0, h1⟩ := and_one _ _ h0
  exact ⟨big x0 h0, small x1 h1, small x2 h2, big x3 h3⟩

end Cert.Attn.Pre
end
-- ==== Proof.Trip.lean ====
module
public import proofs.«01_k».proof.Proof.Gen.KernelIdeal.Value
public import Idealize.ShloMosaic.Lib.Pointwise

/-! One trip of the key loop, and the two trips together, read at an index. -/

@[expose] public section
set_option maxRecDepth 16384
noncomputable section
namespace Cert.Attn
open Idealize.ShloMosaic Idealize.ShloMosaic.TcCoe Idealize.ShloMosaic.Tactic
open Idealize.SL Idealize.SL.Sem
open Cert.KernelIdeal Cert.KernelIdeal.Gen

/-- The key row a position of key block `j` stands for. -/
def kx (j : Fin 2) (n : Fin 4096) : Fin 8192 := ⟨4096 * j.val + n.val, by omega⟩

/-- The unnormalised-by-nothing softmax weight of a query of the block against a key, from the saved log-sum. -/
def pB (x0 : Vec Ideal S2x64x256 .bf16) (x1 : Vec Ideal S1x8192x64 .bf16) (x5 : Vec Ideal S2x1x256 .f32)
    (h : Fin 2) (q : Fin 256) (n : Fin 8192) : EReal :=
  FloatOps.exp2 (F := Ideal) (φ := .f32) (∑ d : Fin 64, x0 (ix3 h d q) * x1 (ix3 0 n d) - x5 (ix3 h 0 q))

/-- The score cotangent of a query of the block against a key. -/
def dsB (x0 : Vec Ideal S2x64x256 .bf16) (x1 x2 : Vec Ideal S1x8192x64 .bf16) (x3 : Vec Ideal S2x64x256 .bf16)
  (x4 : Vec Ideal S2x256x64 .bf16) (x5 : Vec Ideal S2x1x256 .f32) (h : Fin 2) (q : Fin 256) (n : Fin 8192) : EReal :=
  pB x0 x1 x5 h q n
    * (∑ d : Fin 64, x4 (ix3 h q d) * x2 (ix3 0 n d) - ∑ d : Fin 64, x4 (ix3 h q d) * x3 (ix3 h d q))

/-- What one head of the block adds to the gradient of a key. -/
def dkB (x0 : Vec Ideal S2x64x256 .bf16) (x1 x2 : Vec Ideal S1x8192x64 .bf16) (x3 : Vec Ideal S2x64x256 .bf16)
  (x4 : Vec Ideal S2x256x64 .bf16) (x5 : Vec Ideal S2x1x256 .f32) (h : Fin 2) (d : Fin 64) (n : Fin 8192) : EReal :=
  ∑ q : Fin 256, x0 (ix3 h d q) * dsB x0 x1 x2 x3 x4 x5 h q n

/-- What one head of the block adds to the gradient of a value. -/
def dvB (x0 : Vec Ideal S2x64x256 .bf16) (x1 : Vec Ideal S1x8192x64 .bf16) (x4 : Vec Ideal S2x256x64 .bf16)
    (x5 : Vec Ideal S2x1x256 .f32) (h : Fin 2) (d : Fin 64) (n : Fin 8192) : EReal :=
  ∑ q : Fin 256, x4 (ix3 h q d) * pB x0 x1 x5 h q n

/-- What one head of the block adds over one key block to the gradient of a query. -/
def dqB (x0 : Vec Ideal S2x64x256 .bf16) (x1 x2 : Vec Ideal S1x8192x64 .bf16) (x3 : Vec Ideal S2x64x256 .bf16)
  (x4 : Vec Ideal S2x256x64 .bf16) (x5 : Vec Ideal S2x1x256 .f32) (j : Fin 2) (h : Fin 2) (q : Fin 256) (d : Fin 64) : EReal :=
  ∑ n : Fin 4096, dsB x0 x1 x2 x3 x4 x5 h q (kx j n) * x1 (ix3 0 (kx j n) d)

section
variable (c : Dev nD) (i : grid0.Coords)
  (arg3 : Memref sig .tc .vmem S2x64x256 .bf16) (harg3 : arg3.IsWhole)
  (arg4 : Memref sig .tc .vmem S1x8192x64 .bf16) (harg4 : arg4.IsWhole)
  (arg5 : Memref sig .tc .vmem S1x8192x64 .bf16) (harg5 : arg5.IsWhole)
  (arg6 : Memref sig .tc .vmem S2x64x256 .bf16) (harg6 : arg6.IsWhole)
  (arg7 : Memref sig .tc .vmem S2x256x64 .bf16) (harg7 : arg7.IsWhole)
  (arg8 : Memref sig .tc .vmem S2x1x256 .f32) (harg8 : arg8.IsWhole)
  (arg9 : Memref sig .tc .vmem S2x256x64 .bf16) (harg9 : arg9.IsWhole)
  (arg10 : Memref sig .tc .vmem S1x2x64x4096 .f32) (harg10 : arg10.IsWhole)
  (arg11 : Memref sig .tc .vmem S1x2x64x4096 .f32) (harg11 : arg11.IsWhole)

/-- A trip's carried values. -/
theorem tripR_eq (v6 : FVec Ideal S64x256 .bf16) (v8 : FVec Ideal S64x256 .bf16) (v11 : FVec Ideal S256x64 .bf16) (v14 : FVec Ideal S256x64 .bf16) (v16 : FVec Ideal S256x64 .bf16) (v18 : FVec Ideal S256x64 .bf16) (v21 : FVec Ideal S64x256 .bf16) (v24 : FVec Ideal S64x256 .bf16) (v25 : Vec Ideal S1x1x256 .f32) (v28 : Vec Ideal S1x1x256 .f32) (v31 : Vec Ideal S1x256x64 .bf16) (v34 : Vec Ideal S1x64x256 .bf16) (v41 : Vec Ideal S1x256x64 .bf16) (v44 : Vec Ideal S1x64x256 .bf16)
    (X4 : BufTy.Contents (Elt Ideal) arg4.view.ty) (X5 : BufTy.Contents (Elt Ideal) arg5.view.ty) (k : Fin k0_t1_loop.trips)
    (acc : FVec Ideal S256x64 .f32 × FVec Ideal S256x64 .f32)
    (f10 : BufTy.Contents (Elt Ideal) arg10.view.ty) (f11 : BufTy.Contents (Elt Ideal) arg11.view.ty) :
    tripR_k0_t1 (F := Ideal) Variants.none c none i arg3 harg3 arg4 harg4 arg5 harg5 arg6 harg6 arg7 harg7 arg8 harg8 arg9 harg9 arg10 harg10 arg11 harg11 v6 v8 v11 v14 v16 v18 v21 v24 v25 v28 v31 v34 v41 v44 X4 X5 k acc f10 f11
      = (k0_pay24 acc.1 (k0_pay4 (View.readAt (Elt Ideal) arg4.view (Rect.unit (s := S1x8192x64) (k0_off1 k) S1x4096x64.size (k0_off1_inb k)).toLoadRect X4)) (k0_pay7 v11 v16 (k0_pay20 v25) (k0_pay21 v31 v34) (View.readAt (Elt Ideal) arg4.view (Rect.unit (s := S1x8192x64) (k0_off1 k) S1x4096x64.size (k0_off1_inb k)).toLoadRect X4) (View.readAt (Elt Ideal) arg5.view (Rect.unit (s := S1x8192x64) (k0_off1 k) S1x4096x64.size (k0_off1_inb k)).toLoadRect X5)),
         k0_pay29 v14 v18 v28 v41 v44 acc.2 (k0_pay4 (View.readAt (Elt Ideal) arg4.view (Rect.unit (s := S1x8192x64) (k0_off1 k) S1x4096x64.size (k0_off1_inb k)).toLoadRect X4)) (k0_pay5 (View.readAt (Elt Ideal) arg5.view (Rect.unit (s := S1x8192x64) (k0_off1 k) S1x4096x64.size (k0_off1_inb k)).toLoadRect X5))) := by
  unfold tripR_k0_t1 trip_k0_t1
  rfl

/-- A trip's stores. -/
theorem tripL_eq (v6 : FVec Ideal S64x256 .bf16) (v8 : FVec Ideal S64x256 .bf16) (v11 : FVec Ideal S256x64 .bf16) (v14 : FVec Ideal S256x64 .bf16) (v16 : FVec Ideal S256x64 .bf16) (v18 : FVec Ideal S256x64 .bf16) (v21 : FVec Ideal S64x256 .bf16) (v24 : FVec Ideal S64x256 .bf16) (v25 : Vec Ideal S1x1x256 .f32) (v28 : Vec Ideal S1x1x256 .f32) (v31 : Vec Ideal S1x256x64 .bf16) (v34 : Vec Ideal S1x64x256 .bf16) (v41 : Vec Ideal S1x256x64 .bf16) (v44 : Vec Ideal S1x64x256 .bf16)
    (X4 : BufTy.Contents (Elt Ideal) arg4.view.ty) (X5 : BufTy.Contents (Elt Ideal) arg5.view.ty) (k : Fin k0_t1_loop.trips)
    (acc : FVec Ideal S256x64 .f32 × FVec Ideal S256x64 .f32)
    (f10 : BufTy.Contents (Elt Ideal) arg10.view.ty) (f11 : BufTy.Contents (Elt Ideal) arg11.view.ty) :
    tripL_k0_t1 (F := Ideal) Variants.none c none i arg3 harg3 arg4 harg4 arg5 harg5 arg6 harg6 arg7 harg7 arg8 harg8 arg9 harg9 arg10 harg10 arg11 harg11 v6 v8 v11 v14 v16 v18 v21 v24 v25 v28 v31 v34 v41 v44 X4 X5 k acc f10 f11
      = ([⟨(Rect.unit (s := S1x2x64x4096) (k0_off2 k) S1x1x64x4096.size (k0_off2_inb k)), k0_pay28 v8 v14 v18 v28 v41 v44 (k0_pay4 (View.readAt (Elt Ideal) arg4.view (Rect.unit (s := S1x8192x64) (k0_off1 k) S1x4096x64.size (k0_off1_inb k)).toLoadRect X4)) (k0_pay5 (View.readAt (Elt Ideal) arg5.view (Rect.unit (s := S1x8192x64) (k0_off1 k) S1x4096x64.size (k0_off1_inb k)).toLoadRect X5))
             (arg10.view.readCov [⟨(Rect.unit (s := S1x2x64x4096) (k0_off2 k) S1x1x64x4096.size (k0_off2_inb k)), (k0_pay9 v6 v11 v16 (k0_pay20 v25) (k0_pay21 v31 v34) (View.readAt (Elt Ideal) arg4.view (Rect.unit (s := S1x8192x64) (k0_off1 k) S1x4096x64.size (k0_off1_inb k)).toLoadRect X4) (View.readAt (Elt Ideal) arg5.view (Rect.unit (s := S1x8192x64) (k0_off1 k) S1x4096x64.size (k0_off1_inb k)).toLoadRect X5) (View.readAt (Elt Ideal) arg10.view (Rect.unit (s := S1x2x64x4096) (k0_off2 k) S1x1x64x4096.size (k0_off2_inb k)).toLoadRect f10))⟩] (Rect.unit (s := S1x2x64x4096) (k0_off2 k) S1x1x64x4096.size (k0_off2_inb k)).toLoadRect)⟩,
          ⟨(Rect.unit (s := S1x2x64x4096) (k0_off2 k) S1x1x64x4096.size (k0_off2_inb k)), (k0_pay9 v6 v11 v16 (k0_pay20 v25) (k0_pay21 v31 v34) (View.readAt (Elt Ideal) arg4.view (Rect.unit (s := S1x8192x64) (k0_off1 k) S1x4096x64.size (k0_off1_inb k)).toLoadRect X4) (View.readAt (Elt Ideal) arg5.view (Rect.unit (s := S1x8192x64) (k0_off1 k) S1x4096x64.size (k0_off1_inb k)).toLoadRect X5) (View.readAt (Elt Ideal) arg10.view (Rect.unit (s := S1x2x64x4096) (k0_off2 k) S1x1x64x4096.size (k0_off2_inb k)).toLoadRect f10))⟩],
         [⟨(Rect.unit (s := S1x2x64x4096) (k0_off2 k) S1x1x64x4096.size (k0_off2_inb k)), k0_pay27 v14 v24 v28 (k0_pay4 (View.readAt (Elt Ideal) arg4.view (Rect.unit (s := S1x8192x64) (k0_off1 k) S1x4096x64.size (k0_off1_inb k)).toLoadRect X4))
             (arg11.view.readCov [⟨(Rect.unit (s := S1x2x64x4096) (k0_off2 k) S1x1x64x4096.size (k0_off2_inb k)), (k0_pay8 v11 v21 (k0_pay20 v25) (View.readAt (Elt Ideal) arg4.view (Rect.unit (s := S1x8192x64) (k0_off1 k) S1x4096x64.size (k0_off1_inb k)).toLoadRect X4) (View.readAt (Elt Ideal) arg11.view (Rect.unit (s := S1x2x64x4096) (k0_off2 k) S1x1x64x4096.size (k0_off2_inb k)).toLoadRect f11))⟩] (Rect.unit (s := S1x2x64x4096) (k0_off2 k) S1x1x64x4096.size (k0_off2_inb k)).toLoadRect)⟩,
          ⟨(Rect.unit (s := S1x2x64x4096) (k0_off2 k) S1x1x64x4096.size (k0_off2_inb k)), (k0_pay8 v11 v21 (k0_pay20 v25) (View.readAt (Elt Ideal) arg4.view (Rect.unit (s := S1x8192x64) (k0_off1 k) S1x4096x64.size (k0_off1_inb k)).toLoadRect X4) (View.readAt (Elt Ideal) arg11.view (Rect.unit (s := S1x2x64x4096) (k0_off2 k) S1x1x64x4096.size (k0_off2_inb k)).toLoadRect f11))⟩]) := by
  unfold tripL_k0_t1 trip_k0_t1
  rfl
end
end Cert.Attn
end
-- ==== Proof.State.lean ====
module
public import proofs.«01_k».proof.Proof.Trip
public import Idealize.ShloMosaic.Lib.WholeRead
public import Idealize.ShloMosaic.Lib.WritesUnit
public import Idealize.ShloMosaic.Lib.Pointwise

/-! The two trips of the key loop at an index. -/

@[expose] public section
set_option maxRecDepth 16384
noncomputable section
namespace Cert.Attn
open Idealize.ShloMosaic Idealize.ShloMosaic.TcCoe Idealize.ShloMosaic.Tactic
open Idealize.SL Idealize.SL.Sem
open Cert.KernelIdeal Cert.KernelIdeal.Gen

theorem ldT_0 (m : Memref sig .tc .vmem S2x64x256 .bf16) (hm : m.IsWhole) (x : Vec Ideal S2x64x256 .bf16)
    (inb : ∀ a, (![0, 0, 0] : Fin 3 → ℕ) a + (![1, 64, 256] : Fin 3 → ℕ) a ≤ S2x64x256.size a) (a : Fin 64) (b : Fin 256) :
    View.readAt (Elt Ideal) m.view (Rect.unit (s := S2x64x256) ![0, 0, 0] ![1, 64, 256] inb).toLoadRect (hm.unread x) (ix3 0 a b)
      = x (ix3 0 a b) := by
  rw [Memref.IsWhole.readAt_unread]
  congr 1
  funext r
  apply Fin.ext
  match r with
  | ⟨0, _⟩ => rfl
  | ⟨1, _⟩ => show 0 + 1 * a.val = a.val; omega
  | ⟨2, _⟩ => show 0 + 1 * b.val = b.val; omega

theorem ldR_0 (m : Memref sig .tc .vmem S2x256x64 .bf16) (hm : m.IsWhole) (x : Vec Ideal S2x256x64 .bf16)
    (inb : ∀ a, (![0, 0, 0] : Fin 3 → ℕ) a + (![1, 256, 64] : Fin 3 → ℕ) a ≤ S2x256x64.size a) (a : Fin 256) (b : Fin 64) :
    View.readAt (Elt Ideal) m.view (Rect.unit (s := S2x256x64) ![0, 0, 0] ![1, 256, 64] inb).toLoadRect (hm.unread x) (ix3 0 a b)
      = x (ix3 0 a b) := by
  rw [Memref.IsWhole.readAt_unread]
  congr 1
  funext r
  apply Fin.ext
  match r with
  | ⟨0, _⟩ => rfl
  | ⟨1, _⟩ => show 0 + 1 * a.val = a.val; omega
  | ⟨2, _⟩ => show 0 + 1 * b.val = b.val; omega

theorem ldL_0 (m : Memref sig .tc .vmem S2x1x256 .f32) (hm : m.IsWhole) (x : Vec Ideal S2x1x256 .f32)
    (inb : ∀ a, (![0, 0, 0] : Fin 3 → ℕ) a + (![1, 1, 256] : Fin 3 → ℕ) a ≤ S2x1x256.size a) (a : Fin 1) (b : Fin 256) :
    View.readAt (Elt Ideal) m.view (Rect.unit (s := S2x1x256) ![0, 0, 0] ![1, 1, 256] inb).toLoadRect (hm.unread x) (ix3 0 a b)
      = x (ix3 0 a b) := by
  rw [Memref.IsWhole.readAt_unread]
  congr 1
  funext r
  apply Fin.ext
  match r with
  | ⟨0, _⟩ => rfl
  | ⟨1, _⟩ => show 0 + 1 * a.val = a.val; omega
  | ⟨2, _⟩ => show 0 + 1 * b.val = b.val; omega

theorem ldT_1 (m : Memref sig .tc .vmem S2x64x256 .bf16) (hm : m.IsWhole) (x : Vec Ideal S2x64x256 .bf16)
    (inb : ∀ a, (![1, 0, 0] : Fin 3 → ℕ) a + (![1, 64, 256] : Fin 3 → ℕ) a ≤ S2x64x256.size a) (a : Fin 64) (b : Fin 256) :
    View.readAt (Elt Ideal) m.view (Rect.unit (s := S2x64x256) ![1, 0, 0] ![1, 64, 256] inb).toLoadRect (hm.unread x) (ix3 0 a b)
      = x (ix3 1 a b) := by
  rw [Memref.IsWhole.readAt_unread]
  congr 1
  funext r
  apply Fin.ext
  match r with
  | ⟨0, _⟩ => rfl
  | ⟨1, _⟩ => show 0 + 1 * a.val = a.val; omega
  | ⟨2, _⟩ => show 0 + 1 * b.val = b.val; omega

theorem ldR_1 (m : Memref sig .tc .vmem S2x256x64 .bf16) (hm : m.IsWhole) (x : Vec Ideal S2x256x64 .bf16)
    (inb : ∀ a, (![1, 0, 0] : Fin 3 → ℕ) a + (![1, 256, 64] : Fin 3 → ℕ) a ≤ S2x256x64.size a) (a : Fin 256) (b : Fin 64) :
    View.readAt (Elt Ideal) m.view (Rect.unit (s := S2x256x64) ![1, 0, 0] ![1, 256, 64] inb).toLoadRect (hm.unread x) (ix3 0 a b)
      = x (ix3 1 a b) := by
  rw [Memref.IsWhole.readAt_unread]
  congr 1
  funext r
  apply Fin.ext
  match r with
  | ⟨0, _⟩ => rfl
  | ⟨1, _⟩ => show 0 + 1 * a.val = a.val; omega
  | ⟨2, _⟩ => show 0 + 1 * b.val = b.val; omega

theorem ldL_1 (m : Memref sig .tc .vmem S2x1x256 .f32) (hm : m.IsWhole) (x : Vec Ideal S2x1x256 .f32)
    (inb : ∀ a, (![1, 0, 0] : Fin 3 → ℕ) a + (![1, 1, 256] : Fin 3 → ℕ) a ≤ S2x1x256.size a) (a : Fin 1) (b : Fin 256) :
    View.readAt (Elt Ideal) m.view (Rect.unit (s := S2x1x256) ![1, 0, 0] ![1, 1, 256] inb).toLoadRect (hm.unread x) (ix3 0 a b)
      = x (ix3 1 a b) := by
  rw [Memref.IsWhole.readAt_unread]
  congr 1
  funext r
  apply Fin.ext
  match r with
  | ⟨0, _⟩ => rfl
  | ⟨1, _⟩ => show 0 + 1 * a.val = a.val; omega
  | ⟨2, _⟩ => show 0 + 1 * b.val = b.val; omega

theorem trips_eq : k0_t1_loop.trips = 2 := by decide +kernel

/-- Trip `j`'s number. -/
def tn (j : Fin 2) : Fin k0_t1_loop.trips := ⟨j.val, by rw [trips_eq]; exact j.isLt⟩

theorem ldK (m : Memref sig .tc .vmem S1x8192x64 .bf16) (hm : m.IsWhole) (x : Vec Ideal S1x8192x64 .bf16) (j : Fin 2)
    (n : Fin 4096) (d : Fin 64) :
    View.readAt (Elt Ideal) m.view (Rect.unit (s := S1x8192x64) (k0_off1 (tn j)) ![1, 4096, 64] (k0_off1_inb (tn j))).toLoadRect
      (hm.unread x) (ix3 0 n d) = x (ix3 0 (kx j n) d) := by
  rw [Memref.IsWhole.readAt_unread]
  congr 1
  have e := k0_off1_eq (tn j)
  funext r
  apply Fin.ext
  match r with
  | ⟨0, _⟩ => show k0_off1 (tn j) 0 + 1 * 0 = 0; rw [e]; rfl
  | ⟨1, _⟩ => show k0_off1 (tn j) 1 + 1 * n.val = 4096 * j.val + n.val; rw [e]; show 4096 * j.val + 1 * n.val = _; omega
  | ⟨2, _⟩ => show k0_off1 (tn j) 2 + 1 * d.val = d.val; rw [e]; show 0 + 1 * d.val = _; omega

/-- An accumulator's block read at its own rectangle. -/
theorem ldA (m : Memref sig .tc .vmem S1x2x64x4096 .f32) (f : BufTy.Contents (Elt Ideal) m.view.ty) (j : Fin 2) (d : Fin 64) (n : Fin 4096) :
    View.readAt (Elt Ideal) m.view (Rect.unit (s := S1x2x64x4096) (k0_off2 (tn j)) ![1, 1, 64, 4096] (k0_off2_inb (tn j))).toLoadRect
      f (ix4 0 0 d n) = m.view.read (Elt Ideal) f (ix4 0 j d n) := by
  rw [View.readAt_eq_ld]
  show m.view.read (Elt Ideal) f _ = _
  congr 1
  have e := k0_off2_eq (tn j)
  funext r
  apply Fin.ext
  match r with
  | ⟨0, _⟩ => show k0_off2 (tn j) 0 + 1 * 0 = 0; rw [e]; rfl
  | ⟨1, _⟩ => show k0_off2 (tn j) 1 + 1 * 0 = j.val; rw [e]; show j.val + 1 * 0 = _; omega
  | ⟨2, _⟩ => show k0_off2 (tn j) 2 + 1 * d.val = d.val; rw [e]; show 0 + 1 * d.val = _; omega
  | ⟨3, _⟩ => show k0_off2 (tn j) 3 + 1 * n.val = n.val; rw [e]; show 0 + 1 * n.val = _; omega

/-- Reading block `j` under a store of block `k`. -/
theorem rdA {κ : Kind} {sp : Space} {v : View sig κ sp S1x2x64x4096 .f32} (f : BufTy.Contents (Elt Ideal) v.ty) (k j : Fin 2)
    (w : Vec Ideal S1x1x64x4096 .f32) (L : List (View.Piece (Elt Ideal) S1x2x64x4096 .f32)) (d : Fin 64) (n : Fin 4096) :
    v.read (Elt Ideal) (v.writes (Elt Ideal) f
      ((⟨Rect.unit (s := S1x2x64x4096) (k0_off2 (tn k)) S1x1x64x4096.size (k0_off2_inb (tn k)), w⟩ :
        View.Piece (Elt Ideal) S1x2x64x4096 .f32) :: L)) (ix4 0 j d n)
      = if j = k then w (ix4 0 0 d n) else v.read (Elt Ideal) (v.writes (Elt Ideal) f L) (ix4 0 j d n) := by
  by_cases h : j = k
  · subst h
    rw [if_pos rfl]
    refine View.read_writes_cons_unit_of_mem v f _ w L _ (ix4 0 0 d n) (k0_off2_eq (tn j)) ?_
    intro r
    match r with
    | ⟨0, _⟩ => rfl
    | ⟨1, _⟩ => show j.val = j.val + 0; omega
    | ⟨2, _⟩ => show d.val = 0 + d.val; omega
    | ⟨3, _⟩ => show n.val = 0 + n.val; omega
  · rw [if_neg h]
    refine View.read_writes_cons_unit_of_not_mem v f _ w L _ (k0_off2_eq (tn k)) 1 ?_
    show j.val < k.val ∨ k.val + 1 ≤ j.val
    omega

theorem pay24_at (a : FVec Ideal S256x64 .f32) (u : FVec Ideal S4096x64 .bf16) (w : FVec Ideal S256x4096 .bf16) (q : Fin 256) (d : Fin 64) :
    k0_pay24 (F := Ideal) a u w (ix2 q d) = a (ix2 q d) + ∑ n : Fin 4096, w (ix2 q n) * u (ix2 n d) := by
  pointwise [k0_pay24]

theorem pay4_at (u : Vec Ideal S1x4096x64 .bf16) (n : Fin 4096) (d : Fin 64) :
    k0_pay4 (F := Ideal) u (ix2 n d) = u (ix3 0 n d) := by
  pointwise [k0_pay4]

theorem pay5_at (u : Vec Ideal S1x4096x64 .bf16) (n : Fin 4096) (d : Fin 64) :
    k0_pay5 (F := Ideal) u (ix2 n d) = u (ix3 0 n d) := by
  pointwise [k0_pay5]

theorem pay9_at (v6 : FVec Ideal S64x256 .bf16) (v11 v16 : FVec Ideal S256x64 .bf16) (v27 v40 : FVec Ideal S256x1 .f32)
    (v75 v78 : Vec Ideal S1x4096x64 .bf16) (v100 : Vec Ideal S1x1x64x4096 .f32) (d : Fin 64) (n : Fin 4096) :
    k0_pay9 (F := Ideal) v6 v11 v16 v27 v40 v75 v78 v100 (ix4 0 0 d n)
      = v100 (ix4 0 0 d n) + ∑ q : Fin 256, v6 (ix2 d q) * k0_pay7 v11 v16 v27 v40 v75 v78 (ix2 q n) := by
  pointwise [k0_pay9]

theorem pay8_at (v11 : FVec Ideal S256x64 .bf16) (v21 : FVec Ideal S64x256 .bf16) (v27 : FVec Ideal S256x1 .f32)
    (v75 : Vec Ideal S1x4096x64 .bf16) (v90 : Vec Ideal S1x1x64x4096 .f32) (d : Fin 64) (n : Fin 4096) :
    k0_pay8 (F := Ideal) v11 v21 v27 v75 v90 (ix4 0 0 d n)
      = v90 (ix4 0 0 d n) + ∑ q : Fin 256, v21 (ix2 d q) * k0_pay6 v11 v27 v75 (ix2 q n) := by
  pointwise [k0_pay8]

theorem pay27_at (v14 : FVec Ideal S256x64 .bf16) (v24 : FVec Ideal S64x256 .bf16) (v28 : Vec Ideal S1x1x256 .f32)
    (v76 : FVec Ideal S4096x64 .bf16) (v120 : Vec Ideal S1x1x64x4096 .f32) (d : Fin 64) (n : Fin 4096) :
    k0_pay27 (F := Ideal) v14 v24 v28 v76 v120 (ix4 0 0 d n)
      = v120 (ix4 0 0 d n) + ∑ q : Fin 256, v24 (ix2 d q) * k0_pay25 v14 v28 v76 (ix2 q n) := by
  pointwise [k0_pay27]

theorem pay28_at (v8 : FVec Ideal S64x256 .bf16) (v14 v18 : FVec Ideal S256x64 .bf16) (v28 : Vec Ideal S1x1x256 .f32)
    (v41 : Vec Ideal S1x256x64 .bf16) (v44 : Vec Ideal S1x64x256 .bf16) (v76 v79 : FVec Ideal S4096x64 .bf16)
    (v130 : Vec Ideal S1x1x64x4096 .f32) (d : Fin 64) (n : Fin 4096) :
    k0_pay28 (F := Ideal) v8 v14 v18 v28 v41 v44 v76 v79 v130 (ix4 0 0 d n)
      = v130 (ix4 0 0 d n) + ∑ q : Fin 256, v8 (ix2 d q) * k0_pay26 v14 v18 v28 v41 v44 v76 v79 (ix2 q n) := by
  pointwise [k0_pay28]

theorem pay29_at (v14 v18 : FVec Ideal S256x64 .bf16) (v28 : Vec Ideal S1x1x256 .f32)
    (v41 : Vec Ideal S1x256x64 .bf16) (v44 : Vec Ideal S1x64x256 .bf16) (a : FVec Ideal S256x64 .f32)
    (v76 v79 : FVec Ideal S4096x64 .bf16) (q : Fin 256) (d : Fin 64) :
    k0_pay29 (F := Ideal) v14 v18 v28 v41 v44 a v76 v79 (ix2 q d)
      = a (ix2 q d) + ∑ n : Fin 4096, k0_pay26 v14 v18 v28 v41 v44 v76 v79 (ix2 q n) * v76 (ix2 n d) := by
  pointwise [k0_pay29]

theorem pay22_at (q : Fin 256) (d : Fin 64) : k0_pay22 (F := Ideal) (ix2 q d) = (0 : EReal) := by
  pointwise [k0_pay22]

theorem pay23_at (q : Fin 256) (d : Fin 64) : k0_pay23 (F := Ideal) (ix2 q d) = (0 : EReal) := by
  pointwise [k0_pay23]

section
variable (c : Dev nD) (i : grid0.Coords)
  (arg3 : Memref sig .tc .vmem S2x64x256 .bf16) (harg3 : arg3.IsWhole)
  (arg4 : Memref sig .tc .vmem S1x8192x64 .bf16) (harg4 : arg4.IsWhole)
  (arg5 : Memref sig .tc .vmem S1x8192x64 .bf16) (harg5 : arg5.IsWhole)
  (arg6 : Memref sig .tc .vmem S2x64x256 .bf16) (harg6 : arg6.IsWhole)
  (arg7 : Memref sig .tc .vmem S2x256x64 .bf16) (harg7 : arg7.IsWhole)
  (arg8 : Memref sig .tc .vmem S2x1x256 .f32) (harg8 : arg8.IsWhole)
  (arg9 : Memref sig .tc .vmem S2x256x64 .bf16) (harg9 : arg9.IsWhole)
  (arg10 : Memref sig .tc .vmem S1x2x64x4096 .f32) (harg10 : arg10.IsWhole)
  (arg11 : Memref sig .tc .vmem S1x2x64x4096 .f32) (harg11 : arg11.IsWhole)
variable (x0 : Vec Ideal S2x64x256 .bf16) (x1 x2 : Vec Ideal S1x8192x64 .bf16) (x3 : Vec Ideal S2x64x256 .bf16)
  (x4 : Vec Ideal S2x256x64 .bf16) (x5 : Vec Ideal S2x1x256 .f32)
variable (G10 : BufTy.Contents (Elt Ideal) arg10.view.ty) (G11 : BufTy.Contents (Elt Ideal) arg11.view.ty)

/-- The carried values and the stores after `m` trips of the block's loop. -/
def stS (m : ℕ) :=
  st_k0_t1 (F := Ideal) Variants.none c  none i arg3 harg3 arg4 harg4 arg5 harg5 arg6 harg6 arg7 harg7 arg8 harg8 arg9 harg9 arg10 harg10 arg11 harg11
    (k0_pay12 (View.readAt (Elt Ideal) arg3.view (Rect.unit (s := S2x64x256) ![0, 0, 0] S1x64x256.size inb_S2x64x256_S1x64x256_0_0_0).toLoadRect (harg3.unread x0)))
    (k0_pay13 (View.readAt (Elt Ideal) arg3.view (Rect.unit (s := S2x64x256) ![1, 0, 0] S1x64x256.size inb_S2x64x256_S1x64x256_1_0_0).toLoadRect (harg3.unread x0)))
    (k0_pay14 (View.readAt (Elt Ideal) arg3.view (Rect.unit (s := S2x64x256) ![0, 0, 0] S1x64x256.size inb_S2x64x256_S1x64x256_0_0_0).toLoadRect (harg3.unread x0)))
    (k0_pay15 (View.readAt (Elt Ideal) arg3.view (Rect.unit (s := S2x64x256) ![1, 0, 0] S1x64x256.size inb_S2x64x256_S1x64x256_1_0_0).toLoadRect (harg3.unread x0)))
    (k0_pay16 (View.readAt (Elt Ideal) arg7.view (Rect.unit (s := S2x256x64) ![0, 0, 0] S1x256x64.size inb_S2x256x64_S1x256x64_0_0_0).toLoadRect (harg7.unread x4)))
    (k0_pay17 (View.readAt (Elt Ideal) arg7.view (Rect.unit (s := S2x256x64) ![1, 0, 0] S1x256x64.size inb_S2x256x64_S1x256x64_1_0_0).toLoadRect (harg7.unread x4)))
    (k0_pay18 (View.readAt (Elt Ideal) arg7.view (Rect.unit (s := S2x256x64) ![0, 0, 0] S1x256x64.size inb_S2x256x64_S1x256x64_0_0_0).toLoadRect (harg7.unread x4)))
    (k0_pay19 (View.readAt (Elt Ideal) arg7.view (Rect.unit (s := S2x256x64) ![1, 0, 0] S1x256x64.size inb_S2x256x64_S1x256x64_1_0_0).toLoadRect (harg7.unread x4)))
    (View.readAt (Elt Ideal) arg8.view (Rect.unit (s := S2x1x256) ![0, 0, 0] S1x1x256.size inb_S2x1x256_S1x1x256_0_0_0).toLoadRect (harg8.unread x5))
    (View.readAt (Elt Ideal) arg8.view (Rect.unit (s := S2x1x256) ![1, 0, 0] S1x1x256.size inb_S2x1x256_S1x1x256_1_0_0).toLoadRect (harg8.unread x5))
    (View.readAt (Elt Ideal) arg7.view (Rect.unit (s := S2x256x64) ![0, 0, 0] S1x256x64.size inb_S2x256x64_S1x256x64_0_0_0).toLoadRect (harg7.unread x4))
    (View.readAt (Elt Ideal) arg6.view (Rect.unit (s := S2x64x256) ![0, 0, 0] S1x64x256.size inb_S2x64x256_S1x64x256_0_0_0).toLoadRect (harg6.unread x3))
    (View.readAt (Elt Ideal) arg7.view (Rect.unit (s := S2x256x64) ![1, 0, 0] S1x256x64.size inb_S2x256x64_S1x256x64_1_0_0).toLoadRect (harg7.unread x4))
    (View.readAt (Elt Ideal) arg6.view (Rect.unit (s := S2x64x256) ![1, 0, 0] S1x64x256.size inb_S2x64x256_S1x64x256_1_0_0).toLoadRect (harg6.unread x3))
    (harg4.unread x1) (harg5.unread x2) G10 G11 (k0_pay22, k0_pay23) m
end

theorem v6_at (arg3 : Memref sig .tc .vmem S2x64x256 .bf16) (harg3 : arg3.IsWhole) (x : Vec Ideal S2x64x256 .bf16) (d : Fin 64) (q : Fin 256) :
    k0_pay12 (F := Ideal) (View.readAt (Elt Ideal) arg3.view (Rect.unit (s := S2x64x256) ![0, 0, 0] S1x64x256.size inb_S2x64x256_S1x64x256_0_0_0).toLoadRect (harg3.unread x)) (ix2 d q) = x (ix3 0 d q) := by
  pointwise [k0_pay12]
  exact ldT_0 arg3 harg3 x _ d q

theorem v8_at (arg3 : Memref sig .tc .vmem S2x64x256 .bf16) (harg3 : arg3.IsWhole) (x : Vec Ideal S2x64x256 .bf16) (d : Fin 64) (q : Fin 256) :
    k0_pay13 (F := Ideal) (View.readAt (Elt Ideal) arg3.view (Rect.unit (s := S2x64x256) ![1, 0, 0] S1x64x256.size inb_S2x64x256_S1x64x256_1_0_0).toLoadRect (harg3.unread x)) (ix2 d q) = x (ix3 1 d q) := by
  pointwise [k0_pay13]
  exact ldT_1 arg3 harg3 x _ d q

theorem v21_at (arg7 : Memref sig .tc .vmem S2x256x64 .bf16) (harg7 : arg7.IsWhole) (x : Vec Ideal S2x256x64 .bf16) (d : Fin 64) (q : Fin 256) :
    k0_pay18 (F := Ideal) (View.readAt (Elt Ideal) arg7.view (Rect.unit (s := S2x256x64) ![0, 0, 0] S1x256x64.size inb_S2x256x64_S1x256x64_0_0_0).toLoadRect (harg7.unread x)) (ix2 d q) = x (ix3 0 q d) := by
  pointwise [k0_pay18]
  exact ldR_0 arg7 harg7 x _ q d

theorem v24_at (arg7 : Memref sig .tc .vmem S2x256x64 .bf16) (harg7 : arg7.IsWhole) (x : Vec Ideal S2x256x64 .bf16) (d : Fin 64) (q : Fin 256) :
    k0_pay19 (F := Ideal) (View.readAt (Elt Ideal) arg7.view (Rect.unit (s := S2x256x64) ![1, 0, 0] S1x256x64.size inb_S2x256x64_S1x256x64_1_0_0).toLoadRect (harg7.unread x)) (ix2 d q) = x (ix3 1 q d) := by
  pointwise [k0_pay19]
  exact ldR_1 arg7 harg7 x _ q d

section
variable (c : Dev nD) (i : grid0.Coords)
  (arg3 : Memref sig .tc .vmem S2x64x256 .bf16) (harg3 : arg3.IsWhole)
  (arg4 : Memref sig .tc .vmem S1x8192x64 .bf16) (harg4 : arg4.IsWhole)
  (arg5 : Memref sig .tc .vmem S1x8192x64 .bf16) (harg5 : arg5.IsWhole)
  (arg6 : Memref sig .tc .vmem S2x64x256 .bf16) (harg6 : arg6.IsWhole)
  (arg7 : Memref sig .tc .vmem S2x256x64 .bf16) (harg7 : arg7.IsWhole)
  (arg8 : Memref sig .tc .vmem S2x1x256 .f32) (harg8 : arg8.IsWhole)
  (arg9 : Memref sig .tc .vmem S2x256x64 .bf16) (harg9 : arg9.IsWhole)
  (arg10 : Memref sig .tc .vmem S1x2x64x4096 .f32) (harg10 : arg10.IsWhole)
  (arg11 : Memref sig .tc .vmem S1x2x64x4096 .f32) (harg11 : arg11.IsWhole)
variable (x0 : Vec Ideal S2x64x256 .bf16) (x1 x2 : Vec Ideal S1x8192x64 .bf16) (x3 : Vec Ideal S2x64x256 .bf16)
  (x4 : Vec Ideal S2x256x64 .bf16) (x5 : Vec Ideal S2x1x256 .f32)

theorem p0_at (j : Fin 2) (q : Fin 256) (n : Fin 4096) :
    k0_pay6 (F := Ideal) (k0_pay14 (View.readAt (Elt Ideal) arg3.view (Rect.unit (s := S2x64x256) ![0, 0, 0] S1x64x256.size inb_S2x64x256_S1x64x256_0_0_0).toLoadRect (harg3.unread x0))) (k0_pay20 (View.readAt (Elt Ideal) arg8.view (Rect.unit (s := S2x1x256) ![0, 0, 0] S1x1x256.size inb_S2x1x256_S1x1x256_0_0_0).toLoadRect (harg8.unread x5))) (View.readAt (Elt Ideal) arg4.view (Rect.unit (s := S1x8192x64) (k0_off1 (tn j)) S1x4096x64.size (k0_off1_inb (tn j))).toLoadRect (harg4.unread x1)) (ix2 q n) = pB x0 x1 x5 0 q (kx j n) := by
  pointwise [k0_pay6, k0_pay14, k0_pay20, k0_pay4]
  simp only [ldT_0, ldL_0, ldK]
  rfl

theorem p1_at (j : Fin 2) (q : Fin 256) (n : Fin 4096) :
    k0_pay25 (F := Ideal) (k0_pay15 (View.readAt (Elt Ideal) arg3.view (Rect.unit (s := S2x64x256) ![1, 0, 0] S1x64x256.size inb_S2x64x256_S1x64x256_1_0_0).toLoadRect (harg3.unread x0))) (View.readAt (Elt Ideal) arg8.view (Rect.unit (s := S2x1x256) ![1, 0, 0] S1x1x256.size inb_S2x1x256_S1x1x256_1_0_0).toLoadRect (harg8.unread x5)) (k0_pay4 (View.readAt (Elt Ideal) arg4.view (Rect.unit (s := S1x8192x64) (k0_off1 (tn j)) S1x4096x64.size (k0_off1_inb (tn j))).toLoadRect (harg4.unread x1))) (ix2 q n) = pB x0 x1 x5 1 q (kx j n) := by
  pointwise [k0_pay25, k0_pay15, k0_pay4]
  simp only [ldT_1, ldL_1, ldK]
  rfl

theorem ds0_at (j : Fin 2) (q : Fin 256) (n : Fin 4096) :
    k0_pay7 (F := Ideal) (k0_pay14 (View.readAt (Elt Ideal) arg3.view (Rect.unit (s := S2x64x256) ![0, 0, 0] S1x64x256.size inb_S2x64x256_S1x64x256_0_0_0).toLoadRect (harg3.unread x0))) (k0_pay16 (View.readAt (Elt Ideal) arg7.view (Rect.unit (s := S2x256x64) ![0, 0, 0] S1x256x64.size inb_S2x256x64_S1x256x64_0_0_0).toLoadRect (harg7.unread x4))) (k0_pay20 (View.readAt (Elt Ideal) arg8.view (Rect.unit (s := S2x1x256) ![0, 0, 0] S1x1x256.size inb_S2x1x256_S1x1x256_0_0_0).toLoadRect (harg8.unread x5))) (k0_pay21 (View.readAt (Elt Ideal) arg7.view (Rect.unit (s := S2x256x64) ![0, 0, 0] S1x256x64.size inb_S2x256x64_S1x256x64_0_0_0).toLoadRect (harg7.unread x4)) (View.readAt (Elt Ideal) arg6.view (Rect.unit (s := S2x64x256) ![0, 0, 0] S1x64x256.size inb_S2x64x256_S1x64x256_0_0_0).toLoadRect (harg6.unread x3))) (View.readAt (Elt Ideal) arg4.view (Rect.unit (s := S1x8192x64) (k0_off1 (tn j)) S1x4096x64.size (k0_off1_inb (tn j))).toLoadRect (harg4.unread x1)) (View.readAt (Elt Ideal) arg5.view (Rect.unit (s := S1x8192x64) (k0_off1 (tn j)) S1x4096x64.size (k0_off1_inb (tn j))).toLoadRect (harg5.unread x2)) (ix2 q n)
      = dsB x0 x1 x2 x3 x4 x5 0 q (kx j n) := by
  pointwise [k0_pay7, k0_pay6, k0_pay14, k0_pay20, k0_pay16, k0_pay21, k0_pay4, k0_pay5]
  simp only [ldT_0, ldL_0, ldR_0, ldK]
  rfl

theorem ds1_at (j : Fin 2) (q : Fin 256) (n : Fin 4096) :
    k0_pay26 (F := Ideal) (k0_pay15 (View.readAt (Elt Ideal) arg3.view (Rect.unit (s := S2x64x256) ![1, 0, 0] S1x64x256.size inb_S2x64x256_S1x64x256_1_0_0).toLoadRect (harg3.unread x0))) (k0_pay17 (View.readAt (Elt Ideal) arg7.view (Rect.unit (s := S2x256x64) ![1, 0, 0] S1x256x64.size inb_S2x256x64_S1x256x64_1_0_0).toLoadRect (harg7.unread x4))) (View.readAt (Elt Ideal) arg8.view (Rect.unit (s := S2x1x256) ![1, 0, 0] S1x1x256.size inb_S2x1x256_S1x1x256_1_0_0).toLoadRect (harg8.unread x5)) (View.readAt (Elt Ideal) arg7.view (Rect.unit (s := S2x256x64) ![1, 0, 0] S1x256x64.size inb_S2x256x64_S1x256x64_1_0_0).toLoadRect (harg7.unread x4)) (View.readAt (Elt Ideal) arg6.view (Rect.unit (s := S2x64x256) ![1, 0, 0] S1x64x256.size inb_S2x64x256_S1x64x256_1_0_0).toLoadRect (harg6.unread x3)) (k0_pay4 (View.readAt (Elt Ideal) arg4.view (Rect.unit (s := S1x8192x64) (k0_off1 (tn j)) S1x4096x64.size (k0_off1_inb (tn j))).toLoadRect (harg4.unread x1))) (k0_pay5 (View.readAt (Elt Ideal) arg5.view (Rect.unit (s := S1x8192x64) (k0_off1 (tn j)) S1x4096x64.size (k0_off1_inb (tn j))).toLoadRect (harg5.unread x2))) (ix2 q n)
      = dsB x0 x1 x2 x3 x4 x5 1 q (kx j n) := by
  pointwise [k0_pay26, k0_pay25, k0_pay15, k0_pay17, k0_pay4, k0_pay5]
  simp only [ldT_1, ldL_1, ldR_1, ldK]
  rfl

variable (G10 : BufTy.Contents (Elt Ideal) arg10.view.ty) (G11 : BufTy.Contents (Elt Ideal) arg11.view.ty)

theorem stS_succ (j : Fin 2) :
    stS c i arg3 harg3 arg4 harg4 arg5 harg5 arg6 harg6 arg7 harg7 arg8 harg8 arg9 harg9 arg10 harg10 arg11 harg11 x0 x1 x2 x3 x4 x5 G10 G11 (j.val + 1)
      = (tripR_k0_t1 (F := Ideal) Variants.none c none i arg3 harg3 arg4 harg4 arg5 harg5 arg6 harg6 arg7 harg7 arg8 harg8 arg9 harg9 arg10 harg10 arg11 harg11
          (k0_pay12 (View.readAt (Elt Ideal) arg3.view (Rect.unit (s := S2x64x256) ![0, 0, 0] S1x64x256.size inb_S2x64x256_S1x64x256_0_0_0).toLoadRect (harg3.unread x0)))
    (k0_pay13 (View.readAt (Elt Ideal) arg3.view (Rect.unit (s := S2x64x256) ![1, 0, 0] S1x64x256.size inb_S2x64x256_S1x64x256_1_0_0).toLoadRect (harg3.unread x0)))
    (k0_pay14 (View.readAt (Elt Ideal) arg3.view (Rect.unit (s := S2x64x256) ![0, 0, 0] S1x64x256.size inb_S2x64x256_S1x64x256_0_0_0).toLoadRect (harg3.unread x0)))
    (k0_pay15 (View.readAt (Elt Ideal) arg3.view (Rect.unit (s := S2x64x256) ![1, 0, 0] S1x64x256.size inb_S2x64x256_S1x64x256_1_0_0).toLoadRect (harg3.unread x0)))
    (k0_pay16 (View.readAt (Elt Ideal) arg7.view (Rect.unit (s := S2x256x64) ![0, 0, 0] S1x256x64.size inb_S2x256x64_S1x256x64_0_0_0).toLoadRect (harg7.unread x4)))
    (k0_pay17 (View.readAt (Elt Ideal) arg7.view (Rect.unit (s := S2x256x64) ![1, 0, 0] S1x256x64.size inb_S2x256x64_S1x256x64_1_0_0).toLoadRect (harg7.unread x4)))
    (k0_pay18 (View.readAt (Elt Ideal) arg7.view (Rect.unit (s := S2x256x64) ![0, 0, 0] S1x256x64.size inb_S2x256x64_S1x256x64_0_0_0).toLoadRect (harg7.unread x4)))
    (k0_pay19 (View.readAt (Elt Ideal) arg7.view (Rect.unit (s := S2x256x64) ![1, 0, 0] S1x256x64.size inb_S2x256x64_S1x256x64_1_0_0).toLoadRect (harg7.unread x4)))
    (View.readAt (Elt Ideal) arg8.view (Rect.unit (s := S2x1x256) ![0, 0, 0] S1x1x256.size inb_S2x1x256_S1x1x256_0_0_0).toLoadRect (harg8.unread x5))
    (View.readAt (Elt Ideal) arg8.view (Rect.unit (s := S2x1x256) ![1, 0, 0] S1x1x256.size inb_S2x1x256_S1x1x256_1_0_0).toLoadRect (harg8.unread x5))
    (View.readAt (Elt Ideal) arg7.view (Rect.unit (s := S2x256x64) ![0, 0, 0] S1x256x64.size inb_S2x256x64_S1x256x64_0_0_0).toLoadRect (harg7.unread x4))
    (View.readAt (Elt Ideal) arg6.view (Rect.unit (s := S2x64x256) ![0, 0, 0] S1x64x256.size inb_S2x64x256_S1x64x256_0_0_0).toLoadRect (harg6.unread x3))
    (View.readAt (Elt Ideal) arg7.view (Rect.unit (s := S2x256x64) ![1, 0, 0] S1x256x64.size inb_S2x256x64_S1x256x64_1_0_0).toLoadRect (harg7.unread x4))
    (View.readAt (Elt Ideal) arg6.view (Rect.unit (s := S2x64x256) ![1, 0, 0] S1x64x256.size inb_S2x64x256_S1x64x256_1_0_0).toLoadRect (harg6.unread x3))
          (harg4.unread x1) (harg5.unread x2) (tn j) (stS c i arg3 harg3 arg4 harg4 arg5 harg5 arg6 harg6 arg7 harg7 arg8 harg8 arg9 harg9 arg10 harg10 arg11 harg11 x0 x1 x2 x3 x4 x5 G10 G11 j.val).1
          (arg10.view.writes (Elt Ideal) G10 (stS c i arg3 harg3 arg4 harg4 arg5 harg5 arg6 harg6 arg7 harg7 arg8 harg8 arg9 harg9 arg10 harg10 arg11 harg11 x0 x1 x2 x3 x4 x5 G10 G11 j.val).2.1) (arg11.view.writes (Elt Ideal) G11 (stS c i arg3 harg3 arg4 harg4 arg5 harg5 arg6 harg6 arg7 harg7 arg8 harg8 arg9 harg9 arg10 harg10 arg11 harg11 x0 x1 x2 x3 x4 x5 G10 G11 j.val).2.2),
         (tripL_k0_t1 (F := Ideal) Variants.none c none i arg3 harg3 arg4 harg4 arg5 harg5 arg6 harg6 arg7 harg7 arg8 harg8 arg9 harg9 arg10 harg10 arg11 harg11
          (k0_pay12 (View.readAt (Elt Ideal) arg3.view (Rect.unit (s := S2x64x256) ![0, 0, 0] S1x64x256.size inb_S2x64x256_S1x64x256_0_0_0).toLoadRect (harg3.unread x0)))
    (k0_pay13 (View.readAt (Elt Ideal) arg3.view (Rect.unit (s := S2x64x256) ![1, 0, 0] S1x64x256.size inb_S2x64x256_S1x64x256_1_0_0).toLoadRect (harg3.unread x0)))
    (k0_pay14 (View.readAt (Elt Ideal) arg3.view (Rect.unit (s := S2x64x256) ![0, 0, 0] S1x64x256.size inb_S2x64x256_S1x64x256_0_0_0).toLoadRect (harg3.unread x0)))
    (k0_pay15 (View.readAt (Elt Ideal) arg3.view (Rect.unit (s := S2x64x256) ![1, 0, 0] S1x64x256.size inb_S2x64x256_S1x64x256_1_0_0).toLoadRect (harg3.unread x0)))
    (k0_pay16 (View.readAt (Elt Ideal) arg7.view (Rect.unit (s := S2x256x64) ![0, 0, 0] S1x256x64.size inb_S2x256x64_S1x256x64_0_0_0).toLoadRect (harg7.unread x4)))
    (k0_pay17 (View.readAt (Elt Ideal) arg7.view (Rect.unit (s := S2x256x64) ![1, 0, 0] S1x256x64.size inb_S2x256x64_S1x256x64_1_0_0).toLoadRect (harg7.unread x4)))
    (k0_pay18 (View.readAt (Elt Ideal) arg7.view (Rect.unit (s := S2x256x64) ![0, 0, 0] S1x256x64.size inb_S2x256x64_S1x256x64_0_0_0).toLoadRect (harg7.unread x4)))
    (k0_pay19 (View.readAt (Elt Ideal) arg7.view (Rect.unit (s := S2x256x64) ![1, 0, 0] S1x256x64.size inb_S2x256x64_S1x256x64_1_0_0).toLoadRect (harg7.unread x4)))
    (View.readAt (Elt Ideal) arg8.view (Rect.unit (s := S2x1x256) ![0, 0, 0] S1x1x256.size inb_S2x1x256_S1x1x256_0_0_0).toLoadRect (harg8.unread x5))
    (View.readAt (Elt Ideal) arg8.view (Rect.unit (s := S2x1x256) ![1, 0, 0] S1x1x256.size inb_S2x1x256_S1x1x256_1_0_0).toLoadRect (harg8.unread x5))
    (View.readAt (Elt Ideal) arg7.view (Rect.unit (s := S2x256x64) ![0, 0, 0] S1x256x64.size inb_S2x256x64_S1x256x64_0_0_0).toLoadRect (harg7.unread x4))
    (View.readAt (Elt Ideal) arg6.view (Rect.unit (s := S2x64x256) ![0, 0, 0] S1x64x256.size inb_S2x64x256_S1x64x256_0_0_0).toLoadRect (harg6.unread x3))
    (View.readAt (Elt Ideal) arg7.view (Rect.unit (s := S2x256x64) ![1, 0, 0] S1x256x64.size inb_S2x256x64_S1x256x64_1_0_0).toLoadRect (harg7.unread x4))
    (View.readAt (Elt Ideal) arg6.view (Rect.unit (s := S2x64x256) ![1, 0, 0] S1x64x256.size inb_S2x64x256_S1x64x256_1_0_0).toLoadRect (harg6.unread x3))
          (harg4.unread x1) (harg5.unread x2) (tn j) (stS c i arg3 harg3 arg4 harg4 arg5 harg5 arg6 harg6 arg7 harg7 arg8 harg8 arg9 harg9 arg10 harg10 arg11 harg11 x0 x1 x2 x3 x4 x5 G10 G11 j.val).1
          (arg10.view.writes (Elt Ideal) G10 (stS c i arg3 harg3 arg4 harg4 arg5 harg5 arg6 harg6 arg7 harg7 arg8 harg8 arg9 harg9 arg10 harg10 arg11 harg11 x0 x1 x2 x3 x4 x5 G10 G11 j.val).2.1) (arg11.view.writes (Elt Ideal) G11 (stS c i arg3 harg3 arg4 harg4 arg5 harg5 arg6 harg6 arg7 harg7 arg8 harg8 arg9 harg9 arg10 harg10 arg11 harg11 x0 x1 x2 x3 x4 x5 G10 G11 j.val).2.2)).1
            ++ (stS c i arg3 harg3 arg4 harg4 arg5 harg5 arg6 harg6 arg7 harg7 arg8 harg8 arg9 harg9 arg10 harg10 arg11 harg11 x0 x1 x2 x3 x4 x5 G10 G11 j.val).2.1,
         (tripL_k0_t1 (F := Ideal) Variants.none c none i arg3 harg3 arg4 harg4 arg5 harg5 arg6 harg6 arg7 harg7 arg8 harg8 arg9 harg9 arg10 harg10 arg11 harg11
          (k0_pay12 (View.readAt (Elt Ideal) arg3.view (Rect.unit (s := S2x64x256) ![0, 0, 0] S1x64x256.size inb_S2x64x256_S1x64x256_0_0_0).toLoadRect (harg3.unread x0)))
    (k0_pay13 (View.readAt (Elt Ideal) arg3.view (Rect.unit (s := S2x64x256) ![1, 0, 0] S1x64x256.size inb_S2x64x256_S1x64x256_1_0_0).toLoadRect (harg3.unread x0)))
    (k0_pay14 (View.readAt (Elt Ideal) arg3.view (Rect.unit (s := S2x64x256) ![0, 0, 0] S1x64x256.size inb_S2x64x256_S1x64x256_0_0_0).toLoadRect (harg3.unread x0)))
    (k0_pay15 (View.readAt (Elt Ideal) arg3.view (Rect.unit (s := S2x64x256) ![1, 0, 0] S1x64x256.size inb_S2x64x256_S1x64x256_1_0_0).toLoadRect (harg3.unread x0)))
    (k0_pay16 (View.readAt (Elt Ideal) arg7.view (Rect.unit (s := S2x256x64) ![0, 0, 0] S1x256x64.size inb_S2x256x64_S1x256x64_0_0_0).toLoadRect (harg7.unread x4)))
    (k0_pay17 (View.readAt (Elt Ideal) arg7.view (Rect.unit (s := S2x256x64) ![1, 0, 0] S1x256x64.size inb_S2x256x64_S1x256x64_1_0_0).toLoadRect (harg7.unread x4)))
    (k0_pay18 (View.readAt (Elt Ideal) arg7.view (Rect.unit (s := S2x256x64) ![0, 0, 0] S1x256x64.size inb_S2x256x64_S1x256x64_0_0_0).toLoadRect (harg7.unread x4)))
    (k0_pay19 (View.readAt (Elt Ideal) arg7.view (Rect.unit (s := S2x256x64) ![1, 0, 0] S1x256x64.size inb_S2x256x64_S1x256x64_1_0_0).toLoadRect (harg7.unread x4)))
    (View.readAt (Elt Ideal) arg8.view (Rect.unit (s := S2x1x256) ![0, 0, 0] S1x1x256.size inb_S2x1x256_S1x1x256_0_0_0).toLoadRect (harg8.unread x5))
    (View.readAt (Elt Ideal) arg8.view (Rect.unit (s := S2x1x256) ![1, 0, 0] S1x1x256.size inb_S2x1x256_S1x1x256_1_0_0).toLoadRect (harg8.unread x5))
    (View.readAt (Elt Ideal) arg7.view (Rect.unit (s := S2x256x64) ![0, 0, 0] S1x256x64.size inb_S2x256x64_S1x256x64_0_0_0).toLoadRect (harg7.unread x4))
    (View.readAt (Elt Ideal) arg6.view (Rect.unit (s := S2x64x256) ![0, 0, 0] S1x64x256.size inb_S2x64x256_S1x64x256_0_0_0).toLoadRect (harg6.unread x3))
    (View.readAt (Elt Ideal) arg7.view (Rect.unit (s := S2x256x64) ![1, 0, 0] S1x256x64.size inb_S2x256x64_S1x256x64_1_0_0).toLoadRect (harg7.unread x4))
    (View.readAt (Elt Ideal) arg6.view (Rect.unit (s := S2x64x256) ![1, 0, 0] S1x64x256.size inb_S2x64x256_S1x64x256_1_0_0).toLoadRect (harg6.unread x3))
          (harg4.unread x1) (harg5.unread x2) (tn j) (stS c i arg3 harg3 arg4 harg4 arg5 harg5 arg6 harg6 arg7 harg7 arg8 harg8 arg9 harg9 arg10 harg10 arg11 harg11 x0 x1 x2 x3 x4 x5 G10 G11 j.val).1
          (arg10.view.writes (Elt Ideal) G10 (stS c i arg3 harg3 arg4 harg4 arg5 harg5 arg6 harg6 arg7 harg7 arg8 harg8 arg9 harg9 arg10 harg10 arg11 harg11 x0 x1 x2 x3 x4 x5 G10 G11 j.val).2.1) (arg11.view.writes (Elt Ideal) G11 (stS c i arg3 harg3 arg4 harg4 arg5 harg5 arg6 harg6 arg7 harg7 arg8 harg8 arg9 harg9 arg10 harg10 arg11 harg11 x0 x1 x2 x3 x4 x5 G10 G11 j.val).2.2)).2
            ++ (stS c i arg3 harg3 arg4 harg4 arg5 harg5 arg6 harg6 arg7 harg7 arg8 harg8 arg9 harg9 arg10 harg10 arg11 harg11 x0 x1 x2 x3 x4 x5 G10 G11 j.val).2.2) :=
  st_k0_t1_succ (F := Ideal) Variants.none c none i arg3 harg3 arg4 harg4 arg5 harg5 arg6 harg6 arg7 harg7 arg8 harg8 arg9 harg9 arg10 harg10 arg11 harg11
    (k0_pay12 (View.readAt (Elt Ideal) arg3.view (Rect.unit (s := S2x64x256) ![0, 0, 0] S1x64x256.size inb_S2x64x256_S1x64x256_0_0_0).toLoadRect (harg3.unread x0)))
    (k0_pay13 (View.readAt (Elt Ideal) arg3.view (Rect.unit (s := S2x64x256) ![1, 0, 0] S1x64x256.size inb_S2x64x256_S1x64x256_1_0_0).toLoadRect (harg3.unread x0)))
    (k0_pay14 (View.readAt (Elt Ideal) arg3.view (Rect.unit (s := S2x64x256) ![0, 0, 0] S1x64x256.size inb_S2x64x256_S1x64x256_0_0_0).toLoadRect (harg3.unread x0)))
    (k0_pay15 (View.readAt (Elt Ideal) arg3.view (Rect.unit (s := S2x64x256) ![1, 0, 0] S1x64x256.size inb_S2x64x256_S1x64x256_1_0_0).toLoadRect (harg3.unread x0)))
    (k0_pay16 (View.readAt (Elt Ideal) arg7.view (Rect.unit (s := S2x256x64) ![0, 0, 0] S1x256x64.size inb_S2x256x64_S1x256x64_0_0_0).toLoadRect (harg7.unread x4)))
    (k0_pay17 (View.readAt (Elt Ideal) arg7.view (Rect.unit (s := S2x256x64) ![1, 0, 0] S1x256x64.size inb_S2x256x64_S1x256x64_1_0_0).toLoadRect (harg7.unread x4)))
    (k0_pay18 (View.readAt (Elt Ideal) arg7.view (Rect.unit (s := S2x256x64) ![0, 0, 0] S1x256x64.size inb_S2x256x64_S1x256x64_0_0_0).toLoadRect (harg7.unread x4)))
    (k0_pay19 (View.readAt (Elt Ideal) arg7.view (Rect.unit (s := S2x256x64) ![1, 0, 0] S1x256x64.size inb_S2x256x64_S1x256x64_1_0_0).toLoadRect (harg7.unread x4)))
    (View.readAt (Elt Ideal) arg8.view (Rect.unit (s := S2x1x256) ![0, 0, 0] S1x1x256.size inb_S2x1x256_S1x1x256_0_0_0).toLoadRect (harg8.unread x5))
    (View.readAt (Elt Ideal) arg8.view (Rect.unit (s := S2x1x256) ![1, 0, 0] S1x1x256.size inb_S2x1x256_S1x1x256_1_0_0).toLoadRect (harg8.unread x5))
    (View.readAt (Elt Ideal) arg7.view (Rect.unit (s := S2x256x64) ![0, 0, 0] S1x256x64.size inb_S2x256x64_S1x256x64_0_0_0).toLoadRect (harg7.unread x4))
    (View.readAt (Elt Ideal) arg6.view (Rect.unit (s := S2x64x256) ![0, 0, 0] S1x64x256.size inb_S2x64x256_S1x64x256_0_0_0).toLoadRect (harg6.unread x3))
    (View.readAt (Elt Ideal) arg7.view (Rect.unit (s := S2x256x64) ![1, 0, 0] S1x256x64.size inb_S2x256x64_S1x256x64_1_0_0).toLoadRect (harg7.unread x4))
    (View.readAt (Elt Ideal) arg6.view (Rect.unit (s := S2x64x256) ![1, 0, 0] S1x64x256.size inb_S2x64x256_S1x64x256_1_0_0).toLoadRect (harg6.unread x3))
    (harg4.unread x1) (harg5.unread x2) G10 G11 (k0_pay22, k0_pay23) (tn j)

/-- The query gradient's accumulators, one trip further. -/
theorem acc0_succ (j : Fin 2) (q : Fin 256) (d : Fin 64) :
    (stS c i arg3 harg3 arg4 harg4 arg5 harg5 arg6 harg6 arg7 harg7 arg8 harg8 arg9 harg9 arg10 harg10 arg11 harg11 x0 x1 x2 x3 x4 x5 G10 G11 (j.val + 1)).1.1 (ix2 q d) = (stS c i arg3 harg3 arg4 harg4 arg5 harg5 arg6 harg6 arg7 harg7 arg8 harg8 arg9 harg9 arg10 harg10 arg11 harg11 x0 x1 x2 x3 x4 x5 G10 G11 j.val).1.1 (ix2 q d) + dqB x0 x1 x2 x3 x4 x5 j 0 q d := by
  rw [stS_succ, tripR_eq]
  show k0_pay24 (F := Ideal) _ _ _ (ix2 q d) = _
  rw [pay24_at]
  refine congrArg (_ + ·) (Finset.sum_congr rfl fun n _ => ?_)
  rw [pay4_at]
  exact congrArg₂ (· * ·) (ds0_at arg3 harg3 arg4 harg4 arg5 harg5 arg6 harg6 arg7 harg7 arg8 harg8 x0 x1 x2 x3 x4 x5 j q n) (ldK arg4 harg4 x1 j n d)

theorem acc1_succ (j : Fin 2) (q : Fin 256) (d : Fin 64) :
    (stS c i arg3 harg3 arg4 harg4 arg5 harg5 arg6 harg6 arg7 harg7 arg8 harg8 arg9 harg9 arg10 harg10 arg11 harg11 x0 x1 x2 x3 x4 x5 G10 G11 (j.val + 1)).1.2 (ix2 q d) = (stS c i arg3 harg3 arg4 harg4 arg5 harg5 arg6 harg6 arg7 harg7 arg8 harg8 arg9 harg9 arg10 harg10 arg11 harg11 x0 x1 x2 x3 x4 x5 G10 G11 j.val).1.2 (ix2 q d) + dqB x0 x1 x2 x3 x4 x5 j 1 q d := by
  rw [stS_succ, tripR_eq]
  show k0_pay29 (F := Ideal) _ _ _ _ _ _ _ _ (ix2 q d) = _
  rw [pay29_at]
  refine congrArg (_ + ·) (Finset.sum_congr rfl fun n _ => ?_)
  rw [pay4_at]
  exact congrArg₂ (· * ·) (ds1_at arg3 harg3 arg4 harg4 arg5 harg5 arg6 harg6 arg7 harg7 arg8 harg8 x0 x1 x2 x3 x4 x5 j q n) (ldK arg4 harg4 x1 j n d)

/-- The key gradient's block after one more trip, read over any contents. -/
theorem dk_succ {κ' : Kind} {sp : Space} {v : View sig κ' sp S1x2x64x4096 .f32} (f : BufTy.Contents (Elt Ideal) v.ty)
    (L : List (View.Piece (Elt Ideal) S1x2x64x4096 .f32)) (k j : Fin 2) (d : Fin 64) (n : Fin 4096) :
    v.read (Elt Ideal) (v.writes (Elt Ideal) f ((stS c i arg3 harg3 arg4 harg4 arg5 harg5 arg6 harg6 arg7 harg7 arg8 harg8 arg9 harg9 arg10 harg10 arg11 harg11 x0 x1 x2 x3 x4 x5 G10 G11 (k.val + 1)).2.1 ++ L)) (ix4 0 j d n)
      = if j = k then
          arg10.view.read (Elt Ideal) (arg10.view.writes (Elt Ideal) G10 (stS c i arg3 harg3 arg4 harg4 arg5 harg5 arg6 harg6 arg7 harg7 arg8 harg8 arg9 harg9 arg10 harg10 arg11 harg11 x0 x1 x2 x3 x4 x5 G10 G11 k.val).2.1) (ix4 0 j d n)
            + dkB x0 x1 x2 x3 x4 x5 0 d (kx j n) + dkB x0 x1 x2 x3 x4 x5 1 d (kx j n)
        else v.read (Elt Ideal) (v.writes (Elt Ideal) f ((stS c i arg3 harg3 arg4 harg4 arg5 harg5 arg6 harg6 arg7 harg7 arg8 harg8 arg9 harg9 arg10 harg10 arg11 harg11 x0 x1 x2 x3 x4 x5 G10 G11 k.val).2.1 ++ L)) (ix4 0 j d n) := by
  rw [stS_succ, tripL_eq]
  simp only [List.cons_append, List.nil_append]
  rw [rdA, rdA]
  by_cases h : j = k
  · subst h
    rw [if_pos rfl, if_pos rfl, pay28_at, View.readCov_cons_toLoadRect, pay9_at]
    exact congrArg₂ (· + ·) (congrArg₂ (· + ·) (ldA arg10 _ j d n)
      (Finset.sum_congr rfl fun q _ => congrArg₂ (· * ·) (v6_at arg3 harg3 x0 d q)
        (ds0_at arg3 harg3 arg4 harg4 arg5 harg5 arg6 harg6 arg7 harg7 arg8 harg8 x0 x1 x2 x3 x4 x5 j q n)))
      (Finset.sum_congr rfl fun q _ => congrArg₂ (· * ·) (v8_at arg3 harg3 x0 d q)
        (ds1_at arg3 harg3 arg4 harg4 arg5 harg5 arg6 harg6 arg7 harg7 arg8 harg8 x0 x1 x2 x3 x4 x5 j q n))
  · rw [if_neg h, if_neg h, if_neg h]

/-- The value gradient's block after one more trip, read over any contents. -/
theorem dv_succ {κ' : Kind} {sp : Space} {v : View sig κ' sp S1x2x64x4096 .f32} (f : BufTy.Contents (Elt Ideal) v.ty)
    (L : List (View.Piece (Elt Ideal) S1x2x64x4096 .f32)) (k j : Fin 2) (d : Fin 64) (n : Fin 4096) :
    v.read (Elt Ideal) (v.writes (Elt Ideal) f ((stS c i arg3 harg3 arg4 harg4 arg5 harg5 arg6 harg6 arg7 harg7 arg8 harg8 arg9 harg9 arg10 harg10 arg11 harg11 x0 x1 x2 x3 x4 x5 G10 G11 (k.val + 1)).2.2 ++ L)) (ix4 0 j d n)
      = if j = k then
          arg11.view.read (Elt Ideal) (arg11.view.writes (Elt Ideal) G11 (stS c i arg3 harg3 arg4 harg4 arg5 harg5 arg6 harg6 arg7 harg7 arg8 harg8 arg9 harg9 arg10 harg10 arg11 harg11 x0 x1 x2 x3 x4 x5 G10 G11 k.val).2.2) (ix4 0 j d n)
            + dvB x0 x1 x4 x5 0 d (kx j n) + dvB x0 x1 x4 x5 1 d (kx j n)
        else v.read (Elt Ideal) (v.writes (Elt Ideal) f ((stS c i arg3 harg3 arg4 harg4 arg5 harg5 arg6 harg6 arg7 harg7 arg8 harg8 arg9 harg9 arg10 harg10 arg11 harg11 x0 x1 x2 x3 x4 x5 G10 G11 k.val).2.2 ++ L)) (ix4 0 j d n) := by
  rw [stS_succ, tripL_eq]
  simp only [List.cons_append, List.nil_append]
  rw [rdA, rdA]
  by_cases h : j = k
  · subst h
    rw [if_pos rfl, if_pos rfl, pay27_at, View.readCov_cons_toLoadRect, pay8_at]
    exact congrArg₂ (· + ·) (congrArg₂ (· + ·) (ldA arg11 _ j d n)
      (Finset.sum_congr rfl fun q _ => congrArg₂ (· * ·) (v21_at arg7 harg7 x4 d q)
        (p0_at arg3 harg3 arg4 harg4 arg8 harg8 x0 x1 x5 j q n)))
      (Finset.sum_congr rfl fun q _ => congrArg₂ (· * ·) (v24_at arg7 harg7 x4 d q)
        (p1_at arg3 harg3 arg4 harg4 arg8 harg8 x0 x1 x5 j q n))
  · rw [if_neg h, if_neg h, if_neg h]

/-- The query gradient's accumulators after the loop. -/
theorem acc0_two (q : Fin 256) (d : Fin 64) :
    (stS c i arg3 harg3 arg4 harg4 arg5 harg5 arg6 harg6 arg7 harg7 arg8 harg8 arg9 harg9 arg10 harg10 arg11 harg11 x0 x1 x2 x3 x4 x5 G10 G11 2).1.1 (ix2 q d) = dqB x0 x1 x2 x3 x4 x5 0 0 q d + dqB x0 x1 x2 x3 x4 x5 1 0 q d := by
  rw [show (stS c i arg3 harg3 arg4 harg4 arg5 harg5 arg6 harg6 arg7 harg7 arg8 harg8 arg9 harg9 arg10 harg10 arg11 harg11 x0 x1 x2 x3 x4 x5 G10 G11 2).1.1 (ix2 q d) = _ from acc0_succ c i arg3 harg3 arg4 harg4 arg5 harg5 arg6 harg6 arg7 harg7 arg8 harg8 arg9 harg9 arg10 harg10 arg11 harg11 x0 x1 x2 x3 x4 x5 G10 G11 1 q d,
    show (stS c i arg3 harg3 arg4 harg4 arg5 harg5 arg6 harg6 arg7 harg7 arg8 harg8 arg9 harg9 arg10 harg10 arg11 harg11 x0 x1 x2 x3 x4 x5 G10 G11 (1 : Fin 2).val).1.1 (ix2 q d) = _ from acc0_succ c i arg3 harg3 arg4 harg4 arg5 harg5 arg6 harg6 arg7 harg7 arg8 harg8 arg9 harg9 arg10 harg10 arg11 harg11 x0 x1 x2 x3 x4 x5 G10 G11 0 q d]
  congr 1
  show k0_pay22 (F := Ideal) (ix2 q d) + _ = _
  rw [pay22_at, zero_add]

theorem acc1_two (q : Fin 256) (d : Fin 64) :
    (stS c i arg3 harg3 arg4 harg4 arg5 harg5 arg6 harg6 arg7 harg7 arg8 harg8 arg9 harg9 arg10 harg10 arg11 harg11 x0 x1 x2 x3 x4 x5 G10 G11 2).1.2 (ix2 q d) = dqB x0 x1 x2 x3 x4 x5 0 1 q d + dqB x0 x1 x2 x3 x4 x5 1 1 q d := by
  rw [show (stS c i arg3 harg3 arg4 harg4 arg5 harg5 arg6 harg6 arg7 harg7 arg8 harg8 arg9 harg9 arg10 harg10 arg11 harg11 x0 x1 x2 x3 x4 x5 G10 G11 2).1.2 (ix2 q d) = _ from acc1_succ c i arg3 harg3 arg4 harg4 arg5 harg5 arg6 harg6 arg7 harg7 arg8 harg8 arg9 harg9 arg10 harg10 arg11 harg11 x0 x1 x2 x3 x4 x5 G10 G11 1 q d,
    show (stS c i arg3 harg3 arg4 harg4 arg5 harg5 arg6 harg6 arg7 harg7 arg8 harg8 arg9 harg9 arg10 harg10 arg11 harg11 x0 x1 x2 x3 x4 x5 G10 G11 (1 : Fin 2).val).1.2 (ix2 q d) = _ from acc1_succ c i arg3 harg3 arg4 harg4 arg5 harg5 arg6 harg6 arg7 harg7 arg8 harg8 arg9 harg9 arg10 harg10 arg11 harg11 x0 x1 x2 x3 x4 x5 G10 G11 0 q d]
  congr 1
  show k0_pay23 (F := Ideal) (ix2 q d) + _ = _
  rw [pay23_at, zero_add]

/-- The key gradient's block after the loop. -/
theorem dk_two {κ' : Kind} {sp : Space} {v : View sig κ' sp S1x2x64x4096 .f32} (f : BufTy.Contents (Elt Ideal) v.ty)
    (L : List (View.Piece (Elt Ideal) S1x2x64x4096 .f32)) (j : Fin 2) (d : Fin 64) (n : Fin 4096) :
    v.read (Elt Ideal) (v.writes (Elt Ideal) f ((stS c i arg3 harg3 arg4 harg4 arg5 harg5 arg6 harg6 arg7 harg7 arg8 harg8 arg9 harg9 arg10 harg10 arg11 harg11 x0 x1 x2 x3 x4 x5 G10 G11 2).2.1 ++ L)) (ix4 0 j d n)
      = arg10.view.read (Elt Ideal) G10 (ix4 0 j d n) + dkB x0 x1 x2 x3 x4 x5 0 d (kx j n) + dkB x0 x1 x2 x3 x4 x5 1 d (kx j n) := by
  rw [show v.read (Elt Ideal) (v.writes (Elt Ideal) f ((stS c i arg3 harg3 arg4 harg4 arg5 harg5 arg6 harg6 arg7 harg7 arg8 harg8 arg9 harg9 arg10 harg10 arg11 harg11 x0 x1 x2 x3 x4 x5 G10 G11 2).2.1 ++ L)) (ix4 0 j d n) = _ from
    dk_succ c i arg3 harg3 arg4 harg4 arg5 harg5 arg6 harg6 arg7 harg7 arg8 harg8 arg9 harg9 arg10 harg10 arg11 harg11 x0 x1 x2 x3 x4 x5 G10 G11 f L 1 j d n]
  by_cases h : j = 1
  · subst h
    rw [if_pos rfl]
    have e := dk_succ c i arg3 harg3 arg4 harg4 arg5 harg5 arg6 harg6 arg7 harg7 arg8 harg8 arg9 harg9 arg10 harg10 arg11 harg11 x0 x1 x2 x3 x4 x5 G10 G11 G10 [] 0 1 d n
    rw [if_neg (by decide), List.append_nil, List.append_nil] at e
    rw [show arg10.view.read (Elt Ideal) (arg10.view.writes (Elt Ideal) G10 (stS c i arg3 harg3 arg4 harg4 arg5 harg5 arg6 harg6 arg7 harg7 arg8 harg8 arg9 harg9 arg10 harg10 arg11 harg11 x0 x1 x2 x3 x4 x5 G10 G11 (1 : Fin 2).val).2.1) (ix4 0 1 d n) = _ from e]
    rfl
  · have h0 : j = 0 := by omega
    subst h0
    rw [if_neg (by decide),
      show v.read (Elt Ideal) (v.writes (Elt Ideal) f ((stS c i arg3 harg3 arg4 harg4 arg5 harg5 arg6 harg6 arg7 harg7 arg8 harg8 arg9 harg9 arg10 harg10 arg11 harg11 x0 x1 x2 x3 x4 x5 G10 G11 (1 : Fin 2).val).2.1 ++ L)) (ix4 0 0 d n) = _ from
        dk_succ c i arg3 harg3 arg4 harg4 arg5 harg5 arg6 harg6 arg7 harg7 arg8 harg8 arg9 harg9 arg10 harg10 arg11 harg11 x0 x1 x2 x3 x4 x5 G10 G11 f L 0 0 d n, if_pos rfl]
    rfl

/-- The value gradient's block after the loop. -/
theorem dv_two {κ' : Kind} {sp : Space} {v : View sig κ' sp S1x2x64x4096 .f32} (f : BufTy.Contents (Elt Ideal) v.ty)
    (L : List (View.Piece (Elt Ideal) S1x2x64x4096 .f32)) (j : Fin 2) (d : Fin 64) (n : Fin 4096) :
    v.read (Elt Ideal) (v.writes (Elt Ideal) f ((stS c i arg3 harg3 arg4 harg4 arg5 harg5 arg6 harg6 arg7 harg7 arg8 harg8 arg9 harg9 arg10 harg10 arg11 harg11 x0 x1 x2 x3 x4 x5 G10 G11 2).2.2 ++ L)) (ix4 0 j d n)
      = arg11.view.read (Elt Ideal) G11 (ix4 0 j d n) + dvB x0 x1 x4 x5 0 d (kx j n) + dvB x0 x1 x4 x5 1 d (kx j n) := by
  rw [show v.read (Elt Ideal) (v.writes (Elt Ideal) f ((stS c i arg3 harg3 arg4 harg4 arg5 harg5 arg6 harg6 arg7 harg7 arg8 harg8 arg9 harg9 arg10 harg10 arg11 harg11 x0 x1 x2 x3 x4 x5 G10 G11 2).2.2 ++ L)) (ix4 0 j d n) = _ from
    dv_succ c i arg3 harg3 arg4 harg4 arg5 harg5 arg6 harg6 arg7 harg7 arg8 harg8 arg9 harg9 arg10 harg10 arg11 harg11 x0 x1 x2 x3 x4 x5 G10 G11 f L 1 j d n]
  by_cases h : j = 1
  · subst h
    rw [if_pos rfl]
    have e := dv_succ c i arg3 harg3 arg4 harg4 arg5 harg5 arg6 harg6 arg7 harg7 arg8 harg8 arg9 harg9 arg10 harg10 arg11 harg11 x0 x1 x2 x3 x4 x5 G10 G11 G11 [] 0 1 d n
    rw [if_neg (by decide), List.append_nil, List.append_nil] at e
    rw [show arg11.view.read (Elt Ideal) (arg11.view.writes (Elt Ideal) G11 (stS c i arg3 harg3 arg4 harg4 arg5 harg5 arg6 harg6 arg7 harg7 arg8 harg8 arg9 harg9 arg10 harg10 arg11 harg11 x0 x1 x2 x3 x4 x5 G10 G11 (1 : Fin 2).val).2.2) (ix4 0 1 d n) = _ from e]
    rfl
  · have h0 : j = 0 := by omega
    subst h0
    rw [if_neg (by decide),
      show v.read (Elt Ideal) (v.writes (Elt Ideal) f ((stS c i arg3 harg3 arg4 harg4 arg5 harg5 arg6 harg6 arg7 harg7 arg8 harg8 arg9 harg9 arg10 harg10 arg11 harg11 x0 x1 x2 x3 x4 x5 G10 G11 (1 : Fin 2).val).2.2 ++ L)) (ix4 0 0 d n) = _ from
        dv_succ c i arg3 harg3 arg4 harg4 arg5 harg5 arg6 harg6 arg7 harg7 arg8 harg8 arg9 harg9 arg10 harg10 arg11 harg11 x0 x1 x2 x3 x4 x5 G10 G11 f L 0 0 d n, if_pos rfl]
    rfl
end
end Cert.Attn
end
-- ==== Proof.Body.lean ====
module
public import proofs.«01_k».proof.Proof.State
public import Idealize.ShloMosaic.Lib.Pointwise

/-! What one grid point leaves in each of the three output blocks, at an index. -/

@[expose] public section
set_option maxRecDepth 16384
noncomputable section
namespace Cert.Attn
open Idealize.ShloMosaic Idealize.ShloMosaic.TcCoe Idealize.ShloMosaic.Tactic
open Idealize.SL Idealize.SL.Sem
open Cert.KernelIdeal Cert.KernelIdeal.Gen

theorem pay1_at (v : FVec Ideal S256x64 .bf16) (q : Fin 256) (d : Fin 64) :
    k0_pay1 (F := Ideal) v (ix3 0 q d) = v (ix2 q d) := by
  pointwise [k0_pay1]

theorem pay30_at (v : FVec Ideal S256x64 .f32) (q : Fin 256) (d : Fin 64) :
    k0_pay30 (F := Ideal) v (ix2 q d) = v (ix2 q d) * Ideal.ofBits .f32 0x3E000000#32 := by
  pointwise [k0_pay30]

theorem pay2_at (v : FVec Ideal S256x64 .f32) (q : Fin 256) (d : Fin 64) :
    k0_pay2 (F := Ideal) v (ix3 0 q d) = v (ix2 q d) * Ideal.ofBits .f32 0x3E000000#32 := by
  pointwise [k0_pay2]

theorem pay3_at (v : Vec Ideal S1x2x64x4096 .f32) (j : Fin 2) (d : Fin 64) (n : Fin 4096) :
    k0_pay3 (F := Ideal) v (ix4 0 j d n) = v (ix4 0 j d n) * Named.named (F := Ideal) (φ := .f32) κ "ln_2" 0x3F317218#32 := by
  pointwise [k0_pay3]

theorem pay10_at (j : Fin 2) (d : Fin 64) (n : Fin 4096) : k0_pay10 (F := Ideal) (ix4 0 j d n) = (0 : EReal) := by
  pointwise [k0_pay10]

theorem pay11_at (j : Fin 2) (d : Fin 64) (n : Fin 4096) : k0_pay11 (F := Ideal) (ix4 0 j d n) = (0 : EReal) := by
  pointwise [k0_pay11]

/-- A read under a store of the whole block is the stored vector. -/
theorem rdF {κ' : Kind} {sp : Space} {v : View sig κ' sp S1x2x64x4096 .f32} (f : BufTy.Contents (Elt Ideal) v.ty)
    (w : Vec Ideal S1x2x64x4096 .f32) (L : List (View.Piece (Elt Ideal) S1x2x64x4096 .f32)) (j : Fin 2) (d : Fin 64) (n : Fin 4096) :
    v.read (Elt Ideal) (v.writes (Elt Ideal) f ((⟨Rect.unit (s := S1x2x64x4096) ![0, 0, 0, 0] S1x2x64x4096.size inb_S1x2x64x4096_S1x2x64x4096_0_0_0_0, w⟩ :
        View.Piece (Elt Ideal) S1x2x64x4096 .f32) :: L)) (ix4 0 j d n) = w (ix4 0 j d n) := by
  refine View.read_writes_cons_unit_of_mem v f _ w L _ (ix4 0 j d n) rfl ?_
  intro r
  match r with
  | ⟨0, _⟩ => rfl
  | ⟨1, _⟩ => show j.val = 0 + j.val; omega
  | ⟨2, _⟩ => show d.val = 0 + d.val; omega
  | ⟨3, _⟩ => show n.val = 0 + n.val; omega

/-- A head's half of the query gradient's block read under the two stores. -/
theorem rdQ {κ' : Kind} {sp : Space} {v : View sig κ' sp S2x256x64 .bf16} (f : BufTy.Contents (Elt Ideal) v.ty)
    (w0 w1 : Vec Ideal S1x256x64 .bf16) (h : Fin 2) (q : Fin 256) (d : Fin 64) :
    v.read (Elt Ideal) (v.writes (Elt Ideal) f
      [⟨Rect.unit (s := S2x256x64) ![1, 0, 0] S1x256x64.size inb_S2x256x64_S1x256x64_1_0_0, w1⟩,
       ⟨Rect.unit (s := S2x256x64) ![0, 0, 0] S1x256x64.size inb_S2x256x64_S1x256x64_0_0_0, w0⟩]) (ix3 h q d)
      = if h = 0 then w0 (ix3 0 q d) else w1 (ix3 0 q d) := by
  by_cases hh : h = 0
  · subst hh
    rw [if_pos rfl]
    refine (View.read_writes_cons_unit_of_not_mem v f _ w1 _ _ rfl 0 (Or.inl ?_)).trans
      (View.read_writes_cons_unit_of_mem v f _ w0 [] _ (ix3 0 q d) rfl ?_)
    · show 0 < 1; decide
    · intro r
      match r with
      | ⟨0, _⟩ => rfl
      | ⟨1, _⟩ => show q.val = 0 + q.val; omega
      | ⟨2, _⟩ => show d.val = 0 + d.val; omega
  · have h1 : h = 1 := by omega
    subst h1
    rw [if_neg hh]
    refine View.read_writes_cons_unit_of_mem v f _ w1 _ _ (ix3 0 q d) rfl ?_
    intro r
    match r with
    | ⟨0, _⟩ => rfl
    | ⟨1, _⟩ => show q.val = 0 + q.val; omega
    | ⟨2, _⟩ => show d.val = 0 + d.val; omega

/-- The whole block loaded back is what the contents read as. -/
theorem ldF (m : Memref sig .tc .vmem S1x2x64x4096 .f32) (f : BufTy.Contents (Elt Ideal) m.view.ty) (j : Fin 2) (d : Fin 64) (n : Fin 4096) :
    View.readAt (Elt Ideal) m.view (Rect.unit (s := S1x2x64x4096) ![0, 0, 0, 0] S1x2x64x4096.size inb_S1x2x64x4096_S1x2x64x4096_0_0_0_0).toLoadRect f (ix4 0 j d n)
      = m.view.read (Elt Ideal) f (ix4 0 j d n) := by
  rw [View.readAt_eq_ld]
  show m.view.read (Elt Ideal) f _ = _
  congr 1
  funext r
  apply Fin.ext
  match r with
  | ⟨0, _⟩ => rfl
  | ⟨1, _⟩ => show 0 + 1 * j.val = j.val; omega
  | ⟨2, _⟩ => show 0 + 1 * d.val = d.val; omega
  | ⟨3, _⟩ => show 0 + 1 * n.val = n.val; omega

section
variable (c : Dev nD) (i : grid0.Coords)
  (arg3 : Memref sig .tc .vmem S2x64x256 .bf16) (harg3 : arg3.IsWhole)
  (arg4 : Memref sig .tc .vmem S1x8192x64 .bf16) (harg4 : arg4.IsWhole)
  (arg5 : Memref sig .tc .vmem S1x8192x64 .bf16) (harg5 : arg5.IsWhole)
  (arg6 : Memref sig .tc .vmem S2x64x256 .bf16) (harg6 : arg6.IsWhole)
  (arg7 : Memref sig .tc .vmem S2x256x64 .bf16) (harg7 : arg7.IsWhole)
  (arg8 : Memref sig .tc .vmem S2x1x256 .f32) (harg8 : arg8.IsWhole)
  (arg9 : Memref sig .tc .vmem S2x256x64 .bf16) (harg9 : arg9.IsWhole)
  (arg10 : Memref sig .tc .vmem S1x2x64x4096 .f32) (harg10 : arg10.IsWhole)
  (arg11 : Memref sig .tc .vmem S1x2x64x4096 .f32) (harg11 : arg11.IsWhole)

set_option maxHeartbeats 800000 in
theorem outA_6 (hc0 : cond0_0 i) (hc1 : ¬cond0_1 i) (x0 : Vec Ideal S2x64x256 .bf16) (x1 x2 : Vec Ideal S1x8192x64 .bf16) (x3 : Vec Ideal S2x64x256 .bf16)
  (x4 : Vec Ideal S2x256x64 .bf16) (x5 : Vec Ideal S2x1x256 .f32) (h : Fin 2) (q : Fin 256) (d : Fin 64) :
    out0_A_6 (F := Ideal) c i arg3 harg3 arg4 harg4 arg5 harg5 arg6 harg6 arg7 harg7 arg8 harg8 arg9 harg9 arg10 harg10 arg11 harg11 hc0 hc1 x0 x1 x2 x3 x4 x5 (ix3 h q d)
      = (dqB x0 x1 x2 x3 x4 x5 0 h q d + dqB x0 x1 x2 x3 x4 x5 1 h q d) * Ideal.ofBits .f32 0x3E000000#32 := by
  unfold out0_A_6 kernelRun0_A
  refine (rdQ VO0_6.junk (k0_pay1 (k0_pay30 (stS c i arg3 harg3 arg4 harg4 arg5 harg5 arg6 harg6 arg7 harg7 arg8 harg8 arg9 harg9 arg10 harg10 arg11 harg11 x0 x1 x2 x3 x4 x5 (arg10.view.writes (Elt Ideal) arg10.view.junk [⟨Rect.unit (s := S1x2x64x4096) ![0, 0, 0, 0] S1x2x64x4096.size inb_S1x2x64x4096_S1x2x64x4096_0_0_0_0, k0_pay10 (F := Ideal)⟩]) (arg11.view.writes (Elt Ideal) arg11.view.junk [⟨Rect.unit (s := S1x2x64x4096) ![0, 0, 0, 0] S1x2x64x4096.size inb_S1x2x64x4096_S1x2x64x4096_0_0_0_0, k0_pay11 (F := Ideal)⟩]) 2).1.1)) (k0_pay2 (stS c i arg3 harg3 arg4 harg4 arg5 harg5 arg6 harg6 arg7 harg7 arg8 harg8 arg9 harg9 arg10 harg10 arg11 harg11 x0 x1 x2 x3 x4 x5 (arg10.view.writes (Elt Ideal) arg10.view.junk [⟨Rect.unit (s := S1x2x64x4096) ![0, 0, 0, 0] S1x2x64x4096.size inb_S1x2x64x4096_S1x2x64x4096_0_0_0_0, k0_pay10 (F := Ideal)⟩]) (arg11.view.writes (Elt Ideal) arg11.view.junk [⟨Rect.unit (s := S1x2x64x4096) ![0, 0, 0, 0] S1x2x64x4096.size inb_S1x2x64x4096_S1x2x64x4096_0_0_0_0, k0_pay11 (F := Ideal)⟩]) 2).1.2) h q d).trans ?_
  by_cases hh : h = 0
  · subst hh
    rw [if_pos rfl, pay1_at, pay30_at, acc0_two]
  · have h1 : h = 1 := by omega
    subst h1
    rw [if_neg hh, pay2_at, acc1_two]

set_option maxHeartbeats 800000 in
theorem outA_7 (hc0 : cond0_0 i) (hc1 : ¬cond0_1 i) (x0 : Vec Ideal S2x64x256 .bf16) (x1 x2 : Vec Ideal S1x8192x64 .bf16) (x3 : Vec Ideal S2x64x256 .bf16)
  (x4 : Vec Ideal S2x256x64 .bf16) (x5 : Vec Ideal S2x1x256 .f32) (j : Fin 2) (d : Fin 64) (n : Fin 4096) :
    out0_A_7 (F := Ideal) c i arg3 harg3 arg4 harg4 arg5 harg5 arg6 harg6 arg7 harg7 arg8 harg8 arg9 harg9 arg10 harg10 arg11 harg11 hc0 hc1 x0 x1 x2 x3 x4 x5 (ix4 0 j d n)
      = dkB x0 x1 x2 x3 x4 x5 0 d (kx j n) + dkB x0 x1 x2 x3 x4 x5 1 d (kx j n) := by
  unfold out0_A_7 kernelRun0_A
  refine (dk_two c i arg3 harg3 arg4 harg4 arg5 harg5 arg6 harg6 arg7 harg7 arg8 harg8 arg9 harg9 arg10 harg10 arg11 harg11 x0 x1 x2 x3 x4 x5 (arg10.view.writes (Elt Ideal) arg10.view.junk [⟨Rect.unit (s := S1x2x64x4096) ![0, 0, 0, 0] S1x2x64x4096.size inb_S1x2x64x4096_S1x2x64x4096_0_0_0_0, k0_pay10 (F := Ideal)⟩]) (arg11.view.writes (Elt Ideal) arg11.view.junk [⟨Rect.unit (s := S1x2x64x4096) ![0, 0, 0, 0] S1x2x64x4096.size inb_S1x2x64x4096_S1x2x64x4096_0_0_0_0, k0_pay11 (F := Ideal)⟩]) VO0_7.junk [⟨Rect.unit (s := S1x2x64x4096) ![0, 0, 0, 0] S1x2x64x4096.size inb_S1x2x64x4096_S1x2x64x4096_0_0_0_0, k0_pay10 (F := Ideal)⟩] j d n).trans ?_
  rw [rdF, pay10_at, zero_add]

set_option maxHeartbeats 800000 in
theorem outA_8 (hc0 : cond0_0 i) (hc1 : ¬cond0_1 i) (x0 : Vec Ideal S2x64x256 .bf16) (x1 x2 : Vec Ideal S1x8192x64 .bf16) (x3 : Vec Ideal S2x64x256 .bf16)
  (x4 : Vec Ideal S2x256x64 .bf16) (x5 : Vec Ideal S2x1x256 .f32) (j : Fin 2) (d : Fin 64) (n : Fin 4096) :
    out0_A_8 (F := Ideal) c i arg3 harg3 arg4 harg4 arg5 harg5 arg6 harg6 arg7 harg7 arg8 harg8 arg9 harg9 arg10 harg10 arg11 harg11 hc0 hc1 x0 x1 x2 x3 x4 x5 (ix4 0 j d n)
      = dvB x0 x1 x4 x5 0 d (kx j n) + dvB x0 x1 x4 x5 1 d (kx j n) := by
  unfold out0_A_8 kernelRun0_A
  refine (dv_two c i arg3 harg3 arg4 harg4 arg5 harg5 arg6 harg6 arg7 harg7 arg8 harg8 arg9 harg9 arg10 harg10 arg11 harg11 x0 x1 x2 x3 x4 x5 (arg10.view.writes (Elt Ideal) arg10.view.junk [⟨Rect.unit (s := S1x2x64x4096) ![0, 0, 0, 0] S1x2x64x4096.size inb_S1x2x64x4096_S1x2x64x4096_0_0_0_0, k0_pay10 (F := Ideal)⟩]) (arg11.view.writes (Elt Ideal) arg11.view.junk [⟨Rect.unit (s := S1x2x64x4096) ![0, 0, 0, 0] S1x2x64x4096.size inb_S1x2x64x4096_S1x2x64x4096_0_0_0_0, k0_pay11 (F := Ideal)⟩]) VO0_8.junk [⟨Rect.unit (s := S1x2x64x4096) ![0, 0, 0, 0] S1x2x64x4096.size inb_S1x2x64x4096_S1x2x64x4096_0_0_0_0, k0_pay11 (F := Ideal)⟩] j d n).trans ?_
  rw [rdF, pay11_at, zero_add]

set_option maxHeartbeats 800000 in
theorem outB_6 (hc0 : ¬cond0_0 i) (hc1 : ¬cond0_1 i) (x0 : Vec Ideal S2x64x256 .bf16) (x1 x2 : Vec Ideal S1x8192x64 .bf16) (x3 : Vec Ideal S2x64x256 .bf16)
  (x4 : Vec Ideal S2x256x64 .bf16) (x5 : Vec Ideal S2x1x256 .f32) (xo7 xo8 : Vec Ideal S1x2x64x4096 .f32) (h : Fin 2) (q : Fin 256) (d : Fin 64) :
    out0_B_6 (F := Ideal) c i arg3 harg3 arg4 harg4 arg5 harg5 arg6 harg6 arg7 harg7 arg8 harg8 arg9 harg9 arg10 harg10 arg11 harg11 hc0 hc1 x0 x1 x2 x3 x4 x5 xo7 xo8 (ix3 h q d)
      = (dqB x0 x1 x2 x3 x4 x5 0 h q d + dqB x0 x1 x2 x3 x4 x5 1 h q d) * Ideal.ofBits .f32 0x3E000000#32 := by
  unfold out0_B_6 kernelRun0_B
  refine (rdQ VO0_6.junk (k0_pay1 (k0_pay30 (stS c i arg3 harg3 arg4 harg4 arg5 harg5 arg6 harg6 arg7 harg7 arg8 harg8 arg9 harg9 arg10 harg10 arg11 harg11 x0 x1 x2 x3 x4 x5 (harg10.unread xo7) (harg11.unread xo8) 2).1.1)) (k0_pay2 (stS c i arg3 harg3 arg4 harg4 arg5 harg5 arg6 harg6 arg7 harg7 arg8 harg8 arg9 harg9 arg10 harg10 arg11 harg11 x0 x1 x2 x3 x4 x5 (harg10.unread xo7) (harg11.unread xo8) 2).1.2) h q d).trans ?_
  by_cases hh : h = 0
  · subst hh
    rw [if_pos rfl, pay1_at, pay30_at, acc0_two]
  · have h1 : h = 1 := by omega
    subst h1
    rw [if_neg hh, pay2_at, acc1_two]

set_option maxHeartbeats 800000 in
theorem outB_7 (hc0 : ¬cond0_0 i) (hc1 : ¬cond0_1 i) (x0 : Vec Ideal S2x64x256 .bf16) (x1 x2 : Vec Ideal S1x8192x64 .bf16) (x3 : Vec Ideal S2x64x256 .bf16)
  (x4 : Vec Ideal S2x256x64 .bf16) (x5 : Vec Ideal S2x1x256 .f32) (xo7 xo8 : Vec Ideal S1x2x64x4096 .f32) (j : Fin 2) (d : Fin 64) (n : Fin 4096) :
    out0_B_7 (F := Ideal) c i arg3 harg3 arg4 harg4 arg5 harg5 arg6 harg6 arg7 harg7 arg8 harg8 arg9 harg9 arg10 harg10 arg11 harg11 hc0 hc1 x0 x1 x2 x3 x4 x5 xo7 xo8 (ix4 0 j d n)
      = xo7 (ix4 0 j d n) + dkB x0 x1 x2 x3 x4 x5 0 d (kx j n) + dkB x0 x1 x2 x3 x4 x5 1 d (kx j n) := by
  unfold out0_B_7 kernelRun0_B
  have e := dk_two c i arg3 harg3 arg4 harg4 arg5 harg5 arg6 harg6 arg7 harg7 arg8 harg8 arg9 harg9 arg10 harg10 arg11 harg11 x0 x1 x2 x3 x4 x5 (harg10.unread xo7) (harg11.unread xo8) VO0_7.junk [] j d n
  rw [List.append_nil] at e
  refine e.trans ?_
  rw [Memref.IsWhole.read_unread]

set_option maxHeartbeats 800000 in
theorem outB_8 (hc0 : ¬cond0_0 i) (hc1 : ¬cond0_1 i) (x0 : Vec Ideal S2x64x256 .bf16) (x1 x2 : Vec Ideal S1x8192x64 .bf16) (x3 : Vec Ideal S2x64x256 .bf16)
  (x4 : Vec Ideal S2x256x64 .bf16) (x5 : Vec Ideal S2x1x256 .f32) (xo7 xo8 : Vec Ideal S1x2x64x4096 .f32) (j : Fin 2) (d : Fin 64) (n : Fin 4096) :
    out0_B_8 (F := Ideal) c i arg3 harg3 arg4 harg4 arg5 harg5 arg6 harg6 arg7 harg7 arg8 harg8 arg9 harg9 arg10 harg10 arg11 harg11 hc0 hc1 x0 x1 x2 x3 x4 x5 xo7 xo8 (ix4 0 j d n)
      = xo8 (ix4 0 j d n) + dvB x0 x1 x4 x5 0 d (kx j n) + dvB x0 x1 x4 x5 1 d (kx j n) := by
  unfold out0_B_8 kernelRun0_B
  have e := dv_two c i arg3 harg3 arg4 harg4 arg5 harg5 arg6 harg6 arg7 harg7 arg8 harg8 arg9 harg9 arg10 harg10 arg11 harg11 x0 x1 x2 x3 x4 x5 (harg10.unread xo7) (harg11.unread xo8) VO0_8.junk [] j d n
  rw [List.append_nil] at e
  refine e.trans ?_
  rw [Memref.IsWhole.read_unread]

set_option maxHeartbeats 800000 in
theorem outC_6 (hc0 : ¬cond0_0 i) (hc1 : cond0_1 i) (x0 : Vec Ideal S2x64x256 .bf16) (x1 x2 : Vec Ideal S1x8192x64 .bf16) (x3 : Vec Ideal S2x64x256 .bf16)
  (x4 : Vec Ideal S2x256x64 .bf16) (x5 : Vec Ideal S2x1x256 .f32) (xo7 xo8 : Vec Ideal S1x2x64x4096 .f32) (h : Fin 2) (q : Fin 256) (d : Fin 64) :
    out0_C_6 (F := Ideal) c i arg3 harg3 arg4 harg4 arg5 harg5 arg6 harg6 arg7 harg7 arg8 harg8 arg9 harg9 arg10 harg10 arg11 harg11 hc0 hc1 x0 x1 x2 x3 x4 x5 xo7 xo8 (ix3 h q d)
      = (dqB x0 x1 x2 x3 x4 x5 0 h q d + dqB x0 x1 x2 x3 x4 x5 1 h q d) * Ideal.ofBits .f32 0x3E000000#32 := by
  unfold out0_C_6 kernelRun0_C
  refine (rdQ VO0_6.junk (k0_pay1 (k0_pay30 (stS c i arg3 harg3 arg4 harg4 arg5 harg5 arg6 harg6 arg7 harg7 arg8 harg8 arg9 harg9 arg10 harg10 arg11 harg11 x0 x1 x2 x3 x4 x5 (harg10.unread xo7) (harg11.unread xo8) 2).1.1)) (k0_pay2 (stS c i arg3 harg3 arg4 harg4 arg5 harg5 arg6 harg6 arg7 harg7 arg8 harg8 arg9 harg9 arg10 harg10 arg11 harg11 x0 x1 x2 x3 x4 x5 (harg10.unread xo7) (harg11.unread xo8) 2).1.2) h q d).trans ?_
  by_cases hh : h = 0
  · subst hh
    rw [if_pos rfl, pay1_at, pay30_at, acc0_two]
  · have h1 : h = 1 := by omega
    subst h1
    rw [if_neg hh, pay2_at, acc1_two]

set_option maxHeartbeats 800000 in
theorem outC_7 (hc0 : ¬cond0_0 i) (hc1 : cond0_1 i) (x0 : Vec Ideal S2x64x256 .bf16) (x1 x2 : Vec Ideal S1x8192x64 .bf16) (x3 : Vec Ideal S2x64x256 .bf16)
  (x4 : Vec Ideal S2x256x64 .bf16) (x5 : Vec Ideal S2x1x256 .f32) (xo7 xo8 : Vec Ideal S1x2x64x4096 .f32) (j : Fin 2) (d : Fin 64) (n : Fin 4096) :
    out0_C_7 (F := Ideal) c i arg3 harg3 arg4 harg4 arg5 harg5 arg6 harg6 arg7 harg7 arg8 harg8 arg9 harg9 arg10 harg10 arg11 harg11 hc0 hc1 x0 x1 x2 x3 x4 x5 xo7 xo8 (ix4 0 j d n)
      = (xo7 (ix4 0 j d n) + dkB x0 x1 x2 x3 x4 x5 0 d (kx j n) + dkB x0 x1 x2 x3 x4 x5 1 d (kx j n)) * Named.named (F := Ideal) (φ := .f32) κ "ln_2" 0x3F317218#32 := by
  unfold out0_C_7 kernelRun0_C
  refine (rdF VO0_7.junk _ _ j d n).trans ?_
  rw [pay3_at]
  refine congrArg (· * _) ?_
  have e := dk_two (v := arg10.view) c i arg3 harg3 arg4 harg4 arg5 harg5 arg6 harg6 arg7 harg7 arg8 harg8 arg9 harg9 arg10 harg10 arg11 harg11 x0 x1 x2 x3 x4 x5 (harg10.unread xo7) (harg11.unread xo8) (harg10.unread xo7) [] j d n
  rw [List.append_nil, Memref.IsWhole.read_unread] at e
  exact (ldF arg10 _ j d n).trans e

set_option maxHeartbeats 800000 in
theorem outC_8 (hc0 : ¬cond0_0 i) (hc1 : cond0_1 i) (x0 : Vec Ideal S2x64x256 .bf16) (x1 x2 : Vec Ideal S1x8192x64 .bf16) (x3 : Vec Ideal S2x64x256 .bf16)
  (x4 : Vec Ideal S2x256x64 .bf16) (x5 : Vec Ideal S2x1x256 .f32) (xo7 xo8 : Vec Ideal S1x2x64x4096 .f32) (j : Fin 2) (d : Fin 64) (n : Fin 4096) :
    out0_C_8 (F := Ideal) c i arg3 harg3 arg4 harg4 arg5 harg5 arg6 harg6 arg7 harg7 arg8 harg8 arg9 harg9 arg10 harg10 arg11 harg11 hc0 hc1 x0 x1 x2 x3 x4 x5 xo7 xo8 (ix4 0 j d n)
      = xo8 (ix4 0 j d n) + dvB x0 x1 x4 x5 0 d (kx j n) + dvB x0 x1 x4 x5 1 d (kx j n) := by
  unfold out0_C_8 kernelRun0_C
  have e := dv_two c i arg3 harg3 arg4 harg4 arg5 harg5 arg6 harg6 arg7 harg7 arg8 harg8 arg9 harg9 arg10 harg10 arg11 harg11 x0 x1 x2 x3 x4 x5 (harg10.unread xo7) (harg11.unread xo8) VO0_8.junk [] j d n
  rw [List.append_nil] at e
  refine e.trans ?_
  rw [Memref.IsWhole.read_unread]
end
end Cert.Attn
end
-- ==== Proof.Grid.lean ====
module
public import proofs.«01_k».proof.Proof.Body
public import Idealize.ShloMosaic.Lib.Pipeline.Value

/-! The grid's points: each point's blocks are rows of the arrays, the two accumulators are sums over a group's points,
and the three result arrays in closed form over the arrays the launch reads. -/

@[expose] public section
set_option maxRecDepth 16384
noncomputable section
namespace Cert.Attn
open Idealize.ShloMosaic Idealize.ShloMosaic.TcCoe Idealize.ShloMosaic.Tactic
open Idealize.SL Idealize.SL.Sem
open Cert.KernelIdeal Cert.KernelIdeal.Gen

/-- The query head the point `t` holds at place `h`. -/
def hdN (t : ℕ) (h : Fin 2) : Fin 16 := ⟨(2 * (t / 32) + h.val) % 16, Nat.mod_lt _ (by decide)⟩
/-- The query row the point `t` holds at place `q`. -/
def rowN (t : ℕ) (q : Fin 256) : Fin 8192 := ⟨256 * (t % 32) + q.val, by have := Nat.mod_lt t (by decide : 0 < 32); omega⟩
/-- The key head of a query head. -/
def kv (h : Fin 16) : Fin 4 := ⟨h.val / 4, by omega⟩

theorem kv_hdN (t : Fin cfg0.N) (h : Fin 2) : (kv (hdN t.val h)).val = t.val / 64 := by
  have hN : cfg0.N = 256 := N_0
  have := t.isLt
  show (2 * (t.val / 32) + h.val) % 16 / 4 = t.val / 64
  omega

section
variable (QT : Vec Ideal S16x64x8192 .bf16) (KK VV : Vec Ideal S4x8192x64 .bf16) (OT : Vec Ideal S16x64x8192 .bf16)
  (DO : Vec Ideal S16x8192x64 .bf16) (LS : Vec Ideal S16x1x8192 .f32)

/-- The softmax weight of a query against a key. -/
def pA (h : Fin 16) (q n : Fin 8192) : EReal :=
  FloatOps.exp2 (F := Ideal) (φ := .f32) (∑ d : Fin 64, QT (ix3 h d q) * KK (ix3 (kv h) n d) - LS (ix3 h 0 q))

/-- The score cotangent of a query against a key. -/
def dsA (h : Fin 16) (q n : Fin 8192) : EReal :=
  pA QT KK LS h q n
    * (∑ d : Fin 64, DO (ix3 h q d) * VV (ix3 (kv h) n d) - ∑ d : Fin 64, DO (ix3 h q d) * OT (ix3 h d q))

/-- What point `t` adds to the gradient of a key. -/
def dkT (t : ℕ) (d : Fin 64) (n : Fin 8192) : EReal :=
  ∑ q : Fin 256, QT (ix3 (hdN t 0) d (rowN t q)) * dsA QT KK VV OT DO LS (hdN t 0) (rowN t q) n
    + ∑ q : Fin 256, QT (ix3 (hdN t 1) d (rowN t q)) * dsA QT KK VV OT DO LS (hdN t 1) (rowN t q) n

/-- What point `t` adds to the gradient of a value. -/
def dvT (t : ℕ) (d : Fin 64) (n : Fin 8192) : EReal :=
  ∑ q : Fin 256, DO (ix3 (hdN t 0) (rowN t q) d) * pA QT KK LS (hdN t 0) (rowN t q) n
    + ∑ q : Fin 256, DO (ix3 (hdN t 1) (rowN t q) d) * pA QT KK LS (hdN t 1) (rowN t q) n

/-- The gradient of the queries. -/
def dqA (h : Fin 16) (q : Fin 8192) (d : Fin 64) : EReal :=
  (∑ n : Fin 4096, dsA QT KK VV OT DO LS h q (kx 0 n) * KK (ix3 (kv h) (kx 0 n) d)
    + ∑ n : Fin 4096, dsA QT KK VV OT DO LS h q (kx 1 n) * KK (ix3 (kv h) (kx 1 n) d)) * Ideal.ofBits .f32 0x3E000000#32
end

section
variable (m : (ℓ : Loc nD τ sig) → Buf (Elt Ideal) ℓ) (c : Dev nD)

theorem idx0 : ∀ t : Fin grid0.N, win0_0.index t 0 = t.val / 32 ∧ win0_0.index t 1 = 0 ∧ win0_0.index t 2 = t.val % 32 := by
  decide +kernel
theorem idx1 : ∀ t : Fin grid0.N, win0_1.index t 0 = t.val / 64 ∧ win0_1.index t 1 = 0 ∧ win0_1.index t 2 = 0 := by
  decide +kernel
theorem idx2 : ∀ t : Fin grid0.N, win0_2.index t 0 = t.val / 64 ∧ win0_2.index t 1 = 0 ∧ win0_2.index t 2 = 0 := by
  decide +kernel
theorem idx3 : ∀ t : Fin grid0.N, win0_3.index t 0 = t.val / 32 ∧ win0_3.index t 1 = 0 ∧ win0_3.index t 2 = t.val % 32 := by
  decide +kernel
theorem idx4 : ∀ t : Fin grid0.N, win0_4.index t 0 = t.val / 32 ∧ win0_4.index t 1 = t.val % 32 ∧ win0_4.index t 2 = 0 := by
  decide +kernel
theorem idx5 : ∀ t : Fin grid0.N, win0_5.index t 0 = t.val / 32 ∧ win0_5.index t 1 = 0 ∧ win0_5.index t 2 = t.val % 32 := by
  decide +kernel
theorem idx6 : ∀ t : Fin grid0.N, win0_6.index t 0 = t.val / 32 ∧ win0_6.index t 1 = t.val % 32 ∧ win0_6.index t 2 = 0 := by
  decide +kernel
theorem idx7 : ∀ t : Fin grid0.N, win0_7.index t 0 = t.val / 64 ∧ win0_7.index t 1 = 0 ∧ win0_7.index t 2 = 0 ∧ win0_7.index t 3 = 0 := by
  decide +kernel
theorem idx8 : ∀ t : Fin grid0.N, win0_8.index t 0 = t.val / 64 ∧ win0_8.index t 1 = 0 ∧ win0_8.index t 2 = 0 ∧ win0_8.index t 3 = 0 := by
  decide +kernel

/-- The arrays the launch reads, each at its own shape. -/
def aQ : Vec Ideal S16x64x8192 .bf16 := V m c main_v26
def aK : Vec Ideal S4x8192x64 .bf16 := V m c main_v29
def aV : Vec Ideal S4x8192x64 .bf16 := V m c main_v30
def aO : Vec Ideal S16x64x8192 .bf16 := V m c main_v28
def aD : Vec Ideal S16x8192x64 .bf16 := V m c main_v31
def aL : Vec Ideal S16x1x8192 .f32 := V m c main_v20

/-- A point's blocks, each at its own shape. -/
def b0 (t : Fin cfg0.N) : Vec Ideal S2x64x256 .bf16 := iblk m c 0 t
def b1 (t : Fin cfg0.N) : Vec Ideal S1x8192x64 .bf16 := iblk m c 1 t
def b2 (t : Fin cfg0.N) : Vec Ideal S1x8192x64 .bf16 := iblk m c 2 t
def b3 (t : Fin cfg0.N) : Vec Ideal S2x64x256 .bf16 := iblk m c 3 t
def b4 (t : Fin cfg0.N) : Vec Ideal S2x256x64 .bf16 := iblk m c 4 t
def b5 (t : Fin cfg0.N) : Vec Ideal S2x1x256 .f32 := iblk m c 5 t

theorem blk0 (t : Fin cfg0.N) (h : Fin 2) (d : Fin 64) (q : Fin 256) :
    b0 m c t (ix3 h d q) = aQ m c (ix3 (hdN t.val h) d (rowN t.val q)) := by
  have hN : cfg0.N = 256 := N_0
  have ht := t.isLt
  obtain ⟨e0, e1, e2⟩ := idx0 t
  unfold b0 iblk aQ
  rw [View.read_apply]
  show V m c main_v26 _ = V m c main_v26 _
  congr 1
  funext a
  apply Fin.ext
  match a with
  | ⟨0, _⟩ => show win0_0.index t 0 * 2 + 1 * h.val = (2 * (t.val / 32) + h.val) % 16; rw [e0]; omega
  | ⟨1, _⟩ => show win0_0.index t 1 * 64 + 1 * d.val = d.val; rw [e1]; omega
  | ⟨2, _⟩ => show win0_0.index t 2 * 256 + 1 * q.val = 256 * (t.val % 32) + q.val; rw [e2]; omega

theorem blk3 (t : Fin cfg0.N) (h : Fin 2) (d : Fin 64) (q : Fin 256) :
    b3 m c t (ix3 h d q) = aO m c (ix3 (hdN t.val h) d (rowN t.val q)) := by
  have hN : cfg0.N = 256 := N_0
  have ht := t.isLt
  obtain ⟨e0, e1, e2⟩ := idx3 t
  unfold b3 iblk aO
  rw [View.read_apply]
  show V m c main_v28 _ = V m c main_v28 _
  congr 1
  funext a
  apply Fin.ext
  match a with
  | ⟨0, _⟩ => show win0_3.index t 0 * 2 + 1 * h.val = (2 * (t.val / 32) + h.val) % 16; rw [e0]; omega
  | ⟨1, _⟩ => show win0_3.index t 1 * 64 + 1 * d.val = d.val; rw [e1]; omega
  | ⟨2, _⟩ => show win0_3.index t 2 * 256 + 1 * q.val = 256 * (t.val % 32) + q.val; rw [e2]; omega

theorem blk4 (t : Fin cfg0.N) (h : Fin 2) (q : Fin 256) (d : Fin 64) :
    b4 m c t (ix3 h q d) = aD m c (ix3 (hdN t.val h) (rowN t.val q) d) := by
  have hN : cfg0.N = 256 := N_0
  have ht := t.isLt
  obtain ⟨e0, e1, e2⟩ := idx4 t
  unfold b4 iblk aD
  rw [View.read_apply]
  show V m c main_v31 _ = V m c main_v31 _
  congr 1
  funext a
  apply Fin.ext
  match a with
  | ⟨0, _⟩ => show win0_4.index t 0 * 2 + 1 * h.val = (2 * (t.val / 32) + h.val) % 16; rw [e0]; omega
  | ⟨1, _⟩ => show win0_4.index t 1 * 256 + 1 * q.val = 256 * (t.val % 32) + q.val; rw [e1]; omega
  | ⟨2, _⟩ => show win0_4.index t 2 * 64 + 1 * d.val = d.val; rw [e2]; omega

theorem blk5 (t : Fin cfg0.N) (h : Fin 2) (q : Fin 256) :
    b5 m c t (ix3 h 0 q) = aL m c (ix3 (hdN t.val h) 0 (rowN t.val q)) := by
  have hN : cfg0.N = 256 := N_0
  have ht := t.isLt
  obtain ⟨e0, e1, e2⟩ := idx5 t
  unfold b5 iblk aL
  rw [View.read_apply]
  show V m c main_v20 _ = V m c main_v20 _
  congr 1
  funext a
  apply Fin.ext
  match a with
  | ⟨0, _⟩ => show win0_5.index t 0 * 2 + 1 * h.val = (2 * (t.val / 32) + h.val) % 16; rw [e0]; omega
  | ⟨1, _⟩ => show win0_5.index t 1 * 1 + 1 * 0 = 0; rw [e1]
  | ⟨2, _⟩ => show win0_5.index t 2 * 256 + 1 * q.val = 256 * (t.val % 32) + q.val; rw [e2]; omega

theorem blk1 (t : Fin cfg0.N) (h : Fin 2) (n : Fin 8192) (d : Fin 64) :
    b1 m c t (ix3 0 n d) = aK m c (ix3 (kv (hdN t.val h)) n d) := by
  have hk := kv_hdN t h
  obtain ⟨e0, e1, e2⟩ := idx1 t
  unfold b1 iblk aK
  rw [View.read_apply]
  show V m c main_v29 _ = V m c main_v29 _
  congr 1
  funext a
  apply Fin.ext
  match a with
  | ⟨0, _⟩ => show win0_1.index t 0 * 1 + 1 * 0 = (kv (hdN t.val h)).val; rw [e0, hk]; omega
  | ⟨1, _⟩ => show win0_1.index t 1 * 8192 + 1 * n.val = n.val; rw [e1]; omega
  | ⟨2, _⟩ => show win0_1.index t 2 * 64 + 1 * d.val = d.val; rw [e2]; omega

theorem blk2 (t : Fin cfg0.N) (h : Fin 2) (n : Fin 8192) (d : Fin 64) :
    b2 m c t (ix3 0 n d) = aV m c (ix3 (kv (hdN t.val h)) n d) := by
  have hk := kv_hdN t h
  obtain ⟨e0, e1, e2⟩ := idx2 t
  unfold b2 iblk aV
  rw [View.read_apply]
  show V m c main_v30 _ = V m c main_v30 _
  congr 1
  funext a
  apply Fin.ext
  match a with
  | ⟨0, _⟩ => show win0_2.index t 0 * 1 + 1 * 0 = (kv (hdN t.val h)).val; rw [e0, hk]; omega
  | ⟨1, _⟩ => show win0_2.index t 1 * 8192 + 1 * n.val = n.val; rw [e1]; omega
  | ⟨2, _⟩ => show win0_2.index t 2 * 64 + 1 * d.val = d.val; rw [e2]; omega

theorem pB_blk (t : Fin cfg0.N) (h : Fin 2) (q : Fin 256) (n : Fin 8192) :
    pB (b0 m c t) (b1 m c t) (b5 m c t) h q n
      = pA (aQ m c) (aK m c) (aL m c) (hdN t.val h) (rowN t.val q) n := by
  unfold pB pA
  refine congrArg _ (congrArg₂ (· - ·) (Finset.sum_congr rfl fun d _ => congrArg₂ (· * ·) (blk0 m c t h d q) (blk1 m c t h n d)) ?_)
  exact blk5 m c t h q

theorem dsB_blk (t : Fin cfg0.N) (h : Fin 2) (q : Fin 256) (n : Fin 8192) :
    dsB (b0 m c t) (b1 m c t) (b2 m c t) (b3 m c t) (b4 m c t) (b5 m c t) h q n
      = dsA (aQ m c) (aK m c) (aV m c) (aO m c) (aD m c) (aL m c)
          (hdN t.val h) (rowN t.val q) n := by
  unfold dsB dsA
  exact congrArg₂ (· * ·) (pB_blk m c t h q n) (congrArg₂ (· - ·)
    (Finset.sum_congr rfl fun d _ => congrArg₂ (· * ·) (blk4 m c t h q d) (blk2 m c t h n d))
    (Finset.sum_congr rfl fun d _ => congrArg₂ (· * ·) (blk4 m c t h q d) (blk3 m c t h d q)))

theorem dkB_blk (t : Fin cfg0.N) (h : Fin 2) (d : Fin 64) (n : Fin 8192) :
    dkB (b0 m c t) (b1 m c t) (b2 m c t) (b3 m c t) (b4 m c t) (b5 m c t) h d n
      = ∑ q : Fin 256, aQ m c (ix3 (hdN t.val h) d (rowN t.val q))
        * dsA (aQ m c) (aK m c) (aV m c) (aO m c) (aD m c) (aL m c)
          (hdN t.val h) (rowN t.val q) n := by
  unfold dkB
  exact Finset.sum_congr rfl fun q _ => congrArg₂ (· * ·) (blk0 m c t h d q) (dsB_blk m c t h q n)

theorem dvB_blk (t : Fin cfg0.N) (h : Fin 2) (d : Fin 64) (n : Fin 8192) :
    dvB (b0 m c t) (b1 m c t) (b4 m c t) (b5 m c t) h d n
      = ∑ q : Fin 256, aD m c (ix3 (hdN t.val h) (rowN t.val q) d)
        * pA (aQ m c) (aK m c) (aL m c) (hdN t.val h) (rowN t.val q) n := by
  unfold dvB
  exact Finset.sum_congr rfl fun q _ => congrArg₂ (· * ·) (blk4 m c t h q d) (pB_blk m c t h q n)

theorem dqB_blk (t : Fin cfg0.N) (j h : Fin 2) (q : Fin 256) (d : Fin 64) :
    dqB (b0 m c t) (b1 m c t) (b2 m c t) (b3 m c t) (b4 m c t) (b5 m c t) j h q d
      = ∑ n : Fin 4096, dsA (aQ m c) (aK m c) (aV m c) (aO m c) (aD m c) (aL m c)
          (hdN t.val h) (rowN t.val q) (kx j n)
          * aK m c (ix3 (kv (hdN t.val h)) (kx j n) d) := by
  unfold dqB
  exact Finset.sum_congr rfl fun n _ => congrArg₂ (· * ·) (dsB_blk m c t h q _) (blk1 m c t h _ d)

/-- `dkT` and `dvT` over the arrays the launch reads. -/
abbrev dkV (t : ℕ) (d : Fin 64) (n : Fin 8192) : EReal :=
  dkT (aQ m c) (aK m c) (aV m c) (aO m c) (aD m c) (aL m c) t d n
abbrev dvV (t : ℕ) (d : Fin 64) (n : Fin 8192) : EReal :=
  dvT (aQ m c) (aK m c) (aD m c) (aL m c) t d n
abbrev dqV (h : Fin 16) (q : Fin 8192) (d : Fin 64) : EReal :=
  dqA (aQ m c) (aK m c) (aV m c) (aO m c) (aD m c) (aL m c) h q d

theorem dqV_eq (t : Fin cfg0.N) (h : Fin 2) (q : Fin 256) (d : Fin 64) :
    (dqB (b0 m c t) (b1 m c t) (b2 m c t) (b3 m c t) (b4 m c t) (b5 m c t) 0 h q d + dqB (b0 m c t) (b1 m c t) (b2 m c t) (b3 m c t) (b4 m c t) (b5 m c t) 1 h q d) * Ideal.ofBits .f32 0x3E000000#32 = dqV m c (hdN t.val h) (rowN t.val q) d := by
  rw [dqB_blk, dqB_blk]
  rfl

theorem dkV_eq (t : Fin cfg0.N) (d : Fin 64) (n : Fin 8192) :
    dkB (b0 m c t) (b1 m c t) (b2 m c t) (b3 m c t) (b4 m c t) (b5 m c t) 0 d n + dkB (b0 m c t) (b1 m c t) (b2 m c t) (b3 m c t) (b4 m c t) (b5 m c t) 1 d n = dkV m c t.val d n := by
  rw [dkB_blk, dkB_blk]
  rfl

theorem dvV_eq (t : Fin cfg0.N) (d : Fin 64) (n : Fin 8192) :
    dvB (b0 m c t) (b1 m c t) (b4 m c t) (b5 m c t) 0 d n + dvB (b0 m c t) (b1 m c t) (b4 m c t) (b5 m c t) 1 d n = dvV m c t.val d n := by
  rw [dvB_blk, dvB_blk]
  rfl

/-- The query gradient's block at a point. -/
theorem outs6 (t : Fin cfg0.N) (h : Fin 2) (q : Fin 256) (d : Fin 64) :
    (outsAt0 m c t.val t.isLt).1 (ix3 h q d) = dqV m c (hdN t.val h) (rowN t.val q) d := by
  rw [← dqV_eq]
  by_cases h0 : t.val % 64 = 0
  · have h1 : ¬ t.val % 64 = 63 := by omega
    rw [outsAt0_A m c t h0 h1]
    dsimp only
    rw [outA_6]
    rfl
  · by_cases h1 : t.val % 64 = 63
    · rw [outsAt0_C m c t h0 h1]
      dsimp only
      rw [outC_6]
      rfl
    · rw [outsAt0_B m c t h0 h1]
      dsimp only
      rw [outB_6]
      rfl

theorem dk_first (t : Fin cfg0.N) (h0 : t.val % 64 = 0) (j : Fin 2) (d : Fin 64) (n : Fin 4096) :
    (outsAt0 m c t.val t.isLt).2.1 (ix4 0 j d n) = dkV m c t.val d (kx j n) := by
  have h1 : ¬ t.val % 64 = 63 := by omega
  rw [outsAt0_A m c t h0 h1, ← dkV_eq]
  dsimp only
  rw [outA_7]
  rfl

theorem dv_first (t : Fin cfg0.N) (h0 : t.val % 64 = 0) (j : Fin 2) (d : Fin 64) (n : Fin 4096) :
    (outsAt0 m c t.val t.isLt).2.2 (ix4 0 j d n) = dvV m c t.val d (kx j n) := by
  have h1 : ¬ t.val % 64 = 63 := by omega
  rw [outsAt0_A m c t h0 h1, ← dvV_eq]
  dsimp only
  rw [outA_8]
  rfl

theorem dk_next (t : Fin cfg0.N) (h0 : ¬ t.val % 64 = 0) (h1 : ¬ t.val % 64 = 63) (j : Fin 2) (d : Fin 64) (n : Fin 4096) :
    (outsAt0 m c t.val t.isLt).2.1 (ix4 0 j d n)
      = (outsAt0 m c (t.val - 1) (Nat.lt_of_le_of_lt (Nat.sub_le _ _) t.isLt)).2.1 (ix4 0 j d n) + dkV m c t.val d (kx j n) := by
  rw [outsAt0_B m c t h0 h1, ← dkV_eq]
  dsimp only
  rw [outB_7, add_assoc]
  rfl

theorem dk_last (t : Fin cfg0.N) (h1 : t.val % 64 = 63) (j : Fin 2) (d : Fin 64) (n : Fin 4096) :
    (outsAt0 m c t.val t.isLt).2.1 (ix4 0 j d n)
      = ((outsAt0 m c (t.val - 1) (Nat.lt_of_le_of_lt (Nat.sub_le _ _) t.isLt)).2.1 (ix4 0 j d n) + dkV m c t.val d (kx j n))
        * Named.named (F := Ideal) (φ := .f32) κ "ln_2" 0x3F317218#32 := by
  have h0 : ¬ t.val % 64 = 0 := by omega
  rw [outsAt0_C m c t h0 h1, ← dkV_eq]
  dsimp only
  rw [outC_7, add_assoc]
  rfl

theorem dv_next (t : Fin cfg0.N) (h0 : ¬ t.val % 64 = 0) (j : Fin 2) (d : Fin 64) (n : Fin 4096) :
    (outsAt0 m c t.val t.isLt).2.2 (ix4 0 j d n)
      = (outsAt0 m c (t.val - 1) (Nat.lt_of_le_of_lt (Nat.sub_le _ _) t.isLt)).2.2 (ix4 0 j d n) + dvV m c t.val d (kx j n) := by
  by_cases h1 : t.val % 64 = 63
  · rw [outsAt0_C m c t h0 h1, ← dvV_eq]
    dsimp only
    rw [outC_8, add_assoc]
    rfl
  · rw [outsAt0_B m c t h0 h1, ← dvV_eq]
    dsimp only
    rw [outB_8, add_assoc]
    rfl

/-- The running sum of the key gradient before a group's last point. -/
theorem dk_sum (g : ℕ) (j : Fin 2) (d : Fin 64) (n : Fin 4096) : ∀ (r : ℕ) (_ : r < 63) (h : 64 * g + r < cfg0.N),
    (outsAt0 m c (64 * g + r) h).2.1 (ix4 0 j d n) = ∑ s ∈ Finset.range (r + 1), dkV m c (64 * g + s) d (kx j n)
  | 0, _, h => by
    rw [Finset.sum_range_one]
    exact dk_first m c ⟨64 * g + 0, h⟩ (by show (64 * g + 0) % 64 = 0; omega) j d n
  | r + 1, hr, h => by
    rw [Finset.sum_range_succ, ← dk_sum g j d n r (by omega) (by omega)]
    exact dk_next m c ⟨64 * g + (r + 1), h⟩ (by show ¬ (64 * g + (r + 1)) % 64 = 0; omega)
      (by show ¬ (64 * g + (r + 1)) % 64 = 63; omega) j d n

theorem dv_sum (g : ℕ) (j : Fin 2) (d : Fin 64) (n : Fin 4096) : ∀ (r : ℕ) (_ : r < 64) (h : 64 * g + r < cfg0.N),
    (outsAt0 m c (64 * g + r) h).2.2 (ix4 0 j d n) = ∑ s ∈ Finset.range (r + 1), dvV m c (64 * g + s) d (kx j n)
  | 0, _, h => by
    rw [Finset.sum_range_one]
    exact dv_first m c ⟨64 * g + 0, h⟩ (by show (64 * g + 0) % 64 = 0; omega) j d n
  | r + 1, hr, h => by
    rw [Finset.sum_range_succ, ← dv_sum g j d n r (by omega) (by omega)]
    exact dv_next m c ⟨64 * g + (r + 1), h⟩ (by show ¬ (64 * g + (r + 1)) % 64 = 0; omega) j d n

theorem dk_end (t : Fin cfg0.N) (h1 : t.val % 64 = 63) (j : Fin 2) (d : Fin 64) (n : Fin 4096) :
    (outsAt0 m c t.val t.isLt).2.1 (ix4 0 j d n)
      = (∑ s ∈ Finset.range 64, dkV m c (64 * (t.val / 64) + s) d (kx j n))
        * Named.named (F := Ideal) (φ := .f32) κ "ln_2" 0x3F317218#32 := by
  rw [dk_last m c t h1, Finset.sum_range_succ]
  have e : t.val = 64 * (t.val / 64) + 63 := by omega
  have e' : t.val - 1 = 64 * (t.val / 64) + 62 := by omega
  have hlt : 64 * (t.val / 64) + 62 < cfg0.N := by have := t.isLt; omega
  rw [← dk_sum m c (t.val / 64) j d n 62 (by decide) hlt, ← e]
  have same : ∀ (a b : ℕ) (ha : a < cfg0.N) (hb : b < cfg0.N), a = b → outsAt0 m c a ha = outsAt0 m c b hb := by
    intro a b ha hb hab; subst hab; rfl
  rw [same _ _ _ hlt e']

theorem dv_end (t : Fin cfg0.N) (h1 : t.val % 64 = 63) (j : Fin 2) (d : Fin 64) (n : Fin 4096) :
    (outsAt0 m c t.val t.isLt).2.2 (ix4 0 j d n)
      = ∑ s ∈ Finset.range 64, dvV m c (64 * (t.val / 64) + s) d (kx j n) := by
  have e : t.val = 64 * (t.val / 64) + 63 := by omega
  have hlt : 64 * (t.val / 64) + 63 < cfg0.N := by have := t.isLt; omega
  rw [← dv_sum m c (t.val / 64) j d n 63 (by decide) hlt]
  have same : ∀ (a b : ℕ) (ha : a < cfg0.N) (hb : b < cfg0.N), a = b → outsAt0 m c a ha = outsAt0 m c b hb := by
    intro a b ha hb hab; subst hab; rfl
  rw [same _ _ _ hlt e]

end
end Cert.Attn
end
-- ==== Proof.Arrays.lean ====
module
public import proofs.«01_k».proof.Proof.Grid
public import Idealize.ShloMosaic.Lib.Pipeline.ValueKit
public import Idealize.ShloMosaic.Lib.Pointwise

/-! The three result arrays after the last grid point, entry by entry. -/

@[expose] public section
set_option maxRecDepth 16384
noncomputable section
namespace Cert.Attn
open Idealize.ShloMosaic Idealize.ShloMosaic.TcCoe Idealize.ShloMosaic.Tactic
open Idealize.SL Idealize.SL.Sem
open Cert.KernelIdeal Cert.KernelIdeal.Gen

variable (m : (ℓ : Loc nD τ sig) → Buf (Elt Ideal) ℓ) (c : Dev nD)

/-- The three arrays the launch leaves. -/
def res6 : Vec Ideal S16x8192x64 .bf16 := fun i => dqV m c (i 0) (i 1) (i 2)
def res7 : Vec Ideal S4x2x64x4096 .f32 := fun i =>
  (∑ s ∈ Finset.range 64, dkV m c (64 * (i 0).val + s) (i 2) (kx (i 1) (i 3)))
    * Named.named (F := Ideal) (φ := .f32) κ "ln_2" 0x3F317218#32
def res8 : Vec Ideal S4x2x64x4096 .f32 := fun i =>
  ∑ s ∈ Finset.range 64, dvV m c (64 * (i 0).val + s) (i 2) (kx (i 1) (i 3))

theorem final6 : (dats m 0 c).arrAt 6 cfg0.N = res6 m c := by
  refine (dats m 0 c).arrAt_eq_of_covers 6 _ (by decide +kernel) fun t hf y => ?_
  blk_simp
  rw [after0_6]
  have hN : cfg0.N = 256 := N_0
  have ht : t.val < cfg0.N := t.isLt
  obtain ⟨e0, e1, e2⟩ := idx6 t
  have key := outs6 m c t (y 0) (y 1) (y 2)
  have hy : (ix3 (y 0) (y 1) (y 2) : S2x256x64.Idx) = y := (eq_ix3 (n0 := 2) (n1 := 256) (n2 := 64) y).symm
  rw [hy] at key
  refine key.trans ?_
  show dqV m c _ _ _ = dqV m c _ _ _
  have y0 : (y 0).val < 2 := (y 0).isLt
  have y1 : (y 1).val < 256 := (y 1).isLt
  have q0 : hdN t.val (y 0) = (win0_6.blk t).view.emb y 0 := by
    apply Fin.ext
    show (2 * (t.val / 32) + (y 0).val) % 16 = win0_6.index t 0 * 2 + 1 * (y 0).val
    rw [e0]; omega
  have q1 : rowN t.val (y 1) = (win0_6.blk t).view.emb y 1 := by
    apply Fin.ext
    show 256 * (t.val % 32) + (y 1).val = win0_6.index t 1 * 256 + 1 * (y 1).val
    rw [e1]; omega
  have q2 : y 2 = (win0_6.blk t).view.emb y 2 := by
    apply Fin.ext
    show (y 2).val = win0_6.index t 2 * 64 + 1 * (y 2).val
    rw [e2]; omega
  rw [q0, q1]
  exact congrArg _ q2

theorem final7 : (dats m 0 c).arrAt 7 cfg0.N = res7 m c := by
  refine (dats m 0 c).arrAt_eq_of_covers 7 _ (by decide +kernel) fun t hf y => ?_
  blk_simp
  rw [after0_7]
  obtain ⟨e0, e1, e2, e3⟩ := idx7 t
  have h63 : t.val % 64 = 63 := (flush0_7 t).mp hf
  have key := dk_end m c t h63 (y 1) (y 2) (y 3)
  have hy : (ix4 0 (y 1) (y 2) (y 3) : S1x2x64x4096.Idx) = y := by
    rw [eq_ix4 (n0 := 1) (n1 := 2) (n2 := 64) (n3 := 4096) y]
    exact congrArg (fun z => ix4 z (y 1) (y 2) (y 3)) (Subsingleton.elim _ _)
  rw [hy] at key
  refine key.trans ?_
  have y0 : (y 0).val < 1 := (y 0).isLt
  have q0 : t.val / 64 = ((win0_7.blk t).view.emb y 0).val := by
    show t.val / 64 = win0_7.index t 0 * 1 + 1 * (y 0).val
    rw [e0]; omega
  have q1 : y 1 = (win0_7.blk t).view.emb y 1 := by
    apply Fin.ext
    show (y 1).val = win0_7.index t 1 * 2 + 1 * (y 1).val
    rw [e1]; omega
  have q2 : y 2 = (win0_7.blk t).view.emb y 2 := by
    apply Fin.ext
    show (y 2).val = win0_7.index t 2 * 64 + 1 * (y 2).val
    rw [e2]; omega
  have q3 : y 3 = (win0_7.blk t).view.emb y 3 := by
    apply Fin.ext
    show (y 3).val = win0_7.index t 3 * 4096 + 1 * (y 3).val
    rw [e3]; omega
  rw [q0, q1, q2, q3]
  rfl

theorem final8 : (dats m 0 c).arrAt 8 cfg0.N = res8 m c := by
  refine (dats m 0 c).arrAt_eq_of_covers 8 _ (by decide +kernel) fun t hf y => ?_
  blk_simp
  rw [after0_8]
  obtain ⟨e0, e1, e2, e3⟩ := idx8 t
  have h63 : t.val % 64 = 63 := (flush0_8 t).mp hf
  have key := dv_end m c t h63 (y 1) (y 2) (y 3)
  have hy : (ix4 0 (y 1) (y 2) (y 3) : S1x2x64x4096.Idx) = y := by
    rw [eq_ix4 (n0 := 1) (n1 := 2) (n2 := 64) (n3 := 4096) y]
    exact congrArg (fun z => ix4 z (y 1) (y 2) (y 3)) (Subsingleton.elim _ _)
  rw [hy] at key
  refine key.trans ?_
  have y0 : (y 0).val < 1 := (y 0).isLt
  have q0 : t.val / 64 = ((win0_8.blk t).view.emb y 0).val := by
    show t.val / 64 = win0_8.index t 0 * 1 + 1 * (y 0).val
    rw [e0]; omega
  have q1 : y 1 = (win0_8.blk t).view.emb y 1 := by
    apply Fin.ext
    show (y 1).val = win0_8.index t 1 * 2 + 1 * (y 1).val
    rw [e1]; omega
  have q2 : y 2 = (win0_8.blk t).view.emb y 2 := by
    apply Fin.ext
    show (y 2).val = win0_8.index t 2 * 64 + 1 * (y 2).val
    rw [e2]; omega
  have q3 : y 3 = (win0_8.blk t).view.emb y 3 := by
    apply Fin.ext
    show (y 3).val = win0_8.index t 3 * 4096 + 1 * (y 3).val
    rw [e3]; omega
  rw [q0, q1, q2, q3]
  rfl

end Cert.Attn
end
-- ==== Proof.Scalar.lean ====
module
public import Idealize.ShloMosaic.Lib.Pointwise
public import proofs.«01_k».proof.Proof.Grid

/-! The attention's scores, row maxima, exponentials and row sums as functions of single elements. -/

@[expose] public section
noncomputable section
namespace Cert.Attn
open Idealize.ShloMosaic

/-- Head `4 g + r`: query head `r` of the group `g`. -/
def hd (g r : Fin 4) : Fin 16 := ⟨g.val * 4 + r.val, by have := g.isLt; have := r.isLt; omega⟩

theorem kv_hd (g r : Fin 4) : kv (hd g r) = g := by
  apply Fin.ext
  show (g.val * 4 + r.val) / 4 = g.val
  have := r.isLt
  omega

theorem hd_kv (h : Fin 16) : hd (kv h) ⟨h.val % 4, Nat.mod_lt _ (by decide)⟩ = h := by
  apply Fin.ext
  show h.val / 4 * 4 + h.val % 4 = h.val
  omega

variable (Q D : Fin 16 → Fin 8192 → Fin 64 → EReal) (K W : Fin 4 → Fin 8192 → Fin 64 → EReal)

/-- The score of a query row and a key row. -/
def scE (h : Fin 16) (q n : Fin 8192) : EReal :=
  (∑ d, Q h q d * K (kv h) n d) * Ideal.ofBits FTy.f32 0x3E000000#32
/-- The largest score of a query row. -/
def mxE (h : Fin 16) (q : Fin 8192) : EReal :=
  Finset.fold max (Ideal.ofBits FTy.f32 0xFF800000#32) (fun n => scE Q K h q n) Finset.univ
/-- The exponential of a score less its row's largest. -/
def exE (h : Fin 16) (q n : Fin 8192) : EReal := Ideal.exp (scE Q K h q n - mxE Q K h q)
/-- The sum of a row's exponentials. -/
def smE (h : Fin 16) (q : Fin 8192) : EReal := ∑ n, exE Q K h q n

end Cert.Attn
end
-- ==== Proof.Host.lean ====
module
public import proofs.«01_k».proof.Proof.Scalar
public import Idealize.ShloMosaic.Lib.Pipeline.ValueKit
public import Idealize.ShloMosaic.Lib.Pointwise
public import Idealize.ShloMosaic.Lib.StableHlo.ReadAt

/-! The arrays the launch finds, as functions of the four arguments. -/

@[expose] public section
set_option maxRecDepth 16384
noncomputable section
namespace Cert.Attn
open Idealize.ShloMosaic Idealize.ShloMosaic.TcCoe Idealize.ShloMosaic.Tactic
open Idealize.SL Idealize.SL.Sem
open Cert.KernelIdeal Cert.KernelIdeal.Gen

/-- The host's lines, stage by stage: the scores, the row maxima, the exponentials, the row sums,
the attention's result and the base-two log-sum-exp. -/
def svS (Q : FVec Ideal S16x8192x64 .f32) (K : FVec Ideal S4x8192x64 .f32) : FVec Ideal S4x4x8192x8192 .f32 :=
  mulf (Host.dotGeneral dot_S4x4x8192x64_S4x8192x64_S4x4x8192x8192_3_2_12_1_0_0 none
      (shapeCast S4x4x8192x64 Q shapeCasts_S16x8192x64_S4x4x8192x64) K)
    (broadcastInDim S4x4x8192x8192 ![] bcast_S_S4x4x8192x8192 (constant S_ .f32 0x3E000000#32))
def svM (S : FVec Ideal S4x4x8192x8192 .f32) : FVec Ideal S4x4x8192x1 .f32 :=
  broadcastInDim S4x4x8192x1 ![0, 1, 2] bcast_S4x4x8192_S4x4x8192x1_0_1_2
    (Host.reduce FloatOps.maximumf S (constant S_ .f32 0xFF800000#32) reducesTo_S4x4x8192x8192_S4x4x8192_d3 h_S_)
def svE (S : FVec Ideal S4x4x8192x8192 .f32) (M : FVec Ideal S4x4x8192x1 .f32) : FVec Ideal S4x4x8192x8192 .f32 :=
  Host.exp (subf S (broadcastInDim S4x4x8192x8192 ![0, 1, 2, 3] bcast_S4x4x8192x1_S4x4x8192x8192_0_1_2_3 M))
def svL (E : FVec Ideal S4x4x8192x8192 .f32) : FVec Ideal S4x4x8192x1 .f32 :=
  broadcastInDim S4x4x8192x1 ![0, 1, 2] bcast_S4x4x8192_S4x4x8192x1_0_1_2
    (Host.reduceAdd E (constant S_ .f32 0x00000000#32) reducesTo_S4x4x8192x8192_S4x4x8192_d3 h_S_)
def svO (E : FVec Ideal S4x4x8192x8192 .f32) (L : FVec Ideal S4x4x8192x1 .f32) (V : FVec Ideal S4x8192x64 .f32) :
    FVec Ideal S16x64x8192 .bf16 :=
  truncf .bf16 (transpose S16x64x8192 [0, 2, 1] (shapeCast S16x8192x64
    (Host.dotGeneral dot_S4x4x8192x8192_S4x8192x64_S4x4x8192x64_3_1_12_2_0_0 none
      (Host.divf E (broadcastInDim S4x4x8192x8192 ![0, 1, 2, 3] bcast_S4x4x8192x1_S4x4x8192x8192_0_1_2_3 L)) V)
    shapeCasts_S4x4x8192x64_S16x8192x64) transposes_S16x8192x64_S16x64x8192_0_2_1) bitsLt_bf16_f32
def svG (M L : FVec Ideal S4x4x8192x1 .f32) : FVec Ideal S16x1x8192 .f32 :=
  shapeCast S16x1x8192 (Host.divf (addf M (Host.log L))
    (broadcastInDim S4x4x8192x1 ![] bcast_S_S4x4x8192x1 (Host.log (constant S_ .f32 0x40000000#32))))
    shapeCasts_S4x4x8192x1_S16x1x8192

theorem svS_at (Q : FVec Ideal S16x8192x64 .f32) (K : FVec Ideal S4x8192x64 .f32) (g r : Fin 4) (q n : Fin 8192) :
    svS Q K (ix4 g r q n)
      = (∑ d : Fin 64, Q (ix3 (hd g r) q d) * K (ix3 g n d)) * Ideal.ofBits FTy.f32 0x3E000000#32 := by
  pointwise [svS]
  rfl

theorem svM_at (S : FVec Ideal S4x4x8192x8192 .f32) (g r : Fin 4) (q : Fin 8192) :
    svM S (ix4 g r q 0)
      = Finset.fold max (Ideal.ofBits FTy.f32 0xFF800000#32) (fun n => S (ix4 g r q n)) Finset.univ := by
  pointwise [svM]

theorem svE_at (S : FVec Ideal S4x4x8192x8192 .f32) (M : FVec Ideal S4x4x8192x1 .f32) (g r : Fin 4) (q n : Fin 8192) :
    svE S M (ix4 g r q n) = Ideal.exp (S (ix4 g r q n) - M (ix4 g r q 0)) := by
  pointwise [svE]

theorem svL_at (E : FVec Ideal S4x4x8192x8192 .f32) (g r : Fin 4) (q : Fin 8192) :
    svL E (ix4 g r q 0) = ∑ n : Fin 8192, E (ix4 g r q n) := by
  pointwise [svL]

theorem svO_at (E : FVec Ideal S4x4x8192x8192 .f32) (L : FVec Ideal S4x4x8192x1 .f32) (V : FVec Ideal S4x8192x64 .f32)
    (h : Fin 16) (d : Fin 64) (q : Fin 8192) :
    svO E L V (ix3 h d q)
      = ∑ n : Fin 8192, Ideal.div (E (ix4 (kv h) ⟨h.val % 4, Nat.mod_lt _ (by decide)⟩ q n))
          (L (ix4 (kv h) ⟨h.val % 4, Nat.mod_lt _ (by decide)⟩ q 0)) * V (ix3 (kv h) n d) := by
  pointwise [svO]
  rfl

theorem svG_at (M L : FVec Ideal S4x4x8192x1 .f32) (h : Fin 16) (q : Fin 8192) :
    svG M L (ix3 h 0 q)
      = Ideal.div (M (ix4 (kv h) ⟨h.val % 4, Nat.mod_lt _ (by decide)⟩ q 0)
          + Ideal.log (L (ix4 (kv h) ⟨h.val % 4, Nat.mod_lt _ (by decide)⟩ q 0)))
          (Ideal.log (Ideal.ofBits FTy.f32 0x40000000#32)) := by
  pointwise [svG]
  rfl

variable (m : (ℓ : Loc nD τ sig) → Buf (Elt Ideal) ℓ) (c : Dev nD)

/-- The four arguments: the queries, keys, values and the gradient of the attention's result. -/
def kQ : FVec Ideal S16x8192x64 .f32 := m ((c.tc : Thread nD τ).loc main_arg0)
def kK : FVec Ideal S4x8192x64 .f32 := m ((c.tc : Thread nD τ).loc main_arg1)
def kV : FVec Ideal S4x8192x64 .f32 := m ((c.tc : Thread nD τ).loc main_arg2)
def kD : FVec Ideal S16x8192x64 .f32 := m ((c.tc : Thread nD τ).loc main_arg3)

theorem aK_at (i : S4x8192x64.Idx) : aK m c i = kK m c i := by
  unfold aK V kK
  after_reads_at

theorem aV_at (i : S4x8192x64.Idx) : aV m c i = kV m c i := by
  unfold aV V kV
  after_reads_at

theorem aD_at (i : S16x8192x64.Idx) : aD m c i = kD m c i := by
  unfold aD V kD
  after_reads_at

theorem aQ_at (h : Fin 16) (d : Fin 64) (q : Fin 8192) : aQ m c (ix3 h d q)
    = Ideal.div (kQ m c (ix3 h q d) * Ideal.ofBits FTy.f32 0x3E000000#32)
        (Ideal.log (Ideal.ofBits FTy.f32 0x40000000#32)) := by
  unfold aQ V kQ
  after_reads_at

/-- The host's scores, maxima, exponentials and sums of the arguments. -/
def hS := svS (kQ m c) (kK m c)
def hM := svM (hS m c)
def hE := svE (hS m c) (hM m c)
def hL := svL (hE m c)

theorem aO_eq : aO m c = svO (hE m c) (hL m c) (kV m c) := by
  unfold aO V
  after_reads_simp
  rfl

theorem aL_eq : aL m c = svG (hM m c) (hL m c) := by
  unfold aL V
  after_reads_simp
  rfl

/-- The arguments as functions of single coordinates. -/
abbrev fQ : Fin 16 → Fin 8192 → Fin 64 → EReal := fun h q d => kQ m c (ix3 h q d)
abbrev fK : Fin 4 → Fin 8192 → Fin 64 → EReal := fun g n d => kK m c (ix3 g n d)
abbrev fV : Fin 4 → Fin 8192 → Fin 64 → EReal := fun g n d => kV m c (ix3 g n d)
abbrev fD : Fin 16 → Fin 8192 → Fin 64 → EReal := fun h q d => kD m c (ix3 h q d)

theorem hS_at (g r : Fin 4) (q n : Fin 8192) : hS m c (ix4 g r q n) = scE (fQ m c) (fK m c) (hd g r) q n := by
  unfold hS scE
  rw [svS_at, kv_hd]

theorem hM_at (g r : Fin 4) (q : Fin 8192) : hM m c (ix4 g r q 0) = mxE (fQ m c) (fK m c) (hd g r) q := by
  unfold hM mxE
  rw [svM_at]
  exact congrArg (fun f => Finset.fold max _ f Finset.univ) (funext fun n => hS_at m c g r q n)

theorem hE_at (g r : Fin 4) (q n : Fin 8192) : hE m c (ix4 g r q n) = exE (fQ m c) (fK m c) (hd g r) q n := by
  unfold hE exE
  rw [svE_at, hS_at, hM_at]

theorem hL_at (g r : Fin 4) (q : Fin 8192) : hL m c (ix4 g r q 0) = smE (fQ m c) (fK m c) (hd g r) q := by
  unfold hL smE
  rw [svL_at]
  exact Finset.sum_congr rfl fun n _ => hE_at m c g r q n

theorem aO_at (h : Fin 16) (d : Fin 64) (q : Fin 8192) : aO m c (ix3 h d q)
    = ∑ n : Fin 8192, Ideal.div (exE (fQ m c) (fK m c) h q n) (smE (fQ m c) (fK m c) h q) * fV m c (kv h) n d := by
  rw [aO_eq, svO_at]
  refine Finset.sum_congr rfl fun n _ => ?_
  rw [hE_at, hL_at, hd_kv]

theorem aL_at (h : Fin 16) (q : Fin 8192) : aL m c (ix3 h 0 q)
    = Ideal.div (mxE (fQ m c) (fK m c) h q + Ideal.log (smE (fQ m c) (fK m c) h q))
        (Ideal.log (Ideal.ofBits FTy.f32 0x40000000#32)) := by
  rw [aL_eq, svG_at, hM_at, hL_at, hd_kv]

end Cert.Attn
end
-- ==== Proof.Math.lean ====
module
public import proofs.«01_k».proof.Proof.Scalar
public import Idealize.ShloMosaic.Lib.Pipeline.ValueKit

/-! The real identities behind the gradient of a softmax attention, and the sums over the grid regrouped. -/

@[expose] public section
noncomputable section
namespace Cert.Attn
open Idealize.ShloMosaic

/-! ## Real numbers among the extended ones -/

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_coe' (a b : ℝ) (hb : b ≠ 0) : Ideal.div (a : EReal) (b : EReal) = ((a / b : ℝ) : EReal) := by
  have hb' : (b : EReal) ≠ 0 := by exact_mod_cast hb
  unfold Ideal.div
  rw [if_neg hb', ← EReal.coe_inv, ← EReal.coe_mul, div_eq_mul_inv]

theorem log_coe' (a : ℝ) (ha : 0 < a) : Ideal.log (a : EReal) = ((Real.log a : ℝ) : EReal) := by
  show (if a ≤ 0 then (⊥ : EReal) else (Real.log a : EReal)) = _
  rw [if_neg (not_le.mpr ha)]

theorem lit_eighth : Ideal.ofBits FTy.f32 0x3E000000#32 = (((1 / 8 : ℝ)) : EReal) := by
  simp [Ideal.ofBits, Ideal.ieee, -EReal.coe_mul]; norm_num

theorem lit_two : Ideal.ofBits FTy.f32 0x40000000#32 = ((2 : ℝ) : EReal) := by
  simp [Ideal.ofBits, Ideal.ieee, -EReal.coe_mul]; norm_num

theorem lit_bot : Ideal.ofBits FTy.f32 0xFF800000#32 = (⊥ : EReal) := by
  simp [Ideal.ofBits, Ideal.ieee, -EReal.coe_mul]

theorem fold_max_real {n : ℕ} (f : Fin (n + 1) → ℝ) :
    ∃ r : ℝ, Finset.fold max (⊥ : EReal) (fun i => ((f i : ℝ) : EReal)) Finset.univ = (r : EReal) := by
  have h1 : Finset.fold max (⊥ : EReal) (fun i => ((f i : ℝ) : EReal)) Finset.univ < ⊤ :=
    (Finset.fold_max_lt _).mpr ⟨bot_lt_top, fun i _ => EReal.coe_lt_top _⟩
  have h2 : ⊥ < Finset.fold max (⊥ : EReal) (fun i => ((f i : ℝ) : EReal)) Finset.univ :=
    (Finset.lt_fold_max _).mpr (Or.inr ⟨0, Finset.mem_univ _, EReal.bot_lt_coe _⟩)
  exact ⟨_, (EReal.coe_toReal h1.ne h2.ne').symm⟩

/-! ## The attention's gradient over the reals -/

section
variable (q d : Fin 16 → Fin 8192 → Fin 64 → ℝ) (k w : Fin 4 → Fin 8192 → Fin 64 → ℝ)

/-- The score. -/
def sR (h : Fin 16) (a n : Fin 8192) : ℝ := (∑ x, q h a x * k (kv h) n x) * (1 / 8)
/-- The row's largest score. -/
def mR (h : Fin 16) (a : Fin 8192) : ℝ := (fold_max_real (n := 8191) fun n => sR q k h a n).choose
/-- The exponential, the row's sum and the weight. -/
def eR (h : Fin 16) (a n : Fin 8192) : ℝ := Real.exp (sR q k h a n - mR q k h a)
def lR (h : Fin 16) (a : Fin 8192) : ℝ := ∑ n, eR q k h a n
def pR (h : Fin 16) (a n : Fin 8192) : ℝ := eR q k h a n / lR q k h a
/-- The weight's cotangent. -/
def cR (h : Fin 16) (a n : Fin 8192) : ℝ := ∑ x, d h a x * w (kv h) n x
/-- The score's cotangent, but for the scale. -/
def gR (h : Fin 16) (a n : Fin 8192) : ℝ := pR q k h a n * (cR d w h a n - ∑ b, pR q k h a b * cR d w h a b)
/-- The three gradients. -/
def dqR (h : Fin 16) (a : Fin 8192) (x : Fin 64) : ℝ := (∑ n, gR q d k w h a n * k (kv h) n x) * (1 / 8)
def dkR (g : Fin 4) (n : Fin 8192) (x : Fin 64) : ℝ := (∑ r, ∑ a, q (hd g r) a x * gR q d k w (hd g r) a n) * (1 / 8)
def dvR (g : Fin 4) (n : Fin 8192) (x : Fin 64) : ℝ := ∑ r, ∑ a, d (hd g r) a x * pR q k (hd g r) a n

theorem lR_pos (h : Fin 16) (a : Fin 8192) : 0 < lR q k h a :=
  Finset.sum_pos (fun _ _ => Real.exp_pos _) ⟨0, Finset.mem_univ _⟩

/-- The arguments as extended reals. -/
def up {α β γ : Type} (f : α → β → γ → ℝ) : α → β → γ → EReal := fun a b c => ((f a b c : ℝ) : EReal)

theorem scE_up (h : Fin 16) (a n : Fin 8192) : scE (up q) (up k) h a n = ((sR q k h a n : ℝ) : EReal) := by
  unfold scE up sR
  simp only [← EReal.coe_mul]
  rw [coe_sum, lit_eighth, ← EReal.coe_mul]

theorem mxE_up (h : Fin 16) (a : Fin 8192) : mxE (up q) (up k) h a = ((mR q k h a : ℝ) : EReal) := by
  unfold mxE
  simp only [scE_up]
  rw [lit_bot]
  exact (fold_max_real (n := 8191) fun n => sR q k h a n).choose_spec

theorem exE_up (h : Fin 16) (a n : Fin 8192) : exE (up q) (up k) h a n = ((eR q k h a n : ℝ) : EReal) := by
  unfold exE
  rw [scE_up, mxE_up, ← EReal.coe_sub]
  rfl

theorem smE_up (h : Fin 16) (a : Fin 8192) : smE (up q) (up k) h a = ((lR q k h a : ℝ) : EReal) := by
  unfold smE
  simp only [exE_up]
  exact coe_sum _ _

/-- The weight from the base-two log-sum-exp. -/
theorem exp2_lse (h : Fin 16) (a n : Fin 8192) :
    Real.rpow 2 (∑ x, q h a x * (1 / 8) / Real.log 2 * k (kv h) n x
      - (mR q k h a + Real.log (lR q k h a)) / Real.log 2) = pR q k h a n := by
  have h2 : Real.log 2 ≠ 0 := Real.log_ne_zero_of_pos_of_ne_one (by norm_num) (by norm_num)
  have hs : ∑ x, q h a x * (1 / 8) / Real.log 2 * k (kv h) n x = sR q k h a n / Real.log 2 := by
    unfold sR
    rw [Finset.sum_mul, Finset.sum_div]
    exact Finset.sum_congr rfl fun x _ => by ring
  rw [Real.rpow_eq_pow]
  rw [hs, Real.rpow_def_of_pos (by norm_num : (0 : ℝ) < 2)]
  have e : Real.log 2 * (sR q k h a n / Real.log 2 - (mR q k h a + Real.log (lR q k h a)) / Real.log 2)
      = (sR q k h a n - mR q k h a) - Real.log (lR q k h a) := by
    field_simp
    ring
  rw [e, Real.exp_sub, Real.exp_log (lR_pos q k h a)]
  rfl

/-- The sum of the result against its cotangent is the weights' against theirs. -/
theorem delta_eq (h : Fin 16) (a : Fin 8192) :
    ∑ x, d h a x * ∑ n, pR q k h a n * w (kv h) n x = ∑ n, pR q k h a n * cR d w h a n := by
  unfold cR
  simp only [Finset.mul_sum]
  rw [Finset.sum_comm]
  exact Finset.sum_congr rfl fun n _ => Finset.sum_congr rfl fun x _ => by ring

/-- The score's cotangent as the derivative of the quotient spells it. -/
theorem quotient_rule (h : Fin 16) (a n : Fin 8192) :
    (cR d w h a n / lR q k h a + -∑ b, cR d w h a b * (1 / (lR q k h a * lR q k h a)) * eR q k h a b) * eR q k h a n
      = gR q d k w h a n := by
  have hl := (lR_pos q k h a).ne'
  have e : ∑ b, cR d w h a b * (1 / (lR q k h a * lR q k h a)) * eR q k h a b
      = (∑ b, pR q k h a b * cR d w h a b) / lR q k h a := by
    rw [Finset.sum_div]
    refine Finset.sum_congr rfl fun b _ => ?_
    unfold pR
    field_simp
  rw [e]
  unfold gR
  generalize ∑ b, pR q k h a b * cR d w h a b = z
  unfold pR
  field_simp
  ring
end

/-! ## Sums over the grid -/

section
variable {M : Type*} [AddCommMonoid M]

/-- A sum over the two blocks of keys is the sum over all keys. -/
theorem sum_kx (f : Fin 8192 → M) : ∑ n : Fin 4096, f (kx 0 n) + ∑ n : Fin 4096, f (kx 1 n) = ∑ n, f n := by
  rw [← Fin.sum_mul_add_fin 2 4096 f, Fin.sum_univ_two]
  refine congrArg₂ (· + ·) (Finset.sum_congr rfl fun n _ => congrArg f (Fin.ext ?_))
    (Finset.sum_congr rfl fun n _ => congrArg f (Fin.ext ?_)) <;> rfl

/-- A sum over the points of a key head, each of two heads and 256 rows, is the sum over its four heads and all rows. -/
theorem sum_points (F : Fin 16 → Fin 8192 → M) (g : Fin 4) :
    ∑ s ∈ Finset.range 64, (∑ b : Fin 256, F (hdN (64 * g.val + s) 0) (rowN (64 * g.val + s) b)
        + ∑ b : Fin 256, F (hdN (64 * g.val + s) 1) (rowN (64 * g.val + s) b))
      = ∑ r : Fin 4, ∑ a : Fin 8192, F (hd g r) a := by
  have hg := g.isLt
  rw [← Fin.sum_univ_eq_sum_range (fun s => ∑ b : Fin 256, F (hdN (64 * g.val + s) 0) (rowN (64 * g.val + s) b)
        + ∑ b : Fin 256, F (hdN (64 * g.val + s) 1) (rowN (64 * g.val + s) b)) 64, Finset.sum_add_distrib]
  have key : ∀ u : Fin 2, ∑ s : Fin 64, ∑ b : Fin 256, F (hdN (64 * g.val + s.val) u) (rowN (64 * g.val + s.val) b)
      = ∑ o : Fin 2, ∑ a : Fin 8192, F (hd g ⟨2 * o.val + u.val, by have := o.isLt; have := u.isLt; omega⟩) a := by
    intro u
    refine Fin.sum_points_lanes_congr (A := 2) (L := 8192) 32
      (g := fun o a => F (hd g ⟨2 * o.val + u.val, by have := o.isLt; have := u.isLt; omega⟩) a) ?_
    intro t b ha hl
    have ht := t.isLt
    have hu := u.isLt
    have hb := b.isLt
    refine congrArg₂ F (Fin.ext ?_) (Fin.ext ?_)
    · show (2 * ((64 * g.val + t.val) / 32) + u.val) % 16 = g.val * 4 + (2 * (t.val / 32) + u.val)
      omega
    · show 256 * ((64 * g.val + t.val) % 32) + b.val = t.val % 32 * 256 + b.val
      omega
  rw [key 0, key 1, Fin.sum_univ_two, Fin.sum_univ_two, Fin.sum_univ_four]
  show _ + ∑ a, F (hd g 2) a + (_ + ∑ a, F (hd g 3) a) = _
  show ∑ a, F (hd g 0) a + _ + (∑ a, F (hd g 1) a + _) = _
  rw [add_add_add_comm, ← add_assoc]
end

end Cert.Attn
end
-- ==== Proof.Ref.lean ====
module
public import proofs.«01_k».proof.Proof.Scalar
public import proofs.«01_k».proof.Proof.Gen.ReferenceIdeal.Run
public import Idealize.ShloMosaic.Lib.Pointwise

/-! The reference's three results, entry by entry, as functions of the four arguments. -/

@[expose] public section
set_option maxRecDepth 16384
noncomputable section
namespace Cert.Attn.Ref
open Idealize.ShloMosaic Idealize.ShloMosaic.TcCoe Idealize.ShloMosaic.Tactic
open Idealize.SL Idealize.SL.Sem
open Cert.ReferenceIdeal Cert.ReferenceIdeal.Gen

/-- The reference's lines, stage by stage. -/
def S (Q : FVec Ideal S16x8192x64 .f32) (K : FVec Ideal S4x8192x64 .f32) : FVec Ideal S4x4x8192x8192 .f32 :=
  mulf (Host.dotGeneral dot_S4x4x8192x64_S4x8192x64_S4x4x8192x8192_3_2_12_1_0_0 none
      (shapeCast S4x4x8192x64 Q shapeCasts_S16x8192x64_S4x4x8192x64) K)
    (broadcastInDim S4x4x8192x8192 ![] bcast_S_S4x4x8192x8192 (constant S_ .f32 0x3E000000#32))
def R (S : FVec Ideal S4x4x8192x8192 .f32) : FVec Ideal S4x4x8192 .f32 :=
  Host.reduce FloatOps.maximumf S (constant S_ .f32 0xFF800000#32) reducesTo_S4x4x8192x8192_S4x4x8192_d3 h_S_
def M (R : FVec Ideal S4x4x8192 .f32) : FVec Ideal S4x4x8192x1 .f32 :=
  broadcastInDim S4x4x8192x1 ![0, 1, 2] bcast_S4x4x8192_S4x4x8192x1_0_1_2
    (maximumf (broadcastInDim S4x4x8192 ![] bcast_S_S4x4x8192 (constant S_ .f32 0xFF800000#32)) R)
def E (S : FVec Ideal S4x4x8192x8192 .f32) (M : FVec Ideal S4x4x8192x1 .f32) : FVec Ideal S4x4x8192x8192 .f32 :=
  Host.exp (subf S (broadcastInDim S4x4x8192x8192 ![0, 1, 2, 3] bcast_S4x4x8192x1_S4x4x8192x8192_0_1_2_3 M))
def L (E : FVec Ideal S4x4x8192x8192 .f32) : FVec Ideal S4x4x8192x1 .f32 :=
  broadcastInDim S4x4x8192x1 ![0, 1, 2] bcast_S4x4x8192_S4x4x8192x1_0_1_2
    (Host.reduceAdd E (constant S_ .f32 0x00000000#32) reducesTo_S4x4x8192x8192_S4x4x8192_d3 h_S_)
def P (E : FVec Ideal S4x4x8192x8192 .f32) (L : FVec Ideal S4x4x8192x1 .f32) : FVec Ideal S4x4x8192x8192 .f32 :=
  Host.divf E (broadcastInDim S4x4x8192x8192 ![0, 1, 2, 3] bcast_S4x4x8192x1_S4x4x8192x8192_0_1_2_3 L)
def A (D : FVec Ideal S16x8192x64 .f32) (W : FVec Ideal S4x8192x64 .f32) : FVec Ideal S4x4x8192x8192 .f32 :=
  Host.dotGeneral dot_S4x4x8192x64_S4x8192x64_S4x4x8192x8192_3_2_12_1_0_0 none
      (shapeCast S4x4x8192x64 D shapeCasts_S16x8192x64_S4x4x8192x64) W
def C (A E : FVec Ideal S4x4x8192x8192 .f32) (L : FVec Ideal S4x4x8192x1 .f32) : FVec Ideal S4x4x8192 .f32 :=
  Host.reduceAdd (Host.negf (shapeCast S4x4x8192x1 (Host.reduceAdd
    (mulf (mulf A (broadcastInDim S4x4x8192x8192 ![0, 1, 2, 3] bcast_S4x4x8192x1_S4x4x8192x8192_0_1_2_3
      (Host.divf (broadcastInDim S4x4x8192x1 ![] bcast_S_S4x4x8192x1 (constant S_ .f32 0x3F800000#32)) (mulf L L)))) E)
    (constant S_ .f32 0x00000000#32) reducesTo_S4x4x8192x8192_S4x4x8192_d3 h_S_) shapeCasts_S4x4x8192_S4x4x8192x1))
    (constant S_ .f32 0x00000000#32) reducesTo_S4x4x8192x1_S4x4x8192_d3 h_S_
def G (A E : FVec Ideal S4x4x8192x8192 .f32) (L : FVec Ideal S4x4x8192x1 .f32) (C : FVec Ideal S4x4x8192 .f32) :
    FVec Ideal S4x4x8192x8192 .f32 :=
  mulf (mulf (addf (Host.divf A (broadcastInDim S4x4x8192x8192 ![0, 1, 2, 3] bcast_S4x4x8192x1_S4x4x8192x8192_0_1_2_3 L))
      (broadcastInDim S4x4x8192x8192 ![0, 1, 2] bcast_S4x4x8192_S4x4x8192x8192_0_1_2 C)) E)
    (broadcastInDim S4x4x8192x8192 ![] bcast_S_S4x4x8192x8192 (constant S_ .f32 0x3E000000#32))
def Dq (G : FVec Ideal S4x4x8192x8192 .f32) (K : FVec Ideal S4x8192x64 .f32) : FVec Ideal S16x8192x64 .bf16 :=
  truncf .bf16 (shapeCast S16x8192x64 (Host.dotGeneral dot_S4x4x8192x8192_S4x8192x64_S4x4x8192x64_3_1_12_2_0_0 none G K)
    shapeCasts_S4x4x8192x64_S16x8192x64) bitsLt_bf16_f32
def Dk (G : FVec Ideal S4x4x8192x8192 .f32) (Q : FVec Ideal S16x8192x64 .f32) : FVec Ideal S4x2x64x4096 .f32 :=
  transpose S4x2x64x4096 [0, 1, 3, 2] (shapeCast S4x2x4096x64
    (Host.dotGeneral dot_S4x4x8192x8192_S4x4x8192x64_S4x8192x64_12_12_3_3_0_0 none G
      (shapeCast S4x4x8192x64 Q shapeCasts_S16x8192x64_S4x4x8192x64))
    shapeCasts_S4x8192x64_S4x2x4096x64) transposes_S4x2x4096x64_S4x2x64x4096_0_1_3_2
def Dv (D : FVec Ideal S16x8192x64 .f32) (P : FVec Ideal S4x4x8192x8192 .f32) : FVec Ideal S4x2x64x4096 .f32 :=
  transpose S4x2x64x4096 [0, 1, 3, 2] (shapeCast S4x2x4096x64
    (transpose S4x8192x64 [0, 2, 1] (Host.dotGeneral dot_S4x4x8192x64_S4x4x8192x8192_S4x64x8192_12_12_3_3_0_0 none
      (shapeCast S4x4x8192x64 D shapeCasts_S16x8192x64_S4x4x8192x64) P) transposes_S4x64x8192_S4x8192x64_0_2_1)
    shapeCasts_S4x8192x64_S4x2x4096x64) transposes_S4x2x4096x64_S4x2x64x4096_0_1_3_2

/-- A key row from its block and its place in the block, in the other order. -/
theorem kx_eq (j : Fin 2) (n : Fin 4096) {p} : (⟨j.val * 4096 + n.val, p⟩ : Fin 8192) = kx j n :=
  Fin.ext (by show j.val * 4096 + n.val = 4096 * j.val + n.val; omega)

theorem S_at (Q : FVec Ideal S16x8192x64 .f32) (K : FVec Ideal S4x8192x64 .f32) (g r : Fin 4) (q n : Fin 8192) :
    S Q K (ix4 g r q n)
      = (∑ d : Fin 64, Q (ix3 (hd g r) q d) * K (ix3 g n d)) * Ideal.ofBits FTy.f32 0x3E000000#32 := by
  pointwise [S]
  rfl

theorem R_at (S : FVec Ideal S4x4x8192x8192 .f32) (g r : Fin 4) (q : Fin 8192) :
    R S (ix3 g r q)
      = Finset.fold max (Ideal.ofBits FTy.f32 0xFF800000#32) (fun n => S (ix4 g r q n)) Finset.univ := by
  pointwise [R]

theorem M_at (R : FVec Ideal S4x4x8192 .f32) (g r : Fin 4) (q : Fin 8192) :
    M R (ix4 g r q 0) = max (Ideal.ofBits FTy.f32 0xFF800000#32) (R (ix3 g r q)) := by
  pointwise [M]

theorem E_at (S : FVec Ideal S4x4x8192x8192 .f32) (M : FVec Ideal S4x4x8192x1 .f32) (g r : Fin 4) (q n : Fin 8192) :
    E S M (ix4 g r q n) = Ideal.exp (S (ix4 g r q n) - M (ix4 g r q 0)) := by
  pointwise [E]

theorem L_at (E : FVec Ideal S4x4x8192x8192 .f32) (g r : Fin 4) (q : Fin 8192) :
    L E (ix4 g r q 0) = ∑ n : Fin 8192, E (ix4 g r q n) := by
  pointwise [L]

theorem P_at (E : FVec Ideal S4x4x8192x8192 .f32) (L : FVec Ideal S4x4x8192x1 .f32) (g r : Fin 4) (q n : Fin 8192) :
    P E L (ix4 g r q n) = Ideal.div (E (ix4 g r q n)) (L (ix4 g r q 0)) := by
  pointwise [P]

theorem A_at (D : FVec Ideal S16x8192x64 .f32) (W : FVec Ideal S4x8192x64 .f32) (g r : Fin 4) (q n : Fin 8192) :
    A D W (ix4 g r q n) = ∑ d : Fin 64, D (ix3 (hd g r) q d) * W (ix3 g n d) := by
  pointwise [A]
  rfl

theorem C_at (A E : FVec Ideal S4x4x8192x8192 .f32) (L : FVec Ideal S4x4x8192x1 .f32) (g r : Fin 4) (q : Fin 8192) :
    C A E L (ix3 g r q) = - ∑ n : Fin 8192, A (ix4 g r q n)
      * Ideal.div 1 (L (ix4 g r q 0) * L (ix4 g r q 0)) * E (ix4 g r q n) := by
  pointwise [C]
  exact Fin.sum_univ_one _

theorem G_at (A E : FVec Ideal S4x4x8192x8192 .f32) (L : FVec Ideal S4x4x8192x1 .f32) (C : FVec Ideal S4x4x8192 .f32)
    (g r : Fin 4) (q n : Fin 8192) :
    G A E L C (ix4 g r q n) = (Ideal.div (A (ix4 g r q n)) (L (ix4 g r q 0)) + C (ix3 g r q)) * E (ix4 g r q n)
      * Ideal.ofBits FTy.f32 0x3E000000#32 := by
  pointwise [G]

theorem Dq_at (G : FVec Ideal S4x4x8192x8192 .f32) (K : FVec Ideal S4x8192x64 .f32) (h : Fin 16) (q : Fin 8192) (d : Fin 64) :
    Dq G K (ix3 h q d)
      = ∑ n : Fin 8192, G (ix4 (kv h) ⟨h.val % 4, Nat.mod_lt _ (by decide)⟩ q n) * K (ix3 (kv h) n d) := by
  pointwise [Dq]
  rfl

theorem Dk_at (G : FVec Ideal S4x4x8192x8192 .f32) (Q : FVec Ideal S16x8192x64 .f32)
    (g : Fin 4) (j : Fin 2) (d : Fin 64) (n : Fin 4096) :
    Dk G Q (ix4 g j d n) = ∑ r : Fin 4, ∑ q : Fin 8192, G (ix4 g r q (kx j n)) * Q (ix3 (hd g r) q d) := by
  pointwise [Dk]
  exact Finset.sum_congr rfl fun r _ => Finset.sum_congr rfl fun q _ =>
    congrArg₂ (· * ·) (congrArg (fun z => G (ix4 g r q z)) (kx_eq j n)) rfl

theorem Dv_at (D : FVec Ideal S16x8192x64 .f32) (P : FVec Ideal S4x4x8192x8192 .f32)
    (g : Fin 4) (j : Fin 2) (d : Fin 64) (n : Fin 4096) :
    Dv D P (ix4 g j d n) = ∑ r : Fin 4, ∑ q : Fin 8192, D (ix3 (hd g r) q d) * P (ix4 g r q (kx j n)) := by
  pointwise [Dv]
  exact Finset.sum_congr rfl fun r _ => Finset.sum_congr rfl fun q _ =>
    congrArg₂ (· * ·) rfl (congrArg (fun z => P (ix4 g r q z)) (kx_eq j n))

variable (m : (ℓ : Loc nD τ sig) → Buf (Elt Ideal) ℓ) (c : Dev nD)

/-- The four arguments: the queries, keys, values and the gradient of the attention's result. -/
def kQ : FVec Ideal S16x8192x64 .f32 := m ((c.tc : Thread nD τ).loc main_arg0)
def kK : FVec Ideal S4x8192x64 .f32 := m ((c.tc : Thread nD τ).loc main_arg1)
def kV : FVec Ideal S4x8192x64 .f32 := m ((c.tc : Thread nD τ).loc main_arg2)
def kD : FVec Ideal S16x8192x64 .f32 := m ((c.tc : Thread nD τ).loc main_arg3)

/-- The stages of the arguments. -/
def hS := S (kQ m c) (kK m c)
def hM := M (R (hS m c))
def hE := E (hS m c) (hM m c)
def hL := L (hE m c)
def hA := A (kD m c) (kV m c)
def hC := C (hA m c) (hE m c) (hL m c)
def hG := G (hA m c) (hE m c) (hL m c) (hC m c)
def oq := Dq (hG m c) (kK m c)
def ok := Dk (hG m c) (kQ m c)
def ov := Dv (kD m c) (P (hE m c) (hL m c))

/-- Every run of the reference ends with the three staged results. -/
theorem run (ρ : Dev nD → PrngReg) :
    θ_run defs (onTc (τ := τ) (main (F := Ideal))) ⟨m, fun _ => 0, ρ⟩ fun r => ∀ c : Dev nD,
      r.2.mem ((c.tc : Thread nD τ).loc main_v55) = oq m c
      ∧ r.2.mem ((c.tc : Thread nD τ).loc main_v57) = ok m c
      ∧ r.2.mem ((c.tc : Thread nD τ).loc main_v59) = ov m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by unfold Value.res_main_v55; rfl),
    (h c).2.1.trans (by unfold Value.res_main_v57; rfl), (h c).2.2.1.trans rfl, (h c).2.2.2⟩)
    (Value.run m ρ)

end Cert.Attn.Ref
end
-- ==== Proof.Values.lean ====
module
public import proofs.«01_k».proof.Proof.Arrays
public import proofs.«01_k».proof.Proof.Host
public import proofs.«01_k».proof.Proof.Math
public import proofs.«01_k».proof.Proof.Ref

/-! At real arguments, the launch's three arrays and the reference's three results are the same real gradients. -/

@[expose] public section
set_option maxRecDepth 16384
noncomputable section
namespace Cert.Attn
open Idealize.ShloMosaic Idealize.ShloMosaic.TcCoe Idealize.ShloMosaic.Tactic
open Idealize.SL Idealize.SL.Sem

section
open Cert.KernelIdeal Cert.KernelIdeal.Gen
variable (m : (ℓ : Loc nD τ sig) → Buf (Elt Ideal) ℓ) (c : Dev nD)
  (q d : Fin 16 → Fin 8192 → Fin 64 → ℝ) (k w : Fin 4 → Fin 8192 → Fin 64 → ℝ)

theorem log2_pos : 0 < Real.log 2 := Real.log_pos (by norm_num)

theorem lit_log2 : Ideal.log (Ideal.ofBits FTy.f32 0x40000000#32) = ((Real.log 2 : ℝ) : EReal) := by
  rw [lit_two, log_coe' 2 (by norm_num)]

/-- The named constant is the natural logarithm of two. -/
theorem ln2_named : Named.named (F := Ideal) (φ := .f32) κ "ln_2" 0x3F317218#32 = ((Real.log 2 : ℝ) : EReal) :=
  IdealRules.named_const.ideal_named_scalar _ _ _ _ rfl

theorem aQ_real (hQ : fQ m c = up q) (h : Fin 16) (x : Fin 64) (a : Fin 8192) :
    aQ m c (ix3 h x a) = ((q h a x * (1 / 8) / Real.log 2 : ℝ) : EReal) := by
  have e : kQ m c (ix3 h a x) = ((q h a x : ℝ) : EReal) := congrFun (congrFun (congrFun hQ h) a) x
  rw [aQ_at, e, lit_log2, lit_eighth, ← EReal.coe_mul, div_coe' _ _ log2_pos.ne']

theorem aK_real (hK : fK m c = up k) (g : Fin 4) (n : Fin 8192) (x : Fin 64) :
    aK m c (ix3 g n x) = ((k g n x : ℝ) : EReal) :=
  (aK_at m c _).trans (congrFun (congrFun (congrFun hK g) n) x)

theorem aV_real (hW : fV m c = up w) (g : Fin 4) (n : Fin 8192) (x : Fin 64) :
    aV m c (ix3 g n x) = ((w g n x : ℝ) : EReal) :=
  (aV_at m c _).trans (congrFun (congrFun (congrFun hW g) n) x)

theorem aD_real (hD : fD m c = up d) (h : Fin 16) (a : Fin 8192) (x : Fin 64) :
    aD m c (ix3 h a x) = ((d h a x : ℝ) : EReal) :=
  (aD_at m c _).trans (congrFun (congrFun (congrFun hD h) a) x)

theorem aL_real (hQ : fQ m c = up q) (hK : fK m c = up k) (h : Fin 16) (a : Fin 8192) :
    aL m c (ix3 h 0 a) = (((mR q k h a + Real.log (lR q k h a)) / Real.log 2 : ℝ) : EReal) := by
  rw [aL_at, hQ, hK, mxE_up, smE_up, lit_log2, log_coe' _ (lR_pos q k h a), ← EReal.coe_add,
    div_coe' _ _ log2_pos.ne']

theorem aO_real (hQ : fQ m c = up q) (hK : fK m c = up k) (hW : fV m c = up w) (h : Fin 16) (x : Fin 64) (a : Fin 8192) :
    aO m c (ix3 h x a) = ((∑ n, pR q k h a n * w (kv h) n x : ℝ) : EReal) := by
  rw [aO_at, hQ, hK, hW, ← coe_sum]
  refine Finset.sum_congr rfl fun n _ => ?_
  rw [exE_up, smE_up, div_coe' _ _ (lR_pos q k h a).ne', EReal.coe_mul]
  rfl

theorem pA_real (hQ : fQ m c = up q) (hK : fK m c = up k) (h : Fin 16) (a n : Fin 8192) :
    pA (aQ m c) (aK m c) (aL m c) h a n = ((pR q k h a n : ℝ) : EReal) := by
  unfold pA
  have e : ∑ x : Fin 64, aQ m c (ix3 h x a) * aK m c (ix3 (kv h) n x)
      = ((∑ x, q h a x * (1 / 8) / Real.log 2 * k (kv h) n x : ℝ) : EReal) := by
    rw [← coe_sum]
    exact Finset.sum_congr rfl fun x _ => by rw [aQ_real m c q hQ, aK_real m c k hK, EReal.coe_mul]
  rw [e, aL_real m c q k hQ hK, ← EReal.coe_sub, ← exp2_lse]
  rfl

theorem dsA_real (hQ : fQ m c = up q) (hK : fK m c = up k) (hW : fV m c = up w) (hD : fD m c = up d)
    (h : Fin 16) (a n : Fin 8192) :
    dsA (aQ m c) (aK m c) (aV m c) (aO m c) (aD m c) (aL m c) h a n = ((gR q d k w h a n : ℝ) : EReal) := by
  unfold dsA
  have e1 : ∑ x : Fin 64, aD m c (ix3 h a x) * aV m c (ix3 (kv h) n x) = ((cR d w h a n : ℝ) : EReal) := by
    unfold cR
    rw [← coe_sum]
    exact Finset.sum_congr rfl fun x _ => by rw [aD_real m c d hD, aV_real m c w hW, EReal.coe_mul]
  have e2 : ∑ x : Fin 64, aD m c (ix3 h a x) * aO m c (ix3 h x a)
      = ((∑ n, pR q k h a n * cR d w h a n : ℝ) : EReal) := by
    rw [← delta_eq, ← coe_sum]
    exact Finset.sum_congr rfl fun x _ => by rw [aD_real m c d hD, aO_real m c q k w hQ hK hW, EReal.coe_mul]
  rw [e1, e2, pA_real m c q k hQ hK, ← EReal.coe_sub, ← EReal.coe_mul]
  rfl

theorem res6_real (hQ : fQ m c = up q) (hK : fK m c = up k) (hW : fV m c = up w) (hD : fD m c = up d)
    (h : Fin 16) (a : Fin 8192) (x : Fin 64) : res6 m c (ix3 h a x) = ((dqR q d k w h a x : ℝ) : EReal) := by
  show dqA (aQ m c) (aK m c) (aV m c) (aO m c) (aD m c) (aL m c) h a x = _
  unfold dqA dqR
  refine (congrArg (· * _) (sum_kx fun n => dsA (aQ m c) (aK m c) (aV m c) (aO m c) (aD m c) (aL m c) h a n
    * aK m c (ix3 (kv h) n x))).trans ?_
  rw [lit_eighth, EReal.coe_mul, ← coe_sum]
  refine congrArg (· * _) (Finset.sum_congr rfl fun n _ => ?_)
  rw [dsA_real m c q d k w hQ hK hW hD, aK_real m c k hK, EReal.coe_mul]

theorem res8_real (hQ : fQ m c = up q) (hK : fK m c = up k) (hD : fD m c = up d)
    (g : Fin 4) (j : Fin 2) (x : Fin 64) (n : Fin 4096) :
    res8 m c (ix4 g j x n) = ((dvR q d k g (kx j n) x : ℝ) : EReal) := by
  show ∑ s ∈ Finset.range 64, dvT (aQ m c) (aK m c) (aD m c) (aL m c) (64 * g.val + s) x (kx j n) = _
  unfold dvT dvR
  refine (sum_points (fun h a => aD m c (ix3 h a x) * pA (aQ m c) (aK m c) (aL m c) h a (kx j n)) g).trans ?_
  rw [← coe_sum]
  refine Finset.sum_congr rfl fun r _ => ?_
  rw [← coe_sum]
  refine Finset.sum_congr rfl fun a _ => ?_
  rw [aD_real m c d hD, pA_real m c q k hQ hK, EReal.coe_mul]

theorem res7_real (hQ : fQ m c = up q) (hK : fK m c = up k) (hW : fV m c = up w) (hD : fD m c = up d)
    (g : Fin 4) (j : Fin 2) (x : Fin 64) (n : Fin 4096) :
    res7 m c (ix4 g j x n) = ((dkR q d k w g (kx j n) x : ℝ) : EReal) := by
  show (∑ s ∈ Finset.range 64, dkT (aQ m c) (aK m c) (aV m c) (aO m c) (aD m c) (aL m c) (64 * g.val + s) x (kx j n))
    * Named.named (F := Ideal) (φ := .f32) κ "ln_2" 0x3F317218#32 = _
  unfold dkT
  refine (congrArg (· * _) (sum_points (fun h a => aQ m c (ix3 h x a)
    * dsA (aQ m c) (aK m c) (aV m c) (aO m c) (aD m c) (aL m c) h a (kx j n)) g)).trans ?_
  have e : ∑ r : Fin 4, ∑ a : Fin 8192, aQ m c (ix3 (hd g r) x a)
      * dsA (aQ m c) (aK m c) (aV m c) (aO m c) (aD m c) (aL m c) (hd g r) a (kx j n)
      = ((dkR q d k w g (kx j n) x / Real.log 2 : ℝ) : EReal) := by
    have e' : dkR q d k w g (kx j n) x / Real.log 2 = ∑ r : Fin 4, ∑ a : Fin 8192,
        q (hd g r) a x * (1 / 8) / Real.log 2 * gR q d k w (hd g r) a (kx j n) := by
      unfold dkR
      rw [Finset.sum_mul, Finset.sum_div]
      refine Finset.sum_congr rfl fun r _ => ?_
      rw [Finset.sum_mul, Finset.sum_div]
      exact Finset.sum_congr rfl fun a _ => by ring
    rw [e', ← coe_sum]
    refine Finset.sum_congr rfl fun r _ => ?_
    rw [← coe_sum]
    refine Finset.sum_congr rfl fun a _ => ?_
    rw [aQ_real m c q hQ, dsA_real m c q d k w hQ hK hW hD, EReal.coe_mul]
  show (∑ r : Fin 4, ∑ a : Fin 8192, aQ m c (ix3 (hd g r) x a)
      * dsA (aQ m c) (aK m c) (aV m c) (aO m c) (aD m c) (aL m c) (hd g r) a (kx j n)) * _ = _
  rw [e, ln2_named, ← EReal.coe_mul, div_mul_cancel₀ _ log2_pos.ne']
end

namespace Ref
open Cert.ReferenceIdeal Cert.ReferenceIdeal.Gen
variable (m : (ℓ : Loc nD τ sig) → Buf (Elt Ideal) ℓ) (c : Dev nD)
  (q d : Fin 16 → Fin 8192 → Fin 64 → ℝ) (k w : Fin 4 → Fin 8192 → Fin 64 → ℝ)

/-- The arguments as functions of single coordinates. -/
abbrev fQ : Fin 16 → Fin 8192 → Fin 64 → EReal := fun h q d => kQ m c (ix3 h q d)
abbrev fK : Fin 4 → Fin 8192 → Fin 64 → EReal := fun g n d => kK m c (ix3 g n d)
abbrev fV : Fin 4 → Fin 8192 → Fin 64 → EReal := fun g n d => kV m c (ix3 g n d)
abbrev fD : Fin 16 → Fin 8192 → Fin 64 → EReal := fun h q d => kD m c (ix3 h q d)

theorem hS_at (g r : Fin 4) (q n : Fin 8192) : hS m c (ix4 g r q n) = scE (fQ m c) (fK m c) (hd g r) q n := by
  unfold hS scE
  rw [S_at, kv_hd]

theorem hM_at (g r : Fin 4) (q : Fin 8192) : hM m c (ix4 g r q 0) = mxE (fQ m c) (fK m c) (hd g r) q := by
  unfold hM
  rw [M_at, R_at, lit_bot, max_eq_right bot_le]
  unfold mxE
  rw [lit_bot]
  exact congrArg (fun f => Finset.fold max _ f Finset.univ) (funext fun n => hS_at m c g r q n)

theorem hE_at (g r : Fin 4) (q n : Fin 8192) : hE m c (ix4 g r q n) = exE (fQ m c) (fK m c) (hd g r) q n := by
  unfold hE exE
  rw [E_at, hS_at, hM_at]

theorem hL_at (g r : Fin 4) (q : Fin 8192) : hL m c (ix4 g r q 0) = smE (fQ m c) (fK m c) (hd g r) q := by
  unfold hL smE
  rw [L_at]
  exact Finset.sum_congr rfl fun n _ => hE_at m c g r q n

theorem hE_real (hQ : fQ m c = up q) (hK : fK m c = up k) (g r : Fin 4) (a n : Fin 8192) :
    hE m c (ix4 g r a n) = ((eR q k (hd g r) a n : ℝ) : EReal) := by
  rw [hE_at, hQ, hK, exE_up]

theorem hL_real (hQ : fQ m c = up q) (hK : fK m c = up k) (g r : Fin 4) (a : Fin 8192) :
    hL m c (ix4 g r a 0) = ((lR q k (hd g r) a : ℝ) : EReal) := by
  rw [hL_at, hQ, hK, smE_up]

theorem hA_real (hW : fV m c = up w) (hD : fD m c = up d) (g r : Fin 4) (a n : Fin 8192) :
    hA m c (ix4 g r a n) = ((cR d w (hd g r) a n : ℝ) : EReal) := by
  unfold hA cR
  rw [A_at, ← coe_sum]
  refine Finset.sum_congr rfl fun x _ => ?_
  have e1 : kD m c (ix3 (hd g r) a x) = ((d (hd g r) a x : ℝ) : EReal) := congrFun (congrFun (congrFun hD _) a) x
  have e2 : kV m c (ix3 g n x) = ((w g n x : ℝ) : EReal) := congrFun (congrFun (congrFun hW g) n) x
  rw [e1, e2, kv_hd, EReal.coe_mul]

theorem hC_real (hQ : fQ m c = up q) (hK : fK m c = up k) (hW : fV m c = up w) (hD : fD m c = up d)
    (g r : Fin 4) (a : Fin 8192) :
    hC m c (ix3 g r a) = ((-∑ b, cR d w (hd g r) a b * (1 / (lR q k (hd g r) a * lR q k (hd g r) a)) * eR q k (hd g r) a b : ℝ) : EReal) := by
  have hl := (lR_pos q k (hd g r) a).ne'
  unfold hC
  rw [C_at, EReal.coe_neg, ← coe_sum]
  refine congrArg Neg.neg (Finset.sum_congr rfl fun b _ => ?_)
  rw [hA_real m c d w hW hD, hL_real m c q k hQ hK, hE_real m c q k hQ hK, ← EReal.coe_mul, ← EReal.coe_one,
    div_coe' _ _ (mul_ne_zero hl hl), EReal.coe_mul, EReal.coe_mul]

theorem hG_real (hQ : fQ m c = up q) (hK : fK m c = up k) (hW : fV m c = up w) (hD : fD m c = up d)
    (g r : Fin 4) (a n : Fin 8192) :
    hG m c (ix4 g r a n) = ((gR q d k w (hd g r) a n * (1 / 8) : ℝ) : EReal) := by
  have hl := (lR_pos q k (hd g r) a).ne'
  unfold hG
  rw [G_at, hA_real m c d w hW hD, hL_real m c q k hQ hK, hE_real m c q k hQ hK, hC_real m c q d k w hQ hK hW hD,
    div_coe' _ _ hl, ← EReal.coe_add, ← EReal.coe_mul, lit_eighth, ← EReal.coe_mul, quotient_rule]

theorem oq_real (hQ : fQ m c = up q) (hK : fK m c = up k) (hW : fV m c = up w) (hD : fD m c = up d)
    (h : Fin 16) (a : Fin 8192) (x : Fin 64) : oq m c (ix3 h a x) = ((dqR q d k w h a x : ℝ) : EReal) := by
  unfold oq dqR
  rw [Dq_at, Finset.sum_mul, ← coe_sum]
  refine Finset.sum_congr rfl fun n _ => ?_
  have e : kK m c (ix3 (kv h) n x) = ((k (kv h) n x : ℝ) : EReal) := congrFun (congrFun (congrFun hK _) n) x
  rw [hG_real m c q d k w hQ hK hW hD, hd_kv, e, ← EReal.coe_mul, mul_right_comm]

theorem ok_real (hQ : fQ m c = up q) (hK : fK m c = up k) (hW : fV m c = up w) (hD : fD m c = up d)
    (g : Fin 4) (j : Fin 2) (x : Fin 64) (n : Fin 4096) :
    ok m c (ix4 g j x n) = ((dkR q d k w g (kx j n) x : ℝ) : EReal) := by
  unfold ok dkR
  rw [Dk_at, Finset.sum_mul, ← coe_sum]
  refine Finset.sum_congr rfl fun r _ => ?_
  rw [Finset.sum_mul, ← coe_sum]
  refine Finset.sum_congr rfl fun a _ => ?_
  have e : kQ m c (ix3 (hd g r) a x) = ((q (hd g r) a x : ℝ) : EReal) := congrFun (congrFun (congrFun hQ _) a) x
  rw [hG_real m c q d k w hQ hK hW hD, e, ← EReal.coe_mul]
  exact congrArg _ (by ring)

theorem ov_real (hQ : fQ m c = up q) (hK : fK m c = up k) (hD : fD m c = up d)
    (g : Fin 4) (j : Fin 2) (x : Fin 64) (n : Fin 4096) :
    ov m c (ix4 g j x n) = ((dvR q d k g (kx j n) x : ℝ) : EReal) := by
  unfold ov dvR
  rw [Dv_at, ← coe_sum]
  refine Finset.sum_congr rfl fun r _ => ?_
  rw [← coe_sum]
  refine Finset.sum_congr rfl fun a _ => ?_
  have e : kD m c (ix3 (hd g r) a x) = ((d (hd g r) a x : ℝ) : EReal) := congrFun (congrFun (congrFun hD _) a) x
  rw [P_at, hE_real m c q k hQ hK, hL_real m c q k hQ hK, div_coe' _ _ (lR_pos q k _ a).ne', e, ← EReal.coe_mul]
  rfl
end Ref

end Cert.Attn
end
-- ==== Proof.Final.lean ====
module
public import proofs.«01_k».proof.Defs
public import proofs.«01_k».proof.Proof.Pre
public import proofs.«01_k».proof.Proof.Values
public import proofs.«01_k».proof.Proof.Gen.KernelIdeal.Value

/-! The kernel's three results are the reference's, at finite arguments. -/

@[expose] public section
set_option maxRecDepth 16384
noncomputable section
namespace Cert.Attn
open Idealize.ShloMosaic Idealize.ShloMosaic.TcCoe Idealize.ShloMosaic.Tactic
open Idealize.SL Idealize.SL.Sem

theorem algebraic : Cert.algebraic_KernelIdeal_ReferenceIdeal_pre_finite := by
  intro m g m' g' hpre hagree
  have hvals : ∀ c : Dev Cert.KernelIdeal.nD, Ref.oq m' c = res6 m c ∧ Ref.ok m' c = res7 m c ∧ Ref.ov m' c = res8 m c := by
    intro c
    obtain ⟨g0, g1, g2, g3⟩ := hagree c
    obtain ⟨r0, r1, r2, r3⟩ := Pre.reals _ _ _ _ (hpre c)
    choose q hq using fun (h : Fin 16) (a : Fin 8192) (x : Fin 64) => r0 (ix3 h a x)
    choose k hk using fun (h : Fin 4) (a : Fin 8192) (x : Fin 64) => r1 (ix3 h a x)
    choose w hw using fun (h : Fin 4) (a : Fin 8192) (x : Fin 64) => r2 (ix3 h a x)
    choose d hd using fun (h : Fin 16) (a : Fin 8192) (x : Fin 64) => r3 (ix3 h a x)
    have kQ : fQ m c = up q := funext fun h => funext fun a => funext fun x => hq h a x
    have kK : fK m c = up k := funext fun h => funext fun a => funext fun x => hk h a x
    have kW : fV m c = up w := funext fun h => funext fun a => funext fun x => hw h a x
    have kD : fD m c = up d := funext fun h => funext fun a => funext fun x => hd h a x
    have sQ : Ref.fQ m' c = up q := funext fun h => funext fun a => funext fun x => (congrFun g0 _).trans (hq h a x)
    have sK : Ref.fK m' c = up k := funext fun h => funext fun a => funext fun x => (congrFun g1 _).trans (hk h a x)
    have sW : Ref.fV m' c = up w := funext fun h => funext fun a => funext fun x => (congrFun g2 _).trans (hw h a x)
    have sD : Ref.fD m' c = up d := funext fun h => funext fun a => funext fun x => (congrFun g3 _).trans (hd h a x)
    refine ⟨funext fun i => ?_, funext fun i => ?_, funext fun i => ?_⟩
    · rw [eq_ix3 i]
      exact (Ref.oq_real m' c q d k w sQ sK sW sD _ _ _).trans (res6_real m c q d k w kQ kK kW kD _ _ _).symm
    · rw [eq_ix4 i]
      exact (Ref.ok_real m' c q d k w sQ sK sW sD _ _ _ _).trans (res7_real m c q d k w kQ kK kW kD _ _ _ _).symm
    · rw [eq_ix4 i]
      exact (Ref.ov_real m' c q d k sQ sK sD _ _ _ _).trans (res8_real m c q d k kQ kK kD _ _ _ _).symm
  refine ⟨fun c => res6 m c, fun c => res7 m c, fun c => res8 m c, ?_, ?_⟩
  · exact (θ_run _ _ _).mono (fun r h c => ⟨(h c).1.trans (final6 m c), (h c).2.1.trans (final7 m c),
      (h c).2.2.1.trans (final8 m c), (h c).2.2.2⟩) (Cert.KernelIdeal.Value.run_blocks m g)
  · exact (θ_run _ _ _).mono (fun r h c => ⟨(h c).1.trans (hvals c).1, (h c).2.1.trans (hvals c).2.1,
      (h c).2.2.1.trans (hvals c).2.2, (h c).2.2.2⟩) (Ref.run m' g')

end Cert.Attn
end
-- ==== Proof.Tiles.lean ====
module
public import Idealize.ShloMosaic.Lib.Pipeline.ValueKit
public import Idealize.ShloMosaic.Lib.Pointwise

/-! Sums over tiles: what an accumulator holds that is reset at every `K`-th grid point and added to at the others, and
the sum over the tiles as the sum over the whole axis. Used for every tiled product. -/

@[expose] public section
noncomputable section
namespace Cert.Tiles
open Idealize.ShloMosaic

theorem zeros2 : (![0, 0] : Fin 2 → Nat) = fun _ => 0 := funext fun a => by fin_cases a <;> rfl

/-- An index is the pair of its two places. -/
theorem ix2_of {n0 n1 : ℕ} (i : (⟨2, ![n0, n1]⟩ : Shape).Idx) (r : Fin n0) (d : Fin n1) (h0 : (i 0).val = r.val)
    (h1 : (i 1).val = d.val) : i = ix2 r d :=
  (eq_ix2 i).trans (congrArg₂ ix2 (Fin.ext h0) (Fin.ext h1))

/-- A value reset at every `K`-th point and added to at the others is the sum of what its run's points added. -/
theorem fold_sum (K N : ℕ) (S : (n : ℕ) → n < N → EReal) (P : ℕ → EReal) (hK : 0 < K)
    (h0 : ∀ n h, n % K = 0 → S n h = P n)
    (hs : ∀ n h h', n % K ≠ 0 → S n h = S (n - 1) h' + P n) (n : ℕ) (h : n < N) :
    S n h = ∑ s ∈ Finset.range (n % K + 1), P (K * (n / K) + s) := by
  induction n with
  | zero => rw [h0 0 h (Nat.zero_mod K)]; simp
  | succ n ih =>
    by_cases hz : (n + 1) % K = 0
    · rw [h0 _ h hz, hz, Finset.sum_range_one, add_zero]
      exact congrArg P (Nat.mul_div_cancel' (Nat.dvd_of_mod_eq_zero hz)).symm
    · have hd := Nat.div_add_mod (n + 1) K
      have hl := Nat.mod_lt (n + 1) hK
      have hq : n / K = (n + 1) / K := by
        apply Nat.div_eq_of_lt_le
        · rw [Nat.mul_comm]; omega
        · rw [Nat.mul_comm, Nat.mul_add, Nat.mul_one]; omega
      have hr : n % K + 1 = (n + 1) % K := by
        have := Nat.div_add_mod n K
        rw [hq] at this; omega
      have hl' : n < N := Nat.lt_of_succ_lt h
      refine (hs (n + 1) h hl' hz).trans ?_
      show S n hl' + P (n + 1) = _
      rw [ih hl', hr, hq, Finset.sum_range_succ, hd]

/-- The sum over the tiles of an axis is the sum over the axis. -/
theorem sum_tiles (K L : ℕ) (f : Fin (K * L) → EReal) (P : ℕ → EReal)
    (hP : ∀ s (hs : s < K), P s = ∑ k : Fin L, f ⟨s * L + k.val, by
      calc s * L + k.val < s * L + L := Nat.add_lt_add_left k.isLt _
        _ = (s + 1) * L := (Nat.succ_mul s L).symm
        _ ≤ K * L := Nat.mul_le_mul_right _ hs⟩) :
    ∑ s ∈ Finset.range K, P s = ∑ n, f n := by
  rw [← Fin.sum_mul_add_fin K L f, Finset.sum_range]
  exact Finset.sum_congr rfl fun s _ => hP s.val s.isLt

end Cert.Tiles
end
-- ==== Proof.GateUpGrad.lean ====
module
public import proofs.«01_k».proof.Proof.Tiles
public import proofs.«01_k».proof.Proof.Pre
public import proofs.«01_k».proof.Proof.Math
public import proofs.«01_k».proof.Defs
public import proofs.«01_k».proof.Proof.Gen.Kernel2Ideal.Value
public import proofs.«01_k».proof.Proof.Gen.Reference2Ideal.Run
public import Idealize.ShloMosaic.Lib.IdealHost

/-! The backward call of the gated network's activation: with `d` an entry of the gradient of the activation, the
gradient of the up product is `d · silu(gate)` and that of the gate product `d · up · silu'(gate)`. -/

@[expose] public section
set_option maxRecDepth 16384
noncomputable section
namespace Cert.GateUpGrad

section
open Idealize.ShloMosaic

/-- The two gradients at an entry, as the kernel writes them. -/
def dGate (d g u : EReal) : EReal := d * u * (Ideal.logistic g + g * Ideal.logistic g * (1 - Ideal.logistic g))
def dUp (d g : EReal) : EReal := d * (g * Ideal.logistic g)

theorem logistic_coe (g : ℝ) : Ideal.logistic (g : EReal) = ((1 / (1 + Real.exp (-g)) : ℝ) : EReal) := by
  have h : (1 : EReal) + Ideal.exp (-(g : EReal)) = ((1 + Real.exp (-g) : ℝ) : EReal) := by
    rw [← EReal.coe_neg, Ideal.exp_coe, EReal.coe_add, EReal.coe_one]
  unfold Ideal.logistic
  rw [h, Ideal.div_coe (by positivity), one_mul]

theorem logistic_top : Ideal.logistic ⊤ = 1 := by
  unfold Ideal.logistic
  rw [EReal.neg_top, Ideal.exp_bot, add_zero]
  have h := Ideal.div_coe (y := 1) one_ne_zero (1 : EReal)
  rw [EReal.coe_one] at h
  rw [h]
  simp

theorem logistic_bot : Ideal.logistic ⊥ = 0 := by
  unfold Ideal.logistic
  rw [EReal.neg_bot, Ideal.exp_top]
  have h : (1 : EReal) + ⊤ = ⊤ := EReal.add_top_of_ne_bot (by decide)
  rw [h, Ideal.div, if_neg (by simp), EReal.inv_top, mul_zero]

/-- The reference keeps the two terms of silu's derivative apart: with real `d` and `u` their sum is the product. -/
theorem dGate_eq (d u : ℝ) (g : EReal) :
    (d : EReal) * u * Ideal.logistic g + g * ((d : EReal) * u) * (Ideal.logistic g * (1 - Ideal.logistic g))
      = dGate d g u := by
  unfold dGate
  induction g with
  | bot => rw [logistic_bot]; simp
  | top =>
    have h : (1 : EReal) - 1 = 0 := by
      rw [← EReal.coe_one, ← EReal.coe_sub, sub_self, EReal.coe_zero]
    rw [logistic_top, h]
    simp
  | coe g =>
    rw [logistic_coe]
    generalize 1 / (1 + Real.exp (-g)) = s
    have e : (1 : EReal) = ((1 : ℝ) : EReal) := rfl
    rw [e]
    norm_cast
    ring

/-- A finite sum of products of real numbers is real. -/
theorem sum_real {n : ℕ} (f g : Fin n → EReal) (hf : ∀ k, ∃ r : ℝ, f k = (r : EReal)) (hg : ∀ k, ∃ r : ℝ, g k = (r : EReal)) :
    ∃ r : ℝ, ∑ k, f k * g k = (r : EReal) := by
  choose a ha using hf
  choose b hb using hg
  refine ⟨∑ k, a k * b k, ?_⟩
  rw [← Cert.Attn.coe_sum]
  exact Finset.sum_congr rfl fun k _ => by rw [ha, hb, EReal.coe_mul]

theorem dUp_eq (d g : EReal) : g * Ideal.logistic g * d = dUp d g := mul_comm _ _

end

namespace Pre
open Idealize.ShloMosaic Idealize.ShloMosaic.Tactic
open Cert.Pre_finite2

instance facts : Cert.Pre_finite2.Facts where
  bcast_S_S8192x1024 := by decide
  reducesTo_S8192x1024_S_d0_1 := by decide
  h_S_ := by decide
  bitsLt_bf16_f32 := by decide
  bcast_S_S2816x1024 := by decide
  reducesTo_S2816x1024_S_d0_1 := by decide
  bcast_S_S8192x2816 := by decide
  reducesTo_S8192x2816_S_d0_1 := by decide

/-- An array all of whose absolute values are below the infinite one has real entries. -/
theorem all_real {S : Shape} (x : FVec Ideal S .f32) {hb : S_.BroadcastsInDim S (![] : Fin 0 → Fin S.rank)}
    {dims : List (Fin S.rank)} (hr : S.ReducesTo dims S_) (hs : 0 < S_.numel)
    (h : Host.reduce IntOp.andi (cmpf .olt (Host.absf x) (broadcastInDim S ![] hb (constant S_ .f32 0x7F800000#32)))
      (constantI S_ 1 1#1) hr hs ix0 = 1#1)
    (i : S.Idx) : ∃ r : ℝ, x i = (r : EReal) := by
  have h1 := Host.reduce_andi_all _ _ _ _ _ h i
  exact Cert.Attn.Pre.real_of_lt _ h1

/-- The precondition gives three arrays of real numbers. -/
theorem reals (x0 : FVec Ideal S8192x1024 .f32) (x1 : FVec Ideal S2816x1024 .bf16) (x2 x3 : FVec Ideal S8192x2816 .bf16)
    (h : fn (F := Ideal) x0 x1 x2 x3 = fun _ => 1#1) :
    (∀ i, ∃ r : ℝ, x0 i = (r : EReal)) ∧ (∀ i, ∃ r : ℝ, x1 i = (r : EReal)) ∧ ∀ i, ∃ r : ℝ, x3 i = (r : EReal) := by
  have h0 := congrFun h ix0
  dsimp only [fn] at h0
  obtain ⟨h0, h3⟩ := Cert.Attn.Pre.and_one _ _ h0
  obtain ⟨h0, h1⟩ := Cert.Attn.Pre.and_one _ _ h0
  exact ⟨all_real x0 Facts.reducesTo_S8192x1024_S_d0_1 Facts.h_S_ h0,
    all_real (extf .f32 x1 Facts.bitsLt_bf16_f32) Facts.reducesTo_S2816x1024_S_d0_1 Facts.h_S_ h1,
    all_real (extf .f32 x3 Facts.bitsLt_bf16_f32) Facts.reducesTo_S8192x2816_S_d0_1 Facts.h_S_ h3⟩

end Pre

namespace Ref
open Idealize.ShloMosaic Idealize.ShloMosaic.TcCoe Idealize.ShloMosaic.Tactic
open Idealize.SL Idealize.SL.Sem
open Cert.Reference2Ideal Cert.Reference2Ideal.Gen

/-- The gradient of the activation. -/
def dAct (D : FVec Ideal S8192x1024 .f32) (W : FVec Ideal S2816x1024 .bf16) : FVec Ideal S8192x2816 .f32 :=
  Host.dotGeneral dot_S8192x1024_S2816x1024_S8192x2816_1_1_0_0_n_n none D (extf .f32 W bitsLt_bf16_f32)

theorem dAct_at (D : FVec Ideal S8192x1024 .f32) (W : FVec Ideal S2816x1024 .bf16) (r : Fin 8192) (d : Fin 2816) :
    dAct D W (ix2 r d) = ∑ k : Fin 1024, D (ix2 r k) * W (ix2 d k) := by
  pointwise [dAct]

/-- The sigmoid of the gate, as the reference writes it. -/
def sig (G : FVec Ideal S8192x2816 .f32) : FVec Ideal S8192x2816 .f32 :=
  Host.divf (broadcastInDim S8192x2816 ![] bcast_S_S8192x2816 (constant S_ .f32 0x3F800000#32))
    (addf (broadcastInDim S8192x2816 ![] bcast_S_S8192x2816 (constant S_ .f32 0x3F800000#32)) (Host.exp (Host.negf G)))

theorem sig_at (G : FVec Ideal S8192x2816 .f32) (i : S8192x2816.Idx) : sig G i = Ideal.logistic (G i) := by
  pointwise [sig, Ideal.logistic]

theorem dGate_at (D G U : FVec Ideal S8192x2816 .f32) (i : S8192x2816.Idx) :
    addf (mulf (mulf D U) (sig G)) (mulf (mulf G (mulf D U)) (mulf (sig G)
      (subf (broadcastInDim S8192x2816 ![] bcast_S_S8192x2816 (constant S_ .f32 0x3F800000#32)) (sig G)))) i
      = D i * U i * Ideal.logistic (G i) + G i * (D i * U i) * (Ideal.logistic (G i) * (1 - Ideal.logistic (G i))) := by
  rw [← sig_at G i]
  pointwise

/-- The gradient of the gate product, when the three other arguments are real. -/
theorem gate_val (D : FVec Ideal S8192x1024 .f32) (W : FVec Ideal S2816x1024 .bf16) (G U : FVec Ideal S8192x2816 .f32)
    (hD : ∀ i, ∃ x : ℝ, D i = (x : EReal)) (hW : ∀ i, ∃ x : ℝ, W i = (x : EReal)) (hU : ∀ i, ∃ x : ℝ, U i = (x : EReal))
    (r : Fin 8192) (d : Fin 2816) :
    dAct D W (ix2 r d) * U (ix2 r d) * Ideal.logistic (G (ix2 r d))
      + G (ix2 r d) * (dAct D W (ix2 r d) * U (ix2 r d)) * (Ideal.logistic (G (ix2 r d)) * (1 - Ideal.logistic (G (ix2 r d))))
      = dGate (∑ k : Fin 1024, D (ix2 r k) * W (ix2 d k)) (G (ix2 r d)) (U (ix2 r d)) := by
  obtain ⟨x, hx⟩ := sum_real (fun k => D (ix2 r k)) (fun k => W (ix2 d k)) (fun k => hD _) (fun k => hW _)
  obtain ⟨u, hu⟩ := hU (ix2 r d)
  have hx' : ∑ k : Fin 1024, D (ix2 r k) * W (ix2 d k) = (x : EReal) := hx
  rw [dAct_at, hx', hu]
  exact dGate_eq x u _

theorem dUp_at (D G : FVec Ideal S8192x2816 .f32) (i : S8192x2816.Idx) :
    mulf (mulf G (sig G)) D i = G i * Ideal.logistic (G i) * D i := by
  rw [← sig_at G i]
  pointwise

end Ref

open Idealize.ShloMosaic Idealize.ShloMosaic.TcCoe Idealize.ShloMosaic.Tactic
open Idealize.SL Idealize.SL.Sem
open Cert.Kernel2Ideal Cert.Kernel2Ideal.Gen Cert.Tiles

theorem pay2_at (a : Vec Ideal S1024x1024 .f32) (b : Vec Ideal S1408x1024 .bf16) (r : Fin 1024) (d : Fin 1408) :
    k0_pay2 (F := Ideal) (k0_pay1 (F := Ideal)) a b (ix2 r d) = ∑ k : Fin 1024, a (ix2 r k) * b (ix2 d k) := by
  have h0 : k0_pay1 (F := Ideal) (ix2 r d) = (0 : EReal) := by pointwise [k0_pay1]
  have h : ∀ v, k0_pay2 (F := Ideal) v a b (ix2 r d) = v (ix2 r d) + ∑ k : Fin 1024, a (ix2 r k) * b (ix2 d k) := by
    intro v
    pointwise [k0_pay2]
  rw [h, h0, zero_add]

theorem pay5_at (v : Vec Ideal S1024x1408 .f32) (g u : Vec Ideal S1024x1408 .bf16) (r : Fin 1024) (d : Fin 1408) :
    k0_pay5 (F := Ideal) v g u (ix2 r d) = dGate (v (ix2 r d)) (g (ix2 r d)) (u (ix2 r d)) := by
  pointwise [k0_pay5, k0_pay4, k0_pay3]
  rfl

theorem pay6_at (v : Vec Ideal S1024x1408 .f32) (g : Vec Ideal S1024x1408 .bf16) (r : Fin 1024) (d : Fin 1408) :
    k0_pay6 (F := Ideal) v g (ix2 r d) = dUp (v (ix2 r d)) (g (ix2 r d)) := by
  pointwise [k0_pay6, k0_pay4, k0_pay3]
  rfl

section
variable (c : Dev nD) (i : grid0.Coords)
  (arg3 : Memref sig .tc .vmem S1024x1024 .f32) (h3 : arg3.IsWhole)
  (arg4 : Memref sig .tc .vmem S1408x1024 .bf16) (h4 : arg4.IsWhole)
  (arg5 : Memref sig .tc .vmem S1024x1408 .bf16) (h5 : arg5.IsWhole)
  (arg6 : Memref sig .tc .vmem S1024x1408 .bf16) (h6 : arg6.IsWhole)
  (arg7 : Memref sig .tc .vmem S1024x1408 .bf16) (h7 : arg7.IsWhole)
  (arg8 : Memref sig .tc .vmem S1024x1408 .bf16) (h8 : arg8.IsWhole)
  (arg9 : Memref sig .tc .vmem S1024x1408 .f32) (h9 : arg9.IsWhole)
  (a : Vec Ideal S1024x1024 .f32) (b : Vec Ideal S1408x1024 .bf16) (g u : Vec Ideal S1024x1408 .bf16)

theorem out_4 (hc0 : cond0_0 i) (hc1 : cond0_1 i) :
    out0_A_4 (F := Ideal) c i arg3 h3 arg4 h4 arg5 h5 arg6 h6 arg7 h7 arg8 h8 arg9 h9 hc0 hc1 a b g u
      = k0_pay5 (F := Ideal) (k0_pay2 (k0_pay1 (F := Ideal)) a b) g u := by
  unfold out0_A_4
  rw [View.read_writes_eq_canon _ _ _
    (cover0_A_4 c i arg3 h3 arg4 h4 arg5 h5 arg6 h6 arg7 h7 arg8 h8 arg9 h9 hc0 hc1 a b g u)]
  unfold kernelRun0_A
  dsimp only
  sl_unfold_words
  rw [View.canon_unit_zero zeros2]
  simp only [View.readAt_eq_ld, h3.read_unread, h4.read_unread, h5.read_unread, h6.read_unread,
    View.readCov_cons_unit_lit' (S := S1024x1408) _ _ _ _ _ (congrFun zeros2) (congrFun zeros2),
    View.ld_unit_zero (S := S1024x1024) zeros2, View.ld_unit_zero (S := S1408x1024) zeros2,
    View.ld_unit_zero (S := S1024x1408) zeros2]

theorem out_5 (hc0 : cond0_0 i) (hc1 : cond0_1 i) :
    out0_A_5 (F := Ideal) c i arg3 h3 arg4 h4 arg5 h5 arg6 h6 arg7 h7 arg8 h8 arg9 h9 hc0 hc1 a b g u
      = k0_pay6 (F := Ideal) (k0_pay2 (k0_pay1 (F := Ideal)) a b) g := by
  unfold out0_A_5
  rw [View.read_writes_eq_canon _ _ _
    (cover0_A_5 c i arg3 h3 arg4 h4 arg5 h5 arg6 h6 arg7 h7 arg8 h8 arg9 h9 hc0 hc1 a b g u)]
  unfold kernelRun0_A
  dsimp only
  sl_unfold_words
  rw [View.canon_unit_zero zeros2]
  simp only [View.readAt_eq_ld, h3.read_unread, h4.read_unread, h5.read_unread,
    View.readCov_cons_unit_lit' (S := S1024x1408) _ _ _ _ _ (congrFun zeros2) (congrFun zeros2),
    View.ld_unit_zero (S := S1024x1024) zeros2, View.ld_unit_zero (S := S1408x1024) zeros2,
    View.ld_unit_zero (S := S1024x1408) zeros2]

end

variable (m : (ℓ : Loc nD τ sig) → Buf (Elt Ideal) ℓ) (c : Dev nD)

def aD : Vec Ideal S8192x1024 .f32 := m ((c.tc : Thread nD τ).loc main_arg0)
def aW : Vec Ideal S2816x1024 .bf16 := m ((c.tc : Thread nD τ).loc main_arg1)
def aG : Vec Ideal S8192x2816 .bf16 := m ((c.tc : Thread nD τ).loc main_arg2)
def aU : Vec Ideal S8192x2816 .bf16 := m ((c.tc : Thread nD τ).loc main_arg3)
def blkD (t : Fin cfg0.N) : Vec Ideal S1024x1024 .f32 := iblk m c 0 t
def blkW (t : Fin cfg0.N) : Vec Ideal S1408x1024 .bf16 := iblk m c 1 t
def blkG (t : Fin cfg0.N) : Vec Ideal S1024x1408 .bf16 := iblk m c 2 t
def blkU (t : Fin cfg0.N) : Vec Ideal S1024x1408 .bf16 := iblk m c 3 t

/-- An entry of the gradient of the activation. -/
def dAct (r : Fin 8192) (d : Fin 2816) : EReal := ∑ k : Fin 1024, aD m c (ix2 r k) * aW m c (ix2 d k)
/-- The two results at an entry, and as arrays. -/
def gateAt (r : Fin 8192) (d : Fin 2816) : EReal := dGate (dAct m c r d) (aG m c (ix2 r d)) (aU m c (ix2 r d))
def upAt (r : Fin 8192) (d : Fin 2816) : EReal := dUp (dAct m c r d) (aG m c (ix2 r d))
def gate : Vec Ideal S8192x2816 .bf16 := fun i => gateAt m c (i 0) (i 1)
def up : Vec Ideal S8192x2816 .bf16 := fun i => upAt m c (i 0) (i 1)

theorem idx0 : ∀ t : Fin grid0.N, win0_0.index t 0 = t.val / 2 ∧ win0_0.index t 1 = 0 := by decide +kernel
theorem idx1 : ∀ t : Fin grid0.N, win0_1.index t 0 = t.val % 2 ∧ win0_1.index t 1 = 0 := by decide +kernel
theorem idx2 : ∀ t : Fin grid0.N, win0_2.index t 0 = t.val / 2 ∧ win0_2.index t 1 = t.val % 2 := by decide +kernel
theorem idx3 : ∀ t : Fin grid0.N, win0_3.index t 0 = t.val / 2 ∧ win0_3.index t 1 = t.val % 2 := by decide +kernel
theorem idx4 : ∀ t : Fin grid0.N, win0_4.index t 0 = t.val / 2 ∧ win0_4.index t 1 = t.val % 2 := by decide +kernel
theorem idx5 : ∀ t : Fin grid0.N, win0_5.index t 0 = t.val / 2 ∧ win0_5.index t 1 = t.val % 2 := by decide +kernel

/-- The row and the hidden unit of a place of a point's blocks. -/
def row (t : ℕ) (r : Fin 1024) : Fin 8192 := ⟨(t / 2 * 1024 + r.val) % 8192, Nat.mod_lt _ (by decide)⟩
def unit (t : ℕ) (d : Fin 1408) : Fin 2816 := ⟨t % 2 * 1408 + d.val, by omega⟩

theorem blkD_at (t : Fin cfg0.N) (r k : Fin 1024) : blkD m c t (ix2 r k) = aD m c (ix2 (row t.val r) k) := by
  have hN : cfg0.N = 16 := N_0
  have ht := t.isLt
  obtain ⟨e0, e1⟩ := idx0 t
  unfold blkD iblk aD
  rw [View.read_apply]
  show V m c main_arg0 _ = m ((c.tc : Thread nD τ).loc main_arg0) _
  rw [V_main_arg0]
  congr 1
  funext x
  apply Fin.ext
  match x with
  | ⟨0, _⟩ => show win0_0.index t 0 * 1024 + 1 * r.val = (t.val / 2 * 1024 + r.val) % 8192; rw [e0]; omega
  | ⟨1, _⟩ => show win0_0.index t 1 * 1024 + 1 * k.val = k.val; rw [e1]; omega

theorem blkW_at (t : Fin cfg0.N) (d : Fin 1408) (k : Fin 1024) :
    blkW m c t (ix2 d k) = aW m c (ix2 (unit t.val d) k) := by
  obtain ⟨e0, e1⟩ := idx1 t
  unfold blkW iblk aW
  rw [View.read_apply]
  show V m c main_arg1 _ = m ((c.tc : Thread nD τ).loc main_arg1) _
  rw [V_main_arg1]
  congr 1
  funext x
  apply Fin.ext
  match x with
  | ⟨0, _⟩ => show win0_1.index t 0 * 1408 + 1 * d.val = t.val % 2 * 1408 + d.val; rw [e0]; omega
  | ⟨1, _⟩ => show win0_1.index t 1 * 1024 + 1 * k.val = k.val; rw [e1]; omega

theorem blkG_at (t : Fin cfg0.N) (r : Fin 1024) (d : Fin 1408) :
    blkG m c t (ix2 r d) = aG m c (ix2 (row t.val r) (unit t.val d)) := by
  have hN : cfg0.N = 16 := N_0
  have ht := t.isLt
  obtain ⟨e0, e1⟩ := idx2 t
  unfold blkG iblk aG
  rw [View.read_apply]
  show V m c main_arg2 _ = m ((c.tc : Thread nD τ).loc main_arg2) _
  rw [V_main_arg2]
  congr 1
  funext x
  apply Fin.ext
  match x with
  | ⟨0, _⟩ => show win0_2.index t 0 * 1024 + 1 * r.val = (t.val / 2 * 1024 + r.val) % 8192; rw [e0]; omega
  | ⟨1, _⟩ => show win0_2.index t 1 * 1408 + 1 * d.val = t.val % 2 * 1408 + d.val; rw [e1]; omega

theorem blkU_at (t : Fin cfg0.N) (r : Fin 1024) (d : Fin 1408) :
    blkU m c t (ix2 r d) = aU m c (ix2 (row t.val r) (unit t.val d)) := by
  have hN : cfg0.N = 16 := N_0
  have ht := t.isLt
  obtain ⟨e0, e1⟩ := idx3 t
  unfold blkU iblk aU
  rw [View.read_apply]
  show V m c main_arg3 _ = m ((c.tc : Thread nD τ).loc main_arg3) _
  rw [V_main_arg3]
  congr 1
  funext x
  apply Fin.ext
  match x with
  | ⟨0, _⟩ => show win0_3.index t 0 * 1024 + 1 * r.val = (t.val / 2 * 1024 + r.val) % 8192; rw [e0]; omega
  | ⟨1, _⟩ => show win0_3.index t 1 * 1408 + 1 * d.val = t.val % 2 * 1408 + d.val; rw [e1]; omega

theorem dAct_pt (t : Fin cfg0.N) (r : Fin 1024) (d : Fin 1408) :
    k0_pay2 (F := Ideal) (k0_pay1 (F := Ideal)) (blkD m c t) (blkW m c t) (ix2 r d) = dAct m c (row t.val r) (unit t.val d) := by
  rw [pay2_at]
  exact Finset.sum_congr rfl fun k _ => by rw [blkD_at, blkW_at]

theorem gate_pt (t : Fin cfg0.N) (r : Fin 1024) (d : Fin 1408) :
    k0_pay5 (F := Ideal) (k0_pay2 (k0_pay1 (F := Ideal)) (blkD m c t) (blkW m c t)) (blkG m c t) (blkU m c t) (ix2 r d)
      = gateAt m c (row t.val r) (unit t.val d) := by
  rw [pay5_at, dAct_pt, blkG_at, blkU_at]
  rfl

theorem up_pt (t : Fin cfg0.N) (r : Fin 1024) (d : Fin 1408) :
    k0_pay6 (F := Ideal) (k0_pay2 (k0_pay1 (F := Ideal)) (blkD m c t) (blkW m c t)) (blkG m c t) (ix2 r d)
      = upAt m c (row t.val r) (unit t.val d) := by
  rw [pay6_at, dAct_pt, blkG_at]
  rfl

/-- A place of a point's block read in the array, for an output window whose block index is `(t / 2, t mod 2)`. -/
theorem place (f : Fin 8192 → Fin 2816 → EReal) (t : Fin cfg0.N) (y0 : Fin 1024) (y1 : Fin 1408) (q0 : Fin 8192)
    (q1 : Fin 2816) (j0 j1 : ℕ) (e0 : j0 = t.val / 2) (e1 : j1 = t.val % 2) (h0 : q0.val = j0 * 1024 + 1 * y0.val)
    (h1 : q1.val = j1 * 1408 + 1 * y1.val) : f (row t.val y0) (unit t.val y1) = f q0 q1 := by
  have hN : cfg0.N = 16 := N_0
  have ht := t.isLt
  refine congrArg₂ f (Fin.ext ?_) (Fin.ext ?_)
  · show (t.val / 2 * 1024 + y0.val) % 8192 = q0.val
    omega
  · show t.val % 2 * 1408 + y1.val = q1.val
    omega

theorem final4 : (dats m 0 c).arrAt 4 cfg0.N = gate m c := by
  refine (dats m 0 c).arrAt_eq_of_covers 4 _ (by decide +kernel) fun t hf y => ?_
  blk_simp
  rw [after0_4]
  obtain ⟨e0, e1⟩ := idx4 t
  have hy : (ix2 (y 0) (y 1) : S1024x1408.Idx) = y := (eq_ix2 (n0 := 1024) (n1 := 1408) y).symm
  unfold outsAt0
  dsimp only
  rw [out_4, ← hy]
  exact (gate_pt m c t (y 0) (y 1)).trans (place (gateAt m c) t (y 0) (y 1) _ _ _ _ e0 e1 rfl rfl)

theorem final5 : (dats m 0 c).arrAt 5 cfg0.N = up m c := by
  refine (dats m 0 c).arrAt_eq_of_covers 5 _ (by decide +kernel) fun t hf y => ?_
  blk_simp
  rw [after0_5]
  obtain ⟨e0, e1⟩ := idx5 t
  have hy : (ix2 (y 0) (y 1) : S1024x1408.Idx) = y := (eq_ix2 (n0 := 1024) (n1 := 1408) y).symm
  unfold outsAt0
  dsimp only
  rw [out_5, ← hy]
  exact (up_pt m c t (y 0) (y 1)).trans (place (upAt m c) t (y 0) (y 1) _ _ _ _ e0 e1 rfl rfl)

theorem algebraic : Cert.algebraic_Kernel2Ideal_Reference2Ideal_pre_finite2 := by
  intro m g m' g' hpre hagree
  refine ⟨fun c => gate m c, fun c => up m c, ?_, ?_⟩
  · exact (θ_run _ _ _).mono (fun r h c => ⟨(h c).1.trans (final4 m c), (h c).2.1.trans (final5 m c), (h c).2.2⟩)
      (Cert.Kernel2Ideal.Value.run_blocks m g)
  · refine (θ_run _ _ _).mono (fun r h c => ?_) (Cert.Reference2Ideal.Value.run m' g')
    obtain ⟨g0, g1, g2, g3⟩ := hagree c
    obtain ⟨r0, r1, r3⟩ := Pre.reals _ _ _ _ (hpre c)
    have hc := h c
    rw [g0, g1, g2, g3] at hc
    refine ⟨hc.1.trans ?_, hc.2.1.trans ?_, (h c).2.2⟩
    · funext i
      rw [eq_ix2 i]
      refine (Ref.dGate_at (Ref.dAct (aD m c) (aW m c)) (aG m c) (aU m c) (ix2 (i 0) (i 1))).trans ?_
      exact Ref.gate_val (aD m c) (aW m c) (aG m c) (aU m c) r0 r1 r3 _ _
    · funext i
      rw [eq_ix2 i]
      refine (Ref.dUp_at (Ref.dAct (aD m c) (aW m c)) (aG m c) (ix2 (i 0) (i 1))).trans ?_
      exact (dUp_eq _ _).trans (congrArg (fun d => dUp d (aG m c (ix2 (i 0) (i 1)))) (Ref.dAct_at _ _ _ _))

end Cert.GateUpGrad
end
-- ==== Proof.WGrad.lean ====
module
public import proofs.«01_k».proof.Proof.Tiles
public import proofs.«01_k».proof.Defs
public import proofs.«01_k».proof.Proof.Gen.Kernel3Ideal.Value
public import proofs.«01_k».proof.Proof.Gen.Reference3Ideal.Run

/-! The gradient of the gate weights (and of the up weights, the same call): a product contracted over the rows in eight
tiles. -/

@[expose] public section
set_option maxRecDepth 16384
noncomputable section
namespace Cert.WGrad.Ref
open Idealize.ShloMosaic Idealize.ShloMosaic.Tactic
open Cert.Reference3Ideal Cert.Reference3Ideal.Gen

/-- The reference's result, entry by entry. -/
theorem ref_at (A : FVec Ideal S8192x2816 .bf16) (B : FVec Ideal S8192x1024 .bf16) (r : Fin 2816) (d : Fin 1024) :
    transpose S2816x1024 [1, 0] (transpose S1024x2816 [1, 0] (Host.dotGeneral dot_S8192x2816_S8192x1024_S2816x1024_0_0_1_1_n_n none
      (extf .f32 A bitsLt_bf16_f32) (extf .f32 B bitsLt_bf16_f32)) transposes_S2816x1024_S1024x2816_1_0)
      transposes_S1024x2816_S2816x1024_1_0 (ix2 r d) = ∑ n : Fin 8192, A (ix2 n r) * B (ix2 n d) := by
  pointwise

end Cert.WGrad.Ref

namespace Cert.WGrad
open Idealize.ShloMosaic Idealize.ShloMosaic.TcCoe Idealize.ShloMosaic.Tactic
open Idealize.SL Idealize.SL.Sem
open Cert.Kernel3Ideal Cert.Kernel3Ideal.Gen Cert.Tiles

theorem pay1_at (r : Fin 1408) (d : Fin 1024) : k0_pay1 (F := Ideal) (ix2 r d) = (0 : EReal) := by
  pointwise [k0_pay1]

theorem pay2_at (v : Vec Ideal S1408x1024 .f32) (a : Vec Ideal S1024x1408 .bf16) (b : Vec Ideal S1024x1024 .bf16)
    (r : Fin 1408) (d : Fin 1024) :
    k0_pay2 (F := Ideal) v a b (ix2 r d) = v (ix2 r d) + ∑ k : Fin 1024, a (ix2 k r) * b (ix2 k d) := by
  pointwise [k0_pay2]

section
variable (c : Dev nD) (i : grid0.Coords)
  (arg3 : Memref sig .tc .vmem S1024x1408 .bf16) (h3 : arg3.IsWhole)
  (arg4 : Memref sig .tc .vmem S1024x1024 .bf16) (h4 : arg4.IsWhole)
  (arg5 : Memref sig .tc .vmem S1408x1024 .f32) (h5 : arg5.IsWhole)
  (arg6 : Memref sig .tc .vmem S1408x1024 .f32) (h6 : arg6.IsWhole)
  (a : Vec Ideal S1024x1408 .bf16) (b : Vec Ideal S1024x1024 .bf16) (v : Vec Ideal S1408x1024 .f32)

theorem acc_A (hc0 : cond0_0 i) (hc1 : ¬cond0_1 i) :
    sout0_A_0 (F := Ideal) c i arg3 h3 arg4 h4 arg5 h5 arg6 h6 hc0 hc1 a b = k0_pay2 k0_pay1 a b := by
  unfold sout0_A_0
  rw [View.read_writes_eq_canon _ _ _ (scover0_A_0 c i arg3 h3 arg4 h4 arg5 h5 arg6 h6 hc0 hc1 a b)]
  unfold kernelRun0_A
  dsimp only
  sl_unfold_words
  rw [View.canon_cons_unit_zero (S := S1408x1024) zeros2]
  simp only [View.readAt_eq_ld, h3.read_unread, h4.read_unread, View.readCov_unit_zero (S := S1408x1024) _ zeros2,
    View.ld_unit_zero (S := S1024x1408) zeros2, View.ld_unit_zero (S := S1024x1024) zeros2]

theorem acc_B (hc0 : ¬cond0_0 i) (hc1 : ¬cond0_1 i) :
    sout0_B_0 (F := Ideal) c i arg3 h3 arg4 h4 arg5 h5 arg6 h6 hc0 hc1 a b v = k0_pay2 v a b := by
  unfold sout0_B_0
  rw [View.read_writes_eq_canon _ _ _ (scover0_B_0 c i arg3 h3 arg4 h4 arg5 h5 arg6 h6 hc0 hc1 a b v)]
  unfold kernelRun0_B
  dsimp only
  sl_unfold_words
  rw [View.canon_unit_zero zeros2]
  simp only [View.readAt_eq_ld, h3.read_unread, h4.read_unread, h6.read_unread,
    View.ld_unit_zero (S := S1408x1024) zeros2,
    View.ld_unit_zero (S := S1024x1408) zeros2, View.ld_unit_zero (S := S1024x1024) zeros2]

theorem acc_C (hc0 : ¬cond0_0 i) (hc1 : cond0_1 i) :
    sout0_C_0 (F := Ideal) c i arg3 h3 arg4 h4 arg5 h5 arg6 h6 hc0 hc1 a b v = k0_pay2 v a b := by
  unfold sout0_C_0
  rw [View.read_writes_eq_canon _ _ _ (scover0_C_0 c i arg3 h3 arg4 h4 arg5 h5 arg6 h6 hc0 hc1 a b v)]
  unfold kernelRun0_C
  dsimp only
  sl_unfold_words
  rw [View.canon_unit_zero zeros2]
  simp only [View.readAt_eq_ld, h3.read_unread, h4.read_unread, h6.read_unread,
    View.ld_unit_zero (S := S1408x1024) zeros2,
    View.ld_unit_zero (S := S1024x1408) zeros2, View.ld_unit_zero (S := S1024x1024) zeros2]

theorem out_C (hc0 : ¬cond0_0 i) (hc1 : cond0_1 i) :
    out0_C_2 (F := Ideal) c i arg3 h3 arg4 h4 arg5 h5 arg6 h6 hc0 hc1 a b v = k0_pay2 v a b := by
  unfold out0_C_2
  rw [View.read_writes_eq_canon _ _ _ (cover0_C_2 c i arg3 h3 arg4 h4 arg5 h5 arg6 h6 hc0 hc1 a b v)]
  unfold kernelRun0_C
  dsimp only
  sl_unfold_words
  rw [View.canon_unit_zero zeros2]
  simp only [View.readAt_eq_ld, h3.read_unread, h4.read_unread, h6.read_unread,
    View.ld_unit_zero (S := S1408x1024) zeros2, View.readCov_unit_zero (S := S1408x1024) _ zeros2,
    View.ld_unit_zero (S := S1024x1408) zeros2, View.ld_unit_zero (S := S1024x1024) zeros2]

end

variable (m : (ℓ : Loc nD τ sig) → Buf (Elt Ideal) ℓ) (c : Dev nD)

def aA : Vec Ideal S8192x2816 .bf16 := m ((c.tc : Thread nD τ).loc main_arg0)
def aB : Vec Ideal S8192x1024 .bf16 := m ((c.tc : Thread nD τ).loc main_arg1)
def blkA (t : Fin cfg0.N) : Vec Ideal S1024x1408 .bf16 := iblk m c 0 t
def blkB (t : Fin cfg0.N) : Vec Ideal S1024x1024 .bf16 := iblk m c 1 t

/-- The product, entry by entry. -/
def prod : Vec Ideal S2816x1024 .f32 := fun i => ∑ n : Fin 8192, aA m c (ix2 n (i 0)) * aB m c (ix2 n (i 1))

theorem idx0 : ∀ t : Fin grid0.N, win0_0.index t 0 = t.val % 8 ∧ win0_0.index t 1 = t.val / 8 := by decide +kernel
theorem idx1 : ∀ t : Fin grid0.N, win0_1.index t 0 = t.val % 8 ∧ win0_1.index t 1 = 0 := by decide +kernel
theorem idx2 : ∀ t : Fin grid0.N, win0_2.index t 0 = t.val / 8 ∧ win0_2.index t 1 = 0 := by decide +kernel

/-- The row of the arrays at place `k` of a point's blocks, and the column at place `r`. -/
def row (t : ℕ) (k : Fin 1024) : Fin 8192 := ⟨t % 8 * 1024 + k.val, by omega⟩
def col (t : ℕ) (r : Fin 1408) : Fin 2816 := ⟨(t / 8 * 1408 + r.val) % 2816, Nat.mod_lt _ (by decide)⟩

theorem blkA_at (t : Fin cfg0.N) (k : Fin 1024) (r : Fin 1408) :
    blkA m c t (ix2 k r) = aA m c (ix2 (row t.val k) (col t.val r)) := by
  have hN : cfg0.N = 16 := N_0
  have ht := t.isLt
  obtain ⟨e0, e1⟩ := idx0 t
  unfold blkA iblk aA
  rw [View.read_apply]
  show V m c main_arg0 _ = m ((c.tc : Thread nD τ).loc main_arg0) _
  rw [V_main_arg0]
  congr 1
  funext x
  apply Fin.ext
  match x with
  | ⟨0, _⟩ => show win0_0.index t 0 * 1024 + 1 * k.val = t.val % 8 * 1024 + k.val; rw [e0]; omega
  | ⟨1, _⟩ => show win0_0.index t 1 * 1408 + 1 * r.val = (t.val / 8 * 1408 + r.val) % 2816; rw [e1]; omega

theorem blkB_at (t : Fin cfg0.N) (k d : Fin 1024) :
    blkB m c t (ix2 k d) = aB m c (ix2 (row t.val k) d) := by
  obtain ⟨e0, e1⟩ := idx1 t
  unfold blkB iblk aB
  rw [View.read_apply]
  show V m c main_arg1 _ = m ((c.tc : Thread nD τ).loc main_arg1) _
  rw [V_main_arg1]
  congr 1
  funext x
  apply Fin.ext
  match x with
  | ⟨0, _⟩ => show win0_1.index t 0 * 1024 + 1 * k.val = t.val % 8 * 1024 + k.val; rw [e0]; omega
  | ⟨1, _⟩ => show win0_1.index t 1 * 1024 + 1 * d.val = d.val; rw [e1]; omega

/-- What point `t` adds. -/
def part (r : Fin 1408) (d : Fin 1024) (t : ℕ) : EReal :=
  ∑ k : Fin 1024, aA m c (ix2 (row t k) (col t r)) * aB m c (ix2 (row t k) d)

theorem part_at (t : Fin cfg0.N) (v : Vec Ideal S1408x1024 .f32) (r : Fin 1408) (d : Fin 1024) :
    k0_pay2 (F := Ideal) v (blkA m c t) (blkB m c t) (ix2 r d) = v (ix2 r d) + part m c r d t.val := by
  rw [pay2_at]
  exact congrArg (v (ix2 r d) + ·) (Finset.sum_congr rfl fun k _ => by rw [blkA_at, blkB_at])

theorem scratch (r : Fin 1408) (d : Fin 1024) (t : Fin cfg0.N) :
    (outsAt0 m c t.val t.isLt).2 (ix2 r d) = ∑ s ∈ Finset.range (t.val % 8 + 1), part m c r d (8 * (t.val / 8) + s) := by
  refine fold_sum 8 cfg0.N (fun n h => (outsAt0 m c n h).2 (ix2 r d)) (part m c r d) (by decide) ?_ ?_ t.val t.isLt
  · intro n h hn
    show (outsAt0 m c n h).2 (ix2 r d) = _
    have e := outsAt0_A m c ⟨n, h⟩ hn (by show ¬n % 8 = 7; omega)
    dsimp only at e
    rw [e]
    dsimp only
    rw [acc_A]
    refine (part_at m c ⟨n, h⟩ _ r d).trans ?_
    rw [pay1_at, zero_add]
  · intro n h h' hn
    show (outsAt0 m c n h).2 (ix2 r d) = (outsAt0 m c (n - 1) h').2 (ix2 r d) + _
    by_cases h7 : n % 8 = 7
    · have e := outsAt0_C m c ⟨n, h⟩ hn h7
      dsimp only at e
      rw [e]
      dsimp only
      rw [acc_C]
      exact part_at m c ⟨n, h⟩ _ r d
    · have e := outsAt0_B m c ⟨n, h⟩ hn h7
      dsimp only at e
      rw [e]
      dsimp only
      rw [acc_B]
      exact part_at m c ⟨n, h⟩ _ r d

theorem out_end (t : Fin cfg0.N) (h7 : t.val % 8 = 7) (r : Fin 1408) (d : Fin 1024) :
    (outsAt0 m c t.val t.isLt).1 (ix2 r d) = ∑ n : Fin 8192, aA m c (ix2 n (col t.val r)) * aB m c (ix2 n d) := by
  have h0 : ¬t.val % 8 = 0 := by omega
  have e : (outsAt0 m c t.val t.isLt).1 = (outsAt0 m c t.val t.isLt).2 := by
    rw [outsAt0_C m c t h0 h7]
    dsimp only
    rw [acc_C, out_C]
  rw [e, scratch, h7]
  refine sum_tiles 8 1024 (fun n : Fin 8192 => aA m c (ix2 n (col t.val r)) * aB m c (ix2 n d)) _ fun s hs => ?_
  have hr : ∀ k, row (8 * (t.val / 8) + s) k = ⟨s * 1024 + k.val, by omega⟩ := fun k => Fin.ext (by
    show (8 * (t.val / 8) + s) % 8 * 1024 + k.val = s * 1024 + k.val
    omega)
  have hc : col (8 * (t.val / 8) + s) r = col t.val r := Fin.ext (by
    show ((8 * (t.val / 8) + s) / 8 * 1408 + r.val) % 2816 = (t.val / 8 * 1408 + r.val) % 2816
    omega)
  unfold part
  simp only [hr, hc]

theorem final : (dats m 0 c).arrAt 2 cfg0.N = prod m c := by
  refine (dats m 0 c).arrAt_eq_of_covers 2 _ (by decide +kernel) fun t hf y => ?_
  blk_simp
  rw [after0_2]
  have hN : cfg0.N = 16 := N_0
  have ht : t.val < cfg0.N := t.isLt
  obtain ⟨e0, e1⟩ := idx2 t
  have key := out_end m c t ((flush0_2 t).mp hf) (y 0) (y 1)
  have hy : (ix2 (y 0) (y 1) : S1408x1024.Idx) = y := (eq_ix2 (n0 := 1408) (n1 := 1024) y).symm
  rw [hy] at key
  refine key.trans ?_
  have y0 : (y 0).val < 1408 := (y 0).isLt
  have q0 : col t.val (y 0) = (win0_2.blk t).view.emb y 0 := by
    apply Fin.ext
    show (t.val / 8 * 1408 + (y 0).val) % 2816 = win0_2.index t 0 * 1408 + 1 * (y 0).val
    rw [e0]; omega
  have q1 : y 1 = (win0_2.blk t).view.emb y 1 := by
    apply Fin.ext
    show (y 1).val = win0_2.index t 1 * 1024 + 1 * (y 1).val
    rw [e1]; omega
  rw [q0]
  exact congrArg (fun z : Fin 1024 => ∑ n : Fin 8192, aA m c (ix2 n _) * aB m c (ix2 n z)) q1

theorem algebraic : Cert.algebraic_Kernel3Ideal_Reference3Ideal := by
  intro m g m' g' _ hagree
  refine ⟨fun c => prod m c, ?_, ?_⟩
  · exact (θ_run _ _ _).mono (fun r h c => ⟨(h c).1.trans (final m c), (h c).2⟩) (Cert.Kernel3Ideal.Value.run_blocks m g)
  · refine (θ_run _ _ _).mono (fun r h c => ⟨(h c).1.trans ?_, (h c).2⟩) (Cert.Reference3Ideal.Value.run m' g')
    obtain ⟨g0, g1⟩ := hagree c
    rw [g0, g1]
    funext i
    rw [eq_ix2 i]
    exact Ref.ref_at _ _ _ _

end Cert.WGrad
end
-- ==== Proof.WOutGrad.lean ====
module
public import proofs.«01_k».proof.Proof.Tiles
public import proofs.«01_k».proof.Defs
public import proofs.«01_k».proof.Proof.Gen.Kernel4Ideal.Value
public import proofs.«01_k».proof.Proof.Gen.Reference4Ideal.Run

/-! The gradient of the output weights: a product contracted over the rows in eight tiles, its second factor in float32. -/

@[expose] public section
set_option maxRecDepth 16384
noncomputable section
namespace Cert.WOutGrad.Ref
open Idealize.ShloMosaic Idealize.ShloMosaic.Tactic
open Cert.Reference4Ideal Cert.Reference4Ideal.Gen

/-- The reference's result, entry by entry. -/
theorem ref_at (A : FVec Ideal S8192x2816 .bf16) (B : FVec Ideal S8192x1024 .f32) (r : Fin 2816) (d : Fin 1024) :
    transpose S2816x1024 [1, 0] (Host.dotGeneral dot_S8192x1024_S8192x2816_S1024x2816_0_0_1_1_n_n none B
      (extf .f32 A bitsLt_bf16_f32)) transposes_S1024x2816_S2816x1024_1_0 (ix2 r d)
      = ∑ n : Fin 8192, A (ix2 n r) * B (ix2 n d) := by
  refine Eq.trans (b := ∑ n : Fin 8192, B (ix2 n d) * A (ix2 n r)) ?_ (Finset.sum_congr rfl fun n _ => EReal.mul_comm _ _)
  pointwise

end Cert.WOutGrad.Ref

namespace Cert.WOutGrad
open Idealize.ShloMosaic Idealize.ShloMosaic.TcCoe Idealize.ShloMosaic.Tactic
open Idealize.SL Idealize.SL.Sem
open Cert.Kernel4Ideal Cert.Kernel4Ideal.Gen Cert.Tiles

theorem pay1_at (r : Fin 1408) (d : Fin 1024) : k0_pay1 (F := Ideal) (ix2 r d) = (0 : EReal) := by
  pointwise [k0_pay1]

theorem pay2_at (v : Vec Ideal S1408x1024 .f32) (a : Vec Ideal S1024x1408 .bf16) (b : Vec Ideal S1024x1024 .f32)
    (r : Fin 1408) (d : Fin 1024) :
    k0_pay2 (F := Ideal) v a b (ix2 r d) = v (ix2 r d) + ∑ k : Fin 1024, a (ix2 k r) * b (ix2 k d) := by
  pointwise [k0_pay2]

section
variable (c : Dev nD) (i : grid0.Coords)
  (arg3 : Memref sig .tc .vmem S1024x1408 .bf16) (h3 : arg3.IsWhole)
  (arg4 : Memref sig .tc .vmem S1024x1024 .f32) (h4 : arg4.IsWhole)
  (arg5 : Memref sig .tc .vmem S1408x1024 .f32) (h5 : arg5.IsWhole)
  (arg6 : Memref sig .tc .vmem S1408x1024 .f32) (h6 : arg6.IsWhole)
  (a : Vec Ideal S1024x1408 .bf16) (b : Vec Ideal S1024x1024 .f32) (v : Vec Ideal S1408x1024 .f32)

theorem acc_A (hc0 : cond0_0 i) (hc1 : ¬cond0_1 i) :
    sout0_A_0 (F := Ideal) c i arg3 h3 arg4 h4 arg5 h5 arg6 h6 hc0 hc1 a b = k0_pay2 k0_pay1 a b := by
  unfold sout0_A_0
  rw [View.read_writes_eq_canon _ _ _ (scover0_A_0 c i arg3 h3 arg4 h4 arg5 h5 arg6 h6 hc0 hc1 a b)]
  unfold kernelRun0_A
  dsimp only
  sl_unfold_words
  rw [View.canon_cons_unit_zero (S := S1408x1024) zeros2]
  simp only [View.readAt_eq_ld, h3.read_unread, h4.read_unread, View.readCov_unit_zero (S := S1408x1024) _ zeros2,
    View.ld_unit_zero (S := S1024x1408) zeros2, View.ld_unit_zero (S := S1024x1024) zeros2]

theorem acc_B (hc0 : ¬cond0_0 i) (hc1 : ¬cond0_1 i) :
    sout0_B_0 (F := Ideal) c i arg3 h3 arg4 h4 arg5 h5 arg6 h6 hc0 hc1 a b v = k0_pay2 v a b := by
  unfold sout0_B_0
  rw [View.read_writes_eq_canon _ _ _ (scover0_B_0 c i arg3 h3 arg4 h4 arg5 h5 arg6 h6 hc0 hc1 a b v)]
  unfold kernelRun0_B
  dsimp only
  sl_unfold_words
  rw [View.canon_unit_zero zeros2]
  simp only [View.readAt_eq_ld, h3.read_unread, h4.read_unread, h6.read_unread,
    View.ld_unit_zero (S := S1408x1024) zeros2,
    View.ld_unit_zero (S := S1024x1408) zeros2, View.ld_unit_zero (S := S1024x1024) zeros2]

theorem acc_C (hc0 : ¬cond0_0 i) (hc1 : cond0_1 i) :
    sout0_C_0 (F := Ideal) c i arg3 h3 arg4 h4 arg5 h5 arg6 h6 hc0 hc1 a b v = k0_pay2 v a b := by
  unfold sout0_C_0
  rw [View.read_writes_eq_canon _ _ _ (scover0_C_0 c i arg3 h3 arg4 h4 arg5 h5 arg6 h6 hc0 hc1 a b v)]
  unfold kernelRun0_C
  dsimp only
  sl_unfold_words
  rw [View.canon_unit_zero zeros2]
  simp only [View.readAt_eq_ld, h3.read_unread, h4.read_unread, h6.read_unread,
    View.ld_unit_zero (S := S1408x1024) zeros2,
    View.ld_unit_zero (S := S1024x1408) zeros2, View.ld_unit_zero (S := S1024x1024) zeros2]

theorem out_C (hc0 : ¬cond0_0 i) (hc1 : cond0_1 i) :
    out0_C_2 (F := Ideal) c i arg3 h3 arg4 h4 arg5 h5 arg6 h6 hc0 hc1 a b v = k0_pay2 v a b := by
  unfold out0_C_2
  rw [View.read_writes_eq_canon _ _ _ (cover0_C_2 c i arg3 h3 arg4 h4 arg5 h5 arg6 h6 hc0 hc1 a b v)]
  unfold kernelRun0_C
  dsimp only
  sl_unfold_words
  rw [View.canon_unit_zero zeros2]
  simp only [View.readAt_eq_ld, h3.read_unread, h4.read_unread, h6.read_unread,
    View.ld_unit_zero (S := S1408x1024) zeros2, View.readCov_unit_zero (S := S1408x1024) _ zeros2,
    View.ld_unit_zero (S := S1024x1408) zeros2, View.ld_unit_zero (S := S1024x1024) zeros2]

end

variable (m : (ℓ : Loc nD τ sig) → Buf (Elt Ideal) ℓ) (c : Dev nD)

def aA : Vec Ideal S8192x2816 .bf16 := m ((c.tc : Thread nD τ).loc main_arg0)
def aB : Vec Ideal S8192x1024 .f32 := m ((c.tc : Thread nD τ).loc main_arg1)
def blkA (t : Fin cfg0.N) : Vec Ideal S1024x1408 .bf16 := iblk m c 0 t
def blkB (t : Fin cfg0.N) : Vec Ideal S1024x1024 .f32 := iblk m c 1 t

/-- The product, entry by entry. -/
def prod : Vec Ideal S2816x1024 .f32 := fun i => ∑ n : Fin 8192, aA m c (ix2 n (i 0)) * aB m c (ix2 n (i 1))

theorem idx0 : ∀ t : Fin grid0.N, win0_0.index t 0 = t.val % 8 ∧ win0_0.index t 1 = t.val / 8 := by decide +kernel
theorem idx1 : ∀ t : Fin grid0.N, win0_1.index t 0 = t.val % 8 ∧ win0_1.index t 1 = 0 := by decide +kernel
theorem idx2 : ∀ t : Fin grid0.N, win0_2.index t 0 = t.val / 8 ∧ win0_2.index t 1 = 0 := by decide +kernel

/-- The row of the arrays at place `k` of a point's blocks, and the column at place `r`. -/
def row (t : ℕ) (k : Fin 1024) : Fin 8192 := ⟨t % 8 * 1024 + k.val, by omega⟩
def col (t : ℕ) (r : Fin 1408) : Fin 2816 := ⟨(t / 8 * 1408 + r.val) % 2816, Nat.mod_lt _ (by decide)⟩

theorem blkA_at (t : Fin cfg0.N) (k : Fin 1024) (r : Fin 1408) :
    blkA m c t (ix2 k r) = aA m c (ix2 (row t.val k) (col t.val r)) := by
  have hN : cfg0.N = 16 := N_0
  have ht := t.isLt
  obtain ⟨e0, e1⟩ := idx0 t
  unfold blkA iblk aA
  rw [View.read_apply]
  show V m c main_arg0 _ = m ((c.tc : Thread nD τ).loc main_arg0) _
  rw [V_main_arg0]
  congr 1
  funext x
  apply Fin.ext
  match x with
  | ⟨0, _⟩ => show win0_0.index t 0 * 1024 + 1 * k.val = t.val % 8 * 1024 + k.val; rw [e0]; omega
  | ⟨1, _⟩ => show win0_0.index t 1 * 1408 + 1 * r.val = (t.val / 8 * 1408 + r.val) % 2816; rw [e1]; omega

theorem blkB_at (t : Fin cfg0.N) (k d : Fin 1024) :
    blkB m c t (ix2 k d) = aB m c (ix2 (row t.val k) d) := by
  obtain ⟨e0, e1⟩ := idx1 t
  unfold blkB iblk aB
  rw [View.read_apply]
  show V m c main_arg1 _ = m ((c.tc : Thread nD τ).loc main_arg1) _
  rw [V_main_arg1]
  congr 1
  funext x
  apply Fin.ext
  match x with
  | ⟨0, _⟩ => show win0_1.index t 0 * 1024 + 1 * k.val = t.val % 8 * 1024 + k.val; rw [e0]; omega
  | ⟨1, _⟩ => show win0_1.index t 1 * 1024 + 1 * d.val = d.val; rw [e1]; omega

/-- What point `t` adds. -/
def part (r : Fin 1408) (d : Fin 1024) (t : ℕ) : EReal :=
  ∑ k : Fin 1024, aA m c (ix2 (row t k) (col t r)) * aB m c (ix2 (row t k) d)

theorem part_at (t : Fin cfg0.N) (v : Vec Ideal S1408x1024 .f32) (r : Fin 1408) (d : Fin 1024) :
    k0_pay2 (F := Ideal) v (blkA m c t) (blkB m c t) (ix2 r d) = v (ix2 r d) + part m c r d t.val := by
  rw [pay2_at]
  exact congrArg (v (ix2 r d) + ·) (Finset.sum_congr rfl fun k _ => by rw [blkA_at, blkB_at])

theorem scratch (r : Fin 1408) (d : Fin 1024) (t : Fin cfg0.N) :
    (outsAt0 m c t.val t.isLt).2 (ix2 r d) = ∑ s ∈ Finset.range (t.val % 8 + 1), part m c r d (8 * (t.val / 8) + s) := by
  refine fold_sum 8 cfg0.N (fun n h => (outsAt0 m c n h).2 (ix2 r d)) (part m c r d) (by decide) ?_ ?_ t.val t.isLt
  · intro n h hn
    show (outsAt0 m c n h).2 (ix2 r d) = _
    have e := outsAt0_A m c ⟨n, h⟩ hn (by show ¬n % 8 = 7; omega)
    dsimp only at e
    rw [e]
    dsimp only
    rw [acc_A]
    refine (part_at m c ⟨n, h⟩ _ r d).trans ?_
    rw [pay1_at, zero_add]
  · intro n h h' hn
    show (outsAt0 m c n h).2 (ix2 r d) = (outsAt0 m c (n - 1) h').2 (ix2 r d) + _
    by_cases h7 : n % 8 = 7
    · have e := outsAt0_C m c ⟨n, h⟩ hn h7
      dsimp only at e
      rw [e]
      dsimp only
      rw [acc_C]
      exact part_at m c ⟨n, h⟩ _ r d
    · have e := outsAt0_B m c ⟨n, h⟩ hn h7
      dsimp only at e
      rw [e]
      dsimp only
      rw [acc_B]
      exact part_at m c ⟨n, h⟩ _ r d

theorem out_end (t : Fin cfg0.N) (h7 : t.val % 8 = 7) (r : Fin 1408) (d : Fin 1024) :
    (outsAt0 m c t.val t.isLt).1 (ix2 r d) = ∑ n : Fin 8192, aA m c (ix2 n (col t.val r)) * aB m c (ix2 n d) := by
  have h0 : ¬t.val % 8 = 0 := by omega
  have e : (outsAt0 m c t.val t.isLt).1 = (outsAt0 m c t.val t.isLt).2 := by
    rw [outsAt0_C m c t h0 h7]
    dsimp only
    rw [acc_C, out_C]
  rw [e, scratch, h7]
  refine sum_tiles 8 1024 (fun n : Fin 8192 => aA m c (ix2 n (col t.val r)) * aB m c (ix2 n d)) _ fun s hs => ?_
  have hr : ∀ k, row (8 * (t.val / 8) + s) k = ⟨s * 1024 + k.val, by omega⟩ := fun k => Fin.ext (by
    show (8 * (t.val / 8) + s) % 8 * 1024 + k.val = s * 1024 + k.val
    omega)
  have hc : col (8 * (t.val / 8) + s) r = col t.val r := Fin.ext (by
    show ((8 * (t.val / 8) + s) / 8 * 1408 + r.val) % 2816 = (t.val / 8 * 1408 + r.val) % 2816
    omega)
  unfold part
  simp only [hr, hc]

theorem final : (dats m 0 c).arrAt 2 cfg0.N = prod m c := by
  refine (dats m 0 c).arrAt_eq_of_covers 2 _ (by decide +kernel) fun t hf y => ?_
  blk_simp
  rw [after0_2]
  have hN : cfg0.N = 16 := N_0
  have ht : t.val < cfg0.N := t.isLt
  obtain ⟨e0, e1⟩ := idx2 t
  have key := out_end m c t ((flush0_2 t).mp hf) (y 0) (y 1)
  have hy : (ix2 (y 0) (y 1) : S1408x1024.Idx) = y := (eq_ix2 (n0 := 1408) (n1 := 1024) y).symm
  rw [hy] at key
  refine key.trans ?_
  have y0 : (y 0).val < 1408 := (y 0).isLt
  have q0 : col t.val (y 0) = (win0_2.blk t).view.emb y 0 := by
    apply Fin.ext
    show (t.val / 8 * 1408 + (y 0).val) % 2816 = win0_2.index t 0 * 1408 + 1 * (y 0).val
    rw [e0]; omega
  have q1 : y 1 = (win0_2.blk t).view.emb y 1 := by
    apply Fin.ext
    show (y 1).val = win0_2.index t 1 * 1024 + 1 * (y 1).val
    rw [e1]; omega
  rw [q0]
  exact congrArg (fun z : Fin 1024 => ∑ n : Fin 8192, aA m c (ix2 n _) * aB m c (ix2 n z)) q1

theorem algebraic : Cert.algebraic_Kernel4Ideal_Reference4Ideal := by
  intro m g m' g' _ hagree
  refine ⟨fun c => prod m c, ?_, ?_⟩
  · exact (θ_run _ _ _).mono (fun r h c => ⟨(h c).1.trans (final m c), (h c).2⟩) (Cert.Kernel4Ideal.Value.run_blocks m g)
  · refine (θ_run _ _ _).mono (fun r h c => ⟨(h c).1.trans ?_, (h c).2⟩) (Cert.Reference4Ideal.Value.run m' g')
    obtain ⟨g0, g1⟩ := hagree c
    rw [g0, g1]
    funext i
    rw [eq_ix2 i]
    exact Ref.ref_at _ _ _ _

end Cert.WOutGrad
end
-- ==== Proof.Down.lean ====
module
public import proofs.«01_k».proof.Proof.Tiles
public import proofs.«01_k».proof.Defs
public import proofs.«01_k».proof.Proof.Gen.Kernel5Ideal.Value
public import proofs.«01_k».proof.Proof.Gen.Reference5Ideal.Run

/-! A product contracted over the hidden units in two tiles and added to an array: the up product's share of the gradient
of the network's input, added to the gate product's, and the forward pass's output, added to its input. -/

@[expose] public section
set_option maxRecDepth 16384
noncomputable section
namespace Cert.Down.Ref
open Idealize.ShloMosaic Idealize.ShloMosaic.Tactic
open Cert.Reference5Ideal Cert.Reference5Ideal.Gen

/-- The reference's result, entry by entry. -/
theorem ref_at (A : FVec Ideal S8192x2816 .bf16) (B : FVec Ideal S2816x1024 .bf16) (C : FVec Ideal S8192x1024 .f32)
    (r : Fin 8192) (d : Fin 1024) :
    addf (Host.dotGeneral dot_S8192x2816_S2816x1024_S8192x1024_1_0_0_1_n_n none (extf .f32 A bitsLt_bf16_f32)
      (extf .f32 B bitsLt_bf16_f32)) C (ix2 r d) = ∑ n : Fin 2816, A (ix2 r n) * B (ix2 n d) + C (ix2 r d) := by
  pointwise

end Cert.Down.Ref

namespace Cert.Down
open Idealize.ShloMosaic Idealize.ShloMosaic.TcCoe Idealize.ShloMosaic.Tactic
open Idealize.SL Idealize.SL.Sem
open Cert.Kernel5Ideal Cert.Kernel5Ideal.Gen Cert.Tiles

theorem pay1_at (r d : Fin 1024) : k0_pay1 (F := Ideal) (ix2 r d) = (0 : EReal) := by
  pointwise [k0_pay1]

theorem pay2_at (v : Vec Ideal S1024x1024 .f32) (a : Vec Ideal S1024x1408 .bf16) (b : Vec Ideal S1408x1024 .bf16)
    (r d : Fin 1024) :
    k0_pay2 (F := Ideal) v a b (ix2 r d) = v (ix2 r d) + ∑ k : Fin 1408, a (ix2 r k) * b (ix2 k d) := by
  pointwise [k0_pay2]

theorem pay3_at (v w : Vec Ideal S1024x1024 .f32) (r d : Fin 1024) :
    k0_pay3 (F := Ideal) v w (ix2 r d) = v (ix2 r d) + w (ix2 r d) := by
  pointwise [k0_pay3]

section
variable (c : Dev nD) (i : grid0.Coords)
  (arg3 : Memref sig .tc .vmem S1024x1408 .bf16) (h3 : arg3.IsWhole)
  (arg4 : Memref sig .tc .vmem S1408x1024 .bf16) (h4 : arg4.IsWhole)
  (arg5 : Memref sig .tc .vmem S1024x1024 .f32) (h5 : arg5.IsWhole)
  (arg6 : Memref sig .tc .vmem S1024x1024 .f32) (h6 : arg6.IsWhole)
  (arg7 : Memref sig .tc .vmem S1024x1024 .f32) (h7 : arg7.IsWhole)
  (a : Vec Ideal S1024x1408 .bf16) (b : Vec Ideal S1408x1024 .bf16) (x v : Vec Ideal S1024x1024 .f32)

theorem acc_A (hc0 : cond0_0 i) (hc1 : ¬cond0_1 i) :
    sout0_A_0 (F := Ideal) c i arg3 h3 arg4 h4 arg5 h5 arg6 h6 arg7 h7 hc0 hc1 a b x = k0_pay2 k0_pay1 a b := by
  unfold sout0_A_0
  rw [View.read_writes_eq_canon _ _ _ (scover0_A_0 c i arg3 h3 arg4 h4 arg5 h5 arg6 h6 arg7 h7 hc0 hc1 a b x)]
  unfold kernelRun0_A
  dsimp only
  sl_unfold_words
  rw [View.canon_cons_unit_zero (S := S1024x1024) zeros2]
  simp only [View.readAt_eq_ld, h3.read_unread, h4.read_unread, View.readCov_unit_zero (S := S1024x1024) _ zeros2,
    View.ld_unit_zero (S := S1024x1408) zeros2, View.ld_unit_zero (S := S1408x1024) zeros2]

theorem out_B (hc0 : ¬cond0_0 i) (hc1 : cond0_1 i) :
    out0_B_3 (F := Ideal) c i arg3 h3 arg4 h4 arg5 h5 arg6 h6 arg7 h7 hc0 hc1 a b x v = k0_pay3 (k0_pay2 v a b) x := by
  unfold out0_B_3
  rw [View.read_writes_eq_canon _ _ _ (cover0_B_3 c i arg3 h3 arg4 h4 arg5 h5 arg6 h6 arg7 h7 hc0 hc1 a b x v)]
  unfold kernelRun0_B
  dsimp only
  sl_unfold_words
  rw [View.canon_unit_zero zeros2]
  simp only [View.readAt_eq_ld, h3.read_unread, h4.read_unread, h5.read_unread, h7.read_unread,
    View.ld_unit_zero (S := S1024x1024) zeros2, View.readCov_unit_zero (S := S1024x1024) _ zeros2,
    View.ld_unit_zero (S := S1024x1408) zeros2, View.ld_unit_zero (S := S1408x1024) zeros2]

end

variable (m : (ℓ : Loc nD τ sig) → Buf (Elt Ideal) ℓ) (c : Dev nD)

def aA : Vec Ideal S8192x2816 .bf16 := m ((c.tc : Thread nD τ).loc main_arg0)
def aB : Vec Ideal S2816x1024 .bf16 := m ((c.tc : Thread nD τ).loc main_arg1)
def aC : Vec Ideal S8192x1024 .f32 := m ((c.tc : Thread nD τ).loc main_arg2)
def blkA (t : Fin cfg0.N) : Vec Ideal S1024x1408 .bf16 := iblk m c 0 t
def blkB (t : Fin cfg0.N) : Vec Ideal S1408x1024 .bf16 := iblk m c 1 t
def blkC (t : Fin cfg0.N) : Vec Ideal S1024x1024 .f32 := iblk m c 2 t

/-- The product added to the array, entry by entry. -/
def total (r : Fin 8192) (d : Fin 1024) : EReal := ∑ n : Fin 2816, aA m c (ix2 r n) * aB m c (ix2 n d) + aC m c (ix2 r d)
def res : Vec Ideal S8192x1024 .f32 := fun i => total m c (i 0) (i 1)

theorem idx0 : ∀ t : Fin grid0.N, win0_0.index t 0 = t.val / 2 ∧ win0_0.index t 1 = t.val % 2 := by decide +kernel
theorem idx1 : ∀ t : Fin grid0.N, win0_1.index t 0 = t.val % 2 ∧ win0_1.index t 1 = 0 := by decide +kernel
theorem idx2 : ∀ t : Fin grid0.N, win0_2.index t 0 = t.val / 2 ∧ win0_2.index t 1 = 0 := by decide +kernel
theorem idx3 : ∀ t : Fin grid0.N, win0_3.index t 0 = t.val / 2 ∧ win0_3.index t 1 = 0 := by decide +kernel

/-- The row of the arrays at place `r` of a point's blocks, and the hidden unit at place `k`. -/
def row (t : ℕ) (r : Fin 1024) : Fin 8192 := ⟨(t / 2 * 1024 + r.val) % 8192, Nat.mod_lt _ (by decide)⟩
def unit (t : ℕ) (k : Fin 1408) : Fin 2816 := ⟨t % 2 * 1408 + k.val, by omega⟩

theorem blkA_at (t : Fin cfg0.N) (r : Fin 1024) (k : Fin 1408) :
    blkA m c t (ix2 r k) = aA m c (ix2 (row t.val r) (unit t.val k)) := by
  have hN : cfg0.N = 16 := N_0
  have ht := t.isLt
  obtain ⟨e0, e1⟩ := idx0 t
  unfold blkA iblk aA
  rw [View.read_apply]
  show V m c main_arg0 _ = m ((c.tc : Thread nD τ).loc main_arg0) _
  rw [V_main_arg0]
  congr 1
  funext x
  apply Fin.ext
  match x with
  | ⟨0, _⟩ => show win0_0.index t 0 * 1024 + 1 * r.val = (t.val / 2 * 1024 + r.val) % 8192; rw [e0]; omega
  | ⟨1, _⟩ => show win0_0.index t 1 * 1408 + 1 * k.val = t.val % 2 * 1408 + k.val; rw [e1]; omega

theorem blkB_at (t : Fin cfg0.N) (k : Fin 1408) (d : Fin 1024) :
    blkB m c t (ix2 k d) = aB m c (ix2 (unit t.val k) d) := by
  obtain ⟨e0, e1⟩ := idx1 t
  unfold blkB iblk aB
  rw [View.read_apply]
  show V m c main_arg1 _ = m ((c.tc : Thread nD τ).loc main_arg1) _
  rw [V_main_arg1]
  congr 1
  funext x
  apply Fin.ext
  match x with
  | ⟨0, _⟩ => show win0_1.index t 0 * 1408 + 1 * k.val = t.val % 2 * 1408 + k.val; rw [e0]; omega
  | ⟨1, _⟩ => show win0_1.index t 1 * 1024 + 1 * d.val = d.val; rw [e1]; omega

theorem blkC_at (t : Fin cfg0.N) (r d : Fin 1024) :
    blkC m c t (ix2 r d) = aC m c (ix2 (row t.val r) d) := by
  have hN : cfg0.N = 16 := N_0
  have ht := t.isLt
  obtain ⟨e0, e1⟩ := idx2 t
  unfold blkC iblk aC
  rw [View.read_apply]
  show V m c main_arg2 _ = m ((c.tc : Thread nD τ).loc main_arg2) _
  rw [V_main_arg2]
  congr 1
  funext x
  apply Fin.ext
  match x with
  | ⟨0, _⟩ => show win0_2.index t 0 * 1024 + 1 * r.val = (t.val / 2 * 1024 + r.val) % 8192; rw [e0]; omega
  | ⟨1, _⟩ => show win0_2.index t 1 * 1024 + 1 * d.val = d.val; rw [e1]; omega

/-- What point `t` adds. -/
def part (r d : Fin 1024) (t : ℕ) : EReal :=
  ∑ k : Fin 1408, aA m c (ix2 (row t r) (unit t k)) * aB m c (ix2 (unit t k) d)

theorem part_at (t : Fin cfg0.N) (v : Vec Ideal S1024x1024 .f32) (r d : Fin 1024) :
    k0_pay2 (F := Ideal) v (blkA m c t) (blkB m c t) (ix2 r d) = v (ix2 r d) + part m c r d t.val := by
  rw [pay2_at]
  exact congrArg (v (ix2 r d) + ·) (Finset.sum_congr rfl fun k _ => by rw [blkA_at, blkB_at])

theorem out_end (t : Fin cfg0.N) (h1 : t.val % 2 = 1) (r d : Fin 1024) :
    (outsAt0 m c t.val t.isLt).1 (ix2 r d) = total m c (row t.val r) d := by
  have h0 : ¬t.val % 2 = 0 := by omega
  have hp : t.val - 1 < cfg0.N := Nat.lt_of_le_of_lt (Nat.sub_le _ _) t.isLt
  have e := outsAt0_A m c ⟨t.val - 1, hp⟩ (by show (t.val - 1) % 2 = 0; omega) (by show ¬(t.val - 1) % 2 = 1; omega)
  dsimp only at e
  rw [outsAt0_B m c t h0 h1]
  dsimp only
  rw [e]
  dsimp only
  rw [out_B, acc_A, pay3_at]
  refine congrArg₂ (· + ·) ?_ (blkC_at m c t r d)
  refine (part_at m c t _ r d).trans ?_
  refine (congrArg (· + part m c r d t.val) (part_at m c ⟨t.val - 1, hp⟩ _ r d)).trans ?_
  dsimp only
  rw [pay1_at, zero_add]
  have hs := sum_tiles 2 1408 (fun n : Fin 2816 => aA m c (ix2 (row t.val r) n) * aB m c (ix2 n d))
    (fun s => part m c r d (t.val - 1 + s)) fun s hs => by
      have hk : ∀ k, unit (t.val - 1 + s) k = ⟨s * 1408 + k.val, by omega⟩ := fun k => Fin.ext (by
        show (t.val - 1 + s) % 2 * 1408 + k.val = s * 1408 + k.val
        omega)
      have hr : row (t.val - 1 + s) r = row t.val r := Fin.ext (by
        show ((t.val - 1 + s) / 2 * 1024 + r.val) % 8192 = (t.val / 2 * 1024 + r.val) % 8192
        omega)
      unfold part
      simp only [hk, hr]
  rw [← hs, Finset.sum_range_succ, Finset.sum_range_one, show t.val - 1 + 1 = t.val by omega, Nat.add_zero]

theorem final : (dats m 0 c).arrAt 3 cfg0.N = res m c := by
  refine (dats m 0 c).arrAt_eq_of_covers 3 _ (by decide +kernel) fun t hf y => ?_
  blk_simp
  rw [after0_3]
  have hN : cfg0.N = 16 := N_0
  have ht : t.val < cfg0.N := t.isLt
  obtain ⟨e0, e1⟩ := idx3 t
  have key := out_end m c t ((flush0_3 t).mp hf) (y 0) (y 1)
  have hy : (ix2 (y 0) (y 1) : S1024x1024.Idx) = y := (eq_ix2 (n0 := 1024) (n1 := 1024) y).symm
  rw [hy] at key
  refine key.trans ?_
  have y0 : (y 0).val < 1024 := (y 0).isLt
  have q0 : row t.val (y 0) = (win0_3.blk t).view.emb y 0 := by
    apply Fin.ext
    show (t.val / 2 * 1024 + (y 0).val) % 8192 = win0_3.index t 0 * 1024 + 1 * (y 0).val
    rw [e0]; omega
  have q1 : y 1 = (win0_3.blk t).view.emb y 1 := by
    apply Fin.ext
    show (y 1).val = win0_3.index t 1 * 1024 + 1 * (y 1).val
    rw [e1]; omega
  rw [q0]
  exact congrArg (total m c _) q1

theorem algebraic : Cert.algebraic_Kernel5Ideal_Reference5Ideal := by
  intro m g m' g' _ hagree
  refine ⟨fun c => res m c, ?_, ?_⟩
  · exact (θ_run _ _ _).mono (fun r h c => ⟨(h c).1.trans (final m c), (h c).2⟩) (Cert.Kernel5Ideal.Value.run_blocks m g)
  · refine (θ_run _ _ _).mono (fun r h c => ⟨(h c).1.trans ?_, (h c).2⟩) (Cert.Reference5Ideal.Value.run m' g')
    obtain ⟨g0, g1, g2⟩ := hagree c
    rw [g0, g1, g2]
    funext i
    rw [eq_ix2 i]
    exact Ref.ref_at _ _ _ _ _

end Cert.Down
end
-- ==== Proof.HnGrad.lean ====
module
public import proofs.«01_k».proof.Proof.Tiles
public import proofs.«01_k».proof.Defs
public import proofs.«01_k».proof.Proof.Gen.Kernel6Ideal.Value
public import proofs.«01_k».proof.Proof.Gen.Reference6Ideal.Run

/-! The gate product's share of the gradient of the network's input: a product contracted over the hidden units in two
tiles. -/

@[expose] public section
set_option maxRecDepth 16384
noncomputable section
namespace Cert.HnGrad.Ref
open Idealize.ShloMosaic Idealize.ShloMosaic.Tactic
open Cert.Reference6Ideal Cert.Reference6Ideal.Gen

/-- The reference's result, entry by entry. -/
theorem ref_at (A : FVec Ideal S8192x2816 .bf16) (B : FVec Ideal S2816x1024 .bf16) (r : Fin 8192) (d : Fin 1024) :
    Host.dotGeneral dot_S8192x2816_S1024x2816_S8192x1024_1_1_0_0_n_n none (extf .f32 A bitsLt_bf16_f32)
      (transpose S1024x2816 [1, 0] (extf .f32 B bitsLt_bf16_f32) transposes_S2816x1024_S1024x2816_1_0) (ix2 r d)
      = ∑ n : Fin 2816, A (ix2 r n) * B (ix2 n d) := by
  pointwise

end Cert.HnGrad.Ref

namespace Cert.HnGrad
open Idealize.ShloMosaic Idealize.ShloMosaic.TcCoe Idealize.ShloMosaic.Tactic
open Idealize.SL Idealize.SL.Sem
open Cert.Kernel6Ideal Cert.Kernel6Ideal.Gen Cert.Tiles

theorem pay1_at (r d : Fin 1024) : k0_pay1 (F := Ideal) (ix2 r d) = (0 : EReal) := by
  pointwise [k0_pay1]

theorem pay2_at (v : Vec Ideal S1024x1024 .f32) (a : Vec Ideal S1024x1408 .bf16) (b : Vec Ideal S1408x1024 .bf16)
    (r d : Fin 1024) :
    k0_pay2 (F := Ideal) v a b (ix2 r d) = v (ix2 r d) + ∑ k : Fin 1408, a (ix2 r k) * b (ix2 k d) := by
  pointwise [k0_pay2]

section
variable (c : Dev nD) (i : grid0.Coords)
  (arg3 : Memref sig .tc .vmem S1024x1408 .bf16) (h3 : arg3.IsWhole)
  (arg4 : Memref sig .tc .vmem S1408x1024 .bf16) (h4 : arg4.IsWhole)
  (arg5 : Memref sig .tc .vmem S1024x1024 .f32) (h5 : arg5.IsWhole)
  (arg6 : Memref sig .tc .vmem S1024x1024 .f32) (h6 : arg6.IsWhole)
  (a : Vec Ideal S1024x1408 .bf16) (b : Vec Ideal S1408x1024 .bf16) (v : Vec Ideal S1024x1024 .f32)

theorem acc_A (hc0 : cond0_0 i) (hc1 : ¬cond0_1 i) :
    sout0_A_0 (F := Ideal) c i arg3 h3 arg4 h4 arg5 h5 arg6 h6 hc0 hc1 a b = k0_pay2 k0_pay1 a b := by
  unfold sout0_A_0
  rw [View.read_writes_eq_canon _ _ _ (scover0_A_0 c i arg3 h3 arg4 h4 arg5 h5 arg6 h6 hc0 hc1 a b)]
  unfold kernelRun0_A
  dsimp only
  sl_unfold_words
  rw [View.canon_cons_unit_zero (S := S1024x1024) zeros2]
  simp only [View.readAt_eq_ld, h3.read_unread, h4.read_unread, View.readCov_unit_zero (S := S1024x1024) _ zeros2,
    View.ld_unit_zero (S := S1024x1408) zeros2, View.ld_unit_zero (S := S1408x1024) zeros2]

theorem out_B (hc0 : ¬cond0_0 i) (hc1 : cond0_1 i) :
    out0_B_2 (F := Ideal) c i arg3 h3 arg4 h4 arg5 h5 arg6 h6 hc0 hc1 a b v = k0_pay2 v a b := by
  unfold out0_B_2
  rw [View.read_writes_eq_canon _ _ _ (cover0_B_2 c i arg3 h3 arg4 h4 arg5 h5 arg6 h6 hc0 hc1 a b v)]
  unfold kernelRun0_B
  dsimp only
  sl_unfold_words
  rw [View.canon_unit_zero zeros2]
  simp only [View.readAt_eq_ld, h3.read_unread, h4.read_unread, h6.read_unread,
    View.ld_unit_zero (S := S1024x1024) zeros2, View.readCov_unit_zero (S := S1024x1024) _ zeros2,
    View.ld_unit_zero (S := S1024x1408) zeros2, View.ld_unit_zero (S := S1408x1024) zeros2]

end

variable (m : (ℓ : Loc nD τ sig) → Buf (Elt Ideal) ℓ) (c : Dev nD)

def aA : Vec Ideal S8192x2816 .bf16 := m ((c.tc : Thread nD τ).loc main_arg0)
def aB : Vec Ideal S2816x1024 .bf16 := m ((c.tc : Thread nD τ).loc main_arg1)
def blkA (t : Fin cfg0.N) : Vec Ideal S1024x1408 .bf16 := iblk m c 0 t
def blkB (t : Fin cfg0.N) : Vec Ideal S1408x1024 .bf16 := iblk m c 1 t

/-- The product, entry by entry. -/
def prod : Vec Ideal S8192x1024 .f32 := fun i => ∑ n : Fin 2816, aA m c (ix2 (i 0) n) * aB m c (ix2 n (i 1))

theorem idx0 : ∀ t : Fin grid0.N, win0_0.index t 0 = t.val / 2 ∧ win0_0.index t 1 = t.val % 2 := by decide +kernel
theorem idx1 : ∀ t : Fin grid0.N, win0_1.index t 0 = t.val % 2 ∧ win0_1.index t 1 = 0 := by decide +kernel
theorem idx2 : ∀ t : Fin grid0.N, win0_2.index t 0 = t.val / 2 ∧ win0_2.index t 1 = 0 := by decide +kernel

/-- The row of the arrays at place `r` of a point's blocks, and the hidden unit at place `k`. -/
def row (t : ℕ) (r : Fin 1024) : Fin 8192 := ⟨(t / 2 * 1024 + r.val) % 8192, Nat.mod_lt _ (by decide)⟩
def unit (t : ℕ) (k : Fin 1408) : Fin 2816 := ⟨t % 2 * 1408 + k.val, by omega⟩

theorem blkA_at (t : Fin cfg0.N) (r : Fin 1024) (k : Fin 1408) :
    blkA m c t (ix2 r k) = aA m c (ix2 (row t.val r) (unit t.val k)) := by
  have hN : cfg0.N = 16 := N_0
  have ht := t.isLt
  obtain ⟨e0, e1⟩ := idx0 t
  unfold blkA iblk aA
  rw [View.read_apply]
  show V m c main_arg0 _ = m ((c.tc : Thread nD τ).loc main_arg0) _
  rw [V_main_arg0]
  congr 1
  funext x
  apply Fin.ext
  match x with
  | ⟨0, _⟩ => show win0_0.index t 0 * 1024 + 1 * r.val = (t.val / 2 * 1024 + r.val) % 8192; rw [e0]; omega
  | ⟨1, _⟩ => show win0_0.index t 1 * 1408 + 1 * k.val = t.val % 2 * 1408 + k.val; rw [e1]; omega

theorem blkB_at (t : Fin cfg0.N) (k : Fin 1408) (d : Fin 1024) :
    blkB m c t (ix2 k d) = aB m c (ix2 (unit t.val k) d) := by
  obtain ⟨e0, e1⟩ := idx1 t
  unfold blkB iblk aB
  rw [View.read_apply]
  show V m c main_arg1 _ = m ((c.tc : Thread nD τ).loc main_arg1) _
  rw [V_main_arg1]
  congr 1
  funext x
  apply Fin.ext
  match x with
  | ⟨0, _⟩ => show win0_1.index t 0 * 1408 + 1 * k.val = t.val % 2 * 1408 + k.val; rw [e0]; omega
  | ⟨1, _⟩ => show win0_1.index t 1 * 1024 + 1 * d.val = d.val; rw [e1]; omega

/-- What point `t` adds. -/
def part (r d : Fin 1024) (t : ℕ) : EReal :=
  ∑ k : Fin 1408, aA m c (ix2 (row t r) (unit t k)) * aB m c (ix2 (unit t k) d)

theorem part_at (t : Fin cfg0.N) (v : Vec Ideal S1024x1024 .f32) (r d : Fin 1024) :
    k0_pay2 (F := Ideal) v (blkA m c t) (blkB m c t) (ix2 r d) = v (ix2 r d) + part m c r d t.val := by
  rw [pay2_at]
  exact congrArg (v (ix2 r d) + ·) (Finset.sum_congr rfl fun k _ => by rw [blkA_at, blkB_at])

theorem out_end (t : Fin cfg0.N) (h1 : t.val % 2 = 1) (r d : Fin 1024) :
    (outsAt0 m c t.val t.isLt).1 (ix2 r d) = ∑ n : Fin 2816, aA m c (ix2 (row t.val r) n) * aB m c (ix2 n d) := by
  have h0 : ¬t.val % 2 = 0 := by omega
  have hp : t.val - 1 < cfg0.N := Nat.lt_of_le_of_lt (Nat.sub_le _ _) t.isLt
  have e := outsAt0_A m c ⟨t.val - 1, hp⟩ (by show (t.val - 1) % 2 = 0; omega) (by show ¬(t.val - 1) % 2 = 1; omega)
  dsimp only at e
  rw [outsAt0_B m c t h0 h1]
  dsimp only
  rw [e]
  dsimp only
  rw [out_B, acc_A]
  refine (part_at m c t _ r d).trans ?_
  refine (congrArg (· + part m c r d t.val) (part_at m c ⟨t.val - 1, hp⟩ _ r d)).trans ?_
  dsimp only
  rw [pay1_at, zero_add]
  have hs := sum_tiles 2 1408 (fun n : Fin 2816 => aA m c (ix2 (row t.val r) n) * aB m c (ix2 n d))
    (fun s => part m c r d (t.val - 1 + s)) fun s hs => by
      have hk : ∀ k, unit (t.val - 1 + s) k = ⟨s * 1408 + k.val, by omega⟩ := fun k => Fin.ext (by
        show (t.val - 1 + s) % 2 * 1408 + k.val = s * 1408 + k.val
        omega)
      have hr : row (t.val - 1 + s) r = row t.val r := Fin.ext (by
        show ((t.val - 1 + s) / 2 * 1024 + r.val) % 8192 = (t.val / 2 * 1024 + r.val) % 8192
        omega)
      unfold part
      simp only [hk, hr]
  rw [← hs, Finset.sum_range_succ, Finset.sum_range_one, show t.val - 1 + 1 = t.val by omega, Nat.add_zero]

theorem final : (dats m 0 c).arrAt 2 cfg0.N = prod m c := by
  refine (dats m 0 c).arrAt_eq_of_covers 2 _ (by decide +kernel) fun t hf y => ?_
  blk_simp
  rw [after0_2]
  have hN : cfg0.N = 16 := N_0
  have ht : t.val < cfg0.N := t.isLt
  obtain ⟨e0, e1⟩ := idx2 t
  have key := out_end m c t ((flush0_2 t).mp hf) (y 0) (y 1)
  have hy : (ix2 (y 0) (y 1) : S1024x1024.Idx) = y := (eq_ix2 (n0 := 1024) (n1 := 1024) y).symm
  rw [hy] at key
  refine key.trans ?_
  have y0 : (y 0).val < 1024 := (y 0).isLt
  have q0 : row t.val (y 0) = (win0_2.blk t).view.emb y 0 := by
    apply Fin.ext
    show (t.val / 2 * 1024 + (y 0).val) % 8192 = win0_2.index t 0 * 1024 + 1 * (y 0).val
    rw [e0]; omega
  have q1 : y 1 = (win0_2.blk t).view.emb y 1 := by
    apply Fin.ext
    show (y 1).val = win0_2.index t 1 * 1024 + 1 * (y 1).val
    rw [e1]; omega
  rw [q0]
  exact congrArg (fun z : Fin 1024 => ∑ n : Fin 2816, aA m c (ix2 _ n) * aB m c (ix2 n z)) q1

theorem algebraic : Cert.algebraic_Kernel6Ideal_Reference6Ideal := by
  intro m g m' g' _ hagree
  refine ⟨fun c => prod m c, ?_, ?_⟩
  · exact (θ_run _ _ _).mono (fun r h c => ⟨(h c).1.trans (final m c), (h c).2⟩) (Cert.Kernel6Ideal.Value.run_blocks m g)
  · refine (θ_run _ _ _).mono (fun r h c => ⟨(h c).1.trans ?_, (h c).2⟩) (Cert.Reference6Ideal.Value.run m' g')
    obtain ⟨g0, g1⟩ := hagree c
    rw [g0, g1]
    funext i
    rw [eq_ix2 i]
    exact Ref.ref_at _ _ _ _

end Cert.HnGrad
end
-- ==== Proof.GateUp.lean ====
module
public import proofs.«01_k».proof.Proof.Tiles
public import proofs.«01_k».proof.Defs
public import proofs.«01_k».proof.Proof.Gen.Kernel7Ideal.Value
public import proofs.«01_k».proof.Proof.Gen.Reference7Ideal.Run
public import Idealize.ShloMosaic.Lib.IdealHost

/-! The forward call of the gated network: the gate and up products and the activation `gate · sigmoid(gate) · up`. -/

@[expose] public section
set_option maxRecDepth 16384
noncomputable section
namespace Cert.GateUp

open Idealize.ShloMosaic in
/-- The activation of a gate value and an up value. -/
def act (g u : EReal) : EReal := g * Ideal.logistic g * u

/-- The hidden unit of a gate column and of an up column, among the columns of both. -/
def gateCol (d : Fin 2816) : Fin 5632 := ⟨d.val, by omega⟩
def upCol (d : Fin 2816) : Fin 5632 := ⟨2816 + d.val, by omega⟩

namespace Ref
open Idealize.ShloMosaic Idealize.ShloMosaic.TcCoe Idealize.ShloMosaic.Tactic
open Idealize.SL Idealize.SL.Sem
open Cert.Reference7Ideal Cert.Reference7Ideal.Gen

/-- Both products of the reference. -/
def both (A : FVec Ideal S8192x1024 .bf16) (B : FVec Ideal S5632x1024 .bf16) : FVec Ideal S8192x5632 .f32 :=
  Host.dotGeneral dot_S8192x1024_S1024x5632_S8192x5632_1_0_0_1_n_n none (extf .f32 A bitsLt_bf16_f32)
    (transpose S1024x5632 [1, 0] (extf .f32 B bitsLt_bf16_f32) transposes_S5632x1024_S1024x5632_1_0)

theorem both_at (A : FVec Ideal S8192x1024 .bf16) (B : FVec Ideal S5632x1024 .bf16) (r : Fin 8192) (d : Fin 5632) :
    both A B (ix2 r d) = ∑ k : Fin 1024, A (ix2 r k) * B (ix2 d k) := by
  pointwise [both]

theorem gate_at (P : FVec Ideal S8192x5632 .f32) (r : Fin 8192) (d : Fin 2816) :
    extractStridedSlice S8192x2816 ![0, 0] P slices_S8192x5632_S8192x2816_0_0 (ix2 r d) = P (ix2 r (gateCol d)) := by
  pointwise
  rfl

theorem up_at (P : FVec Ideal S8192x5632 .f32) (r : Fin 8192) (d : Fin 2816) :
    extractStridedSlice S8192x2816 ![0, 2816] P slices_S8192x5632_S8192x2816_0_2816 (ix2 r d) = P (ix2 r (upCol d)) := by
  pointwise
  rfl

theorem act_at (G U : FVec Ideal S8192x2816 .f32) (r : Fin 8192) (d : Fin 2816) :
    mulf (mulf G (Host.divf (broadcastInDim S8192x2816 ![] bcast_S_S8192x2816 (constant S_ .f32 0x3F800000#32))
      (addf (broadcastInDim S8192x2816 ![] bcast_S_S8192x2816 (constant S_ .f32 0x3F800000#32)) (Host.exp (Host.negf G)))))
      U (ix2 r d) = act (G (ix2 r d)) (U (ix2 r d)) := by
  pointwise
  rfl

end Ref

open Idealize.ShloMosaic Idealize.ShloMosaic.TcCoe Idealize.ShloMosaic.Tactic
open Idealize.SL Idealize.SL.Sem
open Cert.Kernel7Ideal Cert.Kernel7Ideal.Gen Cert.Tiles

theorem pay3_at (a : Vec Ideal S1024x1024 .bf16) (b : Vec Ideal S1408x1024 .bf16) (r : Fin 1024) (d : Fin 1408) :
    k0_pay3 (F := Ideal) a (k0_pay1 (F := Ideal)) b (ix2 r d) = ∑ k : Fin 1024, a (ix2 r k) * b (ix2 d k) := by
  have h0 : k0_pay1 (F := Ideal) (ix2 r d) = (0 : EReal) := by pointwise [k0_pay1]
  have h : ∀ v, k0_pay3 (F := Ideal) a v b (ix2 r d) = v (ix2 r d) + ∑ k : Fin 1024, a (ix2 r k) * b (ix2 d k) := by
    intro v
    pointwise [k0_pay3]
  rw [h, h0, zero_add]

theorem pay4_at (a : Vec Ideal S1024x1024 .bf16) (b : Vec Ideal S1408x1024 .bf16) (r : Fin 1024) (d : Fin 1408) :
    k0_pay4 (F := Ideal) a (k0_pay2 (F := Ideal)) b (ix2 r d) = ∑ k : Fin 1024, a (ix2 r k) * b (ix2 d k) :=
  pay3_at a b r d

theorem pay7_at (g u : Vec Ideal S1024x1408 .f32) (r : Fin 1024) (d : Fin 1408) :
    k0_pay7 (F := Ideal) g u (ix2 r d) = act (g (ix2 r d)) (u (ix2 r d)) := by
  pointwise [k0_pay7]
  rfl

section
variable (c : Dev nD) (i : grid0.Coords)
  (arg3 : Memref sig .tc .vmem S1024x1024 .bf16) (h3 : arg3.IsWhole)
  (arg4 : Memref sig .tc .vmem S1408x1024 .bf16) (h4 : arg4.IsWhole)
  (arg5 : Memref sig .tc .vmem S1408x1024 .bf16) (h5 : arg5.IsWhole)
  (arg6 : Memref sig .tc .vmem S1024x1408 .bf16) (h6 : arg6.IsWhole)
  (arg7 : Memref sig .tc .vmem S1024x1408 .bf16) (h7 : arg7.IsWhole)
  (arg8 : Memref sig .tc .vmem S1024x1408 .bf16) (h8 : arg8.IsWhole)
  (arg9 : Memref sig .tc .vmem S1024x1408 .f32) (h9 : arg9.IsWhole)
  (arg10 : Memref sig .tc .vmem S1024x1408 .f32) (h10 : arg10.IsWhole)
  (a : Vec Ideal S1024x1024 .bf16) (b w : Vec Ideal S1408x1024 .bf16)

theorem out_3 (hc0 : cond0_0 i) (hc1 : cond0_1 i) :
    out0_A_3 (F := Ideal) c i arg3 h3 arg4 h4 arg5 h5 arg6 h6 arg7 h7 arg8 h8 arg9 h9 arg10 h10 hc0 hc1 a b w
      = k0_pay5 (F := Ideal) (k0_pay3 a (k0_pay1 (F := Ideal)) b) := by
  unfold out0_A_3
  rw [View.read_writes_eq_canon _ _ _
    (cover0_A_3 c i arg3 h3 arg4 h4 arg5 h5 arg6 h6 arg7 h7 arg8 h8 arg9 h9 arg10 h10 hc0 hc1 a b w)]
  unfold kernelRun0_A
  dsimp only
  sl_unfold_words
  rw [View.canon_unit_zero zeros2]
  simp only [View.readAt_eq_ld, h3.read_unread, h4.read_unread, View.readCov_cons_unit_lit' (S := S1024x1408) _ _ _ _ _ (congrFun zeros2) (congrFun zeros2),
    View.ld_unit_zero (S := S1024x1024) zeros2, View.ld_unit_zero (S := S1408x1024) zeros2]

theorem out_4 (hc0 : cond0_0 i) (hc1 : cond0_1 i) :
    out0_A_4 (F := Ideal) c i arg3 h3 arg4 h4 arg5 h5 arg6 h6 arg7 h7 arg8 h8 arg9 h9 arg10 h10 hc0 hc1 a b w
      = k0_pay6 (F := Ideal) (k0_pay4 a (k0_pay2 (F := Ideal)) w) := by
  unfold out0_A_4
  rw [View.read_writes_eq_canon _ _ _
    (cover0_A_4 c i arg3 h3 arg4 h4 arg5 h5 arg6 h6 arg7 h7 arg8 h8 arg9 h9 arg10 h10 hc0 hc1 a b w)]
  unfold kernelRun0_A
  dsimp only
  sl_unfold_words
  rw [View.canon_unit_zero zeros2]
  simp only [View.readAt_eq_ld, h3.read_unread, h5.read_unread, View.readCov_cons_unit_lit' (S := S1024x1408) _ _ _ _ _ (congrFun zeros2) (congrFun zeros2),
    View.ld_unit_zero (S := S1024x1024) zeros2, View.ld_unit_zero (S := S1408x1024) zeros2]

theorem out_5 (hc0 : cond0_0 i) (hc1 : cond0_1 i) :
    out0_A_5 (F := Ideal) c i arg3 h3 arg4 h4 arg5 h5 arg6 h6 arg7 h7 arg8 h8 arg9 h9 arg10 h10 hc0 hc1 a b w
      = k0_pay7 (F := Ideal) (k0_pay3 a (k0_pay1 (F := Ideal)) b) (k0_pay4 a (k0_pay2 (F := Ideal)) w) := by
  unfold out0_A_5
  rw [View.read_writes_eq_canon _ _ _
    (cover0_A_5 c i arg3 h3 arg4 h4 arg5 h5 arg6 h6 arg7 h7 arg8 h8 arg9 h9 arg10 h10 hc0 hc1 a b w)]
  unfold kernelRun0_A
  dsimp only
  sl_unfold_words
  rw [View.canon_unit_zero zeros2]
  simp only [View.readAt_eq_ld, h3.read_unread, h4.read_unread, h5.read_unread,
    View.readCov_cons_unit_lit' (S := S1024x1408) _ _ _ _ _ (congrFun zeros2) (congrFun zeros2),
    View.ld_unit_zero (S := S1024x1024) zeros2, View.ld_unit_zero (S := S1408x1024) zeros2]

end

variable (m : (ℓ : Loc nD τ sig) → Buf (Elt Ideal) ℓ) (c : Dev nD)

def aA : Vec Ideal S8192x1024 .bf16 := m ((c.tc : Thread nD τ).loc main_arg0)
def aB : Vec Ideal S5632x1024 .bf16 := m ((c.tc : Thread nD τ).loc main_arg1)
def blkA (t : Fin cfg0.N) : Vec Ideal S1024x1024 .bf16 := iblk m c 0 t
def blkB (t : Fin cfg0.N) : Vec Ideal S1408x1024 .bf16 := iblk m c 1 t
def blkW (t : Fin cfg0.N) : Vec Ideal S1408x1024 .bf16 := iblk m c 2 t

/-- An entry of the two products side by side. -/
def prod (r : Fin 8192) (d : Fin 5632) : EReal := ∑ k : Fin 1024, aA m c (ix2 r k) * aB m c (ix2 d k)
/-- The three results. -/
def gate : Vec Ideal S8192x2816 .bf16 := fun i => prod m c (i 0) (gateCol (i 1))
def up : Vec Ideal S8192x2816 .bf16 := fun i => prod m c (i 0) (upCol (i 1))
def acts : Vec Ideal S8192x2816 .bf16 := fun i => act (prod m c (i 0) (gateCol (i 1))) (prod m c (i 0) (upCol (i 1)))

theorem idx0 : ∀ t : Fin grid0.N, win0_0.index t 0 = t.val / 2 ∧ win0_0.index t 1 = 0 := by decide +kernel
theorem idx1 : ∀ t : Fin grid0.N, win0_1.index t 0 = t.val % 2 ∧ win0_1.index t 1 = 0 := by decide +kernel
theorem idx2 : ∀ t : Fin grid0.N, win0_2.index t 0 = t.val % 2 + 2 ∧ win0_2.index t 1 = 0 := by decide +kernel
theorem idx3 : ∀ t : Fin grid0.N, win0_3.index t 0 = t.val / 2 ∧ win0_3.index t 1 = t.val % 2 := by decide +kernel
theorem idx4 : ∀ t : Fin grid0.N, win0_4.index t 0 = t.val / 2 ∧ win0_4.index t 1 = t.val % 2 := by decide +kernel
theorem idx5 : ∀ t : Fin grid0.N, win0_5.index t 0 = t.val / 2 ∧ win0_5.index t 1 = t.val % 2 := by decide +kernel

/-- The row and the hidden unit of a place of a point's blocks. -/
def row (t : ℕ) (r : Fin 1024) : Fin 8192 := ⟨(t / 2 * 1024 + r.val) % 8192, Nat.mod_lt _ (by decide)⟩
def unit (t : ℕ) (d : Fin 1408) : Fin 2816 := ⟨t % 2 * 1408 + d.val, by omega⟩

theorem blkA_at (t : Fin cfg0.N) (r k : Fin 1024) : blkA m c t (ix2 r k) = aA m c (ix2 (row t.val r) k) := by
  have hN : cfg0.N = 16 := N_0
  have ht := t.isLt
  obtain ⟨e0, e1⟩ := idx0 t
  unfold blkA iblk aA
  rw [View.read_apply]
  show V m c main_arg0 _ = m ((c.tc : Thread nD τ).loc main_arg0) _
  rw [V_main_arg0]
  congr 1
  funext x
  apply Fin.ext
  match x with
  | ⟨0, _⟩ => show win0_0.index t 0 * 1024 + 1 * r.val = (t.val / 2 * 1024 + r.val) % 8192; rw [e0]; omega
  | ⟨1, _⟩ => show win0_0.index t 1 * 1024 + 1 * k.val = k.val; rw [e1]; omega

theorem blkB_at (t : Fin cfg0.N) (d : Fin 1408) (k : Fin 1024) :
    blkB m c t (ix2 d k) = aB m c (ix2 (gateCol (unit t.val d)) k) := by
  obtain ⟨e0, e1⟩ := idx1 t
  unfold blkB iblk aB
  rw [View.read_apply]
  show V m c main_arg1 _ = m ((c.tc : Thread nD τ).loc main_arg1) _
  rw [V_main_arg1]
  congr 1
  funext x
  apply Fin.ext
  match x with
  | ⟨0, _⟩ => show win0_1.index t 0 * 1408 + 1 * d.val = t.val % 2 * 1408 + d.val; rw [e0]; omega
  | ⟨1, _⟩ => show win0_1.index t 1 * 1024 + 1 * k.val = k.val; rw [e1]; omega

theorem blkW_at (t : Fin cfg0.N) (d : Fin 1408) (k : Fin 1024) :
    blkW m c t (ix2 d k) = aB m c (ix2 (upCol (unit t.val d)) k) := by
  obtain ⟨e0, e1⟩ := idx2 t
  unfold blkW iblk aB
  rw [View.read_apply]
  show V m c main_arg1 _ = m ((c.tc : Thread nD τ).loc main_arg1) _
  rw [V_main_arg1]
  congr 1
  funext x
  apply Fin.ext
  match x with
  | ⟨0, _⟩ => show win0_2.index t 0 * 1408 + 1 * d.val = 2816 + (t.val % 2 * 1408 + d.val); rw [e0]; omega
  | ⟨1, _⟩ => show win0_2.index t 1 * 1024 + 1 * k.val = k.val; rw [e1]; omega

theorem gate_pt (t : Fin cfg0.N) (r : Fin 1024) (d : Fin 1408) :
    k0_pay3 (F := Ideal) (blkA m c t) (k0_pay1 (F := Ideal)) (blkB m c t) (ix2 r d) = prod m c (row t.val r) (gateCol (unit t.val d)) := by
  rw [pay3_at]
  exact Finset.sum_congr rfl fun k _ => by rw [blkA_at, blkB_at]

theorem up_pt (t : Fin cfg0.N) (r : Fin 1024) (d : Fin 1408) :
    k0_pay4 (F := Ideal) (blkA m c t) (k0_pay2 (F := Ideal)) (blkW m c t) (ix2 r d) = prod m c (row t.val r) (upCol (unit t.val d)) := by
  rw [pay4_at]
  exact Finset.sum_congr rfl fun k _ => by rw [blkA_at, blkW_at]

/-- A place of a point's block read in the array, for an output window whose block index is `(t / 2, t mod 2)`. -/
theorem place (f : Fin 8192 → Fin 2816 → EReal) (t : Fin cfg0.N) (y0 : Fin 1024) (y1 : Fin 1408) (q0 : Fin 8192)
    (q1 : Fin 2816) (j0 j1 : ℕ) (e0 : j0 = t.val / 2) (e1 : j1 = t.val % 2) (h0 : q0.val = j0 * 1024 + 1 * y0.val)
    (h1 : q1.val = j1 * 1408 + 1 * y1.val) : f (row t.val y0) (unit t.val y1) = f q0 q1 := by
  have hN : cfg0.N = 16 := N_0
  have ht := t.isLt
  refine congrArg₂ f (Fin.ext ?_) (Fin.ext ?_)
  · show (t.val / 2 * 1024 + y0.val) % 8192 = q0.val
    omega
  · show t.val % 2 * 1408 + y1.val = q1.val
    omega

theorem final3 : (dats m 0 c).arrAt 3 cfg0.N = gate m c := by
  refine (dats m 0 c).arrAt_eq_of_covers 3 _ (by decide +kernel) fun t hf y => ?_
  blk_simp
  rw [after0_3]
  obtain ⟨e0, e1⟩ := idx3 t
  have hy : (ix2 (y 0) (y 1) : S1024x1408.Idx) = y := (eq_ix2 (n0 := 1024) (n1 := 1408) y).symm
  unfold outsAt0
  dsimp only
  rw [out_3, ← hy]
  exact (gate_pt m c t (y 0) (y 1)).trans
    (place (fun r d => prod m c r (gateCol d)) t (y 0) (y 1) _ _ _ _ e0 e1 rfl rfl)

theorem final4 : (dats m 0 c).arrAt 4 cfg0.N = up m c := by
  refine (dats m 0 c).arrAt_eq_of_covers 4 _ (by decide +kernel) fun t hf y => ?_
  blk_simp
  rw [after0_4]
  obtain ⟨e0, e1⟩ := idx4 t
  have hy : (ix2 (y 0) (y 1) : S1024x1408.Idx) = y := (eq_ix2 (n0 := 1024) (n1 := 1408) y).symm
  unfold outsAt0
  dsimp only
  rw [out_4, ← hy]
  exact (up_pt m c t (y 0) (y 1)).trans
    (place (fun r d => prod m c r (upCol d)) t (y 0) (y 1) _ _ _ _ e0 e1 rfl rfl)

theorem final5 : (dats m 0 c).arrAt 5 cfg0.N = acts m c := by
  refine (dats m 0 c).arrAt_eq_of_covers 5 _ (by decide +kernel) fun t hf y => ?_
  blk_simp
  rw [after0_5]
  obtain ⟨e0, e1⟩ := idx5 t
  have hy : (ix2 (y 0) (y 1) : S1024x1408.Idx) = y := (eq_ix2 (n0 := 1024) (n1 := 1408) y).symm
  unfold outsAt0
  dsimp only
  rw [out_5, ← hy]
  refine (pay7_at _ _ (y 0) (y 1)).trans ?_
  exact (congrArg₂ act (gate_pt m c t (y 0) (y 1)) (up_pt m c t (y 0) (y 1))).trans
    (place (fun r d => act (prod m c r (gateCol d)) (prod m c r (upCol d))) t (y 0) (y 1) _ _ _ _ e0 e1 rfl rfl)

theorem algebraic : Cert.algebraic_Kernel7Ideal_Reference7Ideal := by
  intro m g m' g' _ hagree
  refine ⟨fun c => gate m c, fun c => up m c, fun c => acts m c, ?_, ?_⟩
  · exact (θ_run _ _ _).mono (fun r h c => ⟨(h c).1.trans (final3 m c), (h c).2.1.trans (final4 m c),
      (h c).2.2.1.trans (final5 m c), (h c).2.2.2⟩) (Cert.Kernel7Ideal.Value.run_blocks m g)
  · refine (θ_run _ _ _).mono (fun r h c => ?_) (Cert.Reference7Ideal.Value.run m' g')
    obtain ⟨g0, g1⟩ := hagree c
    have hc := h c
    rw [g0, g1] at hc
    refine ⟨hc.1.trans ?_, hc.2.1.trans ?_, hc.2.2.1.trans ?_, (h c).2.2.2⟩
    · funext i
      rw [eq_ix2 i]
      exact (Ref.gate_at (Ref.both _ _) _ _).trans (Ref.both_at _ _ _ _)
    · funext i
      rw [eq_ix2 i]
      exact (Ref.up_at (Ref.both _ _) _ _).trans (Ref.both_at _ _ _ _)
    · funext i
      rw [eq_ix2 i]
      refine (Ref.act_at _ _ _ _).trans ?_
      exact congrArg₂ act ((Ref.gate_at (Ref.both _ _) _ _).trans (Ref.both_at _ _ _ _))
        ((Ref.up_at (Ref.both _ _) _ _).trans (Ref.both_at _ _ _ _))

end Cert.GateUp
end
-- ==== Proof.Online.lean ====
module
public import proofs.«01_k».proof.Proof.Math

/-! The softmax read one block of keys at a time: what is carried between the blocks — a running bound of the scores, and
the sum and the weighted sum of the base-two powers of the scores less that bound —, and what it gives at the end. The
bound need not be the largest score: any real number cancels. -/

@[expose] public section
noncomputable section
namespace Cert.Online
open Idealize.ShloMosaic Cert.Attn

/-- The power of two. -/
abbrev E (x : EReal) : EReal := FloatOps.exp2 (F := Ideal) (φ := .f32) x

theorem E_coe (x : ℝ) : E (x : EReal) = (((2 : ℝ) ^ x : ℝ) : EReal) := rfl

/-- The key at place `n` of block `j`. -/
def ky (j : ℕ) (n : Fin 1024) : Fin 8192 := ⟨(1024 * j + n.val) % 8192, Nat.mod_lt _ (by decide)⟩

/-- A sum over the eight blocks of keys is the sum over all keys. -/
theorem sum_ky {M : Type*} [AddCommMonoid M] (f : Fin 8192 → M) :
    ∑ j ∈ Finset.range 8, ∑ n : Fin 1024, f (ky j n) = ∑ n, f n := by
  rw [← Fin.sum_mul_add_fin 8 1024 f, Finset.sum_range]
  refine Finset.sum_congr rfl fun j _ => Finset.sum_congr rfl fun n _ => congrArg f (Fin.ext ?_)
  show (1024 * j.val + n.val) % 8192 = j.val * 1024 + n.val
  omega

/-- A nonnegative real factor goes into a sum of extended reals. -/
theorem coe_mul_sum {ι : Type*} (c : ℝ) (hc : 0 ≤ c) (u : Finset ι) (f : ι → EReal) :
    (c : EReal) * ∑ i ∈ u, f i = ∑ i ∈ u, (c : EReal) * f i := by
  classical
  induction u using Finset.induction_on with
  | empty => simp
  | insert i u hi ih =>
    rw [Finset.sum_insert hi, Finset.sum_insert hi,
      EReal.left_distrib_of_nonneg_of_ne_top (EReal.coe_nonneg.2 hc) (EReal.coe_ne_top c), ih]

/-- Dividing by a real number that isn't zero. -/
theorem div_real (x : EReal) (b : ℝ) (hb : b ≠ 0) : Ideal.div x (b : EReal) = x * ((b⁻¹ : ℝ) : EReal) := by
  have hb' : (b : EReal) ≠ 0 := by exact_mod_cast hb
  unfold Ideal.div
  rw [if_neg hb', ← EReal.coe_inv]

variable {D : ℕ} (s : Fin 8192 → ℝ) (w : Fin 8192 → Fin D → EReal)

/-- What one query row carries before block `J`. -/
def Inv (J : ℕ) (m l : EReal) (a : Fin D → EReal) : Prop :=
  ∃ μ : ℝ, m = (μ : EReal)
    ∧ l = ((∑ j ∈ Finset.range J, ∑ n : Fin 1024, (2 : ℝ) ^ (s (ky j n) - μ) : ℝ) : EReal)
    ∧ ∀ d, a d = ∑ j ∈ Finset.range J, ∑ n : Fin 1024, w (ky j n) d * (((2 : ℝ) ^ (s (ky j n) - μ) : ℝ) : EReal)

theorem Inv.zero (μ : ℝ) : Inv s w 0 (μ : EReal) 0 fun _ => 0 :=
  ⟨μ, rfl, by simp, fun d => by simp⟩

/-- Moving the bound from `μ` to `ν` scales every power by the same factor. -/
theorem rescale (x μ ν : ℝ) : (2 : ℝ) ^ (μ - ν) * (2 : ℝ) ^ (x - μ) = (2 : ℝ) ^ (x - ν) := by
  rw [← Real.rpow_add (by norm_num : (0 : ℝ) < 2)]
  congr 1
  ring

theorem Inv.succ {J : ℕ} {m l m' : EReal} {a : Fin D → EReal} (h : Inv s w J m l a) (sc : Fin 1024 → EReal)
    (v : Fin D → Fin 1024 → EReal) (hs : ∀ n, sc n = ((s (ky J n) : ℝ) : EReal))
    (hv : ∀ d n, v d n = w (ky J n) d)
    (hm : m' = max m (Finset.fold max (⊥ : EReal) sc Finset.univ)) :
    Inv s w (J + 1) m' (E (m - m') * l + ∑ n, E (sc n - m')) fun d => E (m - m') * a d + ∑ n, v d n * E (sc n - m') := by
  obtain ⟨μ, rfl, rfl, ha⟩ := h
  obtain ⟨r, hr⟩ := fold_max_real (n := 1023) fun n => s (ky J n)
  have e : sc = fun n => ((s (ky J n) : ℝ) : EReal) := funext hs
  rw [e, hr] at hm
  replace hm : m' = ((max μ r : ℝ) : EReal) := hm.trans (EReal.coe_strictMono.monotone.map_max).symm
  subst hm
  generalize max μ r = ν
  refine ⟨ν, rfl, ?_, fun d => ?_⟩
  · simp only [hs, ← EReal.coe_sub, E_coe, ← EReal.coe_mul]
    rw [coe_sum, ← EReal.coe_add, Finset.sum_range_succ, Finset.mul_sum]
    refine congrArg (fun r : ℝ => (r : EReal)) (congrArg (· + _) ?_)
    refine Finset.sum_congr rfl fun j _ => ?_
    rw [Finset.mul_sum]
    exact Finset.sum_congr rfl fun n _ => rescale _ _ _
  · simp only [hs, hv, ha, ← EReal.coe_sub, E_coe]
    rw [coe_mul_sum _ (Real.rpow_nonneg (by norm_num) _), Finset.sum_range_succ]
    refine congrArg (· + _) ?_
    refine Finset.sum_congr rfl fun j _ => ?_
    rw [coe_mul_sum _ (Real.rpow_nonneg (by norm_num) _)]
    refine Finset.sum_congr rfl fun n _ => (mul_left_comm _ _ _).trans (congrArg (w (ky j n) d * ·) ?_)
    rw [← EReal.coe_mul, rescale _ μ ν]

/-- The power of a score less the bound is the power of the score over that of the bound. -/
theorem split (x μ : ℝ) : (2 : ℝ) ^ (x - μ) = (2 : ℝ) ^ x / (2 : ℝ) ^ μ := Real.rpow_sub (by norm_num) _ _

theorem sum_pos : 0 < ∑ n, (2 : ℝ) ^ s n :=
  Finset.sum_pos (fun _ _ => Real.rpow_pos_of_pos (by norm_num) _) ⟨0, Finset.mem_univ _⟩

/-- The weighted sum over the sum. -/
theorem Inv.out {m l : EReal} {a : Fin D → EReal} (h : Inv s w 8 m l a) (d : Fin D) :
    Ideal.div (a d) l = ∑ n, w n d * (((2 : ℝ) ^ s n / ∑ b, (2 : ℝ) ^ s b : ℝ) : EReal) := by
  obtain ⟨μ, rfl, rfl, ha⟩ := h
  have hp : (2 : ℝ) ^ μ ≠ 0 := (Real.rpow_pos_of_pos (by norm_num) _).ne'
  have hq := (sum_pos s).ne'
  rw [ha, sum_ky (fun n => (2 : ℝ) ^ (s n - μ)), sum_ky (fun n => w n d * (((2 : ℝ) ^ (s n - μ) : ℝ) : EReal))]
  simp only [split]
  rw [← Finset.sum_div, div_real _ _ (div_ne_zero hq hp), mul_comm, coe_mul_sum _
    (inv_nonneg.2 (div_nonneg (sum_pos s).le (Real.rpow_nonneg (by norm_num) _)))]
  refine Finset.sum_congr rfl fun n _ => (mul_left_comm _ _ _).trans (congrArg (w n d * ·) ?_)
  rw [← EReal.coe_mul]
  refine congrArg (fun r : ℝ => (r : EReal)) ?_
  field_simp

/-- The bound and the sum's logarithm. -/
theorem Inv.lse {m l : EReal} {a : Fin D → EReal} (h : Inv s w 8 m l a) :
    m + Ideal.log l * (((Real.log 2)⁻¹ : ℝ) : EReal) = ((Real.log (∑ n, (2 : ℝ) ^ s n) / Real.log 2 : ℝ) : EReal) := by
  obtain ⟨μ, rfl, rfl, -⟩ := h
  have hp : 0 < (2 : ℝ) ^ μ := Real.rpow_pos_of_pos (by norm_num) _
  have h2 : Real.log 2 ≠ 0 := Real.log_ne_zero_of_pos_of_ne_one (by norm_num) (by norm_num)
  rw [sum_ky (fun n => (2 : ℝ) ^ (s n - μ))]
  simp only [split]
  rw [← Finset.sum_div, log_coe' _ (div_pos (sum_pos s) hp), ← EReal.coe_mul, ← EReal.coe_add,
    Real.log_div (sum_pos s).ne' hp.ne', Real.log_rpow (by norm_num)]
  refine congrArg (fun r : ℝ => (r : EReal)) ?_
  field_simp
  ring

end Cert.Online
end
-- ==== Proof.FwdTrip.lean ====
module
public import proofs.«01_k».proof.Proof.Online
public import proofs.«01_k».proof.Proof.Gen.Kernel8Ideal.Value
public import Idealize.ShloMosaic.Lib.WholeRead
public import Idealize.ShloMosaic.Lib.WritesUnit
public import Idealize.ShloMosaic.Lib.Pointwise

/-! The forward attention's key loop: one trip, the eight trips together, and what a grid point leaves in its two output
blocks. -/

@[expose] public section
set_option maxRecDepth 16384
noncomputable section
namespace Cert.AttnFwd
open Idealize.ShloMosaic Idealize.ShloMosaic.TcCoe Idealize.ShloMosaic.Tactic
open Idealize.SL Idealize.SL.Sem
open Cert.Kernel8Ideal Cert.Kernel8Ideal.Gen Cert.Online

/-! ## The values a trip computes, entry by entry -/

section
variable (v : Vec Ideal S1x64x2048 .bf16) (m l : FVec Ideal S1x2048 .f32) (a : FVec Ideal S64x2048 .f32)
  (kb : Vec Ideal S1x1024x64 .bf16) (vb : Vec Ideal S1x1x64x1024 .bf16)

theorem pay11_at (n : Fin 1024) (q : Fin 2048) :
    k0_pay11 (F := Ideal) v kb (ix2 n q) = ∑ d : Fin 64, kb (ix3 0 n d) * v (ix3 0 d q) := by
  pointwise [k0_pay11, k0_pay9]

theorem pay12_at (q : Fin 2048) : k0_pay12 (F := Ideal) v m kb (ix2 0 q)
    = max (m (ix2 0 q)) (Finset.fold max (⊥ : EReal) (fun n => k0_pay11 (F := Ideal) v kb (ix2 n q)) Finset.univ) := by
  rw [← Cert.Attn.lit_bot]
  pointwise [k0_pay12]

theorem pay13_at (n : Fin 1024) (q : Fin 2048) : k0_pay13 (F := Ideal) v m kb (ix2 n q)
    = E (k0_pay11 (F := Ideal) v kb (ix2 n q) - k0_pay12 (F := Ideal) v m kb (ix2 0 q)) := by
  pointwise [k0_pay13]

theorem pay14_at (q : Fin 2048) : k0_pay14 (F := Ideal) v m kb (ix2 0 q)
    = E (m (ix2 0 q) - k0_pay12 (F := Ideal) v m kb (ix2 0 q)) := by
  pointwise [k0_pay14]

theorem pay15_at (q : Fin 2048) : k0_pay15 (F := Ideal) v m l kb (ix2 0 q)
    = k0_pay14 (F := Ideal) v m kb (ix2 0 q) * l (ix2 0 q) + ∑ n : Fin 1024, k0_pay13 (F := Ideal) v m kb (ix2 n q) := by
  pointwise [k0_pay15]

theorem pay16_at (d : Fin 64) (q : Fin 2048) : k0_pay16 (F := Ideal) v m a kb vb (ix2 d q)
    = k0_pay14 (F := Ideal) v m kb (ix2 0 q) * a (ix2 d q)
      + ∑ n : Fin 1024, vb (ix4 0 0 d n) * k0_pay13 (F := Ideal) v m kb (ix2 n q) := by
  pointwise [k0_pay16, k0_pay10]

theorem pay23_at (d : Fin 64) (q : Fin 2048) : k0_pay23 (F := Ideal) l a (ix3 0 d q) = Ideal.div (a (ix2 d q)) (l (ix2 0 q)) := by
  pointwise [k0_pay23]

theorem pay1_at (d : Fin 64) (q : Fin 2048) :
    k0_pay1 (F := Ideal) (k0_pay25 l a) (ix3 0 d q) = Ideal.div (a (ix2 d q)) (l (ix2 0 q)) := by
  pointwise [k0_pay1, k0_pay25]

/-- The named constant is the inverse of the natural logarithm of two. -/
theorem log2e_named : Named.named (F := Ideal) (φ := .f32) κ "log2_e" 0x3FB8AA3B#32 = (((Real.log 2)⁻¹ : ℝ) : EReal) :=
  IdealRules.named_const.ideal_named_scalar _ _ _ _ rfl

theorem pay24_at (q : Fin 2048) : k0_pay24 (F := Ideal) m l (ix3 0 0 q)
    = m (ix2 0 q) + Ideal.log (l (ix2 0 q)) * (((Real.log 2)⁻¹ : ℝ) : EReal) := by
  rw [← log2e_named]
  pointwise [k0_pay24]

theorem pay2_eq : k0_pay2 (F := Ideal) m l = k0_pay24 m l := rfl
theorem pay18_eq : k0_pay18 (F := Ideal) v m kb = k0_pay12 v m kb := rfl
theorem pay21_eq : k0_pay21 (F := Ideal) v m l kb = k0_pay15 v m l kb := rfl
theorem pay22_eq : k0_pay22 (F := Ideal) v m a kb vb = k0_pay16 v m a kb vb := rfl
end

/-- The literal the bound starts from is a real number. -/
theorem start_real : ∃ r : ℝ, Ideal.ofBits .f32 0xF149F2CA#32 = (r : EReal) := by
  refine ⟨(Ideal.ofBits .f32 0xF149F2CA#32).toReal, (EReal.coe_toReal ?_ ?_).symm⟩ <;>
    simp [Ideal.ofBits, Ideal.ieee, -EReal.coe_mul]

theorem pay3_at (q : Fin 2048) : k0_pay3 (F := Ideal) (ix2 0 q) = Ideal.ofBits .f32 0xF149F2CA#32 := by
  pointwise [k0_pay3]
theorem pay4_at (q : Fin 2048) : k0_pay4 (F := Ideal) (ix2 0 q) = (0 : EReal) := by
  pointwise [k0_pay4]
theorem pay5_at (d : Fin 64) (q : Fin 2048) : k0_pay5 (F := Ideal) (ix2 d q) = (0 : EReal) := by
  pointwise [k0_pay5]
theorem pay6_eq : k0_pay6 (F := Ideal) = k0_pay3 := rfl
theorem pay7_eq : k0_pay7 (F := Ideal) = k0_pay4 := rfl
theorem pay8_eq : k0_pay8 (F := Ideal) = k0_pay5 := rfl

/-- What one head carries around the loop, and one trip of it. -/
abbrev Acc := FVec Ideal S1x2048 .f32 × FVec Ideal S1x2048 .f32 × FVec Ideal S64x2048 .f32
def step (v : Vec Ideal S1x64x2048 .bf16) (kb : Vec Ideal S1x1024x64 .bf16) (vb : Vec Ideal S1x1x64x1024 .bf16) (z : Acc) : Acc :=
  (k0_pay12 v z.1 kb, k0_pay15 v z.1 z.2.1 kb, k0_pay16 v z.1 z.2.2 kb vb)
/-- The two heads' carried values side by side, as the loop holds them. -/
def pair (y z : Acc) : FVec Ideal S1x2048 .f32 × FVec Ideal S1x2048 .f32 × FVec Ideal S64x2048 .f32 × FVec Ideal S1x2048 .f32
    × FVec Ideal S1x2048 .f32 × FVec Ideal S64x2048 .f32 := (y.1, y.2.1, y.2.2, z.1, z.2.1, z.2.2)
/-- The values the loop starts from. -/
def start : Acc := (k0_pay3, k0_pay4, k0_pay5)

/-- A head's carried values hold the sums over the first `J` blocks of keys. -/
def Good (s : Fin 2048 → Fin 8192 → ℝ) (w : Fin 8192 → Fin 64 → EReal) (J : ℕ) (z : Acc) : Prop :=
  ∀ q : Fin 2048, Inv (s q) w J (z.1 (ix2 0 q)) (z.2.1 (ix2 0 q)) fun d => z.2.2 (ix2 d q)

theorem good_start (s : Fin 2048 → Fin 8192 → ℝ) (w : Fin 8192 → Fin 64 → EReal) : Good s w 0 start := by
  intro q
  obtain ⟨r, hr⟩ := start_real
  unfold start
  dsimp only
  simp only [pay3_at, pay4_at, pay5_at, hr]
  exact Inv.zero _ _ _

theorem good_step (s : Fin 2048 → Fin 8192 → ℝ) (w : Fin 8192 → Fin 64 → EReal) (J : ℕ) (z : Acc) (h : Good s w J z)
    (v : Vec Ideal S1x64x2048 .bf16) (kb : Vec Ideal S1x1024x64 .bf16) (vb : Vec Ideal S1x1x64x1024 .bf16)
    (hs : ∀ n q, ∑ d : Fin 64, kb (ix3 0 n d) * v (ix3 0 d q) = ((s q (ky J n) : ℝ) : EReal))
    (hw : ∀ d n, vb (ix4 0 0 d n) = w (ky J n) d) : Good s w (J + 1) (step v kb vb z) := by
  intro q
  have e := (h q).succ (s q) w (fun n => k0_pay11 (F := Ideal) v kb (ix2 n q)) (fun d n => vb (ix4 0 0 d n))
    (fun n => (pay11_at v kb n q).trans (hs n q)) hw (pay12_at v z.1 kb q)
  unfold step
  dsimp only
  simp only [pay15_at, pay16_at, pay14_at, pay13_at]
  exact e

/-! ## The loop and a grid point's two output blocks -/

theorem trips_eq : k0_t1_loop.trips = 8 := by decide +kernel

theorem ldK (m : Memref sig .tc .vmem S1x8192x64 .bf16) (hm : m.IsWhole) (x : Vec Ideal S1x8192x64 .bf16)
    (k : Fin k0_t1_loop.trips) (n : Fin 1024) (d : Fin 64) :
    View.readAt (Elt Ideal) m.view (Rect.unit (s := S1x8192x64) (k0_off1 k) S1x1024x64.size (k0_off1_inb k)).toLoadRect
      (hm.unread x) (ix3 0 n d) = x (ix3 0 (ky k.val n) d) := by
  have hk : k.val < 8 := Nat.lt_of_lt_of_eq k.isLt trips_eq
  rw [Memref.IsWhole.readAt_unread]
  congr 1
  have e := k0_off1_eq k
  funext r
  apply Fin.ext
  match r with
  | ⟨0, _⟩ => show k0_off1 k 0 + 1 * 0 = 0; rw [e]; rfl
  | ⟨1, _⟩ =>
    show k0_off1 k 1 + 1 * n.val = (1024 * k.val + n.val) % 8192
    rw [e]
    show 1024 * k.val + 1 * n.val = _
    omega
  | ⟨2, _⟩ => show k0_off1 k 2 + 1 * d.val = d.val; rw [e]; show 0 + 1 * d.val = _; omega

theorem ldV (m : Memref sig .tc .vmem S1x8x64x1024 .bf16) (hm : m.IsWhole) (x : Vec Ideal S1x8x64x1024 .bf16)
    (k : Fin k0_t1_loop.trips) (d : Fin 64) (n : Fin 1024) :
    View.readAt (Elt Ideal) m.view (Rect.unit (s := S1x8x64x1024) (k0_off2 k) S1x1x64x1024.size (k0_off2_inb k)).toLoadRect
      (hm.unread x) (ix4 0 0 d n) = x (ix4 0 ⟨k.val, Nat.lt_of_lt_of_eq k.isLt trips_eq⟩ d n) := by
  rw [Memref.IsWhole.readAt_unread]
  congr 1
  have e := k0_off2_eq k
  funext r
  apply Fin.ext
  match r with
  | ⟨0, _⟩ => show k0_off2 k 0 + 1 * 0 = 0; rw [e]; rfl
  | ⟨1, _⟩ => show k0_off2 k 1 + 1 * 0 = k.val; rw [e]; show k.val + 1 * 0 = _; omega
  | ⟨2, _⟩ => show k0_off2 k 2 + 1 * d.val = d.val; rw [e]; show 0 + 1 * d.val = _; omega
  | ⟨3, _⟩ => show k0_off2 k 3 + 1 * n.val = n.val; rw [e]; show 0 + 1 * n.val = _; omega

theorem ldQ_0 (m : Memref sig .tc .vmem S2x64x2048 .bf16) (hm : m.IsWhole) (x : Vec Ideal S2x64x2048 .bf16)
    (inb : ∀ a, (![0, 0, 0] : Fin 3 → ℕ) a + S1x64x2048.size a ≤ S2x64x2048.size a) (d : Fin 64) (q : Fin 2048) :
    View.readAt (Elt Ideal) m.view (Rect.unit (s := S2x64x2048) ![0, 0, 0] S1x64x2048.size inb).toLoadRect (hm.unread x) (ix3 0 d q)
      = x (ix3 0 d q) := by
  rw [Memref.IsWhole.readAt_unread]
  congr 1
  funext r
  apply Fin.ext
  match r with
  | ⟨0, _⟩ => rfl
  | ⟨1, _⟩ => show 0 + 1 * d.val = d.val; omega
  | ⟨2, _⟩ => show 0 + 1 * q.val = q.val; omega

theorem ldQ_1 (m : Memref sig .tc .vmem S2x64x2048 .bf16) (hm : m.IsWhole) (x : Vec Ideal S2x64x2048 .bf16)
    (inb : ∀ a, (![1, 0, 0] : Fin 3 → ℕ) a + S1x64x2048.size a ≤ S2x64x2048.size a) (d : Fin 64) (q : Fin 2048) :
    View.readAt (Elt Ideal) m.view (Rect.unit (s := S2x64x2048) ![1, 0, 0] S1x64x2048.size inb).toLoadRect (hm.unread x) (ix3 0 d q)
      = x (ix3 1 d q) := by
  rw [Memref.IsWhole.readAt_unread]
  congr 1
  funext r
  apply Fin.ext
  match r with
  | ⟨0, _⟩ => rfl
  | ⟨1, _⟩ => show 0 + 1 * d.val = d.val; omega
  | ⟨2, _⟩ => show 0 + 1 * q.val = q.val; omega

/-- A head's half of an output block read under the two stores. -/
theorem rdO {κ' : Kind} {sp : Space} {v : View sig κ' sp S2x64x2048 .bf16} (f : BufTy.Contents (Elt Ideal) v.ty)
    (w0 w1 : Vec Ideal S1x64x2048 .bf16) (h : Fin 2) (d : Fin 64) (q : Fin 2048) :
    v.read (Elt Ideal) (v.writes (Elt Ideal) f
      [⟨Rect.unit (s := S2x64x2048) ![1, 0, 0] S1x64x2048.size inb_S2x64x2048_S1x64x2048_1_0_0, w1⟩,
       ⟨Rect.unit (s := S2x64x2048) ![0, 0, 0] S1x64x2048.size inb_S2x64x2048_S1x64x2048_0_0_0, w0⟩]) (ix3 h d q)
      = if h = 0 then w0 (ix3 0 d q) else w1 (ix3 0 d q) := by
  by_cases hh : h = 0
  · subst hh
    rw [if_pos rfl]
    refine (View.read_writes_cons_unit_of_not_mem v f _ w1 _ _ rfl 0 (Or.inl ?_)).trans
      (View.read_writes_cons_unit_of_mem v f _ w0 [] _ (ix3 0 d q) rfl ?_)
    · show 0 < 1; decide
    · intro r
      match r with
      | ⟨0, _⟩ => rfl
      | ⟨1, _⟩ => show d.val = 0 + d.val; omega
      | ⟨2, _⟩ => show q.val = 0 + q.val; omega
  · have h1 : h = 1 := by omega
    subst h1
    rw [if_neg hh]
    refine View.read_writes_cons_unit_of_mem v f _ w1 _ _ (ix3 0 d q) rfl ?_
    intro r
    match r with
    | ⟨0, _⟩ => rfl
    | ⟨1, _⟩ => show d.val = 0 + d.val; omega
    | ⟨2, _⟩ => show q.val = 0 + q.val; omega

theorem rdL {κ' : Kind} {sp : Space} {v : View sig κ' sp S2x1x2048 .f32} (f : BufTy.Contents (Elt Ideal) v.ty)
    (w0 w1 : Vec Ideal S1x1x2048 .f32) (h : Fin 2) (q : Fin 2048) :
    v.read (Elt Ideal) (v.writes (Elt Ideal) f
      [⟨Rect.unit (s := S2x1x2048) ![1, 0, 0] S1x1x2048.size inb_S2x1x2048_S1x1x2048_1_0_0, w1⟩,
       ⟨Rect.unit (s := S2x1x2048) ![0, 0, 0] S1x1x2048.size inb_S2x1x2048_S1x1x2048_0_0_0, w0⟩]) (ix3 h 0 q)
      = if h = 0 then w0 (ix3 0 0 q) else w1 (ix3 0 0 q) := by
  by_cases hh : h = 0
  · subst hh
    rw [if_pos rfl]
    refine (View.read_writes_cons_unit_of_not_mem v f _ w1 _ _ rfl 0 (Or.inl ?_)).trans
      (View.read_writes_cons_unit_of_mem v f _ w0 [] _ (ix3 0 0 q) rfl ?_)
    · show 0 < 1; decide
    · intro r
      match r with
      | ⟨0, _⟩ => rfl
      | ⟨1, _⟩ => rfl
      | ⟨2, _⟩ => show q.val = 0 + q.val; omega
  · have h1 : h = 1 := by omega
    subst h1
    rw [if_neg hh]
    refine View.read_writes_cons_unit_of_mem v f _ w1 _ _ (ix3 0 0 q) rfl ?_
    intro r
    match r with
    | ⟨0, _⟩ => rfl
    | ⟨1, _⟩ => rfl
    | ⟨2, _⟩ => show q.val = 0 + q.val; omega

section
variable (c : Dev nD) (i : grid0.Coords)
  (arg3 : Memref sig .tc .vmem S2x64x2048 .bf16) (h3 : arg3.IsWhole)
  (arg4 : Memref sig .tc .vmem S1x8192x64 .bf16) (h4 : arg4.IsWhole)
  (arg5 : Memref sig .tc .vmem S1x8x64x1024 .bf16) (h5 : arg5.IsWhole)
  (arg6 : Memref sig .tc .vmem S2x64x2048 .bf16) (h6 : arg6.IsWhole)
  (arg7 : Memref sig .tc .vmem S2x1x2048 .f32) (h7 : arg7.IsWhole)
  (x0 : Vec Ideal S2x64x2048 .bf16) (x1 : Vec Ideal S1x8192x64 .bf16) (x2 : Vec Ideal S1x8x64x1024 .bf16)

/-- The blocks of keys and values trip `k` reads, and the two heads' queries. -/
abbrev kbT (k : Fin k0_t1_loop.trips) : Vec Ideal S1x1024x64 .bf16 :=
  View.readAt (Elt Ideal) arg4.view (Rect.unit (s := S1x8192x64) (k0_off1 k) S1x1024x64.size (k0_off1_inb k)).toLoadRect (h4.unread x1)
abbrev vbT (k : Fin k0_t1_loop.trips) : Vec Ideal S1x1x64x1024 .bf16 :=
  View.readAt (Elt Ideal) arg5.view (Rect.unit (s := S1x8x64x1024) (k0_off2 k) S1x1x64x1024.size (k0_off2_inb k)).toLoadRect (h5.unread x2)
abbrev q0T : Vec Ideal S1x64x2048 .bf16 :=
  View.readAt (Elt Ideal) arg3.view (Rect.unit (s := S2x64x2048) ![0, 0, 0] S1x64x2048.size inb_S2x64x2048_S1x64x2048_0_0_0).toLoadRect (h3.unread x0)
abbrev q1T : Vec Ideal S1x64x2048 .bf16 :=
  View.readAt (Elt Ideal) arg3.view (Rect.unit (s := S2x64x2048) ![1, 0, 0] S1x64x2048.size inb_S2x64x2048_S1x64x2048_1_0_0).toLoadRect (h3.unread x0)

theorem trip_eq (v0 v2 : Vec Ideal S1x64x2048 .bf16) (k : Fin k0_t1_loop.trips) (y z : Acc) :
    tripR_k0_t1 (F := Ideal) Variants.none c none i arg3 h3 arg4 h4 arg5 h5 arg6 h6 arg7 h7 v0 v2 (h4.unread x1) (h5.unread x2) k (pair y z)
      = pair (step v0 (kbT arg4 h4 x1 k) (vbT arg5 h5 x2 k) y) (step v2 (kbT arg4 h4 x1 k) (vbT arg5 h5 x2 k) z) := by
  unfold tripR_k0_t1 trip_k0_t1
  rfl

/-- The carried values of the two heads before trip `J`. -/
abbrev stT (J : ℕ) := st_k0_t1 (F := Ideal) Variants.none c none i arg3 h3 arg4 h4 arg5 h5 arg6 h6 arg7 h7
  (q0T arg3 h3 x0) (q1T arg3 h3 x0) (h4.unread x1) (h5.unread x2) (pair start start) J

/-- Before trip `J` the carried values hold the sums over the first `J` blocks of keys. -/
theorem loop (s : Fin 2 → Fin 2048 → Fin 8192 → ℝ) (w : Fin 8192 → Fin 64 → EReal)
    (hs : ∀ h q n, ∑ d : Fin 64, x1 (ix3 0 n d) * x0 (ix3 h d q) = ((s h q n : ℝ) : EReal))
    (hw : ∀ (j : Fin 8) d n, x2 (ix4 0 j d n) = w (ky j.val n) d) (J : ℕ) (hJ : J ≤ 8) :
    ∃ y z : Acc, stT c i arg3 h3 arg4 h4 arg5 h5 arg6 h6 arg7 h7 x0 x1 x2 J = pair y z ∧ Good (s 0) w J y ∧ Good (s 1) w J z := by
  induction J with
  | zero => exact ⟨start, start, rfl, good_start _ _, good_start _ _⟩
  | succ J ih =>
    obtain ⟨y, z, e, gy, gz⟩ := ih (Nat.le_of_succ_le hJ)
    have hk : J < k0_t1_loop.trips := Nat.lt_of_lt_of_eq hJ trips_eq.symm
    have e1 := st_k0_t1_succ (F := Ideal) Variants.none c none i arg3 h3 arg4 h4 arg5 h5 arg6 h6 arg7 h7
      (q0T arg3 h3 x0) (q1T arg3 h3 x0) (h4.unread x1) (h5.unread x2) (pair start start) ⟨J, hk⟩
    refine ⟨_, _, (e1.trans ((congrArg _ e).trans (trip_eq c i arg3 h3 arg4 h4 arg5 h5 arg6 h6 arg7 h7 x1 x2 _ _ ⟨J, hk⟩ y z))), ?_, ?_⟩
    · refine good_step _ _ _ _ gy _ _ _ (fun n q => ?_) fun d n => ?_
      · rw [← hs]
        exact Finset.sum_congr rfl fun d _ => congrArg₂ (· * ·) (ldK arg4 h4 x1 ⟨J, hk⟩ n d) (ldQ_0 arg3 h3 x0 _ d q)
      · exact (ldV arg5 h5 x2 ⟨J, hk⟩ d n).trans (hw _ d n)
    · refine good_step _ _ _ _ gz _ _ _ (fun n q => ?_) fun d n => ?_
      · rw [← hs]
        exact Finset.sum_congr rfl fun d _ => congrArg₂ (· * ·) (ldK arg4 h4 x1 ⟨J, hk⟩ n d) (ldQ_1 arg3 h3 x0 _ d q)
      · exact (ldV arg5 h5 x2 ⟨J, hk⟩ d n).trans (hw _ d n)

/-- The attention's result of the block. -/
theorem out_3 (s : Fin 2 → Fin 2048 → Fin 8192 → ℝ) (w : Fin 8192 → Fin 64 → EReal)
    (hs : ∀ h q n, ∑ d : Fin 64, x1 (ix3 0 n d) * x0 (ix3 h d q) = ((s h q n : ℝ) : EReal))
    (hw : ∀ (j : Fin 8) d n, x2 (ix4 0 j d n) = w (ky j.val n) d) (h : Fin 2) (d : Fin 64) (q : Fin 2048) :
    out0_A_3 (F := Ideal) c i arg3 h3 arg4 h4 arg5 h5 arg6 h6 arg7 h7 x0 x1 x2 (ix3 h d q)
      = ∑ n, w n d * (((2 : ℝ) ^ s h q n / ∑ b, (2 : ℝ) ^ s h q b : ℝ) : EReal) := by
  obtain ⟨y, z, e, gy, gz⟩ := loop c i arg3 h3 arg4 h4 arg5 h5 arg6 h6 arg7 h7 x0 x1 x2 s w hs hw 8 le_rfl
  unfold out0_A_3 kernelRun0_A
  refine (rdO VO0_3.junk
    (k0_pay23 (stT c i arg3 h3 arg4 h4 arg5 h5 arg6 h6 arg7 h7 x0 x1 x2 8).2.1 (stT c i arg3 h3 arg4 h4 arg5 h5 arg6 h6 arg7 h7 x0 x1 x2 8).2.2.1)
    (k0_pay1 (k0_pay25 (stT c i arg3 h3 arg4 h4 arg5 h5 arg6 h6 arg7 h7 x0 x1 x2 8).2.2.2.2.1
      (stT c i arg3 h3 arg4 h4 arg5 h5 arg6 h6 arg7 h7 x0 x1 x2 8).2.2.2.2.2)) h d q).trans ?_
  rw [e]
  by_cases hh : h = 0
  · subst hh
    rw [if_pos rfl, pay23_at]
    exact (gy q).out _ _ d
  · have h1 : h = 1 := by omega
    subst h1
    rw [if_neg hh, pay1_at]
    exact (gz q).out _ _ d

/-- The base-two log-sum-exp of the block. -/
theorem out_4 (s : Fin 2 → Fin 2048 → Fin 8192 → ℝ) (w : Fin 8192 → Fin 64 → EReal)
    (hs : ∀ h q n, ∑ d : Fin 64, x1 (ix3 0 n d) * x0 (ix3 h d q) = ((s h q n : ℝ) : EReal))
    (hw : ∀ (j : Fin 8) d n, x2 (ix4 0 j d n) = w (ky j.val n) d) (h : Fin 2) (q : Fin 2048) :
    out0_A_4 (F := Ideal) c i arg3 h3 arg4 h4 arg5 h5 arg6 h6 arg7 h7 x0 x1 x2 (ix3 h 0 q)
      = ((Real.log (∑ n, (2 : ℝ) ^ s h q n) / Real.log 2 : ℝ) : EReal) := by
  obtain ⟨y, z, e, gy, gz⟩ := loop c i arg3 h3 arg4 h4 arg5 h5 arg6 h6 arg7 h7 x0 x1 x2 s w hs hw 8 le_rfl
  unfold out0_A_4 kernelRun0_A
  refine (rdL VO0_4.junk
    (k0_pay24 (stT c i arg3 h3 arg4 h4 arg5 h5 arg6 h6 arg7 h7 x0 x1 x2 8).1 (stT c i arg3 h3 arg4 h4 arg5 h5 arg6 h6 arg7 h7 x0 x1 x2 8).2.1)
    (k0_pay2 (stT c i arg3 h3 arg4 h4 arg5 h5 arg6 h6 arg7 h7 x0 x1 x2 8).2.2.2.1
      (stT c i arg3 h3 arg4 h4 arg5 h5 arg6 h6 arg7 h7 x0 x1 x2 8).2.2.2.2.1) h q).trans ?_
  rw [e]
  by_cases hh : h = 0
  · subst hh
    rw [if_pos rfl, pay24_at]
    exact (gy q).lse
  · have h1 : h = 1 := by omega
    subst h1
    rw [if_neg hh, pay2_eq, pay24_at]
    exact (gz q).lse
end

end Cert.AttnFwd
end
-- ==== Proof.AttnFwd.lean ====
module
public import proofs.«01_k».proof.Proof.FwdTrip
public import proofs.«01_k».proof.Proof.Pre
public import proofs.«01_k».proof.Proof.Ref
public import proofs.«01_k».proof.Proof.Values
public import proofs.«01_k».proof.Proof.Gen.Reference8Ideal.Run
public import Idealize.ShloMosaic.Lib.StableHlo.ReadAt

/-! The forward attention call: the blocks each grid point reads and writes, the arrays the launch finds, and the
reference's two results, all as the same real numbers. -/

@[expose] public section
set_option maxRecDepth 16384
noncomputable section
namespace Cert.AttnFwd

section
open Idealize.ShloMosaic Cert.Attn Cert.Online
variable (q : Fin 16 → Fin 8192 → Fin 64 → ℝ) (k : Fin 4 → Fin 8192 → Fin 64 → ℝ)
  (w : Fin 4 → Fin 8192 → Fin 64 → EReal)

/-- The score in base two, as the kernel computes it. -/
def s2 (h : Fin 16) (a n : Fin 8192) : ℝ := sR q k h a n / Real.log 2

/-- The attention's result and its base-two log-sum-exp. -/
def oR (h : Fin 16) (a : Fin 8192) (x : Fin 64) : EReal := ∑ n, (pR q k h a n : EReal) * w (kv h) n x
def lseR (h : Fin 16) (a : Fin 8192) : ℝ := Real.log (∑ n, Real.exp (sR q k h a n)) / Real.log 2

/-- An index with one place in the middle. -/
theorem eq_mid {n0 n2 : ℕ} (j : (⟨3, ![n0, 1, n2]⟩ : Shape).Idx) : j = ix3 (n0 := n0) (n1 := 1) (n2 := n2) (j 0) 0 (j 2) := by
  have e : ∀ x : Fin 1, x = 0 := fun x => Subsingleton.elim _ _
  funext a
  match a with
  | ⟨0, _⟩ => rfl
  | ⟨1, _⟩ => exact e (j 1)
  | ⟨2, _⟩ => rfl

theorem pow_s2 (h : Fin 16) (a n : Fin 8192) : (2 : ℝ) ^ s2 q k h a n = Real.exp (sR q k h a n) := by
  rw [Real.rpow_def_of_pos (by norm_num)]
  congr 1
  exact mul_div_cancel₀ _ log2_pos.ne'

/-- The weight does not depend on the bound the exponentials are taken from. -/
theorem pR_eq (h : Fin 16) (a n : Fin 8192) :
    pR q k h a n = Real.exp (sR q k h a n) / ∑ b, Real.exp (sR q k h a b) := by
  unfold pR lR eR
  simp only [Real.exp_sub]
  rw [← Finset.sum_div, div_div_div_cancel_right₀ (Real.exp_pos _).ne']

theorem oR_eq (h : Fin 16) (a : Fin 8192) (x : Fin 64) :
    ∑ n, w (kv h) n x * (((2 : ℝ) ^ s2 q k h a n / ∑ b, (2 : ℝ) ^ s2 q k h a b : ℝ) : EReal) = oR q k w h a x := by
  unfold oR
  simp only [pow_s2]
  exact Finset.sum_congr rfl fun n _ => by rw [pR_eq, mul_comm]

theorem lseR_eq (h : Fin 16) (a : Fin 8192) :
    Real.log (∑ n, (2 : ℝ) ^ s2 q k h a n) / Real.log 2 = lseR q k h a := by
  unfold lseR
  simp only [pow_s2]

theorem s2_eq (h : Fin 16) (a n : Fin 8192) :
    ∑ x, k (kv h) n x * (q h a x * (1 / 8) / Real.log 2) = s2 q k h a n := by
  unfold s2 sR
  rw [Finset.sum_mul, Finset.sum_div]
  exact Finset.sum_congr rfl fun x _ => by ring
end

section
open Idealize.ShloMosaic Idealize.ShloMosaic.TcCoe Idealize.ShloMosaic.Tactic
open Idealize.SL Idealize.SL.Sem
open Cert.Kernel8Ideal Cert.Kernel8Ideal.Gen Cert.Online Cert.Attn

variable (m : (ℓ : Loc nD τ sig) → Buf (Elt Ideal) ℓ) (c : Dev nD)

/-! ## The arrays the launch finds -/

/-- The three arguments: the queries, keys and values. -/
def fQ8 : FVec Ideal S16x8192x64 .f32 := m ((c.tc : Thread nD τ).loc main_arg0)
def fK8 : FVec Ideal S4x8192x64 .f32 := m ((c.tc : Thread nD τ).loc main_arg1)
def fV8 : FVec Ideal S4x8192x64 .f32 := m ((c.tc : Thread nD τ).loc main_arg2)
/-- The three arrays the launch reads. -/
def lQ : Vec Ideal S16x64x8192 .bf16 := V m c main_v6
def lK : Vec Ideal S4x8192x64 .bf16 := V m c main_v10
def lV : Vec Ideal S4x8x64x1024 .bf16 := V m c main_v9

theorem lK_at (i : S4x8192x64.Idx) : lK m c i = fK8 m c i := by
  unfold lK V fK8
  after_reads_at

theorem lQ_at (h : Fin 16) (d : Fin 64) (a : Fin 8192) : lQ m c (ix3 h d a)
    = Ideal.div (fQ8 m c (ix3 h a d) * Ideal.ofBits .f32 0x3E000000#32)
        (Ideal.log (Ideal.ofBits .f32 0x40000000#32)) := by
  unfold lQ V fQ8
  after_reads_at

theorem lV_at (g : Fin 4) (j : Fin 8) (d : Fin 64) (n : Fin 1024) :
    lV m c (ix4 g j d n) = fV8 m c (ix3 g (ky j.val n) d) := by
  have e : (⟨j.val * 1024 + n.val, by omega⟩ : Fin 8192) = ky j.val n := Fin.ext (by
    show j.val * 1024 + n.val = (1024 * j.val + n.val) % 8192
    omega)
  rw [← e]
  unfold lV V fV8
  after_reads_at

/-! ## The blocks -/

def blkQ (t : Fin cfg0.N) : Vec Ideal S2x64x2048 .bf16 := iblk m c 0 t
def blkK (t : Fin cfg0.N) : Vec Ideal S1x8192x64 .bf16 := iblk m c 1 t
def blkV (t : Fin cfg0.N) : Vec Ideal S1x8x64x1024 .bf16 := iblk m c 2 t

theorem idx0 : ∀ t : Fin grid0.N, win0_0.index t 0 = t.val / 4 ∧ win0_0.index t 1 = 0 ∧ win0_0.index t 2 = t.val % 4 := by
  decide +kernel
theorem idx1 : ∀ t : Fin grid0.N, win0_1.index t 0 = t.val / 8 ∧ win0_1.index t 1 = 0 ∧ win0_1.index t 2 = 0 := by decide +kernel
theorem idx2 : ∀ t : Fin grid0.N, win0_2.index t 0 = t.val / 8 ∧ win0_2.index t 1 = 0 ∧ win0_2.index t 2 = 0
    ∧ win0_2.index t 3 = 0 := by decide +kernel
theorem idx3 : ∀ t : Fin grid0.N, win0_3.index t 0 = t.val / 4 ∧ win0_3.index t 1 = 0 ∧ win0_3.index t 2 = t.val % 4 := by
  decide +kernel
theorem idx4 : ∀ t : Fin grid0.N, win0_4.index t 0 = t.val / 4 ∧ win0_4.index t 1 = 0 ∧ win0_4.index t 2 = t.val % 4 := by
  decide +kernel

/-- The query head a point holds at place `h`, the query row at place `a`, and the point's key head. -/
def hdP (t : ℕ) (h : Fin 2) : Fin 16 := ⟨(t / 4 * 2 + h.val) % 16, Nat.mod_lt _ (by decide)⟩
def rowP (t : ℕ) (a : Fin 2048) : Fin 8192 := ⟨t % 4 * 2048 + a.val, by omega⟩
def grpP (t : ℕ) : Fin 4 := ⟨t / 8 % 4, Nat.mod_lt _ (by decide)⟩

theorem kv_hdP (t : Fin cfg0.N) (h : Fin 2) : kv (hdP t.val h) = grpP t.val := by
  have hN : cfg0.N = 32 := N_0
  have := t.isLt
  apply Fin.ext
  show (t.val / 4 * 2 + h.val) % 16 / 4 = t.val / 8 % 4
  omega

theorem blkQ_at (t : Fin cfg0.N) (h : Fin 2) (d : Fin 64) (a : Fin 2048) :
    blkQ m c t (ix3 h d a) = lQ m c (ix3 (hdP t.val h) d (rowP t.val a)) := by
  have hN : cfg0.N = 32 := N_0
  have ht := t.isLt
  obtain ⟨e0, e1, e2⟩ := idx0 t
  unfold blkQ iblk lQ
  rw [View.read_apply]
  show V m c main_v6 _ = V m c main_v6 _
  congr 1
  funext x
  apply Fin.ext
  match x with
  | ⟨0, _⟩ => show win0_0.index t 0 * 2 + 1 * h.val = (t.val / 4 * 2 + h.val) % 16; rw [e0]; omega
  | ⟨1, _⟩ => show win0_0.index t 1 * 64 + 1 * d.val = d.val; rw [e1]; omega
  | ⟨2, _⟩ => show win0_0.index t 2 * 2048 + 1 * a.val = t.val % 4 * 2048 + a.val; rw [e2]; omega

theorem blkK_at (t : Fin cfg0.N) (n : Fin 8192) (d : Fin 64) :
    blkK m c t (ix3 0 n d) = lK m c (ix3 (grpP t.val) n d) := by
  have hN : cfg0.N = 32 := N_0
  have ht := t.isLt
  obtain ⟨e0, e1, e2⟩ := idx1 t
  unfold blkK iblk lK
  rw [View.read_apply]
  show V m c main_v10 _ = V m c main_v10 _
  congr 1
  funext x
  apply Fin.ext
  match x with
  | ⟨0, _⟩ => show win0_1.index t 0 * 1 + 1 * 0 = t.val / 8 % 4; rw [e0]; omega
  | ⟨1, _⟩ => show win0_1.index t 1 * 8192 + 1 * n.val = n.val; rw [e1]; omega
  | ⟨2, _⟩ => show win0_1.index t 2 * 64 + 1 * d.val = d.val; rw [e2]; omega

theorem blkV_at (t : Fin cfg0.N) (j : Fin 8) (d : Fin 64) (n : Fin 1024) :
    blkV m c t (ix4 0 j d n) = lV m c (ix4 (grpP t.val) j d n) := by
  have hN : cfg0.N = 32 := N_0
  have ht := t.isLt
  obtain ⟨e0, e1, e2, e3⟩ := idx2 t
  unfold blkV iblk lV
  rw [View.read_apply]
  show V m c main_v9 _ = V m c main_v9 _
  congr 1
  funext x
  apply Fin.ext
  match x with
  | ⟨0, _⟩ => show win0_2.index t 0 * 1 + 1 * 0 = t.val / 8 % 4; rw [e0]; omega
  | ⟨1, _⟩ => show win0_2.index t 1 * 8 + 1 * j.val = j.val; rw [e1]; omega
  | ⟨2, _⟩ => show win0_2.index t 2 * 64 + 1 * d.val = d.val; rw [e2]; omega
  | ⟨3, _⟩ => show win0_2.index t 3 * 1024 + 1 * n.val = n.val; rw [e3]; omega

/-! ## The two results, at real arguments -/

variable (q : Fin 16 → Fin 8192 → Fin 64 → ℝ) (k : Fin 4 → Fin 8192 → Fin 64 → ℝ)
  (w : Fin 4 → Fin 8192 → Fin 64 → EReal)
  (hQ : ∀ h a x, fQ8 m c (ix3 h a x) = ((q h a x : ℝ) : EReal)) (hK : ∀ g n x, fK8 m c (ix3 g n x) = ((k g n x : ℝ) : EReal))
  (hW : ∀ g n x, fV8 m c (ix3 g n x) = w g n x)
include hQ hK in
theorem score_pt (t : Fin cfg0.N) (h : Fin 2) (a : Fin 2048) (n : Fin 8192) :
    ∑ d : Fin 64, blkK m c t (ix3 0 n d) * blkQ m c t (ix3 h d a)
      = ((s2 q k (hdP t.val h) (rowP t.val a) n : ℝ) : EReal) := by
  rw [← s2_eq, ← coe_sum]
  refine Finset.sum_congr rfl fun d _ => ?_
  rw [blkK_at, blkQ_at, lK_at, lQ_at, hK, hQ, lit_log2, lit_eighth, ← EReal.coe_mul, div_coe' _ _ log2_pos.ne',
    ← EReal.coe_mul, kv_hdP]

include hW in
theorem value_pt (t : Fin cfg0.N) (j : Fin 8) (d : Fin 64) (n : Fin 1024) :
    blkV m c t (ix4 0 j d n) = w (grpP t.val) (ky j.val n) d := by
  rw [blkV_at, lV_at, hW]

/-- The two results as arrays. -/
def res3 : Vec Ideal S16x64x8192 .bf16 := fun i => oR q k w (i 0) (i 2) (i 1)
def res4 : Vec Ideal S16x1x8192 .f32 := fun i => ((lseR q k (i 0) (i 2) : ℝ) : EReal)

include hQ hK hW in
theorem final3 : (dats m 0 c).arrAt 3 cfg0.N = res3 q k w := by
  refine (dats m 0 c).arrAt_eq_of_covers 3 _ (by decide +kernel) fun t hf y => ?_
  blk_simp
  rw [after0_3]
  have hN : cfg0.N = 32 := N_0
  have ht : t.val < cfg0.N := t.isLt
  obtain ⟨e0, e1, e2⟩ := idx3 t
  have hy : (ix3 (y 0) (y 1) (y 2) : S2x64x2048.Idx) = y := (eq_ix3 (n0 := 2) (n1 := 64) (n2 := 2048) y).symm
  have key : (outsAt0 m c t).1 (ix3 (y 0) (y 1) (y 2))
      = oR q k w (hdP t.val (y 0)) (rowP t.val (y 2)) (y 1) := by
    unfold outsAt0
    dsimp only
    refine (out_3 c _ _ _ _ _ _ _ _ _ _ _ _ _ _ (fun h a n => s2 q k (hdP t.val h) (rowP t.val a) n) (w (grpP t.val))
      (score_pt m c q k hQ hK t) (value_pt m c w hW t) (y 0) (y 1) (y 2)).trans ?_
    rw [← kv_hdP t (y 0)]
    exact oR_eq q k w _ _ _
  rw [hy] at key
  refine key.trans ?_
  have y0 : (y 0).val < 2 := (y 0).isLt
  have y2 : (y 2).val < 2048 := (y 2).isLt
  have q0 : hdP t.val (y 0) = (win0_3.blk t).view.emb y 0 := by
    apply Fin.ext
    show (t.val / 4 * 2 + (y 0).val) % 16 = win0_3.index t 0 * 2 + 1 * (y 0).val
    rw [e0]; omega
  have q1 : y 1 = (win0_3.blk t).view.emb y 1 := by
    apply Fin.ext
    show (y 1).val = win0_3.index t 1 * 64 + 1 * (y 1).val
    rw [e1]; omega
  have q2 : rowP t.val (y 2) = (win0_3.blk t).view.emb y 2 := by
    apply Fin.ext
    show t.val % 4 * 2048 + (y 2).val = win0_3.index t 2 * 2048 + 1 * (y 2).val
    rw [e2]; omega
  rw [q0, q2]
  exact congrArg (fun z : Fin 64 => oR q k w _ _ z) q1

include hQ hK hW in
theorem final4 : (dats m 0 c).arrAt 4 cfg0.N = res4 q k := by
  refine (dats m 0 c).arrAt_eq_of_covers 4 _ (by decide +kernel) fun t hf y => ?_
  blk_simp
  rw [after0_4]
  have hN : cfg0.N = 32 := N_0
  have ht : t.val < cfg0.N := t.isLt
  obtain ⟨e0, e1, e2⟩ := idx4 t
  have hy : (ix3 (y 0) 0 (y 2) : S2x1x2048.Idx) = y := (eq_mid (n0 := 2) (n2 := 2048) y).symm
  have key : (outsAt0 m c t).2 (ix3 (y 0) 0 (y 2)) = ((lseR q k (hdP t.val (y 0)) (rowP t.val (y 2)) : ℝ) : EReal) := by
    unfold outsAt0
    dsimp only
    refine (out_4 c _ _ _ _ _ _ _ _ _ _ _ _ _ _ (fun h a n => s2 q k (hdP t.val h) (rowP t.val a) n) (w (grpP t.val))
      (score_pt m c q k hQ hK t) (value_pt m c w hW t) (y 0) (y 2)).trans ?_
    exact congrArg (fun r : ℝ => (r : EReal)) (lseR_eq q k _ _)
  rw [hy] at key
  refine key.trans ?_
  have y0 : (y 0).val < 2 := (y 0).isLt
  have y2 : (y 2).val < 2048 := (y 2).isLt
  have q0 : hdP t.val (y 0) = (win0_4.blk t).view.emb y 0 := by
    apply Fin.ext
    show (t.val / 4 * 2 + (y 0).val) % 16 = win0_4.index t 0 * 2 + 1 * (y 0).val
    rw [e0]; omega
  have q2 : rowP t.val (y 2) = (win0_4.blk t).view.emb y 2 := by
    apply Fin.ext
    show t.val % 4 * 2048 + (y 2).val = win0_4.index t 2 * 2048 + 1 * (y 2).val
    rw [e2]; omega
  rw [q0, q2]
  rfl
end

/-! ## The reference -/

namespace Ref
open Idealize.ShloMosaic Idealize.ShloMosaic.Tactic Cert.Attn
open Cert.ReferenceIdeal Cert.ReferenceIdeal.Gen

/-- The base-two log-sum-exp of the scores, as the reference writes it. -/
def lse (S : FVec Ideal S4x4x8192x8192 .f32) : FVec Ideal Cert.KernelIdeal.S16x1x8192 .f32 :=
  shapeCast Cert.KernelIdeal.S16x1x8192 (Host.divf (Host.log (Host.reduceAdd (Host.exp S) (constant S_ .f32 0x00000000#32)
    reducesTo_S4x4x8192x8192_S4x4x8192_d3 h_S_)) (broadcastInDim S4x4x8192 ![] bcast_S_S4x4x8192
      (Host.log (constant S_ .f32 0x40000000#32)))) Cert.Reference8Ideal.Facts₀.shapeCasts_S4x4x8192_S16x1x8192

theorem lse_at (S : FVec Ideal S4x4x8192x8192 .f32) (h : Fin 16) (a : Fin 8192) :
    lse S (ix3 h 0 a)
      = Ideal.div (Ideal.log (∑ n : Fin 8192, Ideal.exp (S (ix4 (kv h) ⟨h.val % 4, Nat.mod_lt _ (by decide)⟩ a n))))
          (Ideal.log (Ideal.ofBits FTy.f32 0x40000000#32)) := by
  pointwise [lse]
  rfl

variable (Q : FVec Ideal S16x8192x64 .f32) (K W : FVec Ideal S4x8192x64 .f32)

/-- The scores, exponentials and sums of the reference, by the stages of the first program's reference. -/
abbrev S8 := Cert.Attn.Ref.S Q K
abbrev E8 := Cert.Attn.Ref.E (S8 Q K) (Cert.Attn.Ref.M (Cert.Attn.Ref.R (S8 Q K)))
abbrev L8 := Cert.Attn.Ref.L (E8 Q K)

variable (q : Fin 16 → Fin 8192 → Fin 64 → ℝ) (k : Fin 4 → Fin 8192 → Fin 64 → ℝ)
  (w : Fin 4 → Fin 8192 → Fin 64 → EReal)
  (hQ : ∀ h a x, Q (ix3 h a x) = ((q h a x : ℝ) : EReal)) (hK : ∀ g n x, K (ix3 g n x) = ((k g n x : ℝ) : EReal))
  (hW : ∀ g n x, W (ix3 g n x) = w g n x)

include hQ hK in
theorem S8_at (g r : Fin 4) (a n : Fin 8192) : S8 Q K (ix4 g r a n) = ((sR q k (hd g r) a n : ℝ) : EReal) := by
  unfold S8
  rw [Cert.Attn.Ref.S_at]
  unfold sR
  rw [lit_eighth, EReal.coe_mul, ← coe_sum, kv_hd]
  refine congrArg (· * _) (Finset.sum_congr rfl fun x _ => ?_)
  rw [hQ, hK, EReal.coe_mul]

include hQ hK in
theorem E8_at (g r : Fin 4) (a n : Fin 8192) : E8 Q K (ix4 g r a n) = ((eR q k (hd g r) a n : ℝ) : EReal) := by
  have hM : Cert.Attn.Ref.M (Cert.Attn.Ref.R (S8 Q K)) (ix4 g r a 0) = ((mR q k (hd g r) a : ℝ) : EReal) := by
    rw [Cert.Attn.Ref.M_at, Cert.Attn.Ref.R_at, lit_bot, max_eq_right bot_le]
    simp only [S8_at Q K q k hQ hK]
    exact (fold_max_real (n := 8191) fun n => sR q k (hd g r) a n).choose_spec
  unfold E8
  rw [Cert.Attn.Ref.E_at, hM, S8_at Q K q k hQ hK, ← EReal.coe_sub]
  rfl

include hQ hK in
theorem L8_at (g r : Fin 4) (a : Fin 8192) : L8 Q K (ix4 g r a 0) = ((lR q k (hd g r) a : ℝ) : EReal) := by
  unfold L8
  rw [Cert.Attn.Ref.L_at]
  simp only [E8_at Q K q k hQ hK]
  exact coe_sum _ _

include hQ hK hW in
theorem o_real (h : Fin 16) (x : Fin 64) (a : Fin 8192) :
    svO (E8 Q K) (L8 Q K) W (ix3 h x a) = oR q k w h a x := by
  rw [svO_at]
  unfold oR
  refine Finset.sum_congr rfl fun n _ => ?_
  rw [E8_at Q K q k hQ hK, L8_at Q K q k hQ hK, hW, div_coe' _ _ (lR_pos q k _ a).ne', hd_kv]
  rfl

include hQ hK in
theorem lse_real (h : Fin 16) (a : Fin 8192) : lse (S8 Q K) (ix3 h 0 a) = ((lseR q k h a : ℝ) : EReal) := by
  rw [lse_at]
  simp only [S8_at Q K q k hQ hK, Ideal.exp_coe]
  rw [coe_sum, lit_log2, log_coe' _ (Finset.sum_pos (fun _ _ => Real.exp_pos _) ⟨0, Finset.mem_univ _⟩),
    div_coe' _ _ log2_pos.ne']
  unfold lseR
  simp only [hd_kv]
end Ref

/-! ## The claim -/

namespace Pre
open Idealize.ShloMosaic Idealize.ShloMosaic.Tactic
open Cert.Pre_finite8

instance facts : Cert.Pre_finite8.Facts where
  bcast_S_S16x8192x64 := by decide
  reducesTo_S16x8192x64_S_d0_1_2 := by decide
  h_S_ := by decide
  bcast_S_S4x8192x64 := by decide
  reducesTo_S4x8192x64_S_d0_1_2 := by decide

/-- The precondition gives queries and keys that are real numbers. -/
theorem reals (x0 : FVec Ideal S16x8192x64 .f32) (x1 x2 : FVec Ideal S4x8192x64 .f32)
    (h : fn (F := Ideal) x0 x1 x2 = fun _ => 1#1) :
    (∀ i, ∃ r : ℝ, x0 i = (r : EReal)) ∧ ∀ i, ∃ r : ℝ, x1 i = (r : EReal) := by
  have h0 := congrFun h ix0
  dsimp only [fn] at h0
  obtain ⟨h0, h1⟩ := Cert.Attn.Pre.and_one _ _ h0
  exact ⟨Cert.Attn.Pre.big x0 h0, Cert.Attn.Pre.small x1 h1⟩
end Pre

open Idealize.ShloMosaic Idealize.ShloMosaic.TcCoe Idealize.ShloMosaic.Tactic
open Idealize.SL Idealize.SL.Sem
open Cert.Kernel8Ideal Cert.Kernel8Ideal.Gen

theorem algebraic : Cert.algebraic_Kernel8Ideal_Reference8Ideal_pre_finite8 := by
  intro m g m' g' hpre hagree
  refine ⟨fun c => (dats m 0 c).arrAt 3 cfg0.N, fun c => (dats m 0 c).arrAt 4 cfg0.N, ?_, ?_⟩
  · exact Cert.Kernel8Ideal.Value.run_blocks m g
  · refine (θ_run _ _ _).mono (fun r h c => ?_) (Cert.Reference8Ideal.Value.run m' g')
    obtain ⟨g0, g1, g2⟩ := hagree c
    obtain ⟨r0, r1⟩ := Pre.reals _ _ _ (hpre c)
    choose q hq using fun (h : Fin 16) (a : Fin 8192) (x : Fin 64) => r0 (ix3 h a x)
    choose k hk using fun (h : Fin 4) (a : Fin 8192) (x : Fin 64) => r1 (ix3 h a x)
    let w : Fin 4 → Fin 8192 → Fin 64 → EReal := fun h a x => fV8 m c (ix3 h a x)
    have hw : ∀ h a x, fV8 m c (ix3 h a x) = w h a x := fun _ _ _ => rfl
    have hc := h c
    rw [g0, g1, g2] at hc
    refine ⟨hc.1.trans ?_, hc.2.1.trans ?_, (h c).2.2⟩
    · refine Eq.trans ?_ (final3 m c q k w hq hk hw).symm
      funext i
      rw [eq_ix3 i]
      exact Ref.o_real (fQ8 m c) (fK8 m c) (fV8 m c) q k w hq hk hw (i 0) (i 1) (i 2)
    · refine Eq.trans ?_ (final4 m c q k w hq hk hw).symm
      funext i
      rw [eq_mid i]
      exact Ref.lse_real (fQ8 m c) (fK8 m c) q k hq hk (i 0) (i 2)

end Cert.AttnFwd
end
-- ==== Proof.MlaTrip.lean ====
module
public import proofs.«01_k».proof.Proof.Trip
public import proofs.«01_k».proof.Proof.Gen.Kernel9Ideal.Value
public import Idealize.ShloMosaic.Lib.WholeRead
public import Idealize.ShloMosaic.Lib.WritesUnit
public import Idealize.ShloMosaic.Lib.Pointwise

/-! The latent attention's backward key loop: one trip, and the two trips together, read at an index. The vectors the
loop finds are left general. -/

@[expose] public section
set_option maxRecDepth 16384
noncomputable section
namespace Cert.Mla
open Idealize.ShloMosaic Idealize.ShloMosaic.TcCoe Idealize.ShloMosaic.Tactic
open Idealize.SL Idealize.SL.Sem
open Cert.Kernel9Ideal Cert.Kernel9Ideal.Gen
open Cert.Attn (kx)

/-! What one trip returns and stores, in the vectors it finds. -/
section
variable (c : Dev nD) (i : grid0.Coords)
  (arg3 : Memref sig .tc .vmem S1x96x512 .bf16) (harg3 : arg3.IsWhole)
  (arg4 : Memref sig .tc .vmem S1x8192x96 .bf16) (harg4 : arg4.IsWhole)
  (arg5 : Memref sig .tc .vmem S1x8192x64 .bf16) (harg5 : arg5.IsWhole)
  (arg6 : Memref sig .tc .vmem S1x64x512 .bf16) (harg6 : arg6.IsWhole)
  (arg7 : Memref sig .tc .vmem S1x512x64 .bf16) (harg7 : arg7.IsWhole)
  (arg8 : Memref sig .tc .vmem S1x1x512 .f32) (harg8 : arg8.IsWhole)
  (arg9 : Memref sig .tc .vmem S1x512x96 .bf16) (harg9 : arg9.IsWhole)
  (arg10 : Memref sig .tc .vmem S1x2x96x4096 .f32) (harg10 : arg10.IsWhole)
  (arg11 : Memref sig .tc .vmem S1x2x64x4096 .f32) (harg11 : arg11.IsWhole)
variable (v6 : FVec Ideal S96x512 .bf16) (v9 : FVec Ideal S512x96 .bf16) (v11 : FVec Ideal S512x64 .bf16)
  (v14 : FVec Ideal S64x512 .bf16) (v17 v27 : FVec Ideal S512x1 .f32)
  (z : BitVec 32) (X4 : BufTy.Contents (Elt Ideal) arg4.view.ty) (X5 : BufTy.Contents (Elt Ideal) arg5.view.ty)
  (k : Fin k0_t1_loop.trips) (acc : FVec Ideal S512x96 .f32)
  (f10 : BufTy.Contents (Elt Ideal) arg10.view.ty) (f11 : BufTy.Contents (Elt Ideal) arg11.view.ty)

theorem tripR_eq :
    tripR_k0_t1 (F := Ideal) Variants.none c none i arg3 harg3 arg4 harg4 arg5 harg5 arg6 harg6 arg7 harg7 arg8 harg8 arg9 harg9 arg10 harg10 arg11 harg11 v6 v9 v11 v14 v17 v27 z X4 X5 k acc f10 f11
      = k0_pay1 acc (k0_pay4 (View.readAt (Elt Ideal) arg4.view (Rect.unit (s := S1x8192x96) (k0_off1 k) S1x4096x96.size (k0_off1_inb k)).toLoadRect X4))
          (k0_pay6 v9 v11 v17 v27 (View.readAt (Elt Ideal) arg4.view (Rect.unit (s := S1x8192x96) (k0_off1 k) S1x4096x96.size (k0_off1_inb k)).toLoadRect X4)
            (View.readAt (Elt Ideal) arg5.view (Rect.unit (s := S1x8192x64) (k0_off2 k) S1x4096x64.size (k0_off2_inb k)).toLoadRect X5)) := by
  unfold tripR_k0_t1 trip_k0_t1; rfl

theorem tripL_eq :
    tripL_k0_t1 (F := Ideal) Variants.none c none i arg3 harg3 arg4 harg4 arg5 harg5 arg6 harg6 arg7 harg7 arg8 harg8 arg9 harg9 arg10 harg10 arg11 harg11 v6 v9 v11 v14 v17 v27 z X4 X5 k acc f10 f11
      = ([⟨Rect.unit (s := S1x2x96x4096) (k0_off4 k) S1x1x96x4096.size (k0_off4_inb k),
          k0_pay8 v6 v9 v11 v17 v27 (View.readAt (Elt Ideal) arg4.view (Rect.unit (s := S1x8192x96) (k0_off1 k) S1x4096x96.size (k0_off1_inb k)).toLoadRect X4)
            (View.readAt (Elt Ideal) arg5.view (Rect.unit (s := S1x8192x64) (k0_off2 k) S1x4096x64.size (k0_off2_inb k)).toLoadRect X5)
            (View.readAt (Elt Ideal) arg10.view (Rect.unit (s := S1x2x96x4096) (k0_off4 k) S1x1x96x4096.size (k0_off4_inb k)).toLoadRect f10)⟩],
         [⟨Rect.unit (s := S1x2x64x4096) (k0_off3 k) S1x1x64x4096.size (k0_off3_inb k),
          k0_pay7 v9 v14 v17 (View.readAt (Elt Ideal) arg4.view (Rect.unit (s := S1x8192x96) (k0_off1 k) S1x4096x96.size (k0_off1_inb k)).toLoadRect X4)
            (View.readAt (Elt Ideal) arg11.view (Rect.unit (s := S1x2x64x4096) (k0_off3 k) S1x1x64x4096.size (k0_off3_inb k)).toLoadRect f11)⟩]) := by
  unfold tripL_k0_t1 trip_k0_t1; rfl
end

theorem trips_eq : k0_t1_loop.trips = 2 := by decide +kernel

/-- Trip `j`'s number. -/
def tn (j : Fin 2) : Fin k0_t1_loop.trips := ⟨j.val, by rw [trips_eq]; exact j.isLt⟩

/-- A trip's keys are rows of the key block. -/
theorem ldK (m : Memref sig .tc .vmem S1x8192x96 .bf16) (hm : m.IsWhole) (x : Vec Ideal S1x8192x96 .bf16) (j : Fin 2)
    (n : Fin 4096) (d : Fin 96) :
    View.readAt (Elt Ideal) m.view (Rect.unit (s := S1x8192x96) (k0_off1 (tn j)) S1x4096x96.size (k0_off1_inb (tn j))).toLoadRect
      (hm.unread x) (ix3 0 n d) = x (ix3 0 (kx j n) d) := by
  rw [Memref.IsWhole.readAt_unread]
  congr 1
  have e := k0_off1_eq (tn j)
  funext r
  apply Fin.ext
  match r with
  | ⟨0, _⟩ => show k0_off1 (tn j) 0 + 1 * 0 = 0; rw [e]; rfl
  | ⟨1, _⟩ => show k0_off1 (tn j) 1 + 1 * n.val = 4096 * j.val + n.val; rw [e]; show 4096 * j.val + 1 * n.val = _; omega
  | ⟨2, _⟩ => show k0_off1 (tn j) 2 + 1 * d.val = d.val; rw [e]; show 0 + 1 * d.val = _; omega

/-- A trip's values are rows of the value block. -/
theorem ldV (m : Memref sig .tc .vmem S1x8192x64 .bf16) (hm : m.IsWhole) (x : Vec Ideal S1x8192x64 .bf16) (j : Fin 2)
    (n : Fin 4096) (d : Fin 64) :
    View.readAt (Elt Ideal) m.view (Rect.unit (s := S1x8192x64) (k0_off2 (tn j)) S1x4096x64.size (k0_off2_inb (tn j))).toLoadRect
      (hm.unread x) (ix3 0 n d) = x (ix3 0 (kx j n) d) := by
  rw [Memref.IsWhole.readAt_unread]
  congr 1
  have e := k0_off2_eq (tn j)
  funext r
  apply Fin.ext
  match r with
  | ⟨0, _⟩ => show k0_off2 (tn j) 0 + 1 * 0 = 0; rw [e]; rfl
  | ⟨1, _⟩ => show k0_off2 (tn j) 1 + 1 * n.val = 4096 * j.val + n.val; rw [e]; show 4096 * j.val + 1 * n.val = _; omega
  | ⟨2, _⟩ => show k0_off2 (tn j) 2 + 1 * d.val = d.val; rw [e]; show 0 + 1 * d.val = _; omega

/-- An accumulator's block read at its own rectangle, 96 rows wide. -/
theorem ldAK (m : Memref sig .tc .vmem S1x2x96x4096 .f32) (f : BufTy.Contents (Elt Ideal) m.view.ty) (j : Fin 2) (d : Fin 96) (n : Fin 4096) :
    View.readAt (Elt Ideal) m.view (Rect.unit (s := S1x2x96x4096) (k0_off4 (tn j)) S1x1x96x4096.size (k0_off4_inb (tn j))).toLoadRect
      f (ix4 0 0 d n) = m.view.read (Elt Ideal) f (ix4 0 j d n) := by
  rw [View.readAt_eq_ld]
  show m.view.read (Elt Ideal) f _ = _
  congr 1
  have e := k0_off4_eq (tn j)
  funext r
  apply Fin.ext
  match r with
  | ⟨0, _⟩ => show k0_off4 (tn j) 0 + 1 * 0 = 0; rw [e]; rfl
  | ⟨1, _⟩ => show k0_off4 (tn j) 1 + 1 * 0 = j.val; rw [e]; show j.val + 1 * 0 = _; omega
  | ⟨2, _⟩ => show k0_off4 (tn j) 2 + 1 * d.val = d.val; rw [e]; show 0 + 1 * d.val = _; omega
  | ⟨3, _⟩ => show k0_off4 (tn j) 3 + 1 * n.val = n.val; rw [e]; show 0 + 1 * n.val = _; omega

/-- Reading block `j` under a store of block `k`, 96 rows wide. -/
theorem rdAK {κ' : Kind} {sp : Space} {v : View sig κ' sp S1x2x96x4096 .f32} (f : BufTy.Contents (Elt Ideal) v.ty) (k j : Fin 2)
    (w : Vec Ideal S1x1x96x4096 .f32) (L : List (View.Piece (Elt Ideal) S1x2x96x4096 .f32)) (d : Fin 96) (n : Fin 4096) :
    v.read (Elt Ideal) (v.writes (Elt Ideal) f
      ((⟨Rect.unit (s := S1x2x96x4096) (k0_off4 (tn k)) S1x1x96x4096.size (k0_off4_inb (tn k)), w⟩ :
        View.Piece (Elt Ideal) S1x2x96x4096 .f32) :: L)) (ix4 0 j d n)
      = if j = k then w (ix4 0 0 d n) else v.read (Elt Ideal) (v.writes (Elt Ideal) f L) (ix4 0 j d n) := by
  by_cases h : j = k
  · subst h
    rw [if_pos rfl]
    refine View.read_writes_cons_unit_of_mem v f _ w L _ (ix4 0 0 d n) (k0_off4_eq (tn j)) ?_
    intro r
    match r with
    | ⟨0, _⟩ => rfl
    | ⟨1, _⟩ => show j.val = j.val + 0; omega
    | ⟨2, _⟩ => show d.val = 0 + d.val; omega
    | ⟨3, _⟩ => show n.val = 0 + n.val; omega
  · rw [if_neg h]
    refine View.read_writes_cons_unit_of_not_mem v f _ w L _ (k0_off4_eq (tn k)) 1 ?_
    show j.val < k.val ∨ k.val + 1 ≤ j.val
    omega

/-- An accumulator's block read at its own rectangle, 64 rows wide. -/
theorem ldAV (m : Memref sig .tc .vmem S1x2x64x4096 .f32) (f : BufTy.Contents (Elt Ideal) m.view.ty) (j : Fin 2) (d : Fin 64) (n : Fin 4096) :
    View.readAt (Elt Ideal) m.view (Rect.unit (s := S1x2x64x4096) (k0_off3 (tn j)) S1x1x64x4096.size (k0_off3_inb (tn j))).toLoadRect
      f (ix4 0 0 d n) = m.view.read (Elt Ideal) f (ix4 0 j d n) := by
  rw [View.readAt_eq_ld]
  show m.view.read (Elt Ideal) f _ = _
  congr 1
  have e := k0_off3_eq (tn j)
  funext r
  apply Fin.ext
  match r with
  | ⟨0, _⟩ => show k0_off3 (tn j) 0 + 1 * 0 = 0; rw [e]; rfl
  | ⟨1, _⟩ => show k0_off3 (tn j) 1 + 1 * 0 = j.val; rw [e]; show j.val + 1 * 0 = _; omega
  | ⟨2, _⟩ => show k0_off3 (tn j) 2 + 1 * d.val = d.val; rw [e]; show 0 + 1 * d.val = _; omega
  | ⟨3, _⟩ => show k0_off3 (tn j) 3 + 1 * n.val = n.val; rw [e]; show 0 + 1 * n.val = _; omega

/-- Reading block `j` under a store of block `k`, 64 rows wide. -/
theorem rdAV {κ' : Kind} {sp : Space} {v : View sig κ' sp S1x2x64x4096 .f32} (f : BufTy.Contents (Elt Ideal) v.ty) (k j : Fin 2)
    (w : Vec Ideal S1x1x64x4096 .f32) (L : List (View.Piece (Elt Ideal) S1x2x64x4096 .f32)) (d : Fin 64) (n : Fin 4096) :
    v.read (Elt Ideal) (v.writes (Elt Ideal) f
      ((⟨Rect.unit (s := S1x2x64x4096) (k0_off3 (tn k)) S1x1x64x4096.size (k0_off3_inb (tn k)), w⟩ :
        View.Piece (Elt Ideal) S1x2x64x4096 .f32) :: L)) (ix4 0 j d n)
      = if j = k then w (ix4 0 0 d n) else v.read (Elt Ideal) (v.writes (Elt Ideal) f L) (ix4 0 j d n) := by
  by_cases h : j = k
  · subst h
    rw [if_pos rfl]
    refine View.read_writes_cons_unit_of_mem v f _ w L _ (ix4 0 0 d n) (k0_off3_eq (tn j)) ?_
    intro r
    match r with
    | ⟨0, _⟩ => rfl
    | ⟨1, _⟩ => show j.val = j.val + 0; omega
    | ⟨2, _⟩ => show d.val = 0 + d.val; omega
    | ⟨3, _⟩ => show n.val = 0 + n.val; omega
  · rw [if_neg h]
    refine View.read_writes_cons_unit_of_not_mem v f _ w L _ (k0_off3_eq (tn k)) 1 ?_
    show j.val < k.val ∨ k.val + 1 ≤ j.val
    omega

section
variable (v9 : FVec Ideal S512x96 .bf16) (v11 : FVec Ideal S512x64 .bf16) (v17 v27 : FVec Ideal S512x1 .f32)
  (x1 : Vec Ideal S1x8192x96 .bf16) (x2 : Vec Ideal S1x8192x64 .bf16)

/-- The softmax weight of a query of the block against a key, from the saved log-sum. -/
def pV (q : Fin 512) (n : Fin 8192) : EReal :=
  FloatOps.exp2 (F := Ideal) (φ := .f32) (∑ d : Fin 96, v9 (ix2 q d) * x1 (ix3 0 n d) - v17 (ix2 q 0))

/-- The score cotangent of a query of the block against a key. -/
def dsV (q : Fin 512) (n : Fin 8192) : EReal :=
  pV v9 v17 x1 q n * (∑ d : Fin 64, v11 (ix2 q d) * x2 (ix3 0 n d) - v27 (ix2 q 0))
end

theorem pay1_at (a : FVec Ideal S512x96 .f32) (u : FVec Ideal S4096x96 .bf16) (w : FVec Ideal S512x4096 .bf16) (q : Fin 512) (d : Fin 96) :
    k0_pay1 (F := Ideal) a u w (ix2 q d) = a (ix2 q d) + ∑ n : Fin 4096, w (ix2 q n) * u (ix2 n d) := by
  pointwise [k0_pay1]

theorem pay4_at (u : Vec Ideal S1x4096x96 .bf16) (n : Fin 4096) (d : Fin 96) :
    k0_pay4 (F := Ideal) u (ix2 n d) = u (ix3 0 n d) := by
  pointwise [k0_pay4]

theorem pay8_at (v6 : FVec Ideal S96x512 .bf16) (v9 : FVec Ideal S512x96 .bf16) (v11 : FVec Ideal S512x64 .bf16)
    (v17 v27 : FVec Ideal S512x1 .f32) (u : Vec Ideal S1x4096x96 .bf16) (w : Vec Ideal S1x4096x64 .bf16)
    (b : Vec Ideal S1x1x96x4096 .f32) (d : Fin 96) (n : Fin 4096) :
    k0_pay8 (F := Ideal) v6 v9 v11 v17 v27 u w b (ix4 0 0 d n)
      = b (ix4 0 0 d n) + ∑ q : Fin 512, v6 (ix2 d q) * k0_pay6 v9 v11 v17 v27 u w (ix2 q n) := by
  pointwise [k0_pay8]

theorem pay7_at (v9 : FVec Ideal S512x96 .bf16) (v14 : FVec Ideal S64x512 .bf16)
    (v17 : FVec Ideal S512x1 .f32) (u : Vec Ideal S1x4096x96 .bf16)
    (b : Vec Ideal S1x1x64x4096 .f32) (d : Fin 64) (n : Fin 4096) :
    k0_pay7 (F := Ideal) v9 v14 v17 u b (ix4 0 0 d n)
      = b (ix4 0 0 d n) + ∑ q : Fin 512, v14 (ix2 d q) * k0_pay5 v9 v17 u (ix2 q n) := by
  pointwise [k0_pay7]

theorem pay5_at (v9 : FVec Ideal S512x96 .bf16) (v17 : FVec Ideal S512x1 .f32) (u : Vec Ideal S1x4096x96 .bf16)
    (q : Fin 512) (n : Fin 4096) : k0_pay5 (F := Ideal) v9 v17 u (ix2 q n)
      = FloatOps.exp2 (F := Ideal) (φ := .f32) (∑ d : Fin 96, v9 (ix2 q d) * u (ix3 0 n d) - v17 (ix2 q 0)) := by
  pointwise [k0_pay5, k0_pay4]

theorem pay6_at (v9 : FVec Ideal S512x96 .bf16) (v11 : FVec Ideal S512x64 .bf16) (v17 v27 : FVec Ideal S512x1 .f32)
    (u : Vec Ideal S1x4096x96 .bf16) (w : Vec Ideal S1x4096x64 .bf16) (q : Fin 512) (n : Fin 4096) :
    k0_pay6 (F := Ideal) v9 v11 v17 v27 u w (ix2 q n)
      = k0_pay5 (F := Ideal) v9 v17 u (ix2 q n) * (∑ d : Fin 64, v11 (ix2 q d) * w (ix3 0 n d) - v27 (ix2 q 0)) := by
  pointwise [k0_pay6]

theorem pay17_at (q : Fin 512) (d : Fin 96) : k0_pay17 (F := Ideal) (ix2 q d) = (0 : EReal) := by
  pointwise [k0_pay17]

section
variable (c : Dev nD) (i : grid0.Coords)
  (arg3 : Memref sig .tc .vmem S1x96x512 .bf16) (harg3 : arg3.IsWhole)
  (arg4 : Memref sig .tc .vmem S1x8192x96 .bf16) (harg4 : arg4.IsWhole)
  (arg5 : Memref sig .tc .vmem S1x8192x64 .bf16) (harg5 : arg5.IsWhole)
  (arg6 : Memref sig .tc .vmem S1x64x512 .bf16) (harg6 : arg6.IsWhole)
  (arg7 : Memref sig .tc .vmem S1x512x64 .bf16) (harg7 : arg7.IsWhole)
  (arg8 : Memref sig .tc .vmem S1x1x512 .f32) (harg8 : arg8.IsWhole)
  (arg9 : Memref sig .tc .vmem S1x512x96 .bf16) (harg9 : arg9.IsWhole)
  (arg10 : Memref sig .tc .vmem S1x2x96x4096 .f32) (harg10 : arg10.IsWhole)
  (arg11 : Memref sig .tc .vmem S1x2x64x4096 .f32) (harg11 : arg11.IsWhole)
variable (v6 : FVec Ideal S96x512 .bf16) (v9 : FVec Ideal S512x96 .bf16) (v11 : FVec Ideal S512x64 .bf16)
  (v14 : FVec Ideal S64x512 .bf16) (v17 v27 : FVec Ideal S512x1 .f32)
  (z : BitVec 32) (x1 : Vec Ideal S1x8192x96 .bf16) (x2 : Vec Ideal S1x8192x64 .bf16)

theorem p_at (j : Fin 2) (q : Fin 512) (n : Fin 4096) :
    k0_pay5 (F := Ideal) v9 v17 (View.readAt (Elt Ideal) arg4.view (Rect.unit (s := S1x8192x96) (k0_off1 (tn j)) S1x4096x96.size (k0_off1_inb (tn j))).toLoadRect (harg4.unread x1)) (ix2 q n)
      = pV v9 v17 x1 q (kx j n) := by
  rw [pay5_at]
  exact congrArg (fun y => FloatOps.exp2 (F := Ideal) (φ := .f32) (y - _))
    (Finset.sum_congr rfl fun d _ => congrArg (_ * ·) (ldK arg4 harg4 x1 j n d))

theorem ds_at (j : Fin 2) (q : Fin 512) (n : Fin 4096) :
    k0_pay6 (F := Ideal) v9 v11 v17 v27 (View.readAt (Elt Ideal) arg4.view (Rect.unit (s := S1x8192x96) (k0_off1 (tn j)) S1x4096x96.size (k0_off1_inb (tn j))).toLoadRect (harg4.unread x1))
        (View.readAt (Elt Ideal) arg5.view (Rect.unit (s := S1x8192x64) (k0_off2 (tn j)) S1x4096x64.size (k0_off2_inb (tn j))).toLoadRect (harg5.unread x2)) (ix2 q n)
      = dsV v9 v11 v17 v27 x1 x2 q (kx j n) := by
  rw [pay6_at]
  exact congrArg₂ (fun a b => a * (b - _)) (p_at arg4 harg4 v9 v17 x1 j q n)
    (Finset.sum_congr rfl fun d _ => congrArg (_ * ·) (ldV arg5 harg5 x2 j n d))

variable (G10 : BufTy.Contents (Elt Ideal) arg10.view.ty) (G11 : BufTy.Contents (Elt Ideal) arg11.view.ty)

/-- The carried value and the stores after `m` trips of the block's loop. -/
def stS (m : ℕ) :=
  st_k0_t1 (F := Ideal) Variants.none c none i arg3 harg3 arg4 harg4 arg5 harg5 arg6 harg6 arg7 harg7 arg8 harg8 arg9 harg9 arg10 harg10 arg11 harg11 v6 v9 v11 v14 v17 v27 z
    (harg4.unread x1) (harg5.unread x2) G10 G11 k0_pay17 m

theorem stS_succ (j : Fin 2) :
    stS c i arg3 harg3 arg4 harg4 arg5 harg5 arg6 harg6 arg7 harg7 arg8 harg8 arg9 harg9 arg10 harg10 arg11 harg11 v6 v9 v11 v14 v17 v27 z x1 x2 G10 G11 (j.val + 1)
      = (tripR_k0_t1 (F := Ideal) Variants.none c none i arg3 harg3 arg4 harg4 arg5 harg5 arg6 harg6 arg7 harg7 arg8 harg8 arg9 harg9 arg10 harg10 arg11 harg11 v6 v9 v11 v14 v17 v27 z
          (harg4.unread x1) (harg5.unread x2) (tn j) (stS c i arg3 harg3 arg4 harg4 arg5 harg5 arg6 harg6 arg7 harg7 arg8 harg8 arg9 harg9 arg10 harg10 arg11 harg11 v6 v9 v11 v14 v17 v27 z x1 x2 G10 G11 j.val).1
          (arg10.view.writes (Elt Ideal) G10 (stS c i arg3 harg3 arg4 harg4 arg5 harg5 arg6 harg6 arg7 harg7 arg8 harg8 arg9 harg9 arg10 harg10 arg11 harg11 v6 v9 v11 v14 v17 v27 z x1 x2 G10 G11 j.val).2.1) (arg11.view.writes (Elt Ideal) G11 (stS c i arg3 harg3 arg4 harg4 arg5 harg5 arg6 harg6 arg7 harg7 arg8 harg8 arg9 harg9 arg10 harg10 arg11 harg11 v6 v9 v11 v14 v17 v27 z x1 x2 G10 G11 j.val).2.2),
         (tripL_k0_t1 (F := Ideal) Variants.none c none i arg3 harg3 arg4 harg4 arg5 harg5 arg6 harg6 arg7 harg7 arg8 harg8 arg9 harg9 arg10 harg10 arg11 harg11 v6 v9 v11 v14 v17 v27 z
          (harg4.unread x1) (harg5.unread x2) (tn j) (stS c i arg3 harg3 arg4 harg4 arg5 harg5 arg6 harg6 arg7 harg7 arg8 harg8 arg9 harg9 arg10 harg10 arg11 harg11 v6 v9 v11 v14 v17 v27 z x1 x2 G10 G11 j.val).1
          (arg10.view.writes (Elt Ideal) G10 (stS c i arg3 harg3 arg4 harg4 arg5 harg5 arg6 harg6 arg7 harg7 arg8 harg8 arg9 harg9 arg10 harg10 arg11 harg11 v6 v9 v11 v14 v17 v27 z x1 x2 G10 G11 j.val).2.1) (arg11.view.writes (Elt Ideal) G11 (stS c i arg3 harg3 arg4 harg4 arg5 harg5 arg6 harg6 arg7 harg7 arg8 harg8 arg9 harg9 arg10 harg10 arg11 harg11 v6 v9 v11 v14 v17 v27 z x1 x2 G10 G11 j.val).2.2)).1
            ++ (stS c i arg3 harg3 arg4 harg4 arg5 harg5 arg6 harg6 arg7 harg7 arg8 harg8 arg9 harg9 arg10 harg10 arg11 harg11 v6 v9 v11 v14 v17 v27 z x1 x2 G10 G11 j.val).2.1,
         (tripL_k0_t1 (F := Ideal) Variants.none c none i arg3 harg3 arg4 harg4 arg5 harg5 arg6 harg6 arg7 harg7 arg8 harg8 arg9 harg9 arg10 harg10 arg11 harg11 v6 v9 v11 v14 v17 v27 z
          (harg4.unread x1) (harg5.unread x2) (tn j) (stS c i arg3 harg3 arg4 harg4 arg5 harg5 arg6 harg6 arg7 harg7 arg8 harg8 arg9 harg9 arg10 harg10 arg11 harg11 v6 v9 v11 v14 v17 v27 z x1 x2 G10 G11 j.val).1
          (arg10.view.writes (Elt Ideal) G10 (stS c i arg3 harg3 arg4 harg4 arg5 harg5 arg6 harg6 arg7 harg7 arg8 harg8 arg9 harg9 arg10 harg10 arg11 harg11 v6 v9 v11 v14 v17 v27 z x1 x2 G10 G11 j.val).2.1) (arg11.view.writes (Elt Ideal) G11 (stS c i arg3 harg3 arg4 harg4 arg5 harg5 arg6 harg6 arg7 harg7 arg8 harg8 arg9 harg9 arg10 harg10 arg11 harg11 v6 v9 v11 v14 v17 v27 z x1 x2 G10 G11 j.val).2.2)).2
            ++ (stS c i arg3 harg3 arg4 harg4 arg5 harg5 arg6 harg6 arg7 harg7 arg8 harg8 arg9 harg9 arg10 harg10 arg11 harg11 v6 v9 v11 v14 v17 v27 z x1 x2 G10 G11 j.val).2.2) :=
  st_k0_t1_succ (F := Ideal) Variants.none c none i arg3 harg3 arg4 harg4 arg5 harg5 arg6 harg6 arg7 harg7 arg8 harg8 arg9 harg9 arg10 harg10 arg11 harg11 v6 v9 v11 v14 v17 v27 z
    (harg4.unread x1) (harg5.unread x2) G10 G11 k0_pay17 (tn j)

/-- The query gradient's accumulator, one trip further. -/
theorem acc_succ (j : Fin 2) (q : Fin 512) (d : Fin 96) :
    (stS c i arg3 harg3 arg4 harg4 arg5 harg5 arg6 harg6 arg7 harg7 arg8 harg8 arg9 harg9 arg10 harg10 arg11 harg11 v6 v9 v11 v14 v17 v27 z x1 x2 G10 G11 (j.val + 1)).1 (ix2 q d) = (stS c i arg3 harg3 arg4 harg4 arg5 harg5 arg6 harg6 arg7 harg7 arg8 harg8 arg9 harg9 arg10 harg10 arg11 harg11 v6 v9 v11 v14 v17 v27 z x1 x2 G10 G11 j.val).1 (ix2 q d)
      + ∑ n : Fin 4096, dsV v9 v11 v17 v27 x1 x2 q (kx j n) * x1 (ix3 0 (kx j n) d) := by
  rw [stS_succ, tripR_eq]
  show k0_pay1 (F := Ideal) _ _ _ (ix2 q d) = _
  rw [pay1_at]
  refine congrArg (_ + ·) (Finset.sum_congr rfl fun n _ => ?_)
  rw [pay4_at]
  exact congrArg₂ (· * ·) (ds_at arg4 harg4 arg5 harg5 v9 v11 v17 v27 x1 x2 j q n) (ldK arg4 harg4 x1 j n d)

/-- The query gradient's accumulator after the loop. -/
theorem acc_two (q : Fin 512) (d : Fin 96) :
    (stS c i arg3 harg3 arg4 harg4 arg5 harg5 arg6 harg6 arg7 harg7 arg8 harg8 arg9 harg9 arg10 harg10 arg11 harg11 v6 v9 v11 v14 v17 v27 z x1 x2 G10 G11 2).1 (ix2 q d)
      = ∑ n : Fin 4096, dsV v9 v11 v17 v27 x1 x2 q (kx 0 n) * x1 (ix3 0 (kx 0 n) d)
        + ∑ n : Fin 4096, dsV v9 v11 v17 v27 x1 x2 q (kx 1 n) * x1 (ix3 0 (kx 1 n) d) := by
  rw [show (stS c i arg3 harg3 arg4 harg4 arg5 harg5 arg6 harg6 arg7 harg7 arg8 harg8 arg9 harg9 arg10 harg10 arg11 harg11 v6 v9 v11 v14 v17 v27 z x1 x2 G10 G11 2).1 (ix2 q d) = _ from acc_succ c i arg3 harg3 arg4 harg4 arg5 harg5 arg6 harg6 arg7 harg7 arg8 harg8 arg9 harg9 arg10 harg10 arg11 harg11 v6 v9 v11 v14 v17 v27 z x1 x2 G10 G11 1 q d,
    show (stS c i arg3 harg3 arg4 harg4 arg5 harg5 arg6 harg6 arg7 harg7 arg8 harg8 arg9 harg9 arg10 harg10 arg11 harg11 v6 v9 v11 v14 v17 v27 z x1 x2 G10 G11 (1 : Fin 2).val).1 (ix2 q d) = _ from acc_succ c i arg3 harg3 arg4 harg4 arg5 harg5 arg6 harg6 arg7 harg7 arg8 harg8 arg9 harg9 arg10 harg10 arg11 harg11 v6 v9 v11 v14 v17 v27 z x1 x2 G10 G11 0 q d]
  congr 1
  show k0_pay17 (F := Ideal) (ix2 q d) + _ = _
  rw [pay17_at, zero_add]

/-- The key gradient's block after one more trip, read over any contents. -/
theorem dk_succ {κ' : Kind} {sp : Space} {v : View sig κ' sp S1x2x96x4096 .f32} (f : BufTy.Contents (Elt Ideal) v.ty)
    (L : List (View.Piece (Elt Ideal) S1x2x96x4096 .f32)) (k j : Fin 2) (d : Fin 96) (n : Fin 4096) :
    v.read (Elt Ideal) (v.writes (Elt Ideal) f ((stS c i arg3 harg3 arg4 harg4 arg5 harg5 arg6 harg6 arg7 harg7 arg8 harg8 arg9 harg9 arg10 harg10 arg11 harg11 v6 v9 v11 v14 v17 v27 z x1 x2 G10 G11 (k.val + 1)).2.1 ++ L)) (ix4 0 j d n)
      = if j = k then
          arg10.view.read (Elt Ideal) (arg10.view.writes (Elt Ideal) G10 (stS c i arg3 harg3 arg4 harg4 arg5 harg5 arg6 harg6 arg7 harg7 arg8 harg8 arg9 harg9 arg10 harg10 arg11 harg11 v6 v9 v11 v14 v17 v27 z x1 x2 G10 G11 k.val).2.1) (ix4 0 j d n)
            + ∑ q : Fin 512, v6 (ix2 d q) * dsV v9 v11 v17 v27 x1 x2 q (kx j n)
        else v.read (Elt Ideal) (v.writes (Elt Ideal) f ((stS c i arg3 harg3 arg4 harg4 arg5 harg5 arg6 harg6 arg7 harg7 arg8 harg8 arg9 harg9 arg10 harg10 arg11 harg11 v6 v9 v11 v14 v17 v27 z x1 x2 G10 G11 k.val).2.1 ++ L)) (ix4 0 j d n) := by
  rw [stS_succ, tripL_eq]
  simp only [List.cons_append, List.nil_append]
  rw [rdAK]
  by_cases h : j = k
  · subst h
    rw [if_pos rfl, if_pos rfl, pay8_at]
    exact congrArg₂ (· + ·) (ldAK arg10 _ j d n)
      (Finset.sum_congr rfl fun q _ => congrArg (_ * ·) (ds_at arg4 harg4 arg5 harg5 v9 v11 v17 v27 x1 x2 j q n))
  · rw [if_neg h, if_neg h]

/-- The key gradient's block after the loop. -/
theorem dk_two {κ' : Kind} {sp : Space} {v : View sig κ' sp S1x2x96x4096 .f32} (f : BufTy.Contents (Elt Ideal) v.ty)
    (L : List (View.Piece (Elt Ideal) S1x2x96x4096 .f32)) (j : Fin 2) (d : Fin 96) (n : Fin 4096) :
    v.read (Elt Ideal) (v.writes (Elt Ideal) f ((stS c i arg3 harg3 arg4 harg4 arg5 harg5 arg6 harg6 arg7 harg7 arg8 harg8 arg9 harg9 arg10 harg10 arg11 harg11 v6 v9 v11 v14 v17 v27 z x1 x2 G10 G11 2).2.1 ++ L)) (ix4 0 j d n)
      = arg10.view.read (Elt Ideal) G10 (ix4 0 j d n) + ∑ q : Fin 512, v6 (ix2 d q) * dsV v9 v11 v17 v27 x1 x2 q (kx j n) := by
  rw [show v.read (Elt Ideal) (v.writes (Elt Ideal) f ((stS c i arg3 harg3 arg4 harg4 arg5 harg5 arg6 harg6 arg7 harg7 arg8 harg8 arg9 harg9 arg10 harg10 arg11 harg11 v6 v9 v11 v14 v17 v27 z x1 x2 G10 G11 2).2.1 ++ L)) (ix4 0 j d n) = _ from
    dk_succ c i arg3 harg3 arg4 harg4 arg5 harg5 arg6 harg6 arg7 harg7 arg8 harg8 arg9 harg9 arg10 harg10 arg11 harg11 v6 v9 v11 v14 v17 v27 z x1 x2 G10 G11 f L 1 j d n]
  by_cases h : j = 1
  · subst h
    rw [if_pos rfl]
    have e := dk_succ c i arg3 harg3 arg4 harg4 arg5 harg5 arg6 harg6 arg7 harg7 arg8 harg8 arg9 harg9 arg10 harg10 arg11 harg11 v6 v9 v11 v14 v17 v27 z x1 x2 G10 G11 G10 [] 0 1 d n
    rw [if_neg (by decide), List.append_nil, List.append_nil] at e
    rw [show arg10.view.read (Elt Ideal) (arg10.view.writes (Elt Ideal) G10 (stS c i arg3 harg3 arg4 harg4 arg5 harg5 arg6 harg6 arg7 harg7 arg8 harg8 arg9 harg9 arg10 harg10 arg11 harg11 v6 v9 v11 v14 v17 v27 z x1 x2 G10 G11 (1 : Fin 2).val).2.1) (ix4 0 1 d n) = _ from e]
    rfl
  · have h0 : j = 0 := by omega
    subst h0
    rw [if_neg (by decide),
      show v.read (Elt Ideal) (v.writes (Elt Ideal) f ((stS c i arg3 harg3 arg4 harg4 arg5 harg5 arg6 harg6 arg7 harg7 arg8 harg8 arg9 harg9 arg10 harg10 arg11 harg11 v6 v9 v11 v14 v17 v27 z x1 x2 G10 G11 (1 : Fin 2).val).2.1 ++ L)) (ix4 0 0 d n) = _ from
        dk_succ c i arg3 harg3 arg4 harg4 arg5 harg5 arg6 harg6 arg7 harg7 arg8 harg8 arg9 harg9 arg10 harg10 arg11 harg11 v6 v9 v11 v14 v17 v27 z x1 x2 G10 G11 f L 0 0 d n, if_pos rfl]
    rfl

/-- The value gradient's block after one more trip, read over any contents. -/
theorem dv_succ {κ' : Kind} {sp : Space} {v : View sig κ' sp S1x2x64x4096 .f32} (f : BufTy.Contents (Elt Ideal) v.ty)
    (L : List (View.Piece (Elt Ideal) S1x2x64x4096 .f32)) (k j : Fin 2) (d : Fin 64) (n : Fin 4096) :
    v.read (Elt Ideal) (v.writes (Elt Ideal) f ((stS c i arg3 harg3 arg4 harg4 arg5 harg5 arg6 harg6 arg7 harg7 arg8 harg8 arg9 harg9 arg10 harg10 arg11 harg11 v6 v9 v11 v14 v17 v27 z x1 x2 G10 G11 (k.val + 1)).2.2 ++ L)) (ix4 0 j d n)
      = if j = k then
          arg11.view.read (Elt Ideal) (arg11.view.writes (Elt Ideal) G11 (stS c i arg3 harg3 arg4 harg4 arg5 harg5 arg6 harg6 arg7 harg7 arg8 harg8 arg9 harg9 arg10 harg10 arg11 harg11 v6 v9 v11 v14 v17 v27 z x1 x2 G10 G11 k.val).2.2) (ix4 0 j d n)
            + ∑ q : Fin 512, v14 (ix2 d q) * pV v9 v17 x1 q (kx j n)
        else v.read (Elt Ideal) (v.writes (Elt Ideal) f ((stS c i arg3 harg3 arg4 harg4 arg5 harg5 arg6 harg6 arg7 harg7 arg8 harg8 arg9 harg9 arg10 harg10 arg11 harg11 v6 v9 v11 v14 v17 v27 z x1 x2 G10 G11 k.val).2.2 ++ L)) (ix4 0 j d n) := by
  rw [stS_succ, tripL_eq]
  simp only [List.cons_append, List.nil_append]
  rw [rdAV]
  by_cases h : j = k
  · subst h
    rw [if_pos rfl, if_pos rfl, pay7_at]
    exact congrArg₂ (· + ·) (ldAV arg11 _ j d n)
      (Finset.sum_congr rfl fun q _ => congrArg (_ * ·) (p_at arg4 harg4 v9 v17 x1 j q n))
  · rw [if_neg h, if_neg h]

/-- The value gradient's block after the loop. -/
theorem dv_two {κ' : Kind} {sp : Space} {v : View sig κ' sp S1x2x64x4096 .f32} (f : BufTy.Contents (Elt Ideal) v.ty)
    (L : List (View.Piece (Elt Ideal) S1x2x64x4096 .f32)) (j : Fin 2) (d : Fin 64) (n : Fin 4096) :
    v.read (Elt Ideal) (v.writes (Elt Ideal) f ((stS c i arg3 harg3 arg4 harg4 arg5 harg5 arg6 harg6 arg7 harg7 arg8 harg8 arg9 harg9 arg10 harg10 arg11 harg11 v6 v9 v11 v14 v17 v27 z x1 x2 G10 G11 2).2.2 ++ L)) (ix4 0 j d n)
      = arg11.view.read (Elt Ideal) G11 (ix4 0 j d n) + ∑ q : Fin 512, v14 (ix2 d q) * pV v9 v17 x1 q (kx j n) := by
  rw [show v.read (Elt Ideal) (v.writes (Elt Ideal) f ((stS c i arg3 harg3 arg4 harg4 arg5 harg5 arg6 harg6 arg7 harg7 arg8 harg8 arg9 harg9 arg10 harg10 arg11 harg11 v6 v9 v11 v14 v17 v27 z x1 x2 G10 G11 2).2.2 ++ L)) (ix4 0 j d n) = _ from
    dv_succ c i arg3 harg3 arg4 harg4 arg5 harg5 arg6 harg6 arg7 harg7 arg8 harg8 arg9 harg9 arg10 harg10 arg11 harg11 v6 v9 v11 v14 v17 v27 z x1 x2 G10 G11 f L 1 j d n]
  by_cases h : j = 1
  · subst h
    rw [if_pos rfl]
    have e := dv_succ c i arg3 harg3 arg4 harg4 arg5 harg5 arg6 harg6 arg7 harg7 arg8 harg8 arg9 harg9 arg10 harg10 arg11 harg11 v6 v9 v11 v14 v17 v27 z x1 x2 G10 G11 G11 [] 0 1 d n
    rw [if_neg (by decide), List.append_nil, List.append_nil] at e
    rw [show arg11.view.read (Elt Ideal) (arg11.view.writes (Elt Ideal) G11 (stS c i arg3 harg3 arg4 harg4 arg5 harg5 arg6 harg6 arg7 harg7 arg8 harg8 arg9 harg9 arg10 harg10 arg11 harg11 v6 v9 v11 v14 v17 v27 z x1 x2 G10 G11 (1 : Fin 2).val).2.2) (ix4 0 1 d n) = _ from e]
    rfl
  · have h0 : j = 0 := by omega
    subst h0
    rw [if_neg (by decide),
      show v.read (Elt Ideal) (v.writes (Elt Ideal) f ((stS c i arg3 harg3 arg4 harg4 arg5 harg5 arg6 harg6 arg7 harg7 arg8 harg8 arg9 harg9 arg10 harg10 arg11 harg11 v6 v9 v11 v14 v17 v27 z x1 x2 G10 G11 (1 : Fin 2).val).2.2 ++ L)) (ix4 0 0 d n) = _ from
        dv_succ c i arg3 harg3 arg4 harg4 arg5 harg5 arg6 harg6 arg7 harg7 arg8 harg8 arg9 harg9 arg10 harg10 arg11 harg11 v6 v9 v11 v14 v17 v27 z x1 x2 G10 G11 f L 0 0 d n, if_pos rfl]
    rfl

end
end Cert.Mla
end
-- ==== Proof.MlaBody.lean ====
module
public import proofs.«01_k».proof.Proof.MlaTrip

/-! What one grid point of the latent attention's backward leaves in each of its three output blocks, at an index. -/

@[expose] public section
set_option maxRecDepth 16384
noncomputable section
namespace Cert.Mla
open Idealize.ShloMosaic Idealize.ShloMosaic.TcCoe Idealize.ShloMosaic.Tactic
open Idealize.SL Idealize.SL.Sem
open Cert.Kernel9Ideal Cert.Kernel9Ideal.Gen
open Cert.Attn (kx)

theorem pay2_at (v : FVec Ideal S512x96 .f32) (q : Fin 512) (d : Fin 96) :
    k0_pay2 (F := Ideal) v (ix3 0 q d) = v (ix2 q d) * Named.named (F := Ideal) (φ := .f32) κ "scale" 0x3DD105EC#32 := by
  pointwise [k0_pay2]

theorem pay3_at (v : Vec Ideal S1x2x96x4096 .f32) (j : Fin 2) (d : Fin 96) (n : Fin 4096) :
    k0_pay3 (F := Ideal) v (ix4 0 j d n) = v (ix4 0 j d n) * Named.named (F := Ideal) (φ := .f32) κ "ln_2" 0x3F317218#32 := by
  pointwise [k0_pay3]

theorem pay9_at (j : Fin 2) (d : Fin 96) (n : Fin 4096) : k0_pay9 (F := Ideal) (ix4 0 j d n) = (0 : EReal) := by
  pointwise [k0_pay9]

theorem pay10_at (j : Fin 2) (d : Fin 64) (n : Fin 4096) : k0_pay10 (F := Ideal) (ix4 0 j d n) = (0 : EReal) := by
  pointwise [k0_pay10]

/-- A read under a store of the whole block is the stored vector. -/
theorem rdF96 {κ' : Kind} {sp : Space} {v : View sig κ' sp S1x2x96x4096 .f32} (f : BufTy.Contents (Elt Ideal) v.ty)
    (w : Vec Ideal S1x2x96x4096 .f32) (L : List (View.Piece (Elt Ideal) S1x2x96x4096 .f32)) (j : Fin 2) (d : Fin 96) (n : Fin 4096) :
    v.read (Elt Ideal) (v.writes (Elt Ideal) f ((⟨Rect.unit (s := S1x2x96x4096) ![0, 0, 0, 0] S1x2x96x4096.size inb_S1x2x96x4096_S1x2x96x4096_0_0_0_0, w⟩ :
        View.Piece (Elt Ideal) S1x2x96x4096 .f32) :: L)) (ix4 0 j d n) = w (ix4 0 j d n) := by
  refine View.read_writes_cons_unit_of_mem v f _ w L _ (ix4 0 j d n) rfl ?_
  intro r
  match r with
  | ⟨0, _⟩ => rfl
  | ⟨1, _⟩ => show j.val = 0 + j.val; omega
  | ⟨2, _⟩ => show d.val = 0 + d.val; omega
  | ⟨3, _⟩ => show n.val = 0 + n.val; omega

/-- A read under a store of the whole block is the stored vector. -/
theorem rdF64 {κ' : Kind} {sp : Space} {v : View sig κ' sp S1x2x64x4096 .f32} (f : BufTy.Contents (Elt Ideal) v.ty)
    (w : Vec Ideal S1x2x64x4096 .f32) (L : List (View.Piece (Elt Ideal) S1x2x64x4096 .f32)) (j : Fin 2) (d : Fin 64) (n : Fin 4096) :
    v.read (Elt Ideal) (v.writes (Elt Ideal) f ((⟨Rect.unit (s := S1x2x64x4096) ![0, 0, 0, 0] S1x2x64x4096.size inb_S1x2x64x4096_S1x2x64x4096_0_0_0_0, w⟩ :
        View.Piece (Elt Ideal) S1x2x64x4096 .f32) :: L)) (ix4 0 j d n) = w (ix4 0 j d n) := by
  refine View.read_writes_cons_unit_of_mem v f _ w L _ (ix4 0 j d n) rfl ?_
  intro r
  match r with
  | ⟨0, _⟩ => rfl
  | ⟨1, _⟩ => show j.val = 0 + j.val; omega
  | ⟨2, _⟩ => show d.val = 0 + d.val; omega
  | ⟨3, _⟩ => show n.val = 0 + n.val; omega

/-- The query gradient's block read under its store. -/
theorem rdQ {κ' : Kind} {sp : Space} {v : View sig κ' sp S1x512x96 .bf16} (f : BufTy.Contents (Elt Ideal) v.ty)
    (w : Vec Ideal S1x512x96 .bf16) (q : Fin 512) (d : Fin 96) :
    v.read (Elt Ideal) (v.writes (Elt Ideal) f
      [⟨Rect.unit (s := S1x512x96) ![0, 0, 0] S1x512x96.size inb_S1x512x96_S1x512x96_0_0_0, w⟩]) (ix3 0 q d) = w (ix3 0 q d) := by
  refine View.read_writes_cons_unit_of_mem v f _ w [] _ (ix3 0 q d) rfl ?_
  intro r
  match r with
  | ⟨0, _⟩ => rfl
  | ⟨1, _⟩ => show q.val = 0 + q.val; omega
  | ⟨2, _⟩ => show d.val = 0 + d.val; omega

/-- The whole block loaded back is what the contents read as. -/
theorem ldF (m : Memref sig .tc .vmem S1x2x96x4096 .f32) (f : BufTy.Contents (Elt Ideal) m.view.ty) (j : Fin 2) (d : Fin 96) (n : Fin 4096) :
    View.readAt (Elt Ideal) m.view (Rect.unit (s := S1x2x96x4096) ![0, 0, 0, 0] S1x2x96x4096.size inb_S1x2x96x4096_S1x2x96x4096_0_0_0_0).toLoadRect f (ix4 0 j d n)
      = m.view.read (Elt Ideal) f (ix4 0 j d n) := by
  rw [View.readAt_eq_ld]
  show m.view.read (Elt Ideal) f _ = _
  congr 1
  funext r
  apply Fin.ext
  match r with
  | ⟨0, _⟩ => rfl
  | ⟨1, _⟩ => show 0 + 1 * j.val = j.val; omega
  | ⟨2, _⟩ => show 0 + 1 * d.val = d.val; omega
  | ⟨3, _⟩ => show 0 + 1 * n.val = n.val; omega

/-! The blocks loaded whole. -/

theorem ldT (m : Memref sig .tc .vmem S1x96x512 .bf16) (hm : m.IsWhole) (x : Vec Ideal S1x96x512 .bf16) (a : Fin 96) (b : Fin 512) :
    View.readAt (Elt Ideal) m.view (Rect.unit (s := S1x96x512) ![0, 0, 0] S1x96x512.size inb_S1x96x512_S1x96x512_0_0_0).toLoadRect (hm.unread x) (ix3 0 a b) = x (ix3 0 a b) := by
  rw [Memref.IsWhole.readAt_unread]
  congr 1
  funext r
  apply Fin.ext
  match r with
  | ⟨0, _⟩ => rfl
  | ⟨1, _⟩ => show 0 + 1 * a.val = a.val; omega
  | ⟨2, _⟩ => show 0 + 1 * b.val = b.val; omega

theorem ldR (m : Memref sig .tc .vmem S1x512x64 .bf16) (hm : m.IsWhole) (x : Vec Ideal S1x512x64 .bf16) (a : Fin 512) (b : Fin 64) :
    View.readAt (Elt Ideal) m.view (Rect.unit (s := S1x512x64) ![0, 0, 0] S1x512x64.size inb_S1x512x64_S1x512x64_0_0_0).toLoadRect (hm.unread x) (ix3 0 a b) = x (ix3 0 a b) := by
  rw [Memref.IsWhole.readAt_unread]
  congr 1
  funext r
  apply Fin.ext
  match r with
  | ⟨0, _⟩ => rfl
  | ⟨1, _⟩ => show 0 + 1 * a.val = a.val; omega
  | ⟨2, _⟩ => show 0 + 1 * b.val = b.val; omega

theorem ldO (m : Memref sig .tc .vmem S1x64x512 .bf16) (hm : m.IsWhole) (x : Vec Ideal S1x64x512 .bf16) (a : Fin 64) (b : Fin 512) :
    View.readAt (Elt Ideal) m.view (Rect.unit (s := S1x64x512) ![0, 0, 0] S1x64x512.size inb_S1x64x512_S1x64x512_0_0_0).toLoadRect (hm.unread x) (ix3 0 a b) = x (ix3 0 a b) := by
  rw [Memref.IsWhole.readAt_unread]
  congr 1
  funext r
  apply Fin.ext
  match r with
  | ⟨0, _⟩ => rfl
  | ⟨1, _⟩ => show 0 + 1 * a.val = a.val; omega
  | ⟨2, _⟩ => show 0 + 1 * b.val = b.val; omega

theorem ldL (m : Memref sig .tc .vmem S1x1x512 .f32) (hm : m.IsWhole) (x : Vec Ideal S1x1x512 .f32) (a : Fin 1) (b : Fin 512) :
    View.readAt (Elt Ideal) m.view (Rect.unit (s := S1x1x512) ![0, 0, 0] S1x1x512.size inb_S1x1x512_S1x1x512_0_0_0).toLoadRect (hm.unread x) (ix3 0 a b) = x (ix3 0 a b) := by
  rw [Memref.IsWhole.readAt_unread]
  congr 1
  funext r
  apply Fin.ext
  match r with
  | ⟨0, _⟩ => rfl
  | ⟨1, _⟩ => show 0 + 1 * a.val = a.val; omega
  | ⟨2, _⟩ => show 0 + 1 * b.val = b.val; omega

/-! The vectors a point computes before its loop, and their entries. -/

section
variable (c : Dev nD) (i : grid0.Coords)
  (arg3 : Memref sig .tc .vmem S1x96x512 .bf16) (harg3 : arg3.IsWhole)
  (arg4 : Memref sig .tc .vmem S1x8192x96 .bf16) (harg4 : arg4.IsWhole)
  (arg5 : Memref sig .tc .vmem S1x8192x64 .bf16) (harg5 : arg5.IsWhole)
  (arg6 : Memref sig .tc .vmem S1x64x512 .bf16) (harg6 : arg6.IsWhole)
  (arg7 : Memref sig .tc .vmem S1x512x64 .bf16) (harg7 : arg7.IsWhole)
  (arg8 : Memref sig .tc .vmem S1x1x512 .f32) (harg8 : arg8.IsWhole)
  (arg9 : Memref sig .tc .vmem S1x512x96 .bf16) (harg9 : arg9.IsWhole)
  (arg10 : Memref sig .tc .vmem S1x2x96x4096 .f32) (harg10 : arg10.IsWhole)
  (arg11 : Memref sig .tc .vmem S1x2x64x4096 .f32) (harg11 : arg11.IsWhole)
variable (x0 : Vec Ideal S1x96x512 .bf16) (x1 : Vec Ideal S1x8192x96 .bf16) (x2 : Vec Ideal S1x8192x64 .bf16)
  (x3 : Vec Ideal S1x64x512 .bf16) (x4 : Vec Ideal S1x512x64 .bf16) (x5 : Vec Ideal S1x1x512 .f32)

def w6 : FVec Ideal S96x512 .bf16 := k0_pay11 (View.readAt (Elt Ideal) arg3.view (Rect.unit (s := S1x96x512) ![0, 0, 0] S1x96x512.size inb_S1x96x512_S1x96x512_0_0_0).toLoadRect (harg3.unread x0))
def w9 : FVec Ideal S512x96 .bf16 := k0_pay12 (View.readAt (Elt Ideal) arg3.view (Rect.unit (s := S1x96x512) ![0, 0, 0] S1x96x512.size inb_S1x96x512_S1x96x512_0_0_0).toLoadRect (harg3.unread x0))
def w11 : FVec Ideal S512x64 .bf16 := k0_pay13 (View.readAt (Elt Ideal) arg7.view (Rect.unit (s := S1x512x64) ![0, 0, 0] S1x512x64.size inb_S1x512x64_S1x512x64_0_0_0).toLoadRect (harg7.unread x4))
def w14 : FVec Ideal S64x512 .bf16 := k0_pay14 (View.readAt (Elt Ideal) arg7.view (Rect.unit (s := S1x512x64) ![0, 0, 0] S1x512x64.size inb_S1x512x64_S1x512x64_0_0_0).toLoadRect (harg7.unread x4))
def w17 : FVec Ideal S512x1 .f32 := k0_pay15 (View.readAt (Elt Ideal) arg8.view (Rect.unit (s := S1x1x512) ![0, 0, 0] S1x1x512.size inb_S1x1x512_S1x1x512_0_0_0).toLoadRect (harg8.unread x5))
def w27 : FVec Ideal S512x1 .f32 := k0_pay16 (View.readAt (Elt Ideal) arg7.view (Rect.unit (s := S1x512x64) ![0, 0, 0] S1x512x64.size inb_S1x512x64_S1x512x64_0_0_0).toLoadRect (harg7.unread x4))
  (View.readAt (Elt Ideal) arg6.view (Rect.unit (s := S1x64x512) ![0, 0, 0] S1x64x512.size inb_S1x64x512_S1x64x512_0_0_0).toLoadRect (harg6.unread x3))

theorem w6_at (d : Fin 96) (q : Fin 512) : w6 arg3 harg3 x0 (ix2 d q) = x0 (ix3 0 d q) := by
  pointwise [w6, k0_pay11]
  exact ldT arg3 harg3 x0 d q

theorem w9_at (q : Fin 512) (d : Fin 96) : w9 arg3 harg3 x0 (ix2 q d) = x0 (ix3 0 d q) := by
  pointwise [w9, k0_pay12]
  exact ldT arg3 harg3 x0 d q

theorem w11_at (q : Fin 512) (d : Fin 64) : w11 arg7 harg7 x4 (ix2 q d) = x4 (ix3 0 q d) := by
  pointwise [w11, k0_pay13]
  exact ldR arg7 harg7 x4 q d

theorem w14_at (d : Fin 64) (q : Fin 512) : w14 arg7 harg7 x4 (ix2 d q) = x4 (ix3 0 q d) := by
  pointwise [w14, k0_pay14]
  exact ldR arg7 harg7 x4 q d

theorem w17_at (q : Fin 512) : w17 arg8 harg8 x5 (ix2 q 0) = x5 (ix3 0 0 q) := by
  pointwise [w17, k0_pay15]
  exact ldL arg8 harg8 x5 0 q

theorem w27_at (q : Fin 512) : w27 arg6 harg6 arg7 harg7 x3 x4 (ix2 q 0)
    = ∑ d : Fin 64, x4 (ix3 0 q d) * x3 (ix3 0 d q) := by
  pointwise [w27, k0_pay16]
  exact Finset.sum_congr rfl fun d _ => congrArg₂ (· * ·) (ldR arg7 harg7 x4 q d) (ldO arg6 harg6 x3 d q)

/-- The softmax weight and the score cotangent of a query of the block against a key, in the point's blocks. -/
def pB (q : Fin 512) (n : Fin 8192) : EReal :=
  FloatOps.exp2 (F := Ideal) (φ := .f32) (∑ d : Fin 96, x0 (ix3 0 d q) * x1 (ix3 0 n d) - x5 (ix3 0 0 q))
def dsB (q : Fin 512) (n : Fin 8192) : EReal :=
  pB x0 x1 x5 q n * (∑ d : Fin 64, x4 (ix3 0 q d) * x2 (ix3 0 n d) - ∑ d : Fin 64, x4 (ix3 0 q d) * x3 (ix3 0 d q))

/-- The point's query gradient, and what it adds to the gradient of a key and of a value. -/
def dqB (q : Fin 512) (d : Fin 96) : EReal :=
  (∑ n : Fin 4096, dsB x0 x1 x2 x3 x4 x5 q (kx 0 n) * x1 (ix3 0 (kx 0 n) d)
    + ∑ n : Fin 4096, dsB x0 x1 x2 x3 x4 x5 q (kx 1 n) * x1 (ix3 0 (kx 1 n) d))
    * Named.named (F := Ideal) (φ := .f32) κ "scale" 0x3DD105EC#32
def dkB (d : Fin 96) (n : Fin 8192) : EReal := ∑ q : Fin 512, x0 (ix3 0 d q) * dsB x0 x1 x2 x3 x4 x5 q n
def dvB (d : Fin 64) (n : Fin 8192) : EReal := ∑ q : Fin 512, x4 (ix3 0 q d) * pB x0 x1 x5 q n

theorem p_w (q : Fin 512) (n : Fin 8192) :
    pV (w9 arg3 harg3 x0) (w17 arg8 harg8 x5) x1 q n = pB x0 x1 x5 q n := by
  unfold pV pB
  simp only [w9_at, w17_at]

theorem ds_w (q : Fin 512) (n : Fin 8192) :
    dsV (w9 arg3 harg3 x0) (w11 arg7 harg7 x4) (w17 arg8 harg8 x5) (w27 arg6 harg6 arg7 harg7 x3 x4) x1 x2 q n
      = dsB x0 x1 x2 x3 x4 x5 q n := by
  unfold dsV dsB
  simp only [p_w, w11_at, w27_at]

theorem dq_w (q : Fin 512) (d : Fin 96) :
    (∑ n : Fin 4096, dsV (w9 arg3 harg3 x0) (w11 arg7 harg7 x4) (w17 arg8 harg8 x5) (w27 arg6 harg6 arg7 harg7 x3 x4) x1 x2 q (kx 0 n)
        * x1 (ix3 0 (kx 0 n) d)
      + ∑ n : Fin 4096, dsV (w9 arg3 harg3 x0) (w11 arg7 harg7 x4) (w17 arg8 harg8 x5) (w27 arg6 harg6 arg7 harg7 x3 x4) x1 x2 q (kx 1 n)
        * x1 (ix3 0 (kx 1 n) d)) * Named.named (F := Ideal) (φ := .f32) κ "scale" 0x3DD105EC#32
      = dqB x0 x1 x2 x3 x4 x5 q d := by
  simp only [ds_w]
  rfl

theorem dk_w (d : Fin 96) (n : Fin 8192) :
    ∑ q : Fin 512, w6 arg3 harg3 x0 (ix2 d q)
        * dsV (w9 arg3 harg3 x0) (w11 arg7 harg7 x4) (w17 arg8 harg8 x5) (w27 arg6 harg6 arg7 harg7 x3 x4) x1 x2 q n
      = dkB x0 x1 x2 x3 x4 x5 d n := by
  simp only [ds_w, w6_at]
  rfl

theorem dv_w (d : Fin 64) (n : Fin 8192) :
    ∑ q : Fin 512, w14 arg7 harg7 x4 (ix2 d q) * pV (w9 arg3 harg3 x0) (w17 arg8 harg8 x5) x1 q n
      = dvB x0 x1 x4 x5 d n := by
  simp only [p_w, w14_at]
  rfl

set_option maxHeartbeats 800000 in
theorem outA_6 (hc0 : cond0_0 i) (hc1 : ¬cond0_1 i) (q : Fin 512) (d : Fin 96) :
    out0_A_6 (F := Ideal) c i arg3 harg3 arg4 harg4 arg5 harg5 arg6 harg6 arg7 harg7 arg8 harg8 arg9 harg9 arg10 harg10 arg11 harg11 hc0 hc1 x0 x1 x2 x3 x4 x5 (ix3 0 q d) = dqB x0 x1 x2 x3 x4 x5 q d := by
  unfold out0_A_6 kernelRun0_A
  refine (rdQ VO0_6.junk (k0_pay2 (stS c i arg3 harg3 arg4 harg4 arg5 harg5 arg6 harg6 arg7 harg7 arg8 harg8 arg9 harg9 arg10 harg10 arg11 harg11 (w6 arg3 harg3 x0) (w9 arg3 harg3 x0) (w11 arg7 harg7 x4) (w14 arg7 harg7 x4) (w17 arg8 harg8 x5) (w27 arg6 harg6 arg7 harg7 x3 x4) 0#32 x1 x2 (arg10.view.writes (Elt Ideal) arg10.view.junk [⟨Rect.unit (s := S1x2x96x4096) ![0, 0, 0, 0] S1x2x96x4096.size inb_S1x2x96x4096_S1x2x96x4096_0_0_0_0, k0_pay9 (F := Ideal)⟩]) (arg11.view.writes (Elt Ideal) arg11.view.junk [⟨Rect.unit (s := S1x2x64x4096) ![0, 0, 0, 0] S1x2x64x4096.size inb_S1x2x64x4096_S1x2x64x4096_0_0_0_0, k0_pay10 (F := Ideal)⟩]) 2).1) q d).trans ?_
  rw [pay2_at, acc_two, dq_w]

set_option maxHeartbeats 800000 in
theorem outA_7 (hc0 : cond0_0 i) (hc1 : ¬cond0_1 i) (j : Fin 2) (d : Fin 96) (n : Fin 4096) :
    out0_A_7 (F := Ideal) c i arg3 harg3 arg4 harg4 arg5 harg5 arg6 harg6 arg7 harg7 arg8 harg8 arg9 harg9 arg10 harg10 arg11 harg11 hc0 hc1 x0 x1 x2 x3 x4 x5 (ix4 0 j d n) = dkB x0 x1 x2 x3 x4 x5 d (kx j n) := by
  unfold out0_A_7 kernelRun0_A
  refine (dk_two c i arg3 harg3 arg4 harg4 arg5 harg5 arg6 harg6 arg7 harg7 arg8 harg8 arg9 harg9 arg10 harg10 arg11 harg11 (w6 arg3 harg3 x0) (w9 arg3 harg3 x0) (w11 arg7 harg7 x4) (w14 arg7 harg7 x4) (w17 arg8 harg8 x5) (w27 arg6 harg6 arg7 harg7 x3 x4) 0#32 x1 x2 (arg10.view.writes (Elt Ideal) arg10.view.junk [⟨Rect.unit (s := S1x2x96x4096) ![0, 0, 0, 0] S1x2x96x4096.size inb_S1x2x96x4096_S1x2x96x4096_0_0_0_0, k0_pay9 (F := Ideal)⟩]) (arg11.view.writes (Elt Ideal) arg11.view.junk [⟨Rect.unit (s := S1x2x64x4096) ![0, 0, 0, 0] S1x2x64x4096.size inb_S1x2x64x4096_S1x2x64x4096_0_0_0_0, k0_pay10 (F := Ideal)⟩]) VO0_7.junk [⟨Rect.unit (s := S1x2x96x4096) ![0, 0, 0, 0] S1x2x96x4096.size inb_S1x2x96x4096_S1x2x96x4096_0_0_0_0, k0_pay9 (F := Ideal)⟩] j d n).trans ?_
  rw [rdF96, pay9_at, zero_add, dk_w]

set_option maxHeartbeats 800000 in
theorem outA_8 (hc0 : cond0_0 i) (hc1 : ¬cond0_1 i) (j : Fin 2) (d : Fin 64) (n : Fin 4096) :
    out0_A_8 (F := Ideal) c i arg3 harg3 arg4 harg4 arg5 harg5 arg6 harg6 arg7 harg7 arg8 harg8 arg9 harg9 arg10 harg10 arg11 harg11 hc0 hc1 x0 x1 x2 x3 x4 x5 (ix4 0 j d n) = dvB x0 x1 x4 x5 d (kx j n) := by
  unfold out0_A_8 kernelRun0_A
  refine (dv_two c i arg3 harg3 arg4 harg4 arg5 harg5 arg6 harg6 arg7 harg7 arg8 harg8 arg9 harg9 arg10 harg10 arg11 harg11 (w6 arg3 harg3 x0) (w9 arg3 harg3 x0) (w11 arg7 harg7 x4) (w14 arg7 harg7 x4) (w17 arg8 harg8 x5) (w27 arg6 harg6 arg7 harg7 x3 x4) 0#32 x1 x2 (arg10.view.writes (Elt Ideal) arg10.view.junk [⟨Rect.unit (s := S1x2x96x4096) ![0, 0, 0, 0] S1x2x96x4096.size inb_S1x2x96x4096_S1x2x96x4096_0_0_0_0, k0_pay9 (F := Ideal)⟩]) (arg11.view.writes (Elt Ideal) arg11.view.junk [⟨Rect.unit (s := S1x2x64x4096) ![0, 0, 0, 0] S1x2x64x4096.size inb_S1x2x64x4096_S1x2x64x4096_0_0_0_0, k0_pay10 (F := Ideal)⟩]) VO0_8.junk [⟨Rect.unit (s := S1x2x64x4096) ![0, 0, 0, 0] S1x2x64x4096.size inb_S1x2x64x4096_S1x2x64x4096_0_0_0_0, k0_pay10 (F := Ideal)⟩] j d n).trans ?_
  rw [rdF64, pay10_at, zero_add, dv_w]

set_option maxHeartbeats 800000 in
theorem outB_6 (hc0 : ¬cond0_0 i) (hc1 : ¬cond0_1 i) (xo7 : Vec Ideal S1x2x96x4096 .f32) (xo8 : Vec Ideal S1x2x64x4096 .f32) (q : Fin 512) (d : Fin 96) :
    out0_B_6 (F := Ideal) c i arg3 harg3 arg4 harg4 arg5 harg5 arg6 harg6 arg7 harg7 arg8 harg8 arg9 harg9 arg10 harg10 arg11 harg11 hc0 hc1 x0 x1 x2 x3 x4 x5 xo7 xo8 (ix3 0 q d) = dqB x0 x1 x2 x3 x4 x5 q d := by
  unfold out0_B_6 kernelRun0_B
  refine (rdQ VO0_6.junk (k0_pay2 (stS c i arg3 harg3 arg4 harg4 arg5 harg5 arg6 harg6 arg7 harg7 arg8 harg8 arg9 harg9 arg10 harg10 arg11 harg11 (w6 arg3 harg3 x0) (w9 arg3 harg3 x0) (w11 arg7 harg7 x4) (w14 arg7 harg7 x4) (w17 arg8 harg8 x5) (w27 arg6 harg6 arg7 harg7 x3 x4) 0#32 x1 x2 (harg10.unread xo7) (harg11.unread xo8) 2).1) q d).trans ?_
  rw [pay2_at, acc_two, dq_w]

set_option maxHeartbeats 800000 in
theorem outB_7 (hc0 : ¬cond0_0 i) (hc1 : ¬cond0_1 i) (xo7 : Vec Ideal S1x2x96x4096 .f32) (xo8 : Vec Ideal S1x2x64x4096 .f32) (j : Fin 2) (d : Fin 96) (n : Fin 4096) :
    out0_B_7 (F := Ideal) c i arg3 harg3 arg4 harg4 arg5 harg5 arg6 harg6 arg7 harg7 arg8 harg8 arg9 harg9 arg10 harg10 arg11 harg11 hc0 hc1 x0 x1 x2 x3 x4 x5 xo7 xo8 (ix4 0 j d n)
      = xo7 (ix4 0 j d n) + dkB x0 x1 x2 x3 x4 x5 d (kx j n) := by
  unfold out0_B_7 kernelRun0_B
  have e := dk_two c i arg3 harg3 arg4 harg4 arg5 harg5 arg6 harg6 arg7 harg7 arg8 harg8 arg9 harg9 arg10 harg10 arg11 harg11 (w6 arg3 harg3 x0) (w9 arg3 harg3 x0) (w11 arg7 harg7 x4) (w14 arg7 harg7 x4) (w17 arg8 harg8 x5) (w27 arg6 harg6 arg7 harg7 x3 x4) 0#32 x1 x2 (harg10.unread xo7) (harg11.unread xo8) VO0_7.junk [] j d n
  rw [List.append_nil, dk_w] at e
  refine e.trans ?_
  rw [Memref.IsWhole.read_unread]

set_option maxHeartbeats 800000 in
theorem outB_8 (hc0 : ¬cond0_0 i) (hc1 : ¬cond0_1 i) (xo7 : Vec Ideal S1x2x96x4096 .f32) (xo8 : Vec Ideal S1x2x64x4096 .f32) (j : Fin 2) (d : Fin 64) (n : Fin 4096) :
    out0_B_8 (F := Ideal) c i arg3 harg3 arg4 harg4 arg5 harg5 arg6 harg6 arg7 harg7 arg8 harg8 arg9 harg9 arg10 harg10 arg11 harg11 hc0 hc1 x0 x1 x2 x3 x4 x5 xo7 xo8 (ix4 0 j d n)
      = xo8 (ix4 0 j d n) + dvB x0 x1 x4 x5 d (kx j n) := by
  unfold out0_B_8 kernelRun0_B
  have e := dv_two c i arg3 harg3 arg4 harg4 arg5 harg5 arg6 harg6 arg7 harg7 arg8 harg8 arg9 harg9 arg10 harg10 arg11 harg11 (w6 arg3 harg3 x0) (w9 arg3 harg3 x0) (w11 arg7 harg7 x4) (w14 arg7 harg7 x4) (w17 arg8 harg8 x5) (w27 arg6 harg6 arg7 harg7 x3 x4) 0#32 x1 x2 (harg10.unread xo7) (harg11.unread xo8) VO0_8.junk [] j d n
  rw [List.append_nil, dv_w] at e
  refine e.trans ?_
  rw [Memref.IsWhole.read_unread]

set_option maxHeartbeats 800000 in
theorem outC_6 (hc0 : ¬cond0_0 i) (hc1 : cond0_1 i) (xo7 : Vec Ideal S1x2x96x4096 .f32) (xo8 : Vec Ideal S1x2x64x4096 .f32) (q : Fin 512) (d : Fin 96) :
    out0_C_6 (F := Ideal) c i arg3 harg3 arg4 harg4 arg5 harg5 arg6 harg6 arg7 harg7 arg8 harg8 arg9 harg9 arg10 harg10 arg11 harg11 hc0 hc1 x0 x1 x2 x3 x4 x5 xo7 xo8 (ix3 0 q d) = dqB x0 x1 x2 x3 x4 x5 q d := by
  unfold out0_C_6 kernelRun0_C
  refine (rdQ VO0_6.junk (k0_pay2 (stS c i arg3 harg3 arg4 harg4 arg5 harg5 arg6 harg6 arg7 harg7 arg8 harg8 arg9 harg9 arg10 harg10 arg11 harg11 (w6 arg3 harg3 x0) (w9 arg3 harg3 x0) (w11 arg7 harg7 x4) (w14 arg7 harg7 x4) (w17 arg8 harg8 x5) (w27 arg6 harg6 arg7 harg7 x3 x4) 0#32 x1 x2 (harg10.unread xo7) (harg11.unread xo8) 2).1) q d).trans ?_
  rw [pay2_at, acc_two, dq_w]

set_option maxHeartbeats 800000 in
theorem outC_7 (hc0 : ¬cond0_0 i) (hc1 : cond0_1 i) (xo7 : Vec Ideal S1x2x96x4096 .f32) (xo8 : Vec Ideal S1x2x64x4096 .f32) (j : Fin 2) (d : Fin 96) (n : Fin 4096) :
    out0_C_7 (F := Ideal) c i arg3 harg3 arg4 harg4 arg5 harg5 arg6 harg6 arg7 harg7 arg8 harg8 arg9 harg9 arg10 harg10 arg11 harg11 hc0 hc1 x0 x1 x2 x3 x4 x5 xo7 xo8 (ix4 0 j d n)
      = (xo7 (ix4 0 j d n) + dkB x0 x1 x2 x3 x4 x5 d (kx j n)) * Named.named (F := Ideal) (φ := .f32) κ "ln_2" 0x3F317218#32 := by
  unfold out0_C_7 kernelRun0_C
  refine (rdF96 VO0_7.junk _ _ j d n).trans ?_
  rw [pay3_at]
  refine congrArg (· * _) ?_
  have e := dk_two (v := arg10.view) c i arg3 harg3 arg4 harg4 arg5 harg5 arg6 harg6 arg7 harg7 arg8 harg8 arg9 harg9 arg10 harg10 arg11 harg11 (w6 arg3 harg3 x0) (w9 arg3 harg3 x0) (w11 arg7 harg7 x4) (w14 arg7 harg7 x4) (w17 arg8 harg8 x5) (w27 arg6 harg6 arg7 harg7 x3 x4) 0#32 x1 x2 (harg10.unread xo7) (harg11.unread xo8) (harg10.unread xo7) [] j d n
  rw [List.append_nil, Memref.IsWhole.read_unread, dk_w] at e
  exact (ldF arg10 _ j d n).trans e

set_option maxHeartbeats 800000 in
theorem outC_8 (hc0 : ¬cond0_0 i) (hc1 : cond0_1 i) (xo7 : Vec Ideal S1x2x96x4096 .f32) (xo8 : Vec Ideal S1x2x64x4096 .f32) (j : Fin 2) (d : Fin 64) (n : Fin 4096) :
    out0_C_8 (F := Ideal) c i arg3 harg3 arg4 harg4 arg5 harg5 arg6 harg6 arg7 harg7 arg8 harg8 arg9 harg9 arg10 harg10 arg11 harg11 hc0 hc1 x0 x1 x2 x3 x4 x5 xo7 xo8 (ix4 0 j d n)
      = xo8 (ix4 0 j d n) + dvB x0 x1 x4 x5 d (kx j n) := by
  unfold out0_C_8 kernelRun0_C
  have e := dv_two c i arg3 harg3 arg4 harg4 arg5 harg5 arg6 harg6 arg7 harg7 arg8 harg8 arg9 harg9 arg10 harg10 arg11 harg11 (w6 arg3 harg3 x0) (w9 arg3 harg3 x0) (w11 arg7 harg7 x4) (w14 arg7 harg7 x4) (w17 arg8 harg8 x5) (w27 arg6 harg6 arg7 harg7 x3 x4) 0#32 x1 x2 (harg10.unread xo7) (harg11.unread xo8) VO0_8.junk [] j d n
  rw [List.append_nil, dv_w] at e
  refine e.trans ?_
  rw [Memref.IsWhole.read_unread]

end
end Cert.Mla
end
-- ==== Proof.MlaMath.lean ====
module
public import proofs.«01_k».proof.Proof.Math

/-! The real identities behind the gradient of one row of a softmax, the latent attention's gradients over the reals,
and the sums over its grid regrouped. -/

@[expose] public section
noncomputable section
namespace Cert.Mla
open Idealize.ShloMosaic
open Cert.Attn (kx coe_sum fold_max_real lit_bot)

/-! ## One row -/

section
variable (s v : Fin 8192 → ℝ)

/-- The row's largest score. -/
def mx : ℝ := (fold_max_real (n := 8191) s).choose
/-- The exponential, the row's sum and the weight. -/
def ex (n : Fin 8192) : ℝ := Real.exp (s n - mx s)
def sm : ℝ := ∑ n, ex s n
def wt (n : Fin 8192) : ℝ := ex s n / sm s
/-- The score's cotangent, from the weights' cotangents. -/
def ct (n : Fin 8192) : ℝ := wt s n * (v n - ∑ b, wt s b * v b)

theorem mx_fold : Finset.fold max (⊥ : EReal) (fun n => ((s n : ℝ) : EReal)) Finset.univ = ((mx s : ℝ) : EReal) :=
  (fold_max_real (n := 8191) s).choose_spec

theorem sm_pos : 0 < sm s := Finset.sum_pos (fun _ _ => Real.exp_pos _) ⟨0, Finset.mem_univ _⟩

/-- The weight from the base-two log-sum-exp. -/
theorem exp2_lse (n : Fin 8192) :
    Real.rpow 2 (s n / Real.log 2 - (mx s + Real.log (sm s)) / Real.log 2) = wt s n := by
  have h2 : Real.log 2 ≠ 0 := Real.log_ne_zero_of_pos_of_ne_one (by norm_num) (by norm_num)
  rw [Real.rpow_eq_pow, Real.rpow_def_of_pos (by norm_num : (0 : ℝ) < 2)]
  have e : Real.log 2 * (s n / Real.log 2 - (mx s + Real.log (sm s)) / Real.log 2) = (s n - mx s) - Real.log (sm s) := by
    field_simp
    ring
  rw [e, Real.exp_sub, Real.exp_log (sm_pos s)]
  rfl

/-- The score's cotangent as the derivative of the quotient spells it. -/
theorem quotient_rule (n : Fin 8192) :
    (v n / sm s + -∑ b, v b * (1 / (sm s * sm s)) * ex s b) * ex s n = ct s v n := by
  have hl := (sm_pos s).ne'
  have e : ∑ b, v b * (1 / (sm s * sm s)) * ex s b = (∑ b, wt s b * v b) / sm s := by
    rw [Finset.sum_div]
    refine Finset.sum_congr rfl fun b _ => ?_
    unfold wt
    field_simp
  rw [e]
  unfold ct
  generalize ∑ b, wt s b * v b = z
  unfold wt
  field_simp
  ring
end

/-! ## The latent attention's gradient -/

section
variable (q k : Fin 8 → Fin 8192 → Fin 96 → ℝ) (w d : Fin 8 → Fin 8192 → Fin 64 → ℝ)

/-- The score, the weight, the weight's cotangent and the score's, but for the scale. -/
def sR (h : Fin 8) (a n : Fin 8192) : ℝ := (∑ x, q h a x * k h n x) / Real.sqrt 96
def pR (h : Fin 8) (a n : Fin 8192) : ℝ := wt (sR q k h a) n
def cR (h : Fin 8) (a n : Fin 8192) : ℝ := ∑ x, d h a x * w h n x
def gR (h : Fin 8) (a n : Fin 8192) : ℝ := ct (sR q k h a) (cR w d h a) n
/-- The three gradients. -/
def dqR (h : Fin 8) (a : Fin 8192) (x : Fin 96) : ℝ := (∑ n, gR q k w d h a n * k h n x) * (Real.sqrt 96)⁻¹
def dkR (h : Fin 8) (n : Fin 8192) (x : Fin 96) : ℝ := (∑ a, q h a x * gR q k w d h a n) * (Real.sqrt 96)⁻¹
def dvR (h : Fin 8) (n : Fin 8192) (x : Fin 64) : ℝ := ∑ a, d h a x * pR q k h a n

/-- The weight from the scaled queries. -/
theorem weight_eq (h : Fin 8) (a n : Fin 8192) :
    Real.rpow 2 (∑ x, q h a x / Real.sqrt 96 / Real.log 2 * k h n x
      - (mx (sR q k h a) + Real.log (sm (sR q k h a))) / Real.log 2) = pR q k h a n := by
  unfold pR
  rw [← exp2_lse]
  refine congrArg (fun z => Real.rpow 2 (z - _)) ?_
  unfold sR
  rw [Finset.sum_div, Finset.sum_div]
  exact Finset.sum_congr rfl fun x _ => by ring

/-- The sum of the result against its cotangent is the weights' against theirs. -/
theorem delta_eq (h : Fin 8) (a : Fin 8192) :
    ∑ x, d h a x * ∑ n, pR q k h a n * w h n x = ∑ n, pR q k h a n * cR w d h a n := by
  unfold cR
  simp only [Finset.mul_sum]
  rw [Finset.sum_comm]
  exact Finset.sum_congr rfl fun n _ => Finset.sum_congr rfl fun x _ => by ring
end

theorem root_pos : 0 < Real.sqrt 96 := Real.sqrt_pos.mpr (by norm_num)

theorem lit_root : Ideal.sqrt (Ideal.ofBits FTy.f32 0x42C00000#32) = ((Real.sqrt 96 : ℝ) : EReal) := by
  have e : Ideal.ofBits FTy.f32 0x42C00000#32 = ((96 : ℝ) : EReal) := by
    simp [Ideal.ofBits, Ideal.ieee, -EReal.coe_mul]; norm_num
  rw [e, Ideal.sqrt_coe, if_neg (by norm_num)]

/-! ## Sums over the grid -/

/-- The head the point `t` holds, and the query row it holds at place `q`. -/
def hdN (t : ℕ) : Fin 8 := ⟨t / 16 % 8, Nat.mod_lt _ (by decide)⟩
def rowN (t : ℕ) (q : Fin 512) : Fin 8192 := ⟨512 * (t % 16) + q.val, by have := Nat.mod_lt t (by decide : 0 < 16); omega⟩

/-- A sum over the points of a head, each of 512 rows, is the sum over its rows. -/
theorem sum_points {M : Type*} [AddCommMonoid M] (F : Fin 8 → Fin 8192 → M) (h : Fin 8) :
    ∑ s ∈ Finset.range 16, ∑ b : Fin 512, F (hdN (16 * h.val + s)) (rowN (16 * h.val + s) b) = ∑ a : Fin 8192, F h a := by
  have hh := h.isLt
  rw [← Fin.sum_univ_eq_sum_range (fun s => ∑ b : Fin 512, F (hdN (16 * h.val + s)) (rowN (16 * h.val + s) b)) 16,
    ← Fin.sum_mul_add_fin 16 512 (F h)]
  refine Finset.sum_congr rfl fun s _ => Finset.sum_congr rfl fun b _ => congrArg₂ F (Fin.ext ?_) (Fin.ext ?_)
  · have hs := s.isLt
    show (16 * h.val + s.val) / 16 % 8 = h.val
    omega
  · have hs := s.isLt
    show 512 * ((16 * h.val + s.val) % 16) + b.val = _
    simp only []
    omega

end Cert.Mla
end
-- ==== Proof.MlaGrid.lean ====
module
public import proofs.«01_k».proof.Proof.MlaBody
public import proofs.«01_k».proof.Proof.MlaMath
public import Idealize.ShloMosaic.Lib.Pipeline.Value
public import Idealize.ShloMosaic.Lib.Pipeline.ValueKit

/-! The grid of the latent attention's backward: each point's blocks are rows of the arrays, the two accumulators are
sums over a head's points, and the three result arrays in closed form over the arrays the launch reads. -/

@[expose] public section
set_option maxRecDepth 16384
noncomputable section
namespace Cert.Mla
open Idealize.ShloMosaic Idealize.ShloMosaic.TcCoe Idealize.ShloMosaic.Tactic
open Idealize.SL Idealize.SL.Sem
open Cert.Kernel9Ideal Cert.Kernel9Ideal.Gen
open Cert.Attn (kx)

section
variable (QT : Vec Ideal S8x96x8192 .bf16) (KK : Vec Ideal S8x8192x96 .bf16) (VV : Vec Ideal S8x8192x64 .bf16)
  (OT : Vec Ideal S8x64x8192 .bf16) (DO : Vec Ideal S8x8192x64 .bf16) (LS : Vec Ideal S8x1x8192 .f32)

/-- The softmax weight of a query against a key. -/
def pA (h : Fin 8) (q n : Fin 8192) : EReal :=
  FloatOps.exp2 (F := Ideal) (φ := .f32) (∑ d : Fin 96, QT (ix3 h d q) * KK (ix3 h n d) - LS (ix3 h 0 q))

/-- The score cotangent of a query against a key. -/
def dsA (h : Fin 8) (q n : Fin 8192) : EReal :=
  pA QT KK LS h q n
    * (∑ d : Fin 64, DO (ix3 h q d) * VV (ix3 h n d) - ∑ d : Fin 64, DO (ix3 h q d) * OT (ix3 h d q))

/-- What point `t` adds to the gradient of a key, and of a value. -/
def dkT (t : ℕ) (d : Fin 96) (n : Fin 8192) : EReal :=
  ∑ q : Fin 512, QT (ix3 (hdN t) d (rowN t q)) * dsA QT KK VV OT DO LS (hdN t) (rowN t q) n
def dvT (t : ℕ) (d : Fin 64) (n : Fin 8192) : EReal :=
  ∑ q : Fin 512, DO (ix3 (hdN t) (rowN t q) d) * pA QT KK LS (hdN t) (rowN t q) n

/-- The gradient of the queries. -/
def dqA (h : Fin 8) (q : Fin 8192) (d : Fin 96) : EReal :=
  (∑ n : Fin 4096, dsA QT KK VV OT DO LS h q (kx 0 n) * KK (ix3 h (kx 0 n) d)
    + ∑ n : Fin 4096, dsA QT KK VV OT DO LS h q (kx 1 n) * KK (ix3 h (kx 1 n) d))
    * Named.named (F := Ideal) (φ := .f32) κ "scale" 0x3DD105EC#32
end

variable (m : (ℓ : Loc nD τ sig) → Buf (Elt Ideal) ℓ) (c : Dev nD)

theorem idx0 : ∀ t : Fin grid0.N, win0_0.index t 0 = t.val / 16 ∧ win0_0.index t 1 = 0 ∧ win0_0.index t 2 = t.val % 16 := by
  decide +kernel
theorem idx1 : ∀ t : Fin grid0.N, win0_1.index t 0 = t.val / 16 ∧ win0_1.index t 1 = 0 ∧ win0_1.index t 2 = 0 := by
  decide +kernel
theorem idx2 : ∀ t : Fin grid0.N, win0_2.index t 0 = t.val / 16 ∧ win0_2.index t 1 = 0 ∧ win0_2.index t 2 = 0 := by
  decide +kernel
theorem idx3 : ∀ t : Fin grid0.N, win0_3.index t 0 = t.val / 16 ∧ win0_3.index t 1 = 0 ∧ win0_3.index t 2 = t.val % 16 := by
  decide +kernel
theorem idx4 : ∀ t : Fin grid0.N, win0_4.index t 0 = t.val / 16 ∧ win0_4.index t 1 = t.val % 16 ∧ win0_4.index t 2 = 0 := by
  decide +kernel
theorem idx5 : ∀ t : Fin grid0.N, win0_5.index t 0 = t.val / 16 ∧ win0_5.index t 1 = 0 ∧ win0_5.index t 2 = t.val % 16 := by
  decide +kernel
theorem idx6 : ∀ t : Fin grid0.N, win0_6.index t 0 = t.val / 16 ∧ win0_6.index t 1 = t.val % 16 ∧ win0_6.index t 2 = 0 := by
  decide +kernel
theorem idx7 : ∀ t : Fin grid0.N, win0_7.index t 0 = t.val / 16 ∧ win0_7.index t 1 = 0 ∧ win0_7.index t 2 = 0 ∧ win0_7.index t 3 = 0 := by
  decide +kernel
theorem idx8 : ∀ t : Fin grid0.N, win0_8.index t 0 = t.val / 16 ∧ win0_8.index t 1 = 0 ∧ win0_8.index t 2 = 0 ∧ win0_8.index t 3 = 0 := by
  decide +kernel

/-- The arrays the launch reads, each at its own shape. -/
def aQ : Vec Ideal S8x96x8192 .bf16 := V m c main_v25
def aK : Vec Ideal S8x8192x96 .bf16 := V m c main_v28
def aV : Vec Ideal S8x8192x64 .bf16 := V m c main_v29
def aO : Vec Ideal S8x64x8192 .bf16 := V m c main_v27
def aD : Vec Ideal S8x8192x64 .bf16 := V m c main_v30
def aL : Vec Ideal S8x1x8192 .f32 := V m c main_v19

/-- A point's blocks, each at its own shape. -/
def b0 (t : Fin cfg0.N) : Vec Ideal S1x96x512 .bf16 := iblk m c 0 t
def b1 (t : Fin cfg0.N) : Vec Ideal S1x8192x96 .bf16 := iblk m c 1 t
def b2 (t : Fin cfg0.N) : Vec Ideal S1x8192x64 .bf16 := iblk m c 2 t
def b3 (t : Fin cfg0.N) : Vec Ideal S1x64x512 .bf16 := iblk m c 3 t
def b4 (t : Fin cfg0.N) : Vec Ideal S1x512x64 .bf16 := iblk m c 4 t
def b5 (t : Fin cfg0.N) : Vec Ideal S1x1x512 .f32 := iblk m c 5 t

theorem blk0 (t : Fin cfg0.N) (d : Fin 96) (q : Fin 512) : b0 m c t (ix3 0 d q) = aQ m c (ix3 (hdN t.val) d (rowN t.val q)) := by
  have hN : cfg0.N = 128 := N_0
  have ht := t.isLt
  obtain ⟨e0, e1, e2⟩ := idx0 t
  unfold b0 iblk aQ
  rw [View.read_apply]
  show V m c main_v25 _ = V m c main_v25 _
  congr 1
  funext a
  apply Fin.ext
  match a with
  | ⟨0, _⟩ => show win0_0.index t 0 * 1 + 1 * 0 = t.val / 16 % 8; rw [e0]; omega
  | ⟨1, _⟩ => show win0_0.index t 1 * 96 + 1 * d.val = d.val; rw [e1]; omega
  | ⟨2, _⟩ => show win0_0.index t 2 * 512 + 1 * q.val = 512 * (t.val % 16) + q.val; rw [e2]; omega

theorem blk1 (t : Fin cfg0.N) (n : Fin 8192) (d : Fin 96) : b1 m c t (ix3 0 n d) = aK m c (ix3 (hdN t.val) n d) := by
  have hN : cfg0.N = 128 := N_0
  have ht := t.isLt
  obtain ⟨e0, e1, e2⟩ := idx1 t
  unfold b1 iblk aK
  rw [View.read_apply]
  show V m c main_v28 _ = V m c main_v28 _
  congr 1
  funext a
  apply Fin.ext
  match a with
  | ⟨0, _⟩ => show win0_1.index t 0 * 1 + 1 * 0 = t.val / 16 % 8; rw [e0]; omega
  | ⟨1, _⟩ => show win0_1.index t 1 * 8192 + 1 * n.val = n.val; rw [e1]; omega
  | ⟨2, _⟩ => show win0_1.index t 2 * 96 + 1 * d.val = d.val; rw [e2]; omega

theorem blk2 (t : Fin cfg0.N) (n : Fin 8192) (d : Fin 64) : b2 m c t (ix3 0 n d) = aV m c (ix3 (hdN t.val) n d) := by
  have hN : cfg0.N = 128 := N_0
  have ht := t.isLt
  obtain ⟨e0, e1, e2⟩ := idx2 t
  unfold b2 iblk aV
  rw [View.read_apply]
  show V m c main_v29 _ = V m c main_v29 _
  congr 1
  funext a
  apply Fin.ext
  match a with
  | ⟨0, _⟩ => show win0_2.index t 0 * 1 + 1 * 0 = t.val / 16 % 8; rw [e0]; omega
  | ⟨1, _⟩ => show win0_2.index t 1 * 8192 + 1 * n.val = n.val; rw [e1]; omega
  | ⟨2, _⟩ => show win0_2.index t 2 * 64 + 1 * d.val = d.val; rw [e2]; omega

theorem blk3 (t : Fin cfg0.N) (d : Fin 64) (q : Fin 512) : b3 m c t (ix3 0 d q) = aO m c (ix3 (hdN t.val) d (rowN t.val q)) := by
  have hN : cfg0.N = 128 := N_0
  have ht := t.isLt
  obtain ⟨e0, e1, e2⟩ := idx3 t
  unfold b3 iblk aO
  rw [View.read_apply]
  show V m c main_v27 _ = V m c main_v27 _
  congr 1
  funext a
  apply Fin.ext
  match a with
  | ⟨0, _⟩ => show win0_3.index t 0 * 1 + 1 * 0 = t.val / 16 % 8; rw [e0]; omega
  | ⟨1, _⟩ => show win0_3.index t 1 * 64 + 1 * d.val = d.val; rw [e1]; omega
  | ⟨2, _⟩ => show win0_3.index t 2 * 512 + 1 * q.val = 512 * (t.val % 16) + q.val; rw [e2]; omega

theorem blk4 (t : Fin cfg0.N) (q : Fin 512) (d : Fin 64) : b4 m c t (ix3 0 q d) = aD m c (ix3 (hdN t.val) (rowN t.val q) d) := by
  have hN : cfg0.N = 128 := N_0
  have ht := t.isLt
  obtain ⟨e0, e1, e2⟩ := idx4 t
  unfold b4 iblk aD
  rw [View.read_apply]
  show V m c main_v30 _ = V m c main_v30 _
  congr 1
  funext a
  apply Fin.ext
  match a with
  | ⟨0, _⟩ => show win0_4.index t 0 * 1 + 1 * 0 = t.val / 16 % 8; rw [e0]; omega
  | ⟨1, _⟩ => show win0_4.index t 1 * 512 + 1 * q.val = 512 * (t.val % 16) + q.val; rw [e1]; omega
  | ⟨2, _⟩ => show win0_4.index t 2 * 64 + 1 * d.val = d.val; rw [e2]; omega

theorem blk5 (t : Fin cfg0.N) (q : Fin 512) : b5 m c t (ix3 0 0 q) = aL m c (ix3 (hdN t.val) 0 (rowN t.val q)) := by
  have hN : cfg0.N = 128 := N_0
  have ht := t.isLt
  obtain ⟨e0, e1, e2⟩ := idx5 t
  unfold b5 iblk aL
  rw [View.read_apply]
  show V m c main_v19 _ = V m c main_v19 _
  congr 1
  funext a
  apply Fin.ext
  match a with
  | ⟨0, _⟩ => show win0_5.index t 0 * 1 + 1 * 0 = t.val / 16 % 8; rw [e0]; omega
  | ⟨1, _⟩ => show win0_5.index t 1 * 1 + 1 * 0 = 0; rw [e1]
  | ⟨2, _⟩ => show win0_5.index t 2 * 512 + 1 * q.val = 512 * (t.val % 16) + q.val; rw [e2]; omega

theorem pB_blk (t : Fin cfg0.N) (q : Fin 512) (n : Fin 8192) :
    pB (b0 m c t) (b1 m c t) (b5 m c t) q n = pA (aQ m c) (aK m c) (aL m c) (hdN t.val) (rowN t.val q) n := by
  unfold pB pA
  refine congrArg _ (congrArg₂ (· - ·) (Finset.sum_congr rfl fun d _ => congrArg₂ (· * ·) (blk0 m c t d q) (blk1 m c t n d)) ?_)
  exact blk5 m c t q

theorem dsB_blk (t : Fin cfg0.N) (q : Fin 512) (n : Fin 8192) :
    dsB (b0 m c t) (b1 m c t) (b2 m c t) (b3 m c t) (b4 m c t) (b5 m c t) q n
      = dsA (aQ m c) (aK m c) (aV m c) (aO m c) (aD m c) (aL m c) (hdN t.val) (rowN t.val q) n := by
  unfold dsB dsA
  exact congrArg₂ (· * ·) (pB_blk m c t q n) (congrArg₂ (· - ·)
    (Finset.sum_congr rfl fun d _ => congrArg₂ (· * ·) (blk4 m c t q d) (blk2 m c t n d))
    (Finset.sum_congr rfl fun d _ => congrArg₂ (· * ·) (blk4 m c t q d) (blk3 m c t d q)))

/-- `dkT`, `dvT` and `dqA` over the arrays the launch reads. -/
abbrev dkV (t : ℕ) (d : Fin 96) (n : Fin 8192) : EReal := dkT (aQ m c) (aK m c) (aV m c) (aO m c) (aD m c) (aL m c) t d n
abbrev dvV (t : ℕ) (d : Fin 64) (n : Fin 8192) : EReal := dvT (aQ m c) (aK m c) (aD m c) (aL m c) t d n
abbrev dqV (h : Fin 8) (q : Fin 8192) (d : Fin 96) : EReal := dqA (aQ m c) (aK m c) (aV m c) (aO m c) (aD m c) (aL m c) h q d

theorem dkV_eq (t : Fin cfg0.N) (d : Fin 96) (n : Fin 8192) :
    dkB (b0 m c t) (b1 m c t) (b2 m c t) (b3 m c t) (b4 m c t) (b5 m c t) d n = dkV m c t.val d n := by
  unfold dkB
  exact Finset.sum_congr rfl fun q _ => congrArg₂ (· * ·) (blk0 m c t d q) (dsB_blk m c t q n)

theorem dvV_eq (t : Fin cfg0.N) (d : Fin 64) (n : Fin 8192) :
    dvB (b0 m c t) (b1 m c t) (b4 m c t) (b5 m c t) d n = dvV m c t.val d n := by
  unfold dvB
  exact Finset.sum_congr rfl fun q _ => congrArg₂ (· * ·) (blk4 m c t q d) (pB_blk m c t q n)

theorem dqV_eq (t : Fin cfg0.N) (q : Fin 512) (d : Fin 96) :
    dqB (b0 m c t) (b1 m c t) (b2 m c t) (b3 m c t) (b4 m c t) (b5 m c t) q d
      = dqV m c (hdN t.val) (rowN t.val q) d := by
  unfold dqB
  exact congrArg (· * _) (congrArg₂ (· + ·)
    (Finset.sum_congr rfl fun n _ => congrArg₂ (· * ·) (dsB_blk m c t q _) (blk1 m c t _ d))
    (Finset.sum_congr rfl fun n _ => congrArg₂ (· * ·) (dsB_blk m c t q _) (blk1 m c t _ d)))

/-- The query gradient's block at a point. -/
theorem outs6 (t : Fin cfg0.N) (q : Fin 512) (d : Fin 96) :
    (outsAt0 m c t.val t.isLt).1 (ix3 0 q d) = dqV m c (hdN t.val) (rowN t.val q) d := by
  rw [← dqV_eq]
  by_cases h0 : t.val % 16 = 0
  · have h1 : ¬ t.val % 16 = 15 := by omega
    rw [outsAt0_A m c t h0 h1]
    dsimp only
    rw [outA_6]
    rfl
  · by_cases h1 : t.val % 16 = 15
    · rw [outsAt0_C m c t h0 h1]
      dsimp only
      rw [outC_6]
      rfl
    · rw [outsAt0_B m c t h0 h1]
      dsimp only
      rw [outB_6]
      rfl

theorem dk_first (t : Fin cfg0.N) (h0 : t.val % 16 = 0) (j : Fin 2) (d : Fin 96) (n : Fin 4096) :
    (outsAt0 m c t.val t.isLt).2.1 (ix4 0 j d n) = dkV m c t.val d (kx j n) := by
  have h1 : ¬ t.val % 16 = 15 := by omega
  rw [outsAt0_A m c t h0 h1, ← dkV_eq]
  dsimp only
  rw [outA_7]
  rfl

theorem dv_first (t : Fin cfg0.N) (h0 : t.val % 16 = 0) (j : Fin 2) (d : Fin 64) (n : Fin 4096) :
    (outsAt0 m c t.val t.isLt).2.2 (ix4 0 j d n) = dvV m c t.val d (kx j n) := by
  have h1 : ¬ t.val % 16 = 15 := by omega
  rw [outsAt0_A m c t h0 h1, ← dvV_eq]
  dsimp only
  rw [outA_8]
  rfl

theorem dk_next (t : Fin cfg0.N) (h0 : ¬ t.val % 16 = 0) (h1 : ¬ t.val % 16 = 15) (j : Fin 2) (d : Fin 96) (n : Fin 4096) :
    (outsAt0 m c t.val t.isLt).2.1 (ix4 0 j d n)
      = (outsAt0 m c (t.val - 1) (Nat.lt_of_le_of_lt (Nat.sub_le _ _) t.isLt)).2.1 (ix4 0 j d n) + dkV m c t.val d (kx j n) := by
  rw [outsAt0_B m c t h0 h1, ← dkV_eq]
  dsimp only
  rw [outB_7]
  rfl

theorem dk_last (t : Fin cfg0.N) (h1 : t.val % 16 = 15) (j : Fin 2) (d : Fin 96) (n : Fin 4096) :
    (outsAt0 m c t.val t.isLt).2.1 (ix4 0 j d n)
      = ((outsAt0 m c (t.val - 1) (Nat.lt_of_le_of_lt (Nat.sub_le _ _) t.isLt)).2.1 (ix4 0 j d n) + dkV m c t.val d (kx j n))
        * Named.named (F := Ideal) (φ := .f32) κ "ln_2" 0x3F317218#32 := by
  have h0 : ¬ t.val % 16 = 0 := by omega
  rw [outsAt0_C m c t h0 h1, ← dkV_eq]
  dsimp only
  rw [outC_7]
  rfl

theorem dv_next (t : Fin cfg0.N) (h0 : ¬ t.val % 16 = 0) (j : Fin 2) (d : Fin 64) (n : Fin 4096) :
    (outsAt0 m c t.val t.isLt).2.2 (ix4 0 j d n)
      = (outsAt0 m c (t.val - 1) (Nat.lt_of_le_of_lt (Nat.sub_le _ _) t.isLt)).2.2 (ix4 0 j d n) + dvV m c t.val d (kx j n) := by
  by_cases h1 : t.val % 16 = 15
  · rw [outsAt0_C m c t h0 h1, ← dvV_eq]
    dsimp only
    rw [outC_8]
    rfl
  · rw [outsAt0_B m c t h0 h1, ← dvV_eq]
    dsimp only
    rw [outB_8]
    rfl

/-- The running sum of the key gradient before a head's last point. -/
theorem dk_sum (g : ℕ) (j : Fin 2) (d : Fin 96) (n : Fin 4096) : ∀ (r : ℕ) (_ : r < 15) (h : 16 * g + r < cfg0.N),
    (outsAt0 m c (16 * g + r) h).2.1 (ix4 0 j d n) = ∑ s ∈ Finset.range (r + 1), dkV m c (16 * g + s) d (kx j n)
  | 0, _, h => by
    rw [Finset.sum_range_one]
    exact dk_first m c ⟨16 * g + 0, h⟩ (by show (16 * g + 0) % 16 = 0; omega) j d n
  | r + 1, hr, h => by
    rw [Finset.sum_range_succ, ← dk_sum g j d n r (by omega) (by omega)]
    exact dk_next m c ⟨16 * g + (r + 1), h⟩ (by show ¬ (16 * g + (r + 1)) % 16 = 0; omega)
      (by show ¬ (16 * g + (r + 1)) % 16 = 15; omega) j d n

theorem dv_sum (g : ℕ) (j : Fin 2) (d : Fin 64) (n : Fin 4096) : ∀ (r : ℕ) (_ : r < 16) (h : 16 * g + r < cfg0.N),
    (outsAt0 m c (16 * g + r) h).2.2 (ix4 0 j d n) = ∑ s ∈ Finset.range (r + 1), dvV m c (16 * g + s) d (kx j n)
  | 0, _, h => by
    rw [Finset.sum_range_one]
    exact dv_first m c ⟨16 * g + 0, h⟩ (by show (16 * g + 0) % 16 = 0; omega) j d n
  | r + 1, hr, h => by
    rw [Finset.sum_range_succ, ← dv_sum g j d n r (by omega) (by omega)]
    exact dv_next m c ⟨16 * g + (r + 1), h⟩ (by show ¬ (16 * g + (r + 1)) % 16 = 0; omega) j d n

theorem same (a b : ℕ) (ha : a < cfg0.N) (hb : b < cfg0.N) (hab : a = b) : outsAt0 m c a ha = outsAt0 m c b hb := by
  subst hab; rfl

theorem dk_end (t : Fin cfg0.N) (h1 : t.val % 16 = 15) (j : Fin 2) (d : Fin 96) (n : Fin 4096) :
    (outsAt0 m c t.val t.isLt).2.1 (ix4 0 j d n)
      = (∑ s ∈ Finset.range 16, dkV m c (16 * (t.val / 16) + s) d (kx j n))
        * Named.named (F := Ideal) (φ := .f32) κ "ln_2" 0x3F317218#32 := by
  rw [dk_last m c t h1, Finset.sum_range_succ]
  have e : t.val = 16 * (t.val / 16) + 15 := by omega
  have e' : t.val - 1 = 16 * (t.val / 16) + 14 := by omega
  have hlt : 16 * (t.val / 16) + 14 < cfg0.N := by have := t.isLt; omega
  rw [← dk_sum m c (t.val / 16) j d n 14 (by decide) hlt, ← e, same m c _ _ _ hlt e']

theorem dv_end (t : Fin cfg0.N) (h1 : t.val % 16 = 15) (j : Fin 2) (d : Fin 64) (n : Fin 4096) :
    (outsAt0 m c t.val t.isLt).2.2 (ix4 0 j d n)
      = ∑ s ∈ Finset.range 16, dvV m c (16 * (t.val / 16) + s) d (kx j n) := by
  have e : t.val = 16 * (t.val / 16) + 15 := by omega
  have hlt : 16 * (t.val / 16) + 15 < cfg0.N := by have := t.isLt; omega
  rw [← dv_sum m c (t.val / 16) j d n 15 (by decide) hlt, same m c _ _ _ hlt e]

/-! The three arrays the launch leaves. -/

def res6 : Vec Ideal S8x8192x96 .bf16 := fun i => dqV m c (i 0) (i 1) (i 2)
def res7 : Vec Ideal S8x2x96x4096 .f32 := fun i =>
  (∑ s ∈ Finset.range 16, dkV m c (16 * (i 0).val + s) (i 2) (kx (i 1) (i 3)))
    * Named.named (F := Ideal) (φ := .f32) κ "ln_2" 0x3F317218#32
def res8 : Vec Ideal S8x2x64x4096 .f32 := fun i =>
  ∑ s ∈ Finset.range 16, dvV m c (16 * (i 0).val + s) (i 2) (kx (i 1) (i 3))

theorem final6 : (dats m 0 c).arrAt 6 cfg0.N = res6 m c := by
  refine (dats m 0 c).arrAt_eq_of_covers 6 _ (by decide +kernel) fun t hf y => ?_
  blk_simp
  rw [after0_6]
  have hN : cfg0.N = 128 := N_0
  have ht : t.val < cfg0.N := t.isLt
  obtain ⟨e0, e1, e2⟩ := idx6 t
  have key := outs6 m c t (y 1) (y 2)
  have hy : (ix3 0 (y 1) (y 2) : S1x512x96.Idx) = y := by
    rw [eq_ix3 (n0 := 1) (n1 := 512) (n2 := 96) y]
    exact congrArg (fun z => ix3 z (y 1) (y 2)) (Subsingleton.elim _ _)
  rw [hy] at key
  refine key.trans ?_
  show dqV m c _ _ _ = dqV m c _ _ _
  have y0 : (y 0).val < 1 := (y 0).isLt
  have q0 : hdN t.val = (win0_6.blk t).view.emb y 0 := by
    apply Fin.ext
    show t.val / 16 % 8 = win0_6.index t 0 * 1 + 1 * (y 0).val
    rw [e0]; omega
  have q1 : rowN t.val (y 1) = (win0_6.blk t).view.emb y 1 := by
    apply Fin.ext
    show 512 * (t.val % 16) + (y 1).val = win0_6.index t 1 * 512 + 1 * (y 1).val
    rw [e1]; omega
  have q2 : y 2 = (win0_6.blk t).view.emb y 2 := by
    apply Fin.ext
    show (y 2).val = win0_6.index t 2 * 96 + 1 * (y 2).val
    rw [e2]; omega
  rw [q0, q1]
  exact congrArg _ q2

theorem final7 : (dats m 0 c).arrAt 7 cfg0.N = res7 m c := by
  refine (dats m 0 c).arrAt_eq_of_covers 7 _ (by decide +kernel) fun t hf y => ?_
  blk_simp
  rw [after0_7]
  obtain ⟨e0, e1, e2, e3⟩ := idx7 t
  have key := dk_end m c t ((flush0_7 t).mp hf) (y 1) (y 2) (y 3)
  have hy : (ix4 0 (y 1) (y 2) (y 3) : S1x2x96x4096.Idx) = y := by
    rw [eq_ix4 (n0 := 1) (n1 := 2) (n2 := 96) (n3 := 4096) y]
    exact congrArg (fun z => ix4 z (y 1) (y 2) (y 3)) (Subsingleton.elim _ _)
  rw [hy] at key
  refine key.trans ?_
  have y0 : (y 0).val < 1 := (y 0).isLt
  have q0 : t.val / 16 = ((win0_7.blk t).view.emb y 0).val := by
    show t.val / 16 = win0_7.index t 0 * 1 + 1 * (y 0).val
    rw [e0]; omega
  have q1 : y 1 = (win0_7.blk t).view.emb y 1 := by
    apply Fin.ext
    show (y 1).val = win0_7.index t 1 * 2 + 1 * (y 1).val
    rw [e1]; omega
  have q2 : y 2 = (win0_7.blk t).view.emb y 2 := by
    apply Fin.ext
    show (y 2).val = win0_7.index t 2 * 96 + 1 * (y 2).val
    rw [e2]; omega
  have q3 : y 3 = (win0_7.blk t).view.emb y 3 := by
    apply Fin.ext
    show (y 3).val = win0_7.index t 3 * 4096 + 1 * (y 3).val
    rw [e3]; omega
  rw [q0, q1, q2, q3]
  rfl

theorem final8 : (dats m 0 c).arrAt 8 cfg0.N = res8 m c := by
  refine (dats m 0 c).arrAt_eq_of_covers 8 _ (by decide +kernel) fun t hf y => ?_
  blk_simp
  rw [after0_8]
  obtain ⟨e0, e1, e2, e3⟩ := idx8 t
  have key := dv_end m c t ((flush0_8 t).mp hf) (y 1) (y 2) (y 3)
  have hy : (ix4 0 (y 1) (y 2) (y 3) : S1x2x64x4096.Idx) = y := by
    rw [eq_ix4 (n0 := 1) (n1 := 2) (n2 := 64) (n3 := 4096) y]
    exact congrArg (fun z => ix4 z (y 1) (y 2) (y 3)) (Subsingleton.elim _ _)
  rw [hy] at key
  refine key.trans ?_
  have y0 : (y 0).val < 1 := (y 0).isLt
  have q0 : t.val / 16 = ((win0_8.blk t).view.emb y 0).val := by
    show t.val / 16 = win0_8.index t 0 * 1 + 1 * (y 0).val
    rw [e0]; omega
  have q1 : y 1 = (win0_8.blk t).view.emb y 1 := by
    apply Fin.ext
    show (y 1).val = win0_8.index t 1 * 2 + 1 * (y 1).val
    rw [e1]; omega
  have q2 : y 2 = (win0_8.blk t).view.emb y 2 := by
    apply Fin.ext
    show (y 2).val = win0_8.index t 2 * 64 + 1 * (y 2).val
    rw [e2]; omega
  have q3 : y 3 = (win0_8.blk t).view.emb y 3 := by
    apply Fin.ext
    show (y 3).val = win0_8.index t 3 * 4096 + 1 * (y 3).val
    rw [e3]; omega
  rw [q0, q1, q2, q3]
  rfl

end Cert.Mla
end
-- ==== Proof.MlaHost.lean ====
module
public import proofs.«01_k».proof.Proof.Values
public import proofs.«01_k».proof.Proof.MlaGrid
public import Idealize.ShloMosaic.Lib.Pointwise
public import Idealize.ShloMosaic.Lib.StableHlo.ReadAt

/-! The arrays the latent attention's launch finds, and the three it leaves, at real arguments. -/

@[expose] public section
set_option maxRecDepth 16384
noncomputable section
namespace Cert.Mla
open Idealize.ShloMosaic Idealize.ShloMosaic.TcCoe Idealize.ShloMosaic.Tactic
open Idealize.SL Idealize.SL.Sem
open Cert.Kernel9Ideal Cert.Kernel9Ideal.Gen
open Cert.Attn (kx coe_sum div_coe' log_coe' lit_bot up sum_kx log2_pos lit_log2)

/-- The host's lines, stage by stage: the scores, the row maxima, the exponentials, the row sums,
the attention's result and the base-two log-sum-exp. -/
def svS (Q K : FVec Ideal S8x8192x96 .f32) : FVec Ideal S8x8192x8192 .f32 :=
  Host.divf (Host.dotGeneral dot_S8x8192x96_S8x8192x96_S8x8192x8192_2_2_1_1_0_0 none Q K)
    (broadcastInDim S8x8192x8192 ![] bcast_S_S8x8192x8192 (Host.sqrt (constant S_ .f32 0x42C00000#32)))
def svM (S : FVec Ideal S8x8192x8192 .f32) : FVec Ideal S8x8192x1 .f32 :=
  broadcastInDim S8x8192x1 ![0, 1] bcast_S8x8192_S8x8192x1_0_1
    (Host.reduce FloatOps.maximumf S (constant S_ .f32 0xFF800000#32) reducesTo_S8x8192x8192_S8x8192_d2 h_S_)
def svE (S : FVec Ideal S8x8192x8192 .f32) (M : FVec Ideal S8x8192x1 .f32) : FVec Ideal S8x8192x8192 .f32 :=
  Host.exp (subf S (broadcastInDim S8x8192x8192 ![0, 1, 2] bcast_S8x8192x1_S8x8192x8192_0_1_2 M))
def svL (E : FVec Ideal S8x8192x8192 .f32) : FVec Ideal S8x8192x1 .f32 :=
  broadcastInDim S8x8192x1 ![0, 1] bcast_S8x8192_S8x8192x1_0_1
    (Host.reduceAdd E (constant S_ .f32 0x00000000#32) reducesTo_S8x8192x8192_S8x8192_d2 h_S_)
def svO (E : FVec Ideal S8x8192x8192 .f32) (L : FVec Ideal S8x8192x1 .f32) (W : FVec Ideal S8x8192x64 .f32) :
    FVec Ideal S8x64x8192 .bf16 :=
  truncf .bf16 (transpose S8x64x8192 [0, 2, 1]
    (Host.dotGeneral dot_S8x8192x8192_S8x8192x64_S8x8192x64_2_1_1_2_0_0 none
      (Host.divf E (broadcastInDim S8x8192x8192 ![0, 1, 2] bcast_S8x8192x1_S8x8192x8192_0_1_2 L)) W)
    transposes_S8x8192x64_S8x64x8192_0_2_1) bitsLt_bf16_f32
def svG (M L : FVec Ideal S8x8192x1 .f32) : FVec Ideal S8x1x8192 .f32 :=
  shapeCast S8x1x8192 (Host.divf (addf M (Host.log L))
    (broadcastInDim S8x8192x1 ![] bcast_S_S8x8192x1 (Host.log (constant S_ .f32 0x40000000#32))))
    shapeCasts_S8x8192x1_S8x1x8192

theorem svS_at (Q K : FVec Ideal S8x8192x96 .f32) (h : Fin 8) (q n : Fin 8192) :
    svS Q K (ix3 h q n)
      = Ideal.div (∑ d : Fin 96, Q (ix3 h q d) * K (ix3 h n d)) (Ideal.sqrt (Ideal.ofBits FTy.f32 0x42C00000#32)) := by
  pointwise [svS]

theorem svM_at (S : FVec Ideal S8x8192x8192 .f32) (h : Fin 8) (q : Fin 8192) :
    svM S (ix3 h q 0)
      = Finset.fold max (Ideal.ofBits FTy.f32 0xFF800000#32) (fun n => S (ix3 h q n)) Finset.univ := by
  pointwise [svM]

theorem svE_at (S : FVec Ideal S8x8192x8192 .f32) (M : FVec Ideal S8x8192x1 .f32) (h : Fin 8) (q n : Fin 8192) :
    svE S M (ix3 h q n) = Ideal.exp (S (ix3 h q n) - M (ix3 h q 0)) := by
  pointwise [svE]

theorem svL_at (E : FVec Ideal S8x8192x8192 .f32) (h : Fin 8) (q : Fin 8192) :
    svL E (ix3 h q 0) = ∑ n : Fin 8192, E (ix3 h q n) := by
  pointwise [svL]

theorem svO_at (E : FVec Ideal S8x8192x8192 .f32) (L : FVec Ideal S8x8192x1 .f32) (W : FVec Ideal S8x8192x64 .f32)
    (h : Fin 8) (d : Fin 64) (q : Fin 8192) :
    svO E L W (ix3 h d q) = ∑ n : Fin 8192, Ideal.div (E (ix3 h q n)) (L (ix3 h q 0)) * W (ix3 h n d) := by
  pointwise [svO]

theorem svG_at (M L : FVec Ideal S8x8192x1 .f32) (h : Fin 8) (q : Fin 8192) :
    svG M L (ix3 h 0 q)
      = Ideal.div (M (ix3 h q 0) + Ideal.log (L (ix3 h q 0))) (Ideal.log (Ideal.ofBits FTy.f32 0x40000000#32)) := by
  pointwise [svG]

variable (m : (ℓ : Loc nD τ sig) → Buf (Elt Ideal) ℓ) (c : Dev nD)

/-- The four arguments: the queries, keys, values and the gradient of the attention's result. -/
def kQ : FVec Ideal S8x8192x96 .f32 := m ((c.tc : Thread nD τ).loc main_arg0)
def kK : FVec Ideal S8x8192x96 .f32 := m ((c.tc : Thread nD τ).loc main_arg1)
def kV : FVec Ideal S8x8192x64 .f32 := m ((c.tc : Thread nD τ).loc main_arg2)
def kD : FVec Ideal S8x8192x64 .f32 := m ((c.tc : Thread nD τ).loc main_arg3)

theorem aK_at (i : S8x8192x96.Idx) : aK m c i = kK m c i := by
  unfold aK V kK
  after_reads_at

theorem aV_at (i : S8x8192x64.Idx) : aV m c i = kV m c i := by
  unfold aV V kV
  after_reads_at

theorem aD_at (i : S8x8192x64.Idx) : aD m c i = kD m c i := by
  unfold aD V kD
  after_reads_at

theorem aQ_at (h : Fin 8) (d : Fin 96) (q : Fin 8192) : aQ m c (ix3 h d q)
    = Ideal.div (Ideal.div (kQ m c (ix3 h q d)) (Ideal.sqrt (Ideal.ofBits FTy.f32 0x42C00000#32)))
        (Ideal.log (Ideal.ofBits FTy.f32 0x40000000#32)) := by
  unfold aQ V kQ
  after_reads_at

/-- The host's scores, maxima, exponentials and sums of the arguments. -/
def hS := svS (kQ m c) (kK m c)
def hM := svM (hS m c)
def hE := svE (hS m c) (hM m c)
def hL := svL (hE m c)

theorem aO_eq : aO m c = svO (hE m c) (hL m c) (kV m c) := by
  unfold aO V
  after_reads_simp
  rfl

theorem aL_eq : aL m c = svG (hM m c) (hL m c) := by
  unfold aL V
  after_reads_simp
  rfl

/-- The named constants are the natural logarithm of two and the inverse of the root of 96. -/
theorem ln2_named : Named.named (F := Ideal) (φ := .f32) κ "ln_2" 0x3F317218#32 = ((Real.log 2 : ℝ) : EReal) :=
  IdealRules.named_const.ideal_named_scalar _ _ _ _ rfl
theorem scale_named : Named.named (F := Ideal) (φ := .f32) κ "scale" 0x3DD105EC#32 = (((Real.sqrt 96)⁻¹ : ℝ) : EReal) :=
  IdealRules.named_const.ideal_named_scalar _ _ _ _ rfl

section
variable {q k : Fin 8 → Fin 8192 → Fin 96 → ℝ} {w d : Fin 8 → Fin 8192 → Fin 64 → ℝ}
  (hQ : ∀ h a x, kQ m c (ix3 h a x) = ((q h a x : ℝ) : EReal)) (hK : ∀ h a x, kK m c (ix3 h a x) = ((k h a x : ℝ) : EReal))
  (hW : ∀ h a x, kV m c (ix3 h a x) = ((w h a x : ℝ) : EReal)) (hD : ∀ h a x, kD m c (ix3 h a x) = ((d h a x : ℝ) : EReal))
include hQ

theorem aQ_real (h : Fin 8) (x : Fin 96) (a : Fin 8192) :
    aQ m c (ix3 h x a) = ((q h a x / Real.sqrt 96 / Real.log 2 : ℝ) : EReal) := by
  rw [aQ_at, hQ, lit_log2, lit_root, div_coe' _ _ root_pos.ne', div_coe' _ _ log2_pos.ne']

include hK

theorem hS_real (h : Fin 8) (a n : Fin 8192) : hS m c (ix3 h a n) = ((sR q k h a n : ℝ) : EReal) := by
  unfold hS sR
  rw [svS_at, lit_root, ← div_coe' _ _ root_pos.ne', ← coe_sum]
  refine congrArg (Ideal.div · _) (Finset.sum_congr rfl fun x _ => ?_)
  rw [hQ, hK, EReal.coe_mul]

theorem hM_real (h : Fin 8) (a : Fin 8192) : hM m c (ix3 h a 0) = ((mx (sR q k h a) : ℝ) : EReal) := by
  unfold hM
  rw [svM_at, lit_bot, ← mx_fold]
  exact congrArg (fun f => Finset.fold max _ f Finset.univ) (funext fun n => hS_real m c hQ hK h a n)

theorem hE_real (h : Fin 8) (a n : Fin 8192) : hE m c (ix3 h a n) = ((ex (sR q k h a) n : ℝ) : EReal) := by
  unfold hE
  rw [svE_at, hS_real m c hQ hK, hM_real m c hQ hK, ← EReal.coe_sub]
  rfl

theorem hL_real (h : Fin 8) (a : Fin 8192) : hL m c (ix3 h a 0) = ((sm (sR q k h a) : ℝ) : EReal) := by
  unfold hL sm
  rw [svL_at, ← coe_sum]
  exact Finset.sum_congr rfl fun n _ => hE_real m c hQ hK h a n

theorem aL_real (h : Fin 8) (a : Fin 8192) :
    aL m c (ix3 h 0 a) = (((mx (sR q k h a) + Real.log (sm (sR q k h a))) / Real.log 2 : ℝ) : EReal) := by
  rw [aL_eq, svG_at, hM_real m c hQ hK, hL_real m c hQ hK, lit_log2, log_coe' _ (sm_pos _), ← EReal.coe_add,
    div_coe' _ _ log2_pos.ne']

theorem pA_real (h : Fin 8) (a n : Fin 8192) :
    pA (aQ m c) (aK m c) (aL m c) h a n = ((pR q k h a n : ℝ) : EReal) := by
  unfold pA
  have e : ∑ x : Fin 96, aQ m c (ix3 h x a) * aK m c (ix3 h n x)
      = ((∑ x, q h a x / Real.sqrt 96 / Real.log 2 * k h n x : ℝ) : EReal) := by
    rw [← coe_sum]
    exact Finset.sum_congr rfl fun x _ => by rw [aQ_real m c hQ, aK_at, hK, EReal.coe_mul]
  rw [e, aL_real m c hQ hK, ← EReal.coe_sub, ← weight_eq]
  rfl

include hD

theorem res8_real (h : Fin 8) (j : Fin 2) (x : Fin 64) (n : Fin 4096) :
    res8 m c (ix4 h j x n) = ((dvR q k d h (kx j n) x : ℝ) : EReal) := by
  show ∑ s ∈ Finset.range 16, dvT (aQ m c) (aK m c) (aD m c) (aL m c) (16 * h.val + s) x (kx j n) = _
  unfold dvT dvR
  refine (sum_points (fun h a => aD m c (ix3 h a x) * pA (aQ m c) (aK m c) (aL m c) h a (kx j n)) h).trans ?_
  rw [← coe_sum]
  refine Finset.sum_congr rfl fun a _ => ?_
  rw [aD_at, hD, pA_real m c hQ hK, EReal.coe_mul]

include hW

theorem dsA_real (h : Fin 8) (a n : Fin 8192) :
    dsA (aQ m c) (aK m c) (aV m c) (aO m c) (aD m c) (aL m c) h a n = ((gR q k w d h a n : ℝ) : EReal) := by
  unfold dsA
  have e1 : ∑ x : Fin 64, aD m c (ix3 h a x) * aV m c (ix3 h n x) = ((cR w d h a n : ℝ) : EReal) := by
    unfold cR
    rw [← coe_sum]
    exact Finset.sum_congr rfl fun x _ => by rw [aD_at, aV_at, hD, hW, EReal.coe_mul]
  have e0 : ∀ x : Fin 64, aO m c (ix3 h x a) = ((∑ n, pR q k h a n * w h n x : ℝ) : EReal) := by
    intro x
    rw [aO_eq, svO_at, ← coe_sum]
    refine Finset.sum_congr rfl fun n _ => ?_
    rw [hE_real m c hQ hK, hL_real m c hQ hK, hW, div_coe' _ _ (sm_pos _).ne', EReal.coe_mul]
    rfl
  have e2 : ∑ x : Fin 64, aD m c (ix3 h a x) * aO m c (ix3 h x a)
      = ((∑ n, pR q k h a n * cR w d h a n : ℝ) : EReal) := by
    rw [← delta_eq, ← coe_sum]
    exact Finset.sum_congr rfl fun x _ => by rw [aD_at, hD, e0, EReal.coe_mul]
  rw [e1, e2, pA_real m c hQ hK, ← EReal.coe_sub, ← EReal.coe_mul]
  rfl

theorem res6_real (h : Fin 8) (a : Fin 8192) (x : Fin 96) :
    res6 m c (ix3 h a x) = ((dqR q k w d h a x : ℝ) : EReal) := by
  show dqA (aQ m c) (aK m c) (aV m c) (aO m c) (aD m c) (aL m c) h a x = _
  unfold dqA dqR
  refine (congrArg (· * _) (sum_kx fun n => dsA (aQ m c) (aK m c) (aV m c) (aO m c) (aD m c) (aL m c) h a n
    * aK m c (ix3 h n x))).trans ?_
  rw [scale_named, EReal.coe_mul, ← coe_sum]
  refine congrArg (· * _) (Finset.sum_congr rfl fun n _ => ?_)
  rw [dsA_real m c hQ hK hW hD, aK_at, hK, EReal.coe_mul]

theorem res7_real (h : Fin 8) (j : Fin 2) (x : Fin 96) (n : Fin 4096) :
    res7 m c (ix4 h j x n) = ((dkR q k w d h (kx j n) x : ℝ) : EReal) := by
  show (∑ s ∈ Finset.range 16, dkT (aQ m c) (aK m c) (aV m c) (aO m c) (aD m c) (aL m c) (16 * h.val + s) x (kx j n))
    * Named.named (F := Ideal) (φ := .f32) κ "ln_2" 0x3F317218#32 = _
  unfold dkT
  refine (congrArg (· * _) (sum_points (fun h a => aQ m c (ix3 h x a)
    * dsA (aQ m c) (aK m c) (aV m c) (aO m c) (aD m c) (aL m c) h a (kx j n)) h)).trans ?_
  have e : ∑ a : Fin 8192, aQ m c (ix3 h x a)
      * dsA (aQ m c) (aK m c) (aV m c) (aO m c) (aD m c) (aL m c) h a (kx j n)
      = ((dkR q k w d h (kx j n) x / Real.log 2 : ℝ) : EReal) := by
    have e' : dkR q k w d h (kx j n) x / Real.log 2 = ∑ a : Fin 8192,
        q h a x / Real.sqrt 96 / Real.log 2 * gR q k w d h a (kx j n) := by
      unfold dkR
      rw [Finset.sum_mul, Finset.sum_div]
      exact Finset.sum_congr rfl fun a _ => by ring
    rw [e', ← coe_sum]
    refine Finset.sum_congr rfl fun a _ => ?_
    rw [aQ_real m c hQ, dsA_real m c hQ hK hW hD, EReal.coe_mul]
  show (∑ a : Fin 8192, aQ m c (ix3 h x a)
      * dsA (aQ m c) (aK m c) (aV m c) (aO m c) (aD m c) (aL m c) h a (kx j n)) * _ = _
  rw [e, ln2_named, ← EReal.coe_mul, div_mul_cancel₀ _ log2_pos.ne']
end

end Cert.Mla
end
-- ==== Proof.MlaRef.lean ====
module
public import proofs.«01_k».proof.Proof.MlaMath
public import proofs.«01_k».proof.Proof.Ref
public import proofs.«01_k».proof.Proof.Gen.Reference9Ideal.Run
public import Idealize.ShloMosaic.Lib.Pointwise

/-! The latent attention's reference: its three results, entry by entry, at real arguments. -/

@[expose] public section
set_option maxRecDepth 16384
noncomputable section
namespace Cert.Mla.Ref
open Idealize.ShloMosaic Idealize.ShloMosaic.TcCoe Idealize.ShloMosaic.Tactic
open Idealize.SL Idealize.SL.Sem
open Cert.Reference9Ideal Cert.Reference9Ideal.Gen
open Cert.Attn (kx coe_sum div_coe' lit_bot)
open Cert.Attn.Ref (kx_eq)

/-- The reference's lines, stage by stage. -/
def root : FVec Ideal S8x8192x8192 .f32 :=
  broadcastInDim S8x8192x8192 ![] bcast_S_S8x8192x8192 (Host.sqrt (constant S_ .f32 0x42C00000#32))
def S (Q K : FVec Ideal S8x8192x96 .f32) : FVec Ideal S8x8192x8192 .f32 :=
  Host.divf (Host.dotGeneral dot_S8x8192x96_S8x8192x96_S8x8192x8192_2_2_1_1_0_0 none Q K) root
def R (S : FVec Ideal S8x8192x8192 .f32) : FVec Ideal S8x8192 .f32 :=
  Host.reduce FloatOps.maximumf S (constant S_ .f32 0xFF800000#32) reducesTo_S8x8192x8192_S8x8192_d2 h_S_
def M (R : FVec Ideal S8x8192 .f32) : FVec Ideal S8x8192x1 .f32 :=
  broadcastInDim S8x8192x1 ![0, 1] bcast_S8x8192_S8x8192x1_0_1
    (maximumf (broadcastInDim S8x8192 ![] bcast_S_S8x8192 (constant S_ .f32 0xFF800000#32)) R)
def E (S : FVec Ideal S8x8192x8192 .f32) (M : FVec Ideal S8x8192x1 .f32) : FVec Ideal S8x8192x8192 .f32 :=
  Host.exp (subf S (broadcastInDim S8x8192x8192 ![0, 1, 2] bcast_S8x8192x1_S8x8192x8192_0_1_2 M))
def L (E : FVec Ideal S8x8192x8192 .f32) : FVec Ideal S8x8192x1 .f32 :=
  broadcastInDim S8x8192x1 ![0, 1] bcast_S8x8192_S8x8192x1_0_1
    (Host.reduceAdd E (constant S_ .f32 0x00000000#32) reducesTo_S8x8192x8192_S8x8192_d2 h_S_)
def P (E : FVec Ideal S8x8192x8192 .f32) (L : FVec Ideal S8x8192x1 .f32) : FVec Ideal S8x8192x8192 .f32 :=
  Host.divf E (broadcastInDim S8x8192x8192 ![0, 1, 2] bcast_S8x8192x1_S8x8192x8192_0_1_2 L)
def A (D W : FVec Ideal S8x8192x64 .f32) : FVec Ideal S8x8192x8192 .f32 :=
  Host.dotGeneral dot_S8x8192x64_S8x8192x64_S8x8192x8192_2_2_1_1_0_0 none D W
def C (A E : FVec Ideal S8x8192x8192 .f32) (L : FVec Ideal S8x8192x1 .f32) : FVec Ideal S8x8192 .f32 :=
  Host.reduceAdd (Host.negf (shapeCast S8x8192x1 (Host.reduceAdd
    (mulf (mulf A (broadcastInDim S8x8192x8192 ![0, 1, 2] bcast_S8x8192x1_S8x8192x8192_0_1_2
      (Host.divf (broadcastInDim S8x8192x1 ![] bcast_S_S8x8192x1 (constant S_ .f32 0x3F800000#32)) (mulf L L)))) E)
    (constant S_ .f32 0x00000000#32) reducesTo_S8x8192x8192_S8x8192_d2 h_S_) shapeCasts_S8x8192_S8x8192x1))
    (constant S_ .f32 0x00000000#32) reducesTo_S8x8192x1_S8x8192_d2 h_S_
def G (A E : FVec Ideal S8x8192x8192 .f32) (L : FVec Ideal S8x8192x1 .f32) (C : FVec Ideal S8x8192 .f32) :
    FVec Ideal S8x8192x8192 .f32 :=
  Host.divf (mulf (addf (Host.divf A (broadcastInDim S8x8192x8192 ![0, 1, 2] bcast_S8x8192x1_S8x8192x8192_0_1_2 L))
      (broadcastInDim S8x8192x8192 ![0, 1] bcast_S8x8192_S8x8192x8192_0_1 C)) E) root
def Dq (G : FVec Ideal S8x8192x8192 .f32) (K : FVec Ideal S8x8192x96 .f32) : FVec Ideal S8x8192x96 .bf16 :=
  truncf .bf16 (Host.dotGeneral dot_S8x8192x8192_S8x8192x96_S8x8192x96_2_1_1_2_0_0 none G K) bitsLt_bf16_f32
def Dk (G : FVec Ideal S8x8192x8192 .f32) (Q : FVec Ideal S8x8192x96 .f32) : FVec Ideal S8x2x96x4096 .f32 :=
  transpose S8x2x96x4096 [0, 1, 3, 2] (shapeCast S8x2x4096x96
    (Host.dotGeneral dot_S8x8192x8192_S8x8192x96_S8x8192x96_1_1_2_2_0_0 none G Q)
    shapeCasts_S8x8192x96_S8x2x4096x96) transposes_S8x2x4096x96_S8x2x96x4096_0_1_3_2
def Dv (D : FVec Ideal S8x8192x64 .f32) (P : FVec Ideal S8x8192x8192 .f32) : FVec Ideal S8x2x64x4096 .f32 :=
  transpose S8x2x64x4096 [0, 1, 3, 2] (shapeCast S8x2x4096x64
    (transpose S8x8192x64 [0, 2, 1] (Host.dotGeneral dot_S8x8192x64_S8x8192x8192_S8x64x8192_1_1_2_2_0_0 none D P)
      transposes_S8x64x8192_S8x8192x64_0_2_1)
    shapeCasts_S8x8192x64_S8x2x4096x64) transposes_S8x2x4096x64_S8x2x64x4096_0_1_3_2

theorem root_at (h : Fin 8) (q n : Fin 8192) : root (ix3 h q n) = ((Real.sqrt 96 : ℝ) : EReal) := by
  rw [← lit_root]
  pointwise [root]

theorem S_at (Q K : FVec Ideal S8x8192x96 .f32) (h : Fin 8) (q n : Fin 8192) :
    S Q K (ix3 h q n) = Ideal.div (∑ d : Fin 96, Q (ix3 h q d) * K (ix3 h n d)) ((Real.sqrt 96 : ℝ) : EReal) := by
  rw [← root_at h q n]
  pointwise [S]

theorem R_at (S : FVec Ideal S8x8192x8192 .f32) (h : Fin 8) (q : Fin 8192) :
    R S (ix2 h q)
      = Finset.fold max (Ideal.ofBits FTy.f32 0xFF800000#32) (fun n => S (ix3 h q n)) Finset.univ := by
  pointwise [R]

theorem M_at (R : FVec Ideal S8x8192 .f32) (h : Fin 8) (q : Fin 8192) :
    M R (ix3 h q 0) = max (Ideal.ofBits FTy.f32 0xFF800000#32) (R (ix2 h q)) := by
  pointwise [M]

theorem E_at (S : FVec Ideal S8x8192x8192 .f32) (M : FVec Ideal S8x8192x1 .f32) (h : Fin 8) (q n : Fin 8192) :
    E S M (ix3 h q n) = Ideal.exp (S (ix3 h q n) - M (ix3 h q 0)) := by
  pointwise [E]

theorem L_at (E : FVec Ideal S8x8192x8192 .f32) (h : Fin 8) (q : Fin 8192) :
    L E (ix3 h q 0) = ∑ n : Fin 8192, E (ix3 h q n) := by
  pointwise [L]

theorem P_at (E : FVec Ideal S8x8192x8192 .f32) (L : FVec Ideal S8x8192x1 .f32) (h : Fin 8) (q n : Fin 8192) :
    P E L (ix3 h q n) = Ideal.div (E (ix3 h q n)) (L (ix3 h q 0)) := by
  pointwise [P]

theorem A_at (D W : FVec Ideal S8x8192x64 .f32) (h : Fin 8) (q n : Fin 8192) :
    A D W (ix3 h q n) = ∑ d : Fin 64, D (ix3 h q d) * W (ix3 h n d) := by
  pointwise [A]

theorem C_at (A E : FVec Ideal S8x8192x8192 .f32) (L : FVec Ideal S8x8192x1 .f32) (h : Fin 8) (q : Fin 8192) :
    C A E L (ix2 h q) = - ∑ n : Fin 8192, A (ix3 h q n)
      * Ideal.div 1 (L (ix3 h q 0) * L (ix3 h q 0)) * E (ix3 h q n) := by
  pointwise [C]
  exact Fin.sum_univ_one _

theorem G_at (A E : FVec Ideal S8x8192x8192 .f32) (L : FVec Ideal S8x8192x1 .f32) (C : FVec Ideal S8x8192 .f32)
    (h : Fin 8) (q n : Fin 8192) :
    G A E L C (ix3 h q n) = Ideal.div ((Ideal.div (A (ix3 h q n)) (L (ix3 h q 0)) + C (ix2 h q)) * E (ix3 h q n))
      ((Real.sqrt 96 : ℝ) : EReal) := by
  rw [← root_at h q n]
  pointwise [G]

theorem Dq_at (G : FVec Ideal S8x8192x8192 .f32) (K : FVec Ideal S8x8192x96 .f32) (h : Fin 8) (q : Fin 8192) (d : Fin 96) :
    Dq G K (ix3 h q d) = ∑ n : Fin 8192, G (ix3 h q n) * K (ix3 h n d) := by
  pointwise [Dq]

theorem Dk_at (G : FVec Ideal S8x8192x8192 .f32) (Q : FVec Ideal S8x8192x96 .f32)
    (h : Fin 8) (j : Fin 2) (d : Fin 96) (n : Fin 4096) :
    Dk G Q (ix4 h j d n) = ∑ q : Fin 8192, G (ix3 h q (kx j n)) * Q (ix3 h q d) := by
  pointwise [Dk]
  exact Finset.sum_congr rfl fun q _ => congrArg₂ (· * ·) (congrArg (fun z => G (ix3 h q z)) (kx_eq j n)) rfl

theorem Dv_at (D : FVec Ideal S8x8192x64 .f32) (P : FVec Ideal S8x8192x8192 .f32)
    (h : Fin 8) (j : Fin 2) (d : Fin 64) (n : Fin 4096) :
    Dv D P (ix4 h j d n) = ∑ q : Fin 8192, D (ix3 h q d) * P (ix3 h q (kx j n)) := by
  pointwise [Dv]
  exact Finset.sum_congr rfl fun q _ => congrArg₂ (· * ·) rfl (congrArg (fun z => P (ix3 h q z)) (kx_eq j n))

variable (m : (ℓ : Loc nD τ sig) → Buf (Elt Ideal) ℓ) (c : Dev nD)

/-- The four arguments: the queries, keys, values and the gradient of the attention's result. -/
def kQ : FVec Ideal S8x8192x96 .f32 := m ((c.tc : Thread nD τ).loc main_arg0)
def kK : FVec Ideal S8x8192x96 .f32 := m ((c.tc : Thread nD τ).loc main_arg1)
def kV : FVec Ideal S8x8192x64 .f32 := m ((c.tc : Thread nD τ).loc main_arg2)
def kD : FVec Ideal S8x8192x64 .f32 := m ((c.tc : Thread nD τ).loc main_arg3)

/-- The stages of the arguments. -/
def hS := S (kQ m c) (kK m c)
def hM := M (R (hS m c))
def hE := E (hS m c) (hM m c)
def hL := L (hE m c)
def hA := A (kD m c) (kV m c)
def hC := C (hA m c) (hE m c) (hL m c)
def hG := G (hA m c) (hE m c) (hL m c) (hC m c)
def oq := Dq (hG m c) (kK m c)
def ok := Dk (hG m c) (kQ m c)
def ov := Dv (kD m c) (P (hE m c) (hL m c))

/-- Every run of the reference ends with the three staged results. -/
theorem run (ρ : Dev nD → PrngReg) :
    θ_run defs (onTc (τ := τ) (main (F := Ideal))) ⟨m, fun _ => 0, ρ⟩ fun r => ∀ c : Dev nD,
      r.2.mem ((c.tc : Thread nD τ).loc main_v52) = oq m c
      ∧ r.2.mem ((c.tc : Thread nD τ).loc main_v54) = ok m c
      ∧ r.2.mem ((c.tc : Thread nD τ).loc main_v56) = ov m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by unfold Value.res_main_v52; rfl),
    (h c).2.1.trans (by unfold Value.res_main_v54; rfl), (h c).2.2.1.trans rfl, (h c).2.2.2⟩)
    (Value.run m ρ)

section
variable {q k : Fin 8 → Fin 8192 → Fin 96 → ℝ} {w d : Fin 8 → Fin 8192 → Fin 64 → ℝ}
  (hQ : ∀ h a x, kQ m c (ix3 h a x) = ((q h a x : ℝ) : EReal)) (hK : ∀ h a x, kK m c (ix3 h a x) = ((k h a x : ℝ) : EReal))
  (hW : ∀ h a x, kV m c (ix3 h a x) = ((w h a x : ℝ) : EReal)) (hD : ∀ h a x, kD m c (ix3 h a x) = ((d h a x : ℝ) : EReal))
include hQ hK

theorem hS_real (h : Fin 8) (a n : Fin 8192) : hS m c (ix3 h a n) = ((sR q k h a n : ℝ) : EReal) := by
  unfold hS sR
  rw [S_at, ← div_coe' _ _ root_pos.ne', ← coe_sum]
  refine congrArg (Ideal.div · _) (Finset.sum_congr rfl fun x _ => ?_)
  rw [hQ, hK, EReal.coe_mul]

theorem hM_real (h : Fin 8) (a : Fin 8192) : hM m c (ix3 h a 0) = ((mx (sR q k h a) : ℝ) : EReal) := by
  unfold hM
  rw [M_at, R_at, lit_bot, max_eq_right bot_le, ← mx_fold]
  exact congrArg (fun f => Finset.fold max _ f Finset.univ) (funext fun n => hS_real m c hQ hK h a n)

theorem hE_real (h : Fin 8) (a n : Fin 8192) : hE m c (ix3 h a n) = ((ex (sR q k h a) n : ℝ) : EReal) := by
  unfold hE
  rw [E_at, hS_real m c hQ hK, hM_real m c hQ hK, ← EReal.coe_sub]
  rfl

theorem hL_real (h : Fin 8) (a : Fin 8192) : hL m c (ix3 h a 0) = ((sm (sR q k h a) : ℝ) : EReal) := by
  unfold hL sm
  rw [L_at, ← coe_sum]
  exact Finset.sum_congr rfl fun n _ => hE_real m c hQ hK h a n

include hD

theorem ov_real (h : Fin 8) (j : Fin 2) (x : Fin 64) (n : Fin 4096) :
    ov m c (ix4 h j x n) = ((dvR q k d h (kx j n) x : ℝ) : EReal) := by
  unfold ov dvR
  rw [Dv_at, ← coe_sum]
  refine Finset.sum_congr rfl fun a _ => ?_
  rw [P_at, hE_real m c hQ hK, hL_real m c hQ hK, div_coe' _ _ (sm_pos _).ne', hD, ← EReal.coe_mul]
  rfl

include hW

theorem hG_real (h : Fin 8) (a n : Fin 8192) :
    hG m c (ix3 h a n) = ((gR q k w d h a n * (Real.sqrt 96)⁻¹ : ℝ) : EReal) := by
  have hl := (sm_pos (sR q k h a)).ne'
  have eA : ∀ b, hA m c (ix3 h a b) = ((cR w d h a b : ℝ) : EReal) := by
    intro b
    unfold hA cR
    rw [A_at, ← coe_sum]
    exact Finset.sum_congr rfl fun x _ => by rw [hD, hW, EReal.coe_mul]
  have eC : hC m c (ix2 h a) = ((-∑ b, cR w d h a b * (1 / (sm (sR q k h a) * sm (sR q k h a))) * ex (sR q k h a) b : ℝ) : EReal) := by
    unfold hC
    rw [C_at, EReal.coe_neg, ← coe_sum]
    refine congrArg Neg.neg (Finset.sum_congr rfl fun b _ => ?_)
    rw [eA, hL_real m c hQ hK, hE_real m c hQ hK, ← EReal.coe_mul, ← EReal.coe_one,
      div_coe' _ _ (mul_ne_zero hl hl), EReal.coe_mul, EReal.coe_mul]
  unfold hG
  rw [G_at, eA, eC, hL_real m c hQ hK, hE_real m c hQ hK, div_coe' _ _ hl, ← EReal.coe_add, ← EReal.coe_mul,
    quotient_rule, div_coe' _ _ root_pos.ne', div_eq_mul_inv]
  rfl

theorem oq_real (h : Fin 8) (a : Fin 8192) (x : Fin 96) :
    oq m c (ix3 h a x) = ((dqR q k w d h a x : ℝ) : EReal) := by
  unfold oq dqR
  rw [Dq_at, Finset.sum_mul, ← coe_sum]
  refine Finset.sum_congr rfl fun n _ => ?_
  rw [hG_real m c hQ hK hW hD, hK, ← EReal.coe_mul, mul_right_comm]

theorem ok_real (h : Fin 8) (j : Fin 2) (x : Fin 96) (n : Fin 4096) :
    ok m c (ix4 h j x n) = ((dkR q k w d h (kx j n) x : ℝ) : EReal) := by
  unfold ok dkR
  rw [Dk_at, Finset.sum_mul, ← coe_sum]
  refine Finset.sum_congr rfl fun a _ => ?_
  rw [hG_real m c hQ hK hW hD, hQ, ← EReal.coe_mul]
  exact congrArg _ (by ring)
end

end Cert.Mla.Ref
end
-- ==== Proof.MlaGrad.lean ====
module
public import proofs.«01_k».proof.Defs
public import proofs.«01_k».proof.Proof.Pre
public import proofs.«01_k».proof.Proof.MlaHost
public import proofs.«01_k».proof.Proof.MlaRef

/-! The latent attention's backward: the kernel's three results are the reference's, at finite arguments. -/

@[expose] public section
set_option maxRecDepth 16384
noncomputable section
namespace Cert.Mla
open Idealize.ShloMosaic Idealize.ShloMosaic.TcCoe Idealize.ShloMosaic.Tactic
open Idealize.SL Idealize.SL.Sem

namespace Pre
open Cert.Pre_finite9
open Cert.Attn.Pre (and_one real_of_lt)

instance facts : Cert.Pre_finite9.Facts where
  bcast_S_S8x8192x96 := by decide
  reducesTo_S8x8192x96_S_d0_1_2 := by decide
  h_S_ := by decide
  bcast_S_S8x8192x64 := by decide
  reducesTo_S8x8192x64_S_d0_1_2 := by decide

theorem wide (x : FVec Ideal S8x8192x96 .f32)
    (h : Host.reduce IntOp.andi (cmpf .olt (Host.absf x) (broadcastInDim S8x8192x96 ![] Facts.bcast_S_S8x8192x96
      (constant S_ .f32 0x7F800000#32))) (constantI S_ 1 1#1) Facts.reducesTo_S8x8192x96_S_d0_1_2 Facts.h_S_ ix0 = 1#1)
    (i : S8x8192x96.Idx) : ∃ r : ℝ, x i = (r : EReal) := by
  have h1 := Host.reduce_andi_all _ _ _ _ _ h i
  revert h1
  pointwise
  exact real_of_lt _

theorem narrow (x : FVec Ideal S8x8192x64 .f32)
    (h : Host.reduce IntOp.andi (cmpf .olt (Host.absf x) (broadcastInDim S8x8192x64 ![] Facts.bcast_S_S8x8192x64
      (constant S_ .f32 0x7F800000#32))) (constantI S_ 1 1#1) Facts.reducesTo_S8x8192x64_S_d0_1_2 Facts.h_S_ ix0 = 1#1)
    (i : S8x8192x64.Idx) : ∃ r : ℝ, x i = (r : EReal) := by
  have h1 := Host.reduce_andi_all _ _ _ _ _ h i
  revert h1
  pointwise
  exact real_of_lt _

/-- The precondition gives four arrays of real numbers. -/
theorem reals (x0 x1 : FVec Ideal S8x8192x96 .f32) (x2 x3 : FVec Ideal S8x8192x64 .f32)
    (h : fn (F := Ideal) x0 x1 x2 x3 = fun _ => 1#1) :
    (∀ i, ∃ r : ℝ, x0 i = (r : EReal)) ∧ (∀ i, ∃ r : ℝ, x1 i = (r : EReal))
      ∧ (∀ i, ∃ r : ℝ, x2 i = (r : EReal)) ∧ ∀ i, ∃ r : ℝ, x3 i = (r : EReal) := by
  have h0 := congrFun h ix0
  dsimp only [fn, fn_part1] at h0
  obtain ⟨h0, h3⟩ := and_one _ _ h0
  obtain ⟨h0, h2⟩ := and_one _ _ h0
  obtain ⟨h0, h1⟩ := and_one _ _ h0
  exact ⟨wide x0 h0, wide x1 h1, narrow x2 h2, narrow x3 h3⟩

end Pre

theorem algebraic : Cert.algebraic_Kernel9Ideal_Reference9Ideal_pre_finite9 := by
  intro m g m' g' hpre hagree
  have hvals : ∀ c : Dev Cert.Kernel9Ideal.nD, Ref.oq m' c = res6 m c ∧ Ref.ok m' c = res7 m c ∧ Ref.ov m' c = res8 m c := by
    intro c
    obtain ⟨g0, g1, g2, g3⟩ := hagree c
    obtain ⟨r0, r1, r2, r3⟩ := Pre.reals _ _ _ _ (hpre c)
    choose q hq using fun (h : Fin 8) (a : Fin 8192) (x : Fin 96) => r0 (ix3 h a x)
    choose k hk using fun (h : Fin 8) (a : Fin 8192) (x : Fin 96) => r1 (ix3 h a x)
    choose w hw using fun (h : Fin 8) (a : Fin 8192) (x : Fin 64) => r2 (ix3 h a x)
    choose d hd using fun (h : Fin 8) (a : Fin 8192) (x : Fin 64) => r3 (ix3 h a x)
    have sQ : ∀ h a x, Ref.kQ m' c (ix3 h a x) = ((q h a x : ℝ) : EReal) := fun h a x => (congrFun g0 _).trans (hq h a x)
    have sK : ∀ h a x, Ref.kK m' c (ix3 h a x) = ((k h a x : ℝ) : EReal) := fun h a x => (congrFun g1 _).trans (hk h a x)
    have sW : ∀ h a x, Ref.kV m' c (ix3 h a x) = ((w h a x : ℝ) : EReal) := fun h a x => (congrFun g2 _).trans (hw h a x)
    have sD : ∀ h a x, Ref.kD m' c (ix3 h a x) = ((d h a x : ℝ) : EReal) := fun h a x => (congrFun g3 _).trans (hd h a x)
    refine ⟨funext fun i => ?_, funext fun i => ?_, funext fun i => ?_⟩
    · rw [eq_ix3 i]
      exact (Ref.oq_real m' c sQ sK sW sD _ _ _).trans (res6_real m c hq hk hw hd _ _ _).symm
    · rw [eq_ix4 i]
      exact (Ref.ok_real m' c sQ sK sW sD _ _ _ _).trans (res7_real m c hq hk hw hd _ _ _ _).symm
    · rw [eq_ix4 i]
      exact (Ref.ov_real m' c sQ sK sD _ _ _ _).trans (res8_real m c hq hk hd _ _ _ _).symm
  refine ⟨fun c => res6 m c, fun c => res7 m c, fun c => res8 m c, ?_, ?_⟩
  · exact (θ_run _ _ _).mono (fun r h c => ⟨(h c).1.trans (final6 m c), (h c).2.1.trans (final7 m c),
      (h c).2.2.1.trans (final8 m c), (h c).2.2.2⟩) (Cert.Kernel9Ideal.Value.run_blocks m g)
  · exact (θ_run _ _ _).mono (fun r h c => ⟨(h c).1.trans (hvals c).1, (h c).2.1.trans (hvals c).2.1,
      (h c).2.2.1.trans (hvals c).2.2, (h c).2.2.2⟩) (Ref.run m' g')

end Cert.Mla
end
-- ==== Proof.MlaFwdTrip.lean ====
module
public import proofs.«01_k».proof.Proof.FwdTrip
public import proofs.«01_k».proof.Proof.Gen.Kernel10Ideal.Value
public import Idealize.ShloMosaic.Lib.WholeRead
public import Idealize.ShloMosaic.Lib.WritesUnit
public import Idealize.ShloMosaic.Lib.Pointwise

/-! The latent attention's forward key loop: one trip, the eight trips together, and what a grid point leaves in its two
output blocks. What a chain carries is what a head of the grouped-query attention's call carries. -/

@[expose] public section
set_option maxRecDepth 16384
noncomputable section
namespace Cert.MlaFwd
open Idealize.ShloMosaic Idealize.ShloMosaic.TcCoe Idealize.ShloMosaic.Tactic
open Idealize.SL Idealize.SL.Sem
open Cert.Kernel10Ideal Cert.Kernel10Ideal.Gen Cert.Online
open Cert.AttnFwd (Acc pair start Good good_start)

/-! ## The values a trip computes, entry by entry -/

section
variable (v : Vec Ideal S1x96x2048 .bf16) (m l : FVec Ideal S1x2048 .f32) (a : FVec Ideal S64x2048 .f32)
  (kb : Vec Ideal S1x1024x96 .bf16) (vb : Vec Ideal S1x1x64x1024 .bf16)

theorem pay11_at (n : Fin 1024) (q : Fin 2048) :
    k0_pay11 (F := Ideal) v kb (ix2 n q) = ∑ d : Fin 96, kb (ix3 0 n d) * v (ix3 0 d q) := by
  pointwise [k0_pay11, k0_pay9]

theorem pay12_at (q : Fin 2048) : k0_pay12 (F := Ideal) v m kb (ix2 0 q)
    = max (m (ix2 0 q)) (Finset.fold max (⊥ : EReal) (fun n => k0_pay11 (F := Ideal) v kb (ix2 n q)) Finset.univ) := by
  rw [← Cert.Attn.lit_bot]
  pointwise [k0_pay12]

theorem pay13_at (n : Fin 1024) (q : Fin 2048) : k0_pay13 (F := Ideal) v m kb (ix2 n q)
    = E (k0_pay11 (F := Ideal) v kb (ix2 n q) - k0_pay12 (F := Ideal) v m kb (ix2 0 q)) := by
  pointwise [k0_pay13]

theorem pay14_at (q : Fin 2048) : k0_pay14 (F := Ideal) v m kb (ix2 0 q)
    = E (m (ix2 0 q) - k0_pay12 (F := Ideal) v m kb (ix2 0 q)) := by
  pointwise [k0_pay14]

theorem pay15_at (q : Fin 2048) : k0_pay15 (F := Ideal) v m l kb (ix2 0 q)
    = k0_pay14 (F := Ideal) v m kb (ix2 0 q) * l (ix2 0 q) + ∑ n : Fin 1024, k0_pay13 (F := Ideal) v m kb (ix2 n q) := by
  pointwise [k0_pay15]

theorem pay16_at (d : Fin 64) (q : Fin 2048) : k0_pay16 (F := Ideal) v m a kb vb (ix2 d q)
    = k0_pay14 (F := Ideal) v m kb (ix2 0 q) * a (ix2 d q)
      + ∑ n : Fin 1024, vb (ix4 0 0 d n) * k0_pay13 (F := Ideal) v m kb (ix2 n q) := by
  pointwise [k0_pay16, k0_pay10]

theorem pay23_at (d : Fin 64) (q : Fin 2048) : k0_pay23 (F := Ideal) l a (ix3 0 d q) = Ideal.div (a (ix2 d q)) (l (ix2 0 q)) := by
  pointwise [k0_pay23]

theorem pay1_at (d : Fin 64) (q : Fin 2048) :
    k0_pay1 (F := Ideal) (k0_pay25 l a) (ix3 0 d q) = Ideal.div (a (ix2 d q)) (l (ix2 0 q)) := by
  pointwise [k0_pay1, k0_pay25]

/-- The named constant is the inverse of the natural logarithm of two. -/
theorem log2e_named : Named.named (F := Ideal) (φ := .f32) κ "log2_e" 0x3FB8AA3B#32 = (((Real.log 2)⁻¹ : ℝ) : EReal) :=
  IdealRules.named_const.ideal_named_scalar _ _ _ _ rfl

theorem pay24_at (q : Fin 2048) : k0_pay24 (F := Ideal) m l (ix3 0 0 q)
    = m (ix2 0 q) + Ideal.log (l (ix2 0 q)) * (((Real.log 2)⁻¹ : ℝ) : EReal) := by
  rw [← log2e_named]
  pointwise [k0_pay24]

theorem pay2_eq : k0_pay2 (F := Ideal) m l = k0_pay24 m l := rfl
theorem pay18_eq : k0_pay18 (F := Ideal) v m kb = k0_pay12 v m kb := rfl
theorem pay21_eq : k0_pay21 (F := Ideal) v m l kb = k0_pay15 v m l kb := rfl
theorem pay22_eq : k0_pay22 (F := Ideal) v m a kb vb = k0_pay16 v m a kb vb := rfl
end

/-- One trip of a chain. -/
def step (v : Vec Ideal S1x96x2048 .bf16) (kb : Vec Ideal S1x1024x96 .bf16) (vb : Vec Ideal S1x1x64x1024 .bf16) (z : Acc) : Acc :=
  (k0_pay12 v z.1 kb, k0_pay15 v z.1 z.2.1 kb, k0_pay16 v z.1 z.2.2 kb vb)

theorem good_step (s : Fin 2048 → Fin 8192 → ℝ) (w : Fin 8192 → Fin 64 → EReal) (J : ℕ) (z : Acc) (h : Good s w J z)
    (v : Vec Ideal S1x96x2048 .bf16) (kb : Vec Ideal S1x1024x96 .bf16) (vb : Vec Ideal S1x1x64x1024 .bf16)
    (hs : ∀ n q, ∑ d : Fin 96, kb (ix3 0 n d) * v (ix3 0 d q) = ((s q (ky J n) : ℝ) : EReal))
    (hw : ∀ d n, vb (ix4 0 0 d n) = w (ky J n) d) : Good s w (J + 1) (step v kb vb z) := by
  intro q
  have e := (h q).succ (s q) w (fun n => k0_pay11 (F := Ideal) v kb (ix2 n q)) (fun d n => vb (ix4 0 0 d n))
    (fun n => (pay11_at v kb n q).trans (hs n q)) hw (pay12_at v z.1 kb q)
  unfold step
  dsimp only
  simp only [pay15_at, pay16_at, pay14_at, pay13_at]
  exact e

/-- The query row at place `q` of chain `u`, in the block. -/
def col (u : Fin 2) (q : Fin 2048) : Fin 4096 := ⟨2048 * u.val + q.val, by omega⟩

theorem eq_col (x : Fin 4096) : ∃ u q, x = col u q :=
  ⟨⟨x.val / 2048, by omega⟩, ⟨x.val % 2048, Nat.mod_lt _ (by decide)⟩, Fin.ext (by
    show x.val = 2048 * (x.val / 2048) + x.val % 2048
    omega)⟩

/-! ## The loop and a grid point's two output blocks -/

theorem trips_eq : k0_t1_loop.trips = 8 := by decide +kernel

theorem ldK (m : Memref sig .tc .vmem S1x8192x96 .bf16) (hm : m.IsWhole) (x : Vec Ideal S1x8192x96 .bf16)
    (k : Fin k0_t1_loop.trips) (n : Fin 1024) (d : Fin 96) :
    View.readAt (Elt Ideal) m.view (Rect.unit (s := S1x8192x96) (k0_off1 k) S1x1024x96.size (k0_off1_inb k)).toLoadRect
      (hm.unread x) (ix3 0 n d) = x (ix3 0 (ky k.val n) d) := by
  have hk : k.val < 8 := Nat.lt_of_lt_of_eq k.isLt trips_eq
  rw [Memref.IsWhole.readAt_unread]
  congr 1
  have e := k0_off1_eq k
  funext r
  apply Fin.ext
  match r with
  | ⟨0, _⟩ => show k0_off1 k 0 + 1 * 0 = 0; rw [e]; rfl
  | ⟨1, _⟩ =>
    show k0_off1 k 1 + 1 * n.val = (1024 * k.val + n.val) % 8192
    rw [e]
    show 1024 * k.val + 1 * n.val = _
    omega
  | ⟨2, _⟩ => show k0_off1 k 2 + 1 * d.val = d.val; rw [e]; show 0 + 1 * d.val = _; omega

theorem ldV (m : Memref sig .tc .vmem S1x8x64x1024 .bf16) (hm : m.IsWhole) (x : Vec Ideal S1x8x64x1024 .bf16)
    (k : Fin k0_t1_loop.trips) (d : Fin 64) (n : Fin 1024) :
    View.readAt (Elt Ideal) m.view (Rect.unit (s := S1x8x64x1024) (k0_off2 k) S1x1x64x1024.size (k0_off2_inb k)).toLoadRect
      (hm.unread x) (ix4 0 0 d n) = x (ix4 0 ⟨k.val, Nat.lt_of_lt_of_eq k.isLt trips_eq⟩ d n) := by
  rw [Memref.IsWhole.readAt_unread]
  congr 1
  have e := k0_off2_eq k
  funext r
  apply Fin.ext
  match r with
  | ⟨0, _⟩ => show k0_off2 k 0 + 1 * 0 = 0; rw [e]; rfl
  | ⟨1, _⟩ => show k0_off2 k 1 + 1 * 0 = k.val; rw [e]; show k.val + 1 * 0 = _; omega
  | ⟨2, _⟩ => show k0_off2 k 2 + 1 * d.val = d.val; rw [e]; show 0 + 1 * d.val = _; omega
  | ⟨3, _⟩ => show k0_off2 k 3 + 1 * n.val = n.val; rw [e]; show 0 + 1 * n.val = _; omega

theorem ldQ_0 (m : Memref sig .tc .vmem S1x96x4096 .bf16) (hm : m.IsWhole) (x : Vec Ideal S1x96x4096 .bf16)
    (inb : ∀ a, (![0, 0, 0] : Fin 3 → ℕ) a + S1x96x2048.size a ≤ S1x96x4096.size a) (d : Fin 96) (q : Fin 2048) :
    View.readAt (Elt Ideal) m.view (Rect.unit (s := S1x96x4096) ![0, 0, 0] S1x96x2048.size inb).toLoadRect (hm.unread x) (ix3 0 d q)
      = x (ix3 0 d (col 0 q)) := by
  rw [Memref.IsWhole.readAt_unread]
  congr 1
  funext r
  apply Fin.ext
  match r with
  | ⟨0, _⟩ => rfl
  | ⟨1, _⟩ => show 0 + 1 * d.val = d.val; omega
  | ⟨2, _⟩ => show 0 + 1 * q.val = 2048 * 0 + q.val; omega

theorem ldQ_1 (m : Memref sig .tc .vmem S1x96x4096 .bf16) (hm : m.IsWhole) (x : Vec Ideal S1x96x4096 .bf16)
    (inb : ∀ a, (![0, 0, 2048] : Fin 3 → ℕ) a + S1x96x2048.size a ≤ S1x96x4096.size a) (d : Fin 96) (q : Fin 2048) :
    View.readAt (Elt Ideal) m.view (Rect.unit (s := S1x96x4096) ![0, 0, 2048] S1x96x2048.size inb).toLoadRect (hm.unread x) (ix3 0 d q)
      = x (ix3 0 d (col 1 q)) := by
  rw [Memref.IsWhole.readAt_unread]
  congr 1
  funext r
  apply Fin.ext
  match r with
  | ⟨0, _⟩ => rfl
  | ⟨1, _⟩ => show 0 + 1 * d.val = d.val; omega
  | ⟨2, _⟩ => show 2048 + 1 * q.val = 2048 * 1 + q.val; omega

/-- A chain's half of an output block read under the two stores. -/
theorem rd {κ' : Kind} {sp : Space} {D : ℕ} {φ : EltTy} {v : View sig κ' sp ⟨3, ![1, D, 4096]⟩ φ} (f : BufTy.Contents (Elt Ideal) v.ty)
    (w0 w1 : Vec Ideal ⟨3, ![1, D, 2048]⟩ φ)
    (i1 : ∀ a, (![0, 0, 2048] : Fin 3 → ℕ) a + (⟨3, ![1, D, 2048]⟩ : Shape).size a ≤ (⟨3, ![1, D, 4096]⟩ : Shape).size a)
    (i0 : ∀ a, (![0, 0, 0] : Fin 3 → ℕ) a + (⟨3, ![1, D, 2048]⟩ : Shape).size a ≤ (⟨3, ![1, D, 4096]⟩ : Shape).size a)
    (u : Fin 2) (d : Fin D) (q : Fin 2048) :
    v.read (Elt Ideal) (v.writes (Elt Ideal) f
      [⟨Rect.unit (s := ⟨3, ![1, D, 4096]⟩) ![0, 0, 2048] (⟨3, ![1, D, 2048]⟩ : Shape).size i1, w1⟩,
       ⟨Rect.unit (s := ⟨3, ![1, D, 4096]⟩) ![0, 0, 0] (⟨3, ![1, D, 2048]⟩ : Shape).size i0, w0⟩]) (ix3 0 d (col u q))
      = if u = 0 then w0 (ix3 0 d q) else w1 (ix3 0 d q) := by
  by_cases hu : u = 0
  · subst hu
    rw [if_pos rfl]
    refine (View.read_writes_cons_unit_of_not_mem v f _ w1 _ _ rfl 2 (Or.inl ?_)).trans
      (View.read_writes_cons_unit_of_mem v f _ w0 [] _ (ix3 0 d q) rfl ?_)
    · show 2048 * 0 + q.val < 2048; omega
    · intro r
      match r with
      | ⟨0, _⟩ => rfl
      | ⟨1, _⟩ => show d.val = 0 + d.val; omega
      | ⟨2, _⟩ => show 2048 * 0 + q.val = 0 + q.val; omega
  · have h1 : u = 1 := by omega
    subst h1
    rw [if_neg hu]
    refine View.read_writes_cons_unit_of_mem v f _ w1 _ _ (ix3 0 d q) rfl ?_
    intro r
    match r with
    | ⟨0, _⟩ => rfl
    | ⟨1, _⟩ => show d.val = 0 + d.val; omega
    | ⟨2, _⟩ => show 2048 * 1 + q.val = 2048 + q.val; omega

section
variable (c : Dev nD) (i : grid0.Coords)
  (arg3 : Memref sig .tc .vmem S1x96x4096 .bf16) (h3 : arg3.IsWhole)
  (arg4 : Memref sig .tc .vmem S1x8192x96 .bf16) (h4 : arg4.IsWhole)
  (arg5 : Memref sig .tc .vmem S1x8x64x1024 .bf16) (h5 : arg5.IsWhole)
  (arg6 : Memref sig .tc .vmem S1x64x4096 .bf16) (h6 : arg6.IsWhole)
  (arg7 : Memref sig .tc .vmem S1x1x4096 .f32) (h7 : arg7.IsWhole)
  (x0 : Vec Ideal S1x96x4096 .bf16) (x1 : Vec Ideal S1x8192x96 .bf16) (x2 : Vec Ideal S1x8x64x1024 .bf16)

/-- The blocks of keys and values trip `k` reads, and the two chains' queries. -/
abbrev kbT (k : Fin k0_t1_loop.trips) : Vec Ideal S1x1024x96 .bf16 :=
  View.readAt (Elt Ideal) arg4.view (Rect.unit (s := S1x8192x96) (k0_off1 k) S1x1024x96.size (k0_off1_inb k)).toLoadRect (h4.unread x1)
abbrev vbT (k : Fin k0_t1_loop.trips) : Vec Ideal S1x1x64x1024 .bf16 :=
  View.readAt (Elt Ideal) arg5.view (Rect.unit (s := S1x8x64x1024) (k0_off2 k) S1x1x64x1024.size (k0_off2_inb k)).toLoadRect (h5.unread x2)
abbrev q0T : Vec Ideal S1x96x2048 .bf16 :=
  View.readAt (Elt Ideal) arg3.view (Rect.unit (s := S1x96x4096) ![0, 0, 0] S1x96x2048.size inb_S1x96x4096_S1x96x2048_0_0_0).toLoadRect (h3.unread x0)
abbrev q1T : Vec Ideal S1x96x2048 .bf16 :=
  View.readAt (Elt Ideal) arg3.view (Rect.unit (s := S1x96x4096) ![0, 0, 2048] S1x96x2048.size inb_S1x96x4096_S1x96x2048_0_0_2048).toLoadRect (h3.unread x0)

theorem trip_eq (v0 v2 : Vec Ideal S1x96x2048 .bf16) (k : Fin k0_t1_loop.trips) (y z : Acc) :
    tripR_k0_t1 (F := Ideal) Variants.none c none i arg3 h3 arg4 h4 arg5 h5 arg6 h6 arg7 h7 v0 v2 (h4.unread x1) (h5.unread x2) k (pair y z)
      = pair (step v0 (kbT arg4 h4 x1 k) (vbT arg5 h5 x2 k) y) (step v2 (kbT arg4 h4 x1 k) (vbT arg5 h5 x2 k) z) := by
  unfold tripR_k0_t1 trip_k0_t1
  rfl

/-- The carried values of the two chains before trip `J`. -/
abbrev stT (J : ℕ) := st_k0_t1 (F := Ideal) Variants.none c none i arg3 h3 arg4 h4 arg5 h5 arg6 h6 arg7 h7
  (q0T arg3 h3 x0) (q1T arg3 h3 x0) (h4.unread x1) (h5.unread x2) (pair start start) J

/-- Before trip `J` the carried values hold the sums over the first `J` blocks of keys. -/
theorem loop (s : Fin 4096 → Fin 8192 → ℝ) (w : Fin 8192 → Fin 64 → EReal)
    (hs : ∀ q n, ∑ d : Fin 96, x1 (ix3 0 n d) * x0 (ix3 0 d q) = ((s q n : ℝ) : EReal))
    (hw : ∀ (j : Fin 8) d n, x2 (ix4 0 j d n) = w (ky j.val n) d) (J : ℕ) (hJ : J ≤ 8) :
    ∃ y z : Acc, stT c i arg3 h3 arg4 h4 arg5 h5 arg6 h6 arg7 h7 x0 x1 x2 J = pair y z ∧ Good (fun q => s (col 0 q)) w J y
      ∧ Good (fun q => s (col 1 q)) w J z := by
  induction J with
  | zero => exact ⟨start, start, rfl, good_start _ _, good_start _ _⟩
  | succ J ih =>
    obtain ⟨y, z, e, gy, gz⟩ := ih (Nat.le_of_succ_le hJ)
    have hk : J < k0_t1_loop.trips := Nat.lt_of_lt_of_eq hJ trips_eq.symm
    have e1 := st_k0_t1_succ (F := Ideal) Variants.none c none i arg3 h3 arg4 h4 arg5 h5 arg6 h6 arg7 h7
      (q0T arg3 h3 x0) (q1T arg3 h3 x0) (h4.unread x1) (h5.unread x2) (pair start start) ⟨J, hk⟩
    refine ⟨_, _, (e1.trans ((congrArg _ e).trans (trip_eq c i arg3 h3 arg4 h4 arg5 h5 arg6 h6 arg7 h7 x1 x2 _ _ ⟨J, hk⟩ y z))), ?_, ?_⟩
    · refine good_step _ _ _ _ gy _ _ _ (fun n q => ?_) fun d n => ?_
      · rw [← hs]
        exact Finset.sum_congr rfl fun d _ => congrArg₂ (· * ·) (ldK arg4 h4 x1 ⟨J, hk⟩ n d) (ldQ_0 arg3 h3 x0 _ d q)
      · exact (ldV arg5 h5 x2 ⟨J, hk⟩ d n).trans (hw _ d n)
    · refine good_step _ _ _ _ gz _ _ _ (fun n q => ?_) fun d n => ?_
      · rw [← hs]
        exact Finset.sum_congr rfl fun d _ => congrArg₂ (· * ·) (ldK arg4 h4 x1 ⟨J, hk⟩ n d) (ldQ_1 arg3 h3 x0 _ d q)
      · exact (ldV arg5 h5 x2 ⟨J, hk⟩ d n).trans (hw _ d n)

/-- The attention's result of the block. -/
theorem out_3 (s : Fin 4096 → Fin 8192 → ℝ) (w : Fin 8192 → Fin 64 → EReal)
    (hs : ∀ q n, ∑ d : Fin 96, x1 (ix3 0 n d) * x0 (ix3 0 d q) = ((s q n : ℝ) : EReal))
    (hw : ∀ (j : Fin 8) d n, x2 (ix4 0 j d n) = w (ky j.val n) d) (d : Fin 64) (q : Fin 4096) :
    out0_A_3 (F := Ideal) c i arg3 h3 arg4 h4 arg5 h5 arg6 h6 arg7 h7 x0 x1 x2 (ix3 0 d q)
      = ∑ n, w n d * (((2 : ℝ) ^ s q n / ∑ b, (2 : ℝ) ^ s q b : ℝ) : EReal) := by
  obtain ⟨y, z, e, gy, gz⟩ := loop c i arg3 h3 arg4 h4 arg5 h5 arg6 h6 arg7 h7 x0 x1 x2 s w hs hw 8 le_rfl
  obtain ⟨u, q, rfl⟩ := eq_col q
  unfold out0_A_3 kernelRun0_A
  refine (rd (D := 64) VO0_3.junk
    (k0_pay23 (stT c i arg3 h3 arg4 h4 arg5 h5 arg6 h6 arg7 h7 x0 x1 x2 8).2.1 (stT c i arg3 h3 arg4 h4 arg5 h5 arg6 h6 arg7 h7 x0 x1 x2 8).2.2.1)
    (k0_pay1 (k0_pay25 (stT c i arg3 h3 arg4 h4 arg5 h5 arg6 h6 arg7 h7 x0 x1 x2 8).2.2.2.2.1
      (stT c i arg3 h3 arg4 h4 arg5 h5 arg6 h6 arg7 h7 x0 x1 x2 8).2.2.2.2.2)) _ _ u d q).trans ?_
  rw [e]
  by_cases hh : u = 0
  · subst hh
    rw [if_pos rfl, pay23_at]
    exact (gy q).out _ _ d
  · have h1 : u = 1 := by omega
    subst h1
    rw [if_neg hh, pay1_at]
    exact (gz q).out _ _ d

/-- The base-two log-sum-exp of the block. -/
theorem out_4 (s : Fin 4096 → Fin 8192 → ℝ) (w : Fin 8192 → Fin 64 → EReal)
    (hs : ∀ q n, ∑ d : Fin 96, x1 (ix3 0 n d) * x0 (ix3 0 d q) = ((s q n : ℝ) : EReal))
    (hw : ∀ (j : Fin 8) d n, x2 (ix4 0 j d n) = w (ky j.val n) d) (q : Fin 4096) :
    out0_A_4 (F := Ideal) c i arg3 h3 arg4 h4 arg5 h5 arg6 h6 arg7 h7 x0 x1 x2 (ix3 0 0 q)
      = ((Real.log (∑ n, (2 : ℝ) ^ s q n) / Real.log 2 : ℝ) : EReal) := by
  obtain ⟨y, z, e, gy, gz⟩ := loop c i arg3 h3 arg4 h4 arg5 h5 arg6 h6 arg7 h7 x0 x1 x2 s w hs hw 8 le_rfl
  obtain ⟨u, q, rfl⟩ := eq_col q
  unfold out0_A_4 kernelRun0_A
  refine (rd (D := 1) VO0_4.junk
    (k0_pay24 (stT c i arg3 h3 arg4 h4 arg5 h5 arg6 h6 arg7 h7 x0 x1 x2 8).1 (stT c i arg3 h3 arg4 h4 arg5 h5 arg6 h6 arg7 h7 x0 x1 x2 8).2.1)
    (k0_pay2 (stT c i arg3 h3 arg4 h4 arg5 h5 arg6 h6 arg7 h7 x0 x1 x2 8).2.2.2.1
      (stT c i arg3 h3 arg4 h4 arg5 h5 arg6 h6 arg7 h7 x0 x1 x2 8).2.2.2.2.1) _ _ u 0 q).trans ?_
  rw [e]
  by_cases hh : u = 0
  · subst hh
    rw [if_pos rfl, pay24_at]
    exact (gy q).lse
  · have h1 : u = 1 := by omega
    subst h1
    rw [if_neg hh, pay2_eq, pay24_at]
    exact (gz q).lse
end

end Cert.MlaFwd
end
-- ==== Proof.MlaFwd.lean ====
module
public import proofs.«01_k».proof.Proof.MlaFwdTrip
public import proofs.«01_k».proof.Proof.AttnFwd
public import proofs.«01_k».proof.Proof.MlaGrad
public import proofs.«01_k».proof.Proof.Gen.Reference10Ideal.Run
public import Idealize.ShloMosaic.Lib.StableHlo.ReadAt

/-! The latent attention's forward call: the blocks each grid point reads and writes, the arrays the launch finds, and the
reference's two results, all as the same numbers. -/

@[expose] public section
set_option maxRecDepth 16384
noncomputable section
namespace Cert.MlaFwd

section
open Idealize.ShloMosaic Cert.Online Cert.Mla
open Cert.Attn (log2_pos)

/-! ## One row, and the attention's result -/

/-- The base-two power of the score in base two is the score's exponential. -/
theorem pow_two (x : ℝ) : (2 : ℝ) ^ (x / Real.log 2) = Real.exp x := by
  rw [Real.rpow_def_of_pos (by norm_num)]
  congr 1
  exact mul_div_cancel₀ _ log2_pos.ne'

/-- The weight does not depend on the bound the exponentials are taken from. -/
theorem wt_eq (s : Fin 8192 → ℝ) (n : Fin 8192) : wt s n = Real.exp (s n) / ∑ b, Real.exp (s b) := by
  unfold wt sm ex
  simp only [Real.exp_sub]
  rw [← Finset.sum_div, div_div_div_cancel_right₀ (Real.exp_pos _).ne']

variable (q k : Fin 8 → Fin 8192 → Fin 96 → ℝ) (w : Fin 8 → Fin 8192 → Fin 64 → EReal)

/-- The attention's result and its base-two log-sum-exp. -/
def oR (h : Fin 8) (a : Fin 8192) (x : Fin 64) : EReal := ∑ n, (pR q k h a n : EReal) * w h n x
def lseR (h : Fin 8) (a : Fin 8192) : ℝ := Real.log (∑ n, Real.exp (sR q k h a n)) / Real.log 2

theorem oR_eq (h : Fin 8) (a : Fin 8192) (x : Fin 64) :
    ∑ n, w h n x * (((2 : ℝ) ^ (sR q k h a n / Real.log 2) / ∑ b, (2 : ℝ) ^ (sR q k h a b / Real.log 2) : ℝ) : EReal)
      = oR q k w h a x := by
  unfold oR pR
  simp only [pow_two]
  exact Finset.sum_congr rfl fun n _ => by rw [wt_eq, mul_comm]

theorem lseR_eq (h : Fin 8) (a : Fin 8192) :
    Real.log (∑ n, (2 : ℝ) ^ (sR q k h a n / Real.log 2)) / Real.log 2 = lseR q k h a := by
  unfold lseR
  simp only [pow_two]

theorem score_eq (h : Fin 8) (a n : Fin 8192) :
    ∑ x, k h n x * (q h a x / Real.sqrt 96 / Real.log 2) = sR q k h a n / Real.log 2 := by
  unfold sR
  rw [Finset.sum_div, Finset.sum_div]
  exact Finset.sum_congr rfl fun x _ => by ring
end

section
open Idealize.ShloMosaic Idealize.ShloMosaic.TcCoe Idealize.ShloMosaic.Tactic
open Idealize.SL Idealize.SL.Sem
open Cert.Kernel10Ideal Cert.Kernel10Ideal.Gen Cert.Online
open Cert.Mla (sR pR lit_root root_pos)
open Cert.Attn (coe_sum div_coe' log2_pos lit_log2)
open Cert.AttnFwd (eq_mid)

variable (m : (ℓ : Loc nD τ sig) → Buf (Elt Ideal) ℓ) (c : Dev nD)

/-! ## The arrays the launch finds -/

/-- The three arguments: the queries, keys and values. -/
def fQ : FVec Ideal S8x8192x96 .f32 := m ((c.tc : Thread nD τ).loc main_arg0)
def fK : FVec Ideal S8x8192x96 .f32 := m ((c.tc : Thread nD τ).loc main_arg1)
def fV : FVec Ideal S8x8192x64 .f32 := m ((c.tc : Thread nD τ).loc main_arg2)
/-- The three arrays the launch reads. -/
def lQ : Vec Ideal S8x96x8192 .bf16 := V m c main_v7
def lK : Vec Ideal S8x8192x96 .bf16 := V m c main_v11
def lV : Vec Ideal S8x8x64x1024 .bf16 := V m c main_v10

theorem lK_at (i : S8x8192x96.Idx) : lK m c i = fK m c i := by
  unfold lK V fK
  after_reads_at

theorem lQ_at (h : Fin 8) (d : Fin 96) (a : Fin 8192) : lQ m c (ix3 h d a)
    = Ideal.div (Ideal.div (fQ m c (ix3 h a d)) (Ideal.sqrt (Ideal.ofBits FTy.f32 0x42C00000#32)))
        (Ideal.log (Ideal.ofBits .f32 0x40000000#32)) := by
  unfold lQ V fQ
  after_reads_at

theorem lV_at (g : Fin 8) (j : Fin 8) (d : Fin 64) (n : Fin 1024) :
    lV m c (ix4 g j d n) = fV m c (ix3 g (ky j.val n) d) := by
  have e : (⟨j.val * 1024 + n.val, by omega⟩ : Fin 8192) = ky j.val n := Fin.ext (by
    show j.val * 1024 + n.val = (1024 * j.val + n.val) % 8192
    omega)
  rw [← e]
  unfold lV V fV
  after_reads_at

/-! ## The blocks -/

def blkQ (t : Fin cfg0.N) : Vec Ideal S1x96x4096 .bf16 := iblk m c 0 t
def blkK (t : Fin cfg0.N) : Vec Ideal S1x8192x96 .bf16 := iblk m c 1 t
def blkV (t : Fin cfg0.N) : Vec Ideal S1x8x64x1024 .bf16 := iblk m c 2 t

theorem idx0 : ∀ t : Fin grid0.N, win0_0.index t 0 = t.val / 2 ∧ win0_0.index t 1 = 0 ∧ win0_0.index t 2 = t.val % 2 := by
  decide +kernel
theorem idx1 : ∀ t : Fin grid0.N, win0_1.index t 0 = t.val / 2 ∧ win0_1.index t 1 = 0 ∧ win0_1.index t 2 = 0 := by decide +kernel
theorem idx2 : ∀ t : Fin grid0.N, win0_2.index t 0 = t.val / 2 ∧ win0_2.index t 1 = 0 ∧ win0_2.index t 2 = 0
    ∧ win0_2.index t 3 = 0 := by decide +kernel
theorem idx3 : ∀ t : Fin grid0.N, win0_3.index t 0 = t.val / 2 ∧ win0_3.index t 1 = 0 ∧ win0_3.index t 2 = t.val % 2 := by
  decide +kernel
theorem idx4 : ∀ t : Fin grid0.N, win0_4.index t 0 = t.val / 2 ∧ win0_4.index t 1 = 0 ∧ win0_4.index t 2 = t.val % 2 := by
  decide +kernel

/-- The head a point holds, and the query row at place `a` of its block. -/
def hdP (t : ℕ) : Fin 8 := ⟨t / 2 % 8, Nat.mod_lt _ (by decide)⟩
def rowP (t : ℕ) (a : Fin 4096) : Fin 8192 := ⟨t % 2 * 4096 + a.val, by omega⟩

theorem blkQ_at (t : Fin cfg0.N) (d : Fin 96) (a : Fin 4096) :
    blkQ m c t (ix3 0 d a) = lQ m c (ix3 (hdP t.val) d (rowP t.val a)) := by
  have hN : cfg0.N = 16 := N_0
  have ht := t.isLt
  obtain ⟨e0, e1, e2⟩ := idx0 t
  unfold blkQ iblk lQ
  rw [View.read_apply]
  show V m c main_v7 _ = V m c main_v7 _
  congr 1
  funext x
  apply Fin.ext
  match x with
  | ⟨0, _⟩ => show win0_0.index t 0 * 1 + 1 * 0 = t.val / 2 % 8; rw [e0]; omega
  | ⟨1, _⟩ => show win0_0.index t 1 * 96 + 1 * d.val = d.val; rw [e1]; omega
  | ⟨2, _⟩ => show win0_0.index t 2 * 4096 + 1 * a.val = t.val % 2 * 4096 + a.val; rw [e2]; omega

theorem blkK_at (t : Fin cfg0.N) (n : Fin 8192) (d : Fin 96) :
    blkK m c t (ix3 0 n d) = lK m c (ix3 (hdP t.val) n d) := by
  have hN : cfg0.N = 16 := N_0
  have ht := t.isLt
  obtain ⟨e0, e1, e2⟩ := idx1 t
  unfold blkK iblk lK
  rw [View.read_apply]
  show V m c main_v11 _ = V m c main_v11 _
  congr 1
  funext x
  apply Fin.ext
  match x with
  | ⟨0, _⟩ => show win0_1.index t 0 * 1 + 1 * 0 = t.val / 2 % 8; rw [e0]; omega
  | ⟨1, _⟩ => show win0_1.index t 1 * 8192 + 1 * n.val = n.val; rw [e1]; omega
  | ⟨2, _⟩ => show win0_1.index t 2 * 96 + 1 * d.val = d.val; rw [e2]; omega

theorem blkV_at (t : Fin cfg0.N) (j : Fin 8) (d : Fin 64) (n : Fin 1024) :
    blkV m c t (ix4 0 j d n) = lV m c (ix4 (hdP t.val) j d n) := by
  have hN : cfg0.N = 16 := N_0
  have ht := t.isLt
  obtain ⟨e0, e1, e2, e3⟩ := idx2 t
  unfold blkV iblk lV
  rw [View.read_apply]
  show V m c main_v10 _ = V m c main_v10 _
  congr 1
  funext x
  apply Fin.ext
  match x with
  | ⟨0, _⟩ => show win0_2.index t 0 * 1 + 1 * 0 = t.val / 2 % 8; rw [e0]; omega
  | ⟨1, _⟩ => show win0_2.index t 1 * 8 + 1 * j.val = j.val; rw [e1]; omega
  | ⟨2, _⟩ => show win0_2.index t 2 * 64 + 1 * d.val = d.val; rw [e2]; omega
  | ⟨3, _⟩ => show win0_2.index t 3 * 1024 + 1 * n.val = n.val; rw [e3]; omega

/-! ## The two results, at real queries and keys -/

variable (q k : Fin 8 → Fin 8192 → Fin 96 → ℝ) (w : Fin 8 → Fin 8192 → Fin 64 → EReal)
  (hQ : ∀ h a x, fQ m c (ix3 h a x) = ((q h a x : ℝ) : EReal)) (hK : ∀ h n x, fK m c (ix3 h n x) = ((k h n x : ℝ) : EReal))
  (hW : ∀ h n x, fV m c (ix3 h n x) = w h n x)
include hQ hK in
theorem score_pt (t : Fin cfg0.N) (a : Fin 4096) (n : Fin 8192) :
    ∑ d : Fin 96, blkK m c t (ix3 0 n d) * blkQ m c t (ix3 0 d a)
      = ((sR q k (hdP t.val) (rowP t.val a) n / Real.log 2 : ℝ) : EReal) := by
  rw [← score_eq, ← coe_sum]
  refine Finset.sum_congr rfl fun d _ => ?_
  rw [blkK_at, blkQ_at, lK_at, lQ_at, hK, hQ, lit_log2, lit_root, div_coe' _ _ root_pos.ne', div_coe' _ _ log2_pos.ne',
    ← EReal.coe_mul]

include hW in
theorem value_pt (t : Fin cfg0.N) (j : Fin 8) (d : Fin 64) (n : Fin 1024) :
    blkV m c t (ix4 0 j d n) = w (hdP t.val) (ky j.val n) d := by
  rw [blkV_at, lV_at, hW]

/-- The two results as arrays. -/
def res3 : Vec Ideal S8x64x8192 .bf16 := fun i => oR q k w (i 0) (i 2) (i 1)
def res4 : Vec Ideal S8x1x8192 .f32 := fun i => ((lseR q k (i 0) (i 2) : ℝ) : EReal)

/-- An index with one place in front. -/
theorem eq_front {n1 n2 : ℕ} (j : (⟨3, ![1, n1, n2]⟩ : Shape).Idx) : j = ix3 (n0 := 1) (n1 := n1) (n2 := n2) 0 (j 1) (j 2) := by
  have e : ∀ x : Fin 1, x = 0 := fun x => Subsingleton.elim _ _
  funext a
  match a with
  | ⟨0, _⟩ => exact e (j 0)
  | ⟨1, _⟩ => rfl
  | ⟨2, _⟩ => rfl

include hQ hK hW in
theorem final3 : (dats m 0 c).arrAt 3 cfg0.N = res3 q k w := by
  refine (dats m 0 c).arrAt_eq_of_covers 3 _ (by decide +kernel) fun t hf y => ?_
  blk_simp
  rw [after0_3]
  have hN : cfg0.N = 16 := N_0
  have ht : t.val < cfg0.N := t.isLt
  obtain ⟨e0, e1, e2⟩ := idx3 t
  have hy : (ix3 0 (y 1) (y 2) : S1x64x4096.Idx) = y := (eq_front (n1 := 64) (n2 := 4096) y).symm
  have key : (outsAt0 m c t).1 (ix3 0 (y 1) (y 2)) = oR q k w (hdP t.val) (rowP t.val (y 2)) (y 1) := by
    unfold outsAt0
    dsimp only
    refine (out_3 c _ _ _ _ _ _ _ _ _ _ _ _ _ _ (fun a n => sR q k (hdP t.val) (rowP t.val a) n / Real.log 2)
      (w (hdP t.val)) (score_pt m c q k hQ hK t) (value_pt m c w hW t) (y 1) (y 2)).trans ?_
    exact oR_eq q k w _ _ _
  rw [hy] at key
  refine key.trans ?_
  have y0 : (y 0).val < 1 := (y 0).isLt
  have y2 : (y 2).val < 4096 := (y 2).isLt
  have q0 : hdP t.val = (win0_3.blk t).view.emb y 0 := by
    apply Fin.ext
    show t.val / 2 % 8 = win0_3.index t 0 * 1 + 1 * (y 0).val
    rw [e0]; omega
  have q1 : y 1 = (win0_3.blk t).view.emb y 1 := by
    apply Fin.ext
    show (y 1).val = win0_3.index t 1 * 64 + 1 * (y 1).val
    rw [e1]; omega
  have q2 : rowP t.val (y 2) = (win0_3.blk t).view.emb y 2 := by
    apply Fin.ext
    show t.val % 2 * 4096 + (y 2).val = win0_3.index t 2 * 4096 + 1 * (y 2).val
    rw [e2]; omega
  rw [q0, q2]
  exact congrArg (fun z : Fin 64 => oR q k w _ _ z) q1

include hQ hK hW in
theorem final4 : (dats m 0 c).arrAt 4 cfg0.N = res4 q k := by
  refine (dats m 0 c).arrAt_eq_of_covers 4 _ (by decide +kernel) fun t hf y => ?_
  blk_simp
  rw [after0_4]
  have hN : cfg0.N = 16 := N_0
  have ht : t.val < cfg0.N := t.isLt
  obtain ⟨e0, e1, e2⟩ := idx4 t
  have h1 : y 1 = (0 : Fin 1) := Subsingleton.elim (α := Fin 1) _ _
  have hy : (ix3 0 0 (y 2) : S1x1x4096.Idx) = y :=
    (congrArg (fun z : Fin 1 => (ix3 0 z (y 2) : S1x1x4096.Idx)) h1.symm).trans (eq_front (n1 := 1) (n2 := 4096) y).symm
  have key : (outsAt0 m c t).2 (ix3 0 0 (y 2)) = ((lseR q k (hdP t.val) (rowP t.val (y 2)) : ℝ) : EReal) := by
    unfold outsAt0
    dsimp only
    refine (out_4 c _ _ _ _ _ _ _ _ _ _ _ _ _ _ (fun a n => sR q k (hdP t.val) (rowP t.val a) n / Real.log 2)
      (w (hdP t.val)) (score_pt m c q k hQ hK t) (value_pt m c w hW t) (y 2)).trans ?_
    exact congrArg (fun r : ℝ => (r : EReal)) (lseR_eq q k _ _)
  rw [hy] at key
  refine key.trans ?_
  have y0 : (y 0).val < 1 := (y 0).isLt
  have y2 : (y 2).val < 4096 := (y 2).isLt
  have q0 : hdP t.val = (win0_4.blk t).view.emb y 0 := by
    apply Fin.ext
    show t.val / 2 % 8 = win0_4.index t 0 * 1 + 1 * (y 0).val
    rw [e0]; omega
  have q2 : rowP t.val (y 2) = (win0_4.blk t).view.emb y 2 := by
    apply Fin.ext
    show t.val % 2 * 4096 + (y 2).val = win0_4.index t 2 * 4096 + 1 * (y 2).val
    rw [e2]; omega
  rw [q0, q2]
  rfl
end

/-! ## The reference -/

namespace Ref
open Idealize.ShloMosaic Idealize.ShloMosaic.Tactic
open Cert.Reference10Ideal Cert.Reference10Ideal.Gen
open Cert.Mla (sR pR mx ex sm sm_pos mx_fold lit_root root_pos svO svO_at)
open Cert.Attn (coe_sum div_coe' log_coe' log2_pos lit_log2 lit_bot)

/-- The base-two log-sum-exp of the scores, as the reference writes it. -/
def lse (S : FVec Ideal S8x8192x8192 .f32) : FVec Ideal S8x1x8192 .f32 :=
  shapeCast S8x1x8192 (Host.divf (Host.log (Host.reduceAdd (Host.exp S) (constant S_ .f32 0x00000000#32)
    reducesTo_S8x8192x8192_S8x8192_d2 h_S_)) (broadcastInDim S8x8192 ![] bcast_S_S8x8192
      (Host.log (constant S_ .f32 0x40000000#32)))) shapeCasts_S8x8192_S8x1x8192

theorem lse_at (S : FVec Ideal S8x8192x8192 .f32) (h : Fin 8) (a : Fin 8192) :
    lse S (ix3 h 0 a)
      = Ideal.div (Ideal.log (∑ n : Fin 8192, Ideal.exp (S (ix3 h a n)))) (Ideal.log (Ideal.ofBits FTy.f32 0x40000000#32)) := by
  pointwise [lse]

variable (Q K : FVec Ideal S8x8192x96 .f32) (W : FVec Ideal S8x8192x64 .f32)

/-- The scores, exponentials and sums of the reference, by the stages of the backward call's reference. -/
abbrev S10 := Cert.Mla.Ref.S Q K
abbrev E10 := Cert.Mla.Ref.E (S10 Q K) (Cert.Mla.Ref.M (Cert.Mla.Ref.R (S10 Q K)))
abbrev L10 := Cert.Mla.Ref.L (E10 Q K)

variable (q k : Fin 8 → Fin 8192 → Fin 96 → ℝ) (w : Fin 8 → Fin 8192 → Fin 64 → EReal)
  (hQ : ∀ h a x, Q (ix3 h a x) = ((q h a x : ℝ) : EReal)) (hK : ∀ h n x, K (ix3 h n x) = ((k h n x : ℝ) : EReal))
  (hW : ∀ h n x, W (ix3 h n x) = w h n x)

include hQ hK in
theorem S10_at (h : Fin 8) (a n : Fin 8192) : S10 Q K (ix3 h a n) = ((sR q k h a n : ℝ) : EReal) := by
  unfold S10 sR
  rw [Cert.Mla.Ref.S_at, ← div_coe' _ _ root_pos.ne', ← coe_sum]
  refine congrArg (Ideal.div · _) (Finset.sum_congr rfl fun x _ => ?_)
  rw [hQ, hK, EReal.coe_mul]

include hQ hK in
theorem E10_at (h : Fin 8) (a n : Fin 8192) : E10 Q K (ix3 h a n) = ((ex (sR q k h a) n : ℝ) : EReal) := by
  have hM : Cert.Mla.Ref.M (Cert.Mla.Ref.R (S10 Q K)) (ix3 h a 0) = ((mx (sR q k h a) : ℝ) : EReal) := by
    rw [Cert.Mla.Ref.M_at, Cert.Mla.Ref.R_at, lit_bot, max_eq_right bot_le, ← mx_fold]
    exact congrArg (fun f => Finset.fold max _ f Finset.univ) (funext fun n => S10_at Q K q k hQ hK h a n)
  unfold E10
  rw [Cert.Mla.Ref.E_at, hM, S10_at Q K q k hQ hK, ← EReal.coe_sub]
  rfl

include hQ hK in
theorem L10_at (h : Fin 8) (a : Fin 8192) : L10 Q K (ix3 h a 0) = ((sm (sR q k h a) : ℝ) : EReal) := by
  unfold L10 sm
  rw [Cert.Mla.Ref.L_at, ← coe_sum]
  exact Finset.sum_congr rfl fun n _ => E10_at Q K q k hQ hK h a n

include hQ hK hW in
theorem o_real (h : Fin 8) (x : Fin 64) (a : Fin 8192) :
    svO (E10 Q K) (L10 Q K) W (ix3 h x a) = oR q k w h a x := by
  rw [svO_at]
  unfold oR
  refine Finset.sum_congr rfl fun n _ => ?_
  rw [E10_at Q K q k hQ hK, L10_at Q K q k hQ hK, hW, div_coe' _ _ (sm_pos _).ne']
  rfl

include hQ hK in
theorem lse_real (h : Fin 8) (a : Fin 8192) : lse (S10 Q K) (ix3 h 0 a) = ((lseR q k h a : ℝ) : EReal) := by
  rw [lse_at]
  simp only [S10_at Q K q k hQ hK, Ideal.exp_coe]
  rw [coe_sum, lit_log2, log_coe' _ (Finset.sum_pos (fun _ _ => Real.exp_pos _) ⟨0, Finset.mem_univ _⟩),
    div_coe' _ _ log2_pos.ne']
  rfl
end Ref

/-! ## The claim -/

namespace Pre
open Idealize.ShloMosaic Idealize.ShloMosaic.Tactic
open Cert.Pre_finite10

instance facts : Cert.Pre_finite10.Facts where
  bcast_S_S8x8192x96 := by decide
  reducesTo_S8x8192x96_S_d0_1_2 := by decide
  h_S_ := by decide

/-- The precondition gives queries and keys that are real numbers. -/
theorem reals (x0 x1 : FVec Ideal S8x8192x96 .f32) (x2 : FVec Ideal S8x8192x64 .f32)
    (h : fn (F := Ideal) x0 x1 x2 = fun _ => 1#1) :
    (∀ i, ∃ r : ℝ, x0 i = (r : EReal)) ∧ ∀ i, ∃ r : ℝ, x1 i = (r : EReal) := by
  have h0 := congrFun h ix0
  dsimp only [fn] at h0
  obtain ⟨h0, h1⟩ := Cert.Attn.Pre.and_one _ _ h0
  exact ⟨Cert.Mla.Pre.wide x0 h0, Cert.Mla.Pre.wide x1 h1⟩
end Pre

open Idealize.ShloMosaic Idealize.ShloMosaic.TcCoe Idealize.ShloMosaic.Tactic
open Idealize.SL Idealize.SL.Sem
open Cert.Kernel10Ideal Cert.Kernel10Ideal.Gen

theorem algebraic : Cert.algebraic_Kernel10Ideal_Reference10Ideal_pre_finite10 := by
  intro m g m' g' hpre hagree
  refine ⟨fun c => (dats m 0 c).arrAt 3 cfg0.N, fun c => (dats m 0 c).arrAt 4 cfg0.N, ?_, ?_⟩
  · exact Cert.Kernel10Ideal.Value.run_blocks m g
  · refine (θ_run _ _ _).mono (fun r h c => ?_) (Cert.Reference10Ideal.Value.run m' g')
    obtain ⟨g0, g1, g2⟩ := hagree c
    obtain ⟨r0, r1⟩ := Pre.reals _ _ _ (hpre c)
    choose q hq using fun (h : Fin 8) (a : Fin 8192) (x : Fin 96) => r0 (ix3 h a x)
    choose k hk using fun (h : Fin 8) (a : Fin 8192) (x : Fin 96) => r1 (ix3 h a x)
    let w : Fin 8 → Fin 8192 → Fin 64 → EReal := fun h a x => fV m c (ix3 h a x)
    have hw : ∀ h a x, fV m c (ix3 h a x) = w h a x := fun _ _ _ => rfl
    have hc := h c
    rw [g0, g1, g2] at hc
    refine ⟨hc.1.trans ?_, hc.2.1.trans ?_, (h c).2.2⟩
    · refine Eq.trans ?_ (final3 m c q k w hq hk hw).symm
      funext i
      rw [eq_ix3 i]
      exact Ref.o_real (fQ m c) (fK m c) (fV m c) q k w hq hk hw (i 0) (i 1) (i 2)
    · refine Eq.trans ?_ (final4 m c q k w hq hk hw).symm
      funext i
      rw [Cert.AttnFwd.eq_mid i]
      exact Ref.lse_real (fQ m c) (fK m c) q k hq hk (i 0) (i 2)

end Cert.MlaFwd
end
-- ==== Proof.ProjB.lean ====
module
public import proofs.«01_k».proof.Proof.Tiles
public import proofs.«01_k».proof.Defs
public import proofs.«01_k».proof.Proof.Gen.Kernel11Ideal.Value
public import proofs.«01_k».proof.Proof.Gen.Reference11Ideal.Run

/-! The dilated attention's input projection: a product in tiles of rows and of columns, each contracted at once. -/

@[expose] public section
set_option maxRecDepth 16384
noncomputable section
namespace Cert.ProjB.Ref
open Idealize.ShloMosaic Idealize.ShloMosaic.Tactic
open Cert.Reference11Ideal Cert.Reference11Ideal.Gen

/-- The reference's result, entry by entry. -/
theorem ref_at (A : FVec Ideal S8192x1024 .bf16) (B : FVec Ideal S1024x2304 .bf16) (r : Fin 8192) (d : Fin 2304) :
    truncf (F := Ideal) .bf16 (Host.dotGeneral dot_S8192x1024_S1024x2304_S8192x2304_1_0_0_1_n_n none (extf .f32 A bitsLt_bf16_f32)
      (extf .f32 B bitsLt_bf16_f32)) bitsLt_bf16_f32 (ix2 r d) = ∑ n : Fin 1024, A (ix2 r n) * B (ix2 n d) := by
  pointwise

end Cert.ProjB.Ref

namespace Cert.ProjB
open Idealize.ShloMosaic Idealize.ShloMosaic.TcCoe Idealize.ShloMosaic.Tactic
open Idealize.SL Idealize.SL.Sem
open Cert.Kernel11Ideal Cert.Kernel11Ideal.Gen Cert.Tiles

theorem pay2_at (v : Vec Ideal S1024x1152 .f32) (a : Vec Ideal S1024x1024 .bf16) (b : Vec Ideal S1024x1152 .bf16)
    (r : Fin 1024) (d : Fin 1152) :
    k0_pay2 (F := Ideal) v a b (ix2 r d) = v (ix2 r d) + ∑ k : Fin 1024, a (ix2 r k) * b (ix2 k d) := by
  pointwise [k0_pay2]

/-- A point's block of the result is the product of its blocks. -/
theorem out_at (c : Dev nD) (i : grid0.Coords)
    (arg3 : Memref sig .tc .vmem S1024x1024 .bf16) (h3 : arg3.IsWhole)
    (arg4 : Memref sig .tc .vmem S1024x1152 .bf16) (h4 : arg4.IsWhole)
    (arg5 : Memref sig .tc .vmem S1024x1152 .bf16) (h5 : arg5.IsWhole)
    (arg6 : Memref sig .tc .vmem S1024x1152 .f32) (h6 : arg6.IsWhole)
    (a : Vec Ideal S1024x1024 .bf16) (b : Vec Ideal S1024x1152 .bf16) (hc0 : cond0_0 i) (hc1 : cond0_1 i) (r : Fin 1024)
    (d : Fin 1152) :
    out0_A_2 (F := Ideal) c i arg3 h3 arg4 h4 arg5 h5 arg6 h6 hc0 hc1 a b (ix2 r d)
      = ∑ k : Fin 1024, a (ix2 r k) * b (ix2 k d) := by
  have e : out0_A_2 (F := Ideal) c i arg3 h3 arg4 h4 arg5 h5 arg6 h6 hc0 hc1 a b =
      k0_pay3 (F := Ideal) (k0_pay2 (k0_pay1 (F := Ideal)) a b) := by
    unfold out0_A_2
    rw [View.read_writes_eq_canon _ _ _ (cover0_A_2 c i arg3 h3 arg4 h4 arg5 h5 arg6 h6 hc0 hc1 a b)]
    unfold kernelRun0_A
    dsimp only
    sl_unfold_words
    rw [View.canon_unit_zero zeros2]
    simp only [View.readAt_eq_ld, h3.read_unread, h4.read_unread,
      View.readCov_cons_unit_lit' (S := S1024x1152) _ _ _ _ _ (congrFun zeros2) (congrFun zeros2),
      View.ld_unit_zero (S := S1024x1024) zeros2, View.ld_unit_zero (S := S1024x1152) zeros2]
  have h0 : k0_pay1 (F := Ideal) (ix2 r d) = (0 : EReal) := by pointwise [k0_pay1]
  rw [e]
  show k0_pay2 (F := Ideal) (k0_pay1 (F := Ideal)) a b (ix2 r d) = _
  rw [pay2_at, h0, zero_add]

variable (m : (ℓ : Loc nD τ sig) → Buf (Elt Ideal) ℓ) (c : Dev nD)

def aA : Vec Ideal S8192x1024 .bf16 := m ((c.tc : Thread nD τ).loc main_arg0)
def aB : Vec Ideal S1024x2304 .bf16 := m ((c.tc : Thread nD τ).loc main_arg1)

/-- The product, entry by entry. -/
def prod : Vec Ideal S8192x2304 .bf16 := fun i => ∑ n : Fin 1024, aA m c (ix2 (i 0) n) * aB m c (ix2 n (i 1))

theorem idx0 : ∀ t : Fin grid0.N, win0_0.index t 0 = t.val / 2 ∧ win0_0.index t 1 = 0 := by decide +kernel
theorem idx1 : ∀ t : Fin grid0.N, win0_1.index t 0 = 0 ∧ win0_1.index t 1 = t.val % 2 := by decide +kernel
theorem idx2 : ∀ t : Fin grid0.N, win0_2.index t 0 = t.val / 2 ∧ win0_2.index t 1 = t.val % 2 := by decide +kernel

/-- The place in the result of a point's entry. -/
abbrev at_ (t : Fin cfg0.N) (y : S1024x1152.Idx) : S8192x2304.Idx := (win0_2.blk t).view.emb y

theorem blkA_at (t : Fin cfg0.N) (y : S1024x1152.Idx) (k : Fin 1024) :
    iblk m c 0 t (ix2 (y 0) k : S1024x1024.Idx) = aA m c (ix2 (at_ t y 0) k) := by
  obtain ⟨e0, e1⟩ := idx0 t
  obtain ⟨f0, f1⟩ := idx2 t
  unfold iblk aA
  rw [View.read_apply]
  show V m c main_arg0 _ = m ((c.tc : Thread nD τ).loc main_arg0) _
  rw [V_main_arg0]
  refine congrArg (m ((c.tc : Thread nD τ).loc main_arg0)) (ix2_of _ _ _ ?_ ?_)
  · show win0_0.index t 0 * 1024 + 1 * (y 0).val = win0_2.index t 0 * 1024 + 1 * (y 0).val
    rw [e0, f0]
  · show win0_0.index t 1 * 1024 + 1 * k.val = k.val
    rw [e1]; omega

theorem blkB_at (t : Fin cfg0.N) (y : S1024x1152.Idx) (k : Fin 1024) :
    iblk m c 1 t (ix2 k (y 1) : S1024x1152.Idx) = aB m c (ix2 k (at_ t y 1)) := by
  obtain ⟨e0, e1⟩ := idx1 t
  obtain ⟨f0, f1⟩ := idx2 t
  unfold iblk aB
  rw [View.read_apply]
  show V m c main_arg1 _ = m ((c.tc : Thread nD τ).loc main_arg1) _
  rw [V_main_arg1]
  refine congrArg (m ((c.tc : Thread nD τ).loc main_arg1)) (ix2_of _ _ _ ?_ ?_)
  · show win0_1.index t 0 * 1024 + 1 * k.val = k.val
    rw [e0]; omega
  · show win0_1.index t 1 * 1152 + 1 * (y 1).val = win0_2.index t 1 * 1152 + 1 * (y 1).val
    rw [e1, f1]

theorem final : (dats m 0 c).arrAt 2 cfg0.N = prod m c := by
  refine (dats m 0 c).arrAt_eq_of_covers 2 _ (by decide +kernel) fun t hf y => ?_
  blk_simp
  rw [after0_2]
  have key : outsAt0 m c t (ix2 (y 0) (y 1) : S1024x1152.Idx) = prod m c (at_ t y) := by
    unfold outsAt0
    exact (out_at c _ _ _ _ _ _ _ _ _ _ _ _ _ (y 0) (y 1)).trans
      (Finset.sum_congr rfl fun k _ => congrArg₂ (· * ·) (blkA_at m c t y k) (blkB_at m c t y k))
  rw [(eq_ix2 (n0 := 1024) (n1 := 1152) y).symm] at key
  exact key

theorem algebraic : Cert.algebraic_Kernel11Ideal_Reference11Ideal := by
  intro m g m' g' _ hagree
  refine ⟨fun c => prod m c, ?_, ?_⟩
  · exact (θ_run _ _ _).mono (fun r h c => ⟨(h c).1.trans (final m c), (h c).2⟩) (Cert.Kernel11Ideal.Value.run_blocks m g)
  · refine (θ_run _ _ _).mono (fun r h c => ⟨(h c).1.trans ?_, (h c).2⟩) (Cert.Reference11Ideal.Value.run m' g')
    obtain ⟨g0, g1⟩ := hagree c
    rw [g0, g1]
    funext i
    rw [eq_ix2 i]
    exact Ref.ref_at _ _ _ _

end Cert.ProjB
end
-- ==== Proof.ProjBWGrad.lean ====
module
public import proofs.«01_k».proof.Proof.Tiles
public import proofs.«01_k».proof.Defs
public import proofs.«01_k».proof.Proof.Gen.Kernel12Ideal.Value
public import proofs.«01_k».proof.Proof.Gen.Reference12Ideal.Run

/-! The gradient of the dilated attention's input weight: a product contracted over the rows in eight tiles. -/

@[expose] public section
set_option maxRecDepth 16384
noncomputable section
namespace Cert.ProjBWGrad.Ref
open Idealize.ShloMosaic Idealize.ShloMosaic.Tactic
open Cert.Reference12Ideal Cert.Reference12Ideal.Gen

/-- The reference's result, entry by entry. -/
theorem ref_at (A : FVec Ideal S8192x1024 .bf16) (B : FVec Ideal S8192x2304 .bf16) (r : Fin 1024) (d : Fin 2304) :
    transpose S1024x2304 [1, 0] (Host.dotGeneral dot_S8192x2304_S8192x1024_S2304x1024_0_0_1_1_n_n none
      (extf .f32 B bitsLt_bf16_f32) (extf .f32 A bitsLt_bf16_f32)) transposes_S2304x1024_S1024x2304_1_0 (ix2 r d)
      = ∑ n : Fin 8192, A (ix2 n r) * B (ix2 n d) := by
  refine Eq.trans (b := ∑ n : Fin 8192, B (ix2 n d) * A (ix2 n r)) ?_ (Finset.sum_congr rfl fun n _ => EReal.mul_comm _ _)
  pointwise

end Cert.ProjBWGrad.Ref

namespace Cert.ProjBWGrad
open Idealize.ShloMosaic Idealize.ShloMosaic.TcCoe Idealize.ShloMosaic.Tactic
open Idealize.SL Idealize.SL.Sem
open Cert.Kernel12Ideal Cert.Kernel12Ideal.Gen Cert.Tiles

theorem pay1_at (r : Fin 1024) (d : Fin 1152) : k0_pay1 (F := Ideal) (ix2 r d) = (0 : EReal) := by
  pointwise [k0_pay1]

theorem pay2_at (v : Vec Ideal S1024x1152 .f32) (a : Vec Ideal S1024x1024 .bf16) (b : Vec Ideal S1024x1152 .bf16)
    (r : Fin 1024) (d : Fin 1152) :
    k0_pay2 (F := Ideal) v a b (ix2 r d) = v (ix2 r d) + ∑ k : Fin 1024, a (ix2 k r) * b (ix2 k d) := by
  pointwise [k0_pay2]

section
variable (c : Dev nD) (i : grid0.Coords)
  (arg3 : Memref sig .tc .vmem S1024x1024 .bf16) (h3 : arg3.IsWhole)
  (arg4 : Memref sig .tc .vmem S1024x1152 .bf16) (h4 : arg4.IsWhole)
  (arg5 : Memref sig .tc .vmem S1024x1152 .f32) (h5 : arg5.IsWhole)
  (arg6 : Memref sig .tc .vmem S1024x1152 .f32) (h6 : arg6.IsWhole)
  (a : Vec Ideal S1024x1024 .bf16) (b : Vec Ideal S1024x1152 .bf16) (v : Vec Ideal S1024x1152 .f32)

theorem acc_A (hc0 : cond0_0 i) (hc1 : ¬cond0_1 i) :
    sout0_A_0 (F := Ideal) c i arg3 h3 arg4 h4 arg5 h5 arg6 h6 hc0 hc1 a b = k0_pay2 k0_pay1 a b := by
  unfold sout0_A_0
  rw [View.read_writes_eq_canon _ _ _ (scover0_A_0 c i arg3 h3 arg4 h4 arg5 h5 arg6 h6 hc0 hc1 a b)]
  unfold kernelRun0_A
  dsimp only
  sl_unfold_words
  rw [View.canon_cons_unit_zero (S := S1024x1152) zeros2]
  simp only [View.readAt_eq_ld, h3.read_unread, h4.read_unread, View.readCov_unit_zero (S := S1024x1152) _ zeros2,
    View.ld_unit_zero (S := S1024x1024) zeros2, View.ld_unit_zero (S := S1024x1152) zeros2]

theorem acc_B (hc0 : ¬cond0_0 i) (hc1 : ¬cond0_1 i) :
    sout0_B_0 (F := Ideal) c i arg3 h3 arg4 h4 arg5 h5 arg6 h6 hc0 hc1 a b v = k0_pay2 v a b := by
  unfold sout0_B_0
  rw [View.read_writes_eq_canon _ _ _ (scover0_B_0 c i arg3 h3 arg4 h4 arg5 h5 arg6 h6 hc0 hc1 a b v)]
  unfold kernelRun0_B
  dsimp only
  sl_unfold_words
  rw [View.canon_unit_zero zeros2]
  simp only [View.readAt_eq_ld, h3.read_unread, h4.read_unread, h6.read_unread,
    View.ld_unit_zero (S := S1024x1024) zeros2, View.ld_unit_zero (S := S1024x1152) zeros2]

theorem acc_C (hc0 : ¬cond0_0 i) (hc1 : cond0_1 i) :
    sout0_C_0 (F := Ideal) c i arg3 h3 arg4 h4 arg5 h5 arg6 h6 hc0 hc1 a b v = k0_pay2 v a b := by
  unfold sout0_C_0
  rw [View.read_writes_eq_canon _ _ _ (scover0_C_0 c i arg3 h3 arg4 h4 arg5 h5 arg6 h6 hc0 hc1 a b v)]
  unfold kernelRun0_C
  dsimp only
  sl_unfold_words
  rw [View.canon_unit_zero zeros2]
  simp only [View.readAt_eq_ld, h3.read_unread, h4.read_unread, h6.read_unread,
    View.ld_unit_zero (S := S1024x1024) zeros2, View.ld_unit_zero (S := S1024x1152) zeros2]

theorem out_C (hc0 : ¬cond0_0 i) (hc1 : cond0_1 i) :
    out0_C_2 (F := Ideal) c i arg3 h3 arg4 h4 arg5 h5 arg6 h6 hc0 hc1 a b v = k0_pay2 v a b := by
  unfold out0_C_2
  rw [View.read_writes_eq_canon _ _ _ (cover0_C_2 c i arg3 h3 arg4 h4 arg5 h5 arg6 h6 hc0 hc1 a b v)]
  unfold kernelRun0_C
  dsimp only
  sl_unfold_words
  rw [View.canon_unit_zero zeros2]
  simp only [View.readAt_eq_ld, h3.read_unread, h4.read_unread, h6.read_unread,
    View.ld_unit_zero (S := S1024x1024) zeros2, View.readCov_unit_zero (S := S1024x1152) _ zeros2,
    View.ld_unit_zero (S := S1024x1024) zeros2, View.ld_unit_zero (S := S1024x1152) zeros2]

end

variable (m : (ℓ : Loc nD τ sig) → Buf (Elt Ideal) ℓ) (c : Dev nD)

def aA : Vec Ideal S8192x1024 .bf16 := m ((c.tc : Thread nD τ).loc main_arg0)
def aB : Vec Ideal S8192x2304 .bf16 := m ((c.tc : Thread nD τ).loc main_arg1)
def blkA (t : Fin cfg0.N) : Vec Ideal S1024x1024 .bf16 := iblk m c 0 t
def blkB (t : Fin cfg0.N) : Vec Ideal S1024x1152 .bf16 := iblk m c 1 t

/-- The product, entry by entry. -/
def prod : Vec Ideal S1024x2304 .f32 := fun i => ∑ n : Fin 8192, aA m c (ix2 n (i 0)) * aB m c (ix2 n (i 1))

theorem idx0 : ∀ t : Fin grid0.N, win0_0.index t 0 = t.val % 8 ∧ win0_0.index t 1 = 0 := by decide +kernel
theorem idx1 : ∀ t : Fin grid0.N, win0_1.index t 0 = t.val % 8 ∧ win0_1.index t 1 = t.val / 8 := by decide +kernel
theorem idx2 : ∀ t : Fin grid0.N, win0_2.index t 0 = 0 ∧ win0_2.index t 1 = t.val / 8 := by decide +kernel

/-- The row of the arrays at place `k` of a point's blocks, and the second factor's column at place `d`. -/
def row (t : ℕ) (k : Fin 1024) : Fin 8192 := ⟨t % 8 * 1024 + k.val, by omega⟩
def col (t : ℕ) (d : Fin 1152) : Fin 2304 := ⟨(t / 8 * 1152 + d.val) % 2304, Nat.mod_lt _ (by decide)⟩

theorem blkA_at (t : Fin cfg0.N) (k r : Fin 1024) :
    blkA m c t (ix2 k r) = aA m c (ix2 (row t.val k) r) := by
  obtain ⟨e0, e1⟩ := idx0 t
  unfold blkA iblk aA
  rw [View.read_apply]
  show V m c main_arg0 _ = m ((c.tc : Thread nD τ).loc main_arg0) _
  rw [V_main_arg0]
  congr 1
  funext x
  apply Fin.ext
  match x with
  | ⟨0, _⟩ => show win0_0.index t 0 * 1024 + 1 * k.val = t.val % 8 * 1024 + k.val; rw [e0]; omega
  | ⟨1, _⟩ => show win0_0.index t 1 * 1024 + 1 * r.val = r.val; rw [e1]; omega

theorem blkB_at (t : Fin cfg0.N) (k : Fin 1024) (d : Fin 1152) :
    blkB m c t (ix2 k d) = aB m c (ix2 (row t.val k) (col t.val d)) := by
  have hN : cfg0.N = 16 := N_0
  have ht := t.isLt
  obtain ⟨e0, e1⟩ := idx1 t
  unfold blkB iblk aB
  rw [View.read_apply]
  show V m c main_arg1 _ = m ((c.tc : Thread nD τ).loc main_arg1) _
  rw [V_main_arg1]
  congr 1
  funext x
  apply Fin.ext
  match x with
  | ⟨0, _⟩ => show win0_1.index t 0 * 1024 + 1 * k.val = t.val % 8 * 1024 + k.val; rw [e0]; omega
  | ⟨1, _⟩ => show win0_1.index t 1 * 1152 + 1 * d.val = (t.val / 8 * 1152 + d.val) % 2304; rw [e1]; omega

/-- What point `t` adds. -/
def part (r : Fin 1024) (d : Fin 1152) (t : ℕ) : EReal :=
  ∑ k : Fin 1024, aA m c (ix2 (row t k) r) * aB m c (ix2 (row t k) (col t d))

theorem part_at (t : Fin cfg0.N) (v : Vec Ideal S1024x1152 .f32) (r : Fin 1024) (d : Fin 1152) :
    k0_pay2 (F := Ideal) v (blkA m c t) (blkB m c t) (ix2 r d) = v (ix2 r d) + part m c r d t.val := by
  rw [pay2_at]
  exact congrArg (v (ix2 r d) + ·) (Finset.sum_congr rfl fun k _ => by rw [blkA_at, blkB_at])

theorem scratch (r : Fin 1024) (d : Fin 1152) (t : Fin cfg0.N) :
    (outsAt0 m c t.val t.isLt).2 (ix2 r d) = ∑ s ∈ Finset.range (t.val % 8 + 1), part m c r d (8 * (t.val / 8) + s) := by
  refine fold_sum 8 cfg0.N (fun n h => (outsAt0 m c n h).2 (ix2 r d)) (part m c r d) (by decide) ?_ ?_ t.val t.isLt
  · intro n h hn
    show (outsAt0 m c n h).2 (ix2 r d) = _
    have e := outsAt0_A m c ⟨n, h⟩ hn (by show ¬n % 8 = 7; omega)
    dsimp only at e
    rw [e]
    dsimp only
    rw [acc_A]
    refine (part_at m c ⟨n, h⟩ _ r d).trans ?_
    rw [pay1_at, zero_add]
  · intro n h h' hn
    show (outsAt0 m c n h).2 (ix2 r d) = (outsAt0 m c (n - 1) h').2 (ix2 r d) + _
    by_cases h7 : n % 8 = 7
    · have e := outsAt0_C m c ⟨n, h⟩ hn h7
      dsimp only at e
      rw [e]
      dsimp only
      rw [acc_C]
      exact part_at m c ⟨n, h⟩ _ r d
    · have e := outsAt0_B m c ⟨n, h⟩ hn h7
      dsimp only at e
      rw [e]
      dsimp only
      rw [acc_B]
      exact part_at m c ⟨n, h⟩ _ r d

theorem out_end (t : Fin cfg0.N) (h7 : t.val % 8 = 7) (r : Fin 1024) (d : Fin 1152) :
    (outsAt0 m c t.val t.isLt).1 (ix2 r d) = ∑ n : Fin 8192, aA m c (ix2 n r) * aB m c (ix2 n (col t.val d)) := by
  have h0 : ¬t.val % 8 = 0 := by omega
  have e : (outsAt0 m c t.val t.isLt).1 = (outsAt0 m c t.val t.isLt).2 := by
    rw [outsAt0_C m c t h0 h7]
    dsimp only
    rw [acc_C, out_C]
  rw [e, scratch, h7]
  refine sum_tiles 8 1024 (fun n : Fin 8192 => aA m c (ix2 n r) * aB m c (ix2 n (col t.val d))) _ fun s hs => ?_
  have hr : ∀ k, row (8 * (t.val / 8) + s) k = ⟨s * 1024 + k.val, by omega⟩ := fun k => Fin.ext (by
    show (8 * (t.val / 8) + s) % 8 * 1024 + k.val = s * 1024 + k.val
    omega)
  have hc : col (8 * (t.val / 8) + s) d = col t.val d := Fin.ext (by
    show ((8 * (t.val / 8) + s) / 8 * 1152 + d.val) % 2304 = (t.val / 8 * 1152 + d.val) % 2304
    omega)
  unfold part
  simp only [hr, hc]

theorem final : (dats m 0 c).arrAt 2 cfg0.N = prod m c := by
  refine (dats m 0 c).arrAt_eq_of_covers 2 _ (by decide +kernel) fun t hf y => ?_
  blk_simp
  rw [after0_2]
  have hN : cfg0.N = 16 := N_0
  have ht : t.val < cfg0.N := t.isLt
  obtain ⟨e0, e1⟩ := idx2 t
  have key := out_end m c t ((flush0_2 t).mp hf) (y 0) (y 1)
  have hy : (ix2 (y 0) (y 1) : S1024x1152.Idx) = y := (eq_ix2 (n0 := 1024) (n1 := 1152) y).symm
  rw [hy] at key
  refine key.trans ?_
  have q0 : y 0 = (win0_2.blk t).view.emb y 0 := by
    apply Fin.ext
    show (y 0).val = win0_2.index t 0 * 1024 + 1 * (y 0).val
    rw [e0]; omega
  have q1 : col t.val (y 1) = (win0_2.blk t).view.emb y 1 := by
    apply Fin.ext
    have y1 : (y 1).val < 1152 := (y 1).isLt
    show (t.val / 8 * 1152 + (y 1).val) % 2304 = win0_2.index t 1 * 1152 + 1 * (y 1).val
    rw [e1]; omega
  exact congrArg₂ (fun (x : Fin 1024) (z : Fin 2304) => ∑ n : Fin 8192, aA m c (ix2 n x) * aB m c (ix2 n z)) q0 q1

theorem algebraic : Cert.algebraic_Kernel12Ideal_Reference12Ideal := by
  intro m g m' g' _ hagree
  refine ⟨fun c => prod m c, ?_, ?_⟩
  · exact (θ_run _ _ _).mono (fun r h c => ⟨(h c).1.trans (final m c), (h c).2⟩) (Cert.Kernel12Ideal.Value.run_blocks m g)
  · refine (θ_run _ _ _).mono (fun r h c => ⟨(h c).1.trans ?_, (h c).2⟩) (Cert.Reference12Ideal.Value.run m' g')
    obtain ⟨g0, g1⟩ := hagree c
    rw [g0, g1]
    funext i
    rw [eq_ix2 i]
    exact Ref.ref_at _ _ _ _

end Cert.ProjBWGrad
end
-- ==== Proof.ProjBGrad.lean ====
module
public import proofs.«01_k».proof.Proof.Tiles
public import proofs.«01_k».proof.Defs
public import proofs.«01_k».proof.Proof.Gen.Kernel13Ideal.Value
public import proofs.«01_k».proof.Proof.Gen.Reference13Ideal.Run

/-! The gradient of the input of the dilated attention's projection: a product contracted in two tiles, with the second factor
transposed, added to the gradient from the other products. -/

@[expose] public section
set_option maxRecDepth 16384
noncomputable section
namespace Cert.ProjBGrad.Ref
open Idealize.ShloMosaic Idealize.ShloMosaic.Tactic
open Cert.Reference13Ideal Cert.Reference13Ideal.Gen

/-- The reference's result, entry by entry. -/
theorem ref_at (A : FVec Ideal S8192x2304 .bf16) (B : FVec Ideal S1024x2304 .bf16) (C : FVec Ideal S8192x1024 .f32)
    (r : Fin 8192) (d : Fin 1024) :
    addf (Host.dotGeneral dot_S8192x2304_S1024x2304_S8192x1024_1_1_0_0_n_n none (extf .f32 A bitsLt_bf16_f32)
      (extf .f32 B bitsLt_bf16_f32)) C (ix2 r d) = ∑ n : Fin 2304, A (ix2 r n) * B (ix2 d n) + C (ix2 r d) := by
  pointwise

end Cert.ProjBGrad.Ref

namespace Cert.ProjBGrad
open Idealize.ShloMosaic Idealize.ShloMosaic.TcCoe Idealize.ShloMosaic.Tactic
open Idealize.SL Idealize.SL.Sem
open Cert.Kernel13Ideal Cert.Kernel13Ideal.Gen Cert.Tiles

theorem pay1_at (r d : Fin 1024) : k0_pay1 (F := Ideal) (ix2 r d) = (0 : EReal) := by
  pointwise [k0_pay1]

theorem pay2_at (v : Vec Ideal S1024x1024 .f32) (a : Vec Ideal S1024x1152 .bf16) (b : Vec Ideal S1024x1152 .bf16)
    (r d : Fin 1024) :
    k0_pay2 (F := Ideal) v a b (ix2 r d) = v (ix2 r d) + ∑ k : Fin 1152, a (ix2 r k) * b (ix2 d k) := by
  pointwise [k0_pay2]

theorem pay3_at (v w : Vec Ideal S1024x1024 .f32) (r d : Fin 1024) :
    k0_pay3 (F := Ideal) v w (ix2 r d) = v (ix2 r d) + w (ix2 r d) := by
  pointwise [k0_pay3]

section
variable (c : Dev nD) (i : grid0.Coords)
  (arg3 : Memref sig .tc .vmem S1024x1152 .bf16) (h3 : arg3.IsWhole)
  (arg4 : Memref sig .tc .vmem S1024x1152 .bf16) (h4 : arg4.IsWhole)
  (arg5 : Memref sig .tc .vmem S1024x1024 .f32) (h5 : arg5.IsWhole)
  (arg6 : Memref sig .tc .vmem S1024x1024 .f32) (h6 : arg6.IsWhole)
  (arg7 : Memref sig .tc .vmem S1024x1024 .f32) (h7 : arg7.IsWhole)
  (a : Vec Ideal S1024x1152 .bf16) (b : Vec Ideal S1024x1152 .bf16) (x v : Vec Ideal S1024x1024 .f32)

theorem acc_A (hc0 : cond0_0 i) (hc1 : ¬cond0_1 i) :
    sout0_A_0 (F := Ideal) c i arg3 h3 arg4 h4 arg5 h5 arg6 h6 arg7 h7 hc0 hc1 a b x = k0_pay2 k0_pay1 a b := by
  unfold sout0_A_0
  rw [View.read_writes_eq_canon _ _ _ (scover0_A_0 c i arg3 h3 arg4 h4 arg5 h5 arg6 h6 arg7 h7 hc0 hc1 a b x)]
  unfold kernelRun0_A
  dsimp only
  sl_unfold_words
  rw [View.canon_cons_unit_zero (S := S1024x1024) zeros2]
  simp only [View.readAt_eq_ld, h3.read_unread, h4.read_unread, View.readCov_unit_zero (S := S1024x1024) _ zeros2,
    View.ld_unit_zero (S := S1024x1152) zeros2, View.ld_unit_zero (S := S1024x1152) zeros2]

theorem out_B (hc0 : ¬cond0_0 i) (hc1 : cond0_1 i) :
    out0_B_3 (F := Ideal) c i arg3 h3 arg4 h4 arg5 h5 arg6 h6 arg7 h7 hc0 hc1 a b x v = k0_pay3 (k0_pay2 v a b) x := by
  unfold out0_B_3
  rw [View.read_writes_eq_canon _ _ _ (cover0_B_3 c i arg3 h3 arg4 h4 arg5 h5 arg6 h6 arg7 h7 hc0 hc1 a b x v)]
  unfold kernelRun0_B
  dsimp only
  sl_unfold_words
  rw [View.canon_unit_zero zeros2]
  simp only [View.readAt_eq_ld, h3.read_unread, h4.read_unread, h5.read_unread, h7.read_unread,
    View.ld_unit_zero (S := S1024x1024) zeros2, View.readCov_unit_zero (S := S1024x1024) _ zeros2,
    View.ld_unit_zero (S := S1024x1152) zeros2, View.ld_unit_zero (S := S1024x1152) zeros2]

end

variable (m : (ℓ : Loc nD τ sig) → Buf (Elt Ideal) ℓ) (c : Dev nD)

def aA : Vec Ideal S8192x2304 .bf16 := m ((c.tc : Thread nD τ).loc main_arg0)
def aB : Vec Ideal S1024x2304 .bf16 := m ((c.tc : Thread nD τ).loc main_arg1)
def aC : Vec Ideal S8192x1024 .f32 := m ((c.tc : Thread nD τ).loc main_arg2)
def blkA (t : Fin cfg0.N) : Vec Ideal S1024x1152 .bf16 := iblk m c 0 t
def blkB (t : Fin cfg0.N) : Vec Ideal S1024x1152 .bf16 := iblk m c 1 t
def blkC (t : Fin cfg0.N) : Vec Ideal S1024x1024 .f32 := iblk m c 2 t

/-- The product added to the array, entry by entry. -/
def total (r : Fin 8192) (d : Fin 1024) : EReal := ∑ n : Fin 2304, aA m c (ix2 r n) * aB m c (ix2 d n) + aC m c (ix2 r d)
def res : Vec Ideal S8192x1024 .f32 := fun i => total m c (i 0) (i 1)

theorem idx0 : ∀ t : Fin grid0.N, win0_0.index t 0 = t.val / 2 ∧ win0_0.index t 1 = t.val % 2 := by decide +kernel
theorem idx1 : ∀ t : Fin grid0.N, win0_1.index t 0 = 0 ∧ win0_1.index t 1 = t.val % 2 := by decide +kernel
theorem idx2 : ∀ t : Fin grid0.N, win0_2.index t 0 = t.val / 2 ∧ win0_2.index t 1 = 0 := by decide +kernel
theorem idx3 : ∀ t : Fin grid0.N, win0_3.index t 0 = t.val / 2 ∧ win0_3.index t 1 = 0 := by decide +kernel

/-- The row of the arrays at place `r` of a point's blocks, and the contracted column at place `k`. -/
def row (t : ℕ) (r : Fin 1024) : Fin 8192 := ⟨(t / 2 * 1024 + r.val) % 8192, Nat.mod_lt _ (by decide)⟩
def unit (t : ℕ) (k : Fin 1152) : Fin 2304 := ⟨t % 2 * 1152 + k.val, by omega⟩

theorem blkA_at (t : Fin cfg0.N) (r : Fin 1024) (k : Fin 1152) :
    blkA m c t (ix2 r k) = aA m c (ix2 (row t.val r) (unit t.val k)) := by
  have hN : cfg0.N = 16 := N_0
  have ht := t.isLt
  obtain ⟨e0, e1⟩ := idx0 t
  unfold blkA iblk aA
  rw [View.read_apply]
  show V m c main_arg0 _ = m ((c.tc : Thread nD τ).loc main_arg0) _
  rw [V_main_arg0]
  congr 1
  funext x
  apply Fin.ext
  match x with
  | ⟨0, _⟩ => show win0_0.index t 0 * 1024 + 1 * r.val = (t.val / 2 * 1024 + r.val) % 8192; rw [e0]; omega
  | ⟨1, _⟩ => show win0_0.index t 1 * 1152 + 1 * k.val = t.val % 2 * 1152 + k.val; rw [e1]; omega

theorem blkB_at (t : Fin cfg0.N) (d : Fin 1024) (k : Fin 1152) :
    blkB m c t (ix2 d k) = aB m c (ix2 d (unit t.val k)) := by
  obtain ⟨e0, e1⟩ := idx1 t
  unfold blkB iblk aB
  rw [View.read_apply]
  show V m c main_arg1 _ = m ((c.tc : Thread nD τ).loc main_arg1) _
  rw [V_main_arg1]
  congr 1
  funext x
  apply Fin.ext
  match x with
  | ⟨0, _⟩ => show win0_1.index t 0 * 1024 + 1 * d.val = d.val; rw [e0]; omega
  | ⟨1, _⟩ => show win0_1.index t 1 * 1152 + 1 * k.val = t.val % 2 * 1152 + k.val; rw [e1]; omega

theorem blkC_at (t : Fin cfg0.N) (r d : Fin 1024) :
    blkC m c t (ix2 r d) = aC m c (ix2 (row t.val r) d) := by
  have hN : cfg0.N = 16 := N_0
  have ht := t.isLt
  obtain ⟨e0, e1⟩ := idx2 t
  unfold blkC iblk aC
  rw [View.read_apply]
  show V m c main_arg2 _ = m ((c.tc : Thread nD τ).loc main_arg2) _
  rw [V_main_arg2]
  congr 1
  funext x
  apply Fin.ext
  match x with
  | ⟨0, _⟩ => show win0_2.index t 0 * 1024 + 1 * r.val = (t.val / 2 * 1024 + r.val) % 8192; rw [e0]; omega
  | ⟨1, _⟩ => show win0_2.index t 1 * 1024 + 1 * d.val = d.val; rw [e1]; omega

/-- What point `t` adds. -/
def part (r d : Fin 1024) (t : ℕ) : EReal :=
  ∑ k : Fin 1152, aA m c (ix2 (row t r) (unit t k)) * aB m c (ix2 d (unit t k))

theorem part_at (t : Fin cfg0.N) (v : Vec Ideal S1024x1024 .f32) (r d : Fin 1024) :
    k0_pay2 (F := Ideal) v (blkA m c t) (blkB m c t) (ix2 r d) = v (ix2 r d) + part m c r d t.val := by
  rw [pay2_at]
  exact congrArg (v (ix2 r d) + ·) (Finset.sum_congr rfl fun k _ => by rw [blkA_at, blkB_at])

theorem out_end (t : Fin cfg0.N) (h1 : t.val % 2 = 1) (r d : Fin 1024) :
    (outsAt0 m c t.val t.isLt).1 (ix2 r d) = total m c (row t.val r) d := by
  have h0 : ¬t.val % 2 = 0 := by omega
  have hp : t.val - 1 < cfg0.N := Nat.lt_of_le_of_lt (Nat.sub_le _ _) t.isLt
  have e := outsAt0_A m c ⟨t.val - 1, hp⟩ (by show (t.val - 1) % 2 = 0; omega) (by show ¬(t.val - 1) % 2 = 1; omega)
  dsimp only at e
  rw [outsAt0_B m c t h0 h1]
  dsimp only
  rw [e]
  dsimp only
  rw [out_B, acc_A, pay3_at]
  refine congrArg₂ (· + ·) ?_ (blkC_at m c t r d)
  refine (part_at m c t _ r d).trans ?_
  refine (congrArg (· + part m c r d t.val) (part_at m c ⟨t.val - 1, hp⟩ _ r d)).trans ?_
  dsimp only
  rw [pay1_at, zero_add]
  have hs := sum_tiles 2 1152 (fun n : Fin 2304 => aA m c (ix2 (row t.val r) n) * aB m c (ix2 d n))
    (fun s => part m c r d (t.val - 1 + s)) fun s hs => by
      have hk : ∀ k, unit (t.val - 1 + s) k = ⟨s * 1152 + k.val, by omega⟩ := fun k => Fin.ext (by
        show (t.val - 1 + s) % 2 * 1152 + k.val = s * 1152 + k.val
        omega)
      have hr : row (t.val - 1 + s) r = row t.val r := Fin.ext (by
        show ((t.val - 1 + s) / 2 * 1024 + r.val) % 8192 = (t.val / 2 * 1024 + r.val) % 8192
        omega)
      unfold part
      simp only [hk, hr]
  rw [← hs, Finset.sum_range_succ, Finset.sum_range_one, show t.val - 1 + 1 = t.val by omega, Nat.add_zero]

theorem final : (dats m 0 c).arrAt 3 cfg0.N = res m c := by
  refine (dats m 0 c).arrAt_eq_of_covers 3 _ (by decide +kernel) fun t hf y => ?_
  blk_simp
  rw [after0_3]
  have hN : cfg0.N = 16 := N_0
  have ht : t.val < cfg0.N := t.isLt
  obtain ⟨e0, e1⟩ := idx3 t
  have key := out_end m c t ((flush0_3 t).mp hf) (y 0) (y 1)
  have hy : (ix2 (y 0) (y 1) : S1024x1024.Idx) = y := (eq_ix2 (n0 := 1024) (n1 := 1024) y).symm
  rw [hy] at key
  refine key.trans ?_
  have y0 : (y 0).val < 1024 := (y 0).isLt
  have q0 : row t.val (y 0) = (win0_3.blk t).view.emb y 0 := by
    apply Fin.ext
    show (t.val / 2 * 1024 + (y 0).val) % 8192 = win0_3.index t 0 * 1024 + 1 * (y 0).val
    rw [e0]; omega
  have q1 : y 1 = (win0_3.blk t).view.emb y 1 := by
    apply Fin.ext
    show (y 1).val = win0_3.index t 1 * 1024 + 1 * (y 1).val
    rw [e1]; omega
  rw [q0]
  exact congrArg (total m c _) q1

theorem algebraic : Cert.algebraic_Kernel13Ideal_Reference13Ideal := by
  intro m g m' g' _ hagree
  refine ⟨fun c => res m c, ?_, ?_⟩
  · exact (θ_run _ _ _).mono (fun r h c => ⟨(h c).1.trans (final m c), (h c).2⟩) (Cert.Kernel13Ideal.Value.run_blocks m g)
  · refine (θ_run _ _ _).mono (fun r h c => ⟨(h c).1.trans ?_, (h c).2⟩) (Cert.Reference13Ideal.Value.run m' g')
    obtain ⟨g0, g1, g2⟩ := hagree c
    rw [g0, g1, g2]
    funext i
    rw [eq_ix2 i]
    exact Ref.ref_at _ _ _ _ _

end Cert.ProjBGrad
end
-- ==== Proof.ProjQ.lean ====
module
public import proofs.«01_k».proof.Proof.Tiles
public import proofs.«01_k».proof.Defs
public import proofs.«01_k».proof.Proof.Gen.Kernel14Ideal.Value
public import proofs.«01_k».proof.Proof.Gen.Reference14Ideal.Run

/-! The grouped-query attention's projection of the queries: a product in tiles of rows, each contracted at once. -/

@[expose] public section
set_option maxRecDepth 16384
noncomputable section
namespace Cert.ProjQ.Ref
open Idealize.ShloMosaic Idealize.ShloMosaic.Tactic
open Cert.Reference14Ideal Cert.Reference14Ideal.Gen

/-- The reference's result, entry by entry. -/
theorem ref_at (A : FVec Ideal S8192x1024 .bf16) (B : FVec Ideal S1024x1024 .bf16) (r : Fin 8192) (d : Fin 1024) :
    Host.dotGeneral dot_S8192x1024_S1024x1024_S8192x1024_1_0_0_1_n_n none (extf .f32 A bitsLt_bf16_f32)
      (extf .f32 B bitsLt_bf16_f32) (ix2 r d) = ∑ n : Fin 1024, A (ix2 r n) * B (ix2 n d) := by
  pointwise

end Cert.ProjQ.Ref

namespace Cert.ProjQ
open Idealize.ShloMosaic Idealize.ShloMosaic.TcCoe Idealize.ShloMosaic.Tactic
open Idealize.SL Idealize.SL.Sem
open Cert.Kernel14Ideal Cert.Kernel14Ideal.Gen Cert.Tiles

theorem pay2_at (v : Vec Ideal S1024x1024 .f32) (a b : Vec Ideal S1024x1024 .bf16) (r d : Fin 1024) :
    k0_pay2 (F := Ideal) v a b (ix2 r d) = v (ix2 r d) + ∑ k : Fin 1024, a (ix2 r k) * b (ix2 k d) := by
  pointwise [k0_pay2]

/-- A point's block of the result is the product of its blocks. -/
theorem out_at (c : Dev nD) (i : grid0.Coords)
    (arg3 : Memref sig .tc .vmem S1024x1024 .bf16) (h3 : arg3.IsWhole)
    (arg4 : Memref sig .tc .vmem S1024x1024 .bf16) (h4 : arg4.IsWhole)
    (arg5 : Memref sig .tc .vmem S1024x1024 .f32) (h5 : arg5.IsWhole)
    (arg6 : Memref sig .tc .vmem S1024x1024 .f32) (h6 : arg6.IsWhole)
    (a b : Vec Ideal S1024x1024 .bf16) (hc0 : cond0_0 i) (hc1 : cond0_1 i) (r d : Fin 1024) :
    out0_A_2 (F := Ideal) c i arg3 h3 arg4 h4 arg5 h5 arg6 h6 hc0 hc1 a b (ix2 r d)
      = ∑ k : Fin 1024, a (ix2 r k) * b (ix2 k d) := by
  have e : out0_A_2 (F := Ideal) c i arg3 h3 arg4 h4 arg5 h5 arg6 h6 hc0 hc1 a b = k0_pay2 k0_pay1 a b := by
    unfold out0_A_2
    rw [View.read_writes_eq_canon _ _ _ (cover0_A_2 c i arg3 h3 arg4 h4 arg5 h5 arg6 h6 hc0 hc1 a b)]
    unfold kernelRun0_A
    dsimp only
    sl_unfold_words
    rw [View.canon_unit_zero zeros2]
    simp only [View.readAt_eq_ld, h3.read_unread, h4.read_unread,
      View.readCov_cons_unit_lit' (S := S1024x1024) _ _ _ _ _ (congrFun zeros2) (congrFun zeros2),
      View.ld_unit_zero (S := S1024x1024) zeros2]
  have h0 : k0_pay1 (F := Ideal) (ix2 r d) = (0 : EReal) := by pointwise [k0_pay1]
  rw [e, pay2_at, h0, zero_add]

variable (m : (ℓ : Loc nD τ sig) → Buf (Elt Ideal) ℓ) (c : Dev nD)

def aA : Vec Ideal S8192x1024 .bf16 := m ((c.tc : Thread nD τ).loc main_arg0)
def aB : Vec Ideal S1024x1024 .bf16 := m ((c.tc : Thread nD τ).loc main_arg1)

/-- The product, entry by entry. -/
def prod : Vec Ideal S8192x1024 .f32 := fun i => ∑ n : Fin 1024, aA m c (ix2 (i 0) n) * aB m c (ix2 n (i 1))

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel

/-- The place in the result of a point's entry. -/
abbrev at_ (t : Fin cfg0.N) (y : S1024x1024.Idx) : S8192x1024.Idx := (win0_2.blk t).view.emb y

theorem blkA_at (t : Fin cfg0.N) (y : S1024x1024.Idx) (k : Fin 1024) :
    iblk m c 0 t (ix2 (y 0) k : S1024x1024.Idx) = aA m c (ix2 (at_ t y 0) k) := by
  obtain ⟨e0, e1⟩ := idx0 t
  obtain ⟨f0, f1⟩ := idx2 t
  unfold iblk aA
  rw [View.read_apply]
  show V m c main_arg0 _ = m ((c.tc : Thread nD τ).loc main_arg0) _
  rw [V_main_arg0]
  refine congrArg (m ((c.tc : Thread nD τ).loc main_arg0)) (ix2_of _ _ _ ?_ ?_)
  · show win0_0.index t 0 * 1024 + 1 * (y 0).val = win0_2.index t 0 * 1024 + 1 * (y 0).val
    rw [e0, f0]
  · show win0_0.index t 1 * 1024 + 1 * k.val = k.val
    rw [e1]; omega

theorem blkB_at (t : Fin cfg0.N) (y : S1024x1024.Idx) (k : Fin 1024) :
    iblk m c 1 t (ix2 k (y 1) : S1024x1024.Idx) = aB m c (ix2 k (at_ t y 1)) := by
  obtain ⟨e0, e1⟩ := idx1 t
  obtain ⟨f0, f1⟩ := idx2 t
  unfold iblk aB
  rw [View.read_apply]
  show V m c main_arg1 _ = m ((c.tc : Thread nD τ).loc main_arg1) _
  rw [V_main_arg1]
  refine congrArg (m ((c.tc : Thread nD τ).loc main_arg1)) (ix2_of _ _ _ ?_ ?_)
  · show win0_1.index t 0 * 1024 + 1 * k.val = k.val
    rw [e0]; omega
  · show win0_1.index t 1 * 1024 + 1 * (y 1).val = win0_2.index t 1 * 1024 + 1 * (y 1).val
    rw [e1, f1]

theorem final : (dats m 0 c).arrAt 2 cfg0.N = prod m c := by
  refine (dats m 0 c).arrAt_eq_of_covers 2 _ (by decide +kernel) fun t hf y => ?_
  blk_simp
  rw [after0_2]
  have key : outsAt0 m c t (ix2 (y 0) (y 1) : S1024x1024.Idx) = prod m c (at_ t y) := by
    unfold outsAt0
    exact (out_at c _ _ _ _ _ _ _ _ _ _ _ _ _ (y 0) (y 1)).trans
      (Finset.sum_congr rfl fun k _ => congrArg₂ (· * ·) (blkA_at m c t y k) (blkB_at m c t y k))
  rw [(eq_ix2 (n0 := 1024) (n1 := 1024) y).symm] at key
  exact key

theorem algebraic : Cert.algebraic_Kernel14Ideal_Reference14Ideal := by
  intro m g m' g' _ hagree
  refine ⟨fun c => prod m c, ?_, ?_⟩
  · exact (θ_run _ _ _).mono (fun r h c => ⟨(h c).1.trans (final m c), (h c).2⟩) (Cert.Kernel14Ideal.Value.run_blocks m g)
  · refine (θ_run _ _ _).mono (fun r h c => ⟨(h c).1.trans ?_, (h c).2⟩) (Cert.Reference14Ideal.Value.run m' g')
    obtain ⟨g0, g1⟩ := hagree c
    rw [g0, g1]
    funext i
    rw [eq_ix2 i]
    exact Ref.ref_at _ _ _ _

end Cert.ProjQ
end
-- ==== Proof.ProjOut.lean ====
module
public import proofs.«01_k».proof.Proof.Tiles
public import proofs.«01_k».proof.Defs
public import proofs.«01_k».proof.Proof.Gen.Kernel15Ideal.Value
public import proofs.«01_k».proof.Proof.Gen.Reference15Ideal.Run

/-! The grouped-query attention's output projection, added to the residual stream: a product in tiles of rows, each
contracted at once. -/

@[expose] public section
set_option maxRecDepth 16384
noncomputable section
namespace Cert.ProjOut.Ref
open Idealize.ShloMosaic Idealize.ShloMosaic.Tactic
open Cert.Reference15Ideal Cert.Reference15Ideal.Gen

/-- The reference's result, entry by entry. -/
theorem ref_at (A : FVec Ideal S8192x1024 .bf16) (B : FVec Ideal S1024x1024 .bf16) (C : FVec Ideal S8192x1024 .f32)
    (r : Fin 8192) (d : Fin 1024) :
    addf (Host.dotGeneral dot_S8192x1024_S1024x1024_S8192x1024_1_0_0_1_n_n none (extf .f32 A bitsLt_bf16_f32)
      (extf .f32 B bitsLt_bf16_f32)) C (ix2 r d) = ∑ n : Fin 1024, A (ix2 r n) * B (ix2 n d) + C (ix2 r d) := by
  pointwise

end Cert.ProjOut.Ref

namespace Cert.ProjOut
open Idealize.ShloMosaic Idealize.ShloMosaic.TcCoe Idealize.ShloMosaic.Tactic
open Idealize.SL Idealize.SL.Sem
open Cert.Kernel15Ideal Cert.Kernel15Ideal.Gen Cert.Tiles

theorem pay2_at (v : Vec Ideal S1024x1024 .f32) (a b : Vec Ideal S1024x1024 .bf16) (r d : Fin 1024) :
    k0_pay2 (F := Ideal) v a b (ix2 r d) = v (ix2 r d) + ∑ k : Fin 1024, a (ix2 r k) * b (ix2 k d) := by
  pointwise [k0_pay2]

theorem pay3_at (v w : Vec Ideal S1024x1024 .f32) (r d : Fin 1024) :
    k0_pay3 (F := Ideal) v w (ix2 r d) = v (ix2 r d) + w (ix2 r d) := by
  pointwise [k0_pay3]

/-- A point's block of the result is the product of its blocks, added to its block of the array. -/
theorem out_at (c : Dev nD) (i : grid0.Coords)
    (arg3 : Memref sig .tc .vmem S1024x1024 .bf16) (h3 : arg3.IsWhole)
    (arg4 : Memref sig .tc .vmem S1024x1024 .bf16) (h4 : arg4.IsWhole)
    (arg5 : Memref sig .tc .vmem S1024x1024 .f32) (h5 : arg5.IsWhole)
    (arg6 : Memref sig .tc .vmem S1024x1024 .f32) (h6 : arg6.IsWhole)
    (arg7 : Memref sig .tc .vmem S1024x1024 .f32) (h7 : arg7.IsWhole)
    (a b : Vec Ideal S1024x1024 .bf16) (x : Vec Ideal S1024x1024 .f32) (hc0 : cond0_0 i) (hc1 : cond0_1 i) (r d : Fin 1024) :
    out0_A_3 (F := Ideal) c i arg3 h3 arg4 h4 arg5 h5 arg6 h6 arg7 h7 hc0 hc1 a b x (ix2 r d)
      = ∑ k : Fin 1024, a (ix2 r k) * b (ix2 k d) + x (ix2 r d) := by
  have e : out0_A_3 (F := Ideal) c i arg3 h3 arg4 h4 arg5 h5 arg6 h6 arg7 h7 hc0 hc1 a b x = k0_pay3 (k0_pay2 k0_pay1 a b) x := by
    unfold out0_A_3
    rw [View.read_writes_eq_canon _ _ _ (cover0_A_3 c i arg3 h3 arg4 h4 arg5 h5 arg6 h6 arg7 h7 hc0 hc1 a b x)]
    unfold kernelRun0_A
    dsimp only
    sl_unfold_words
    rw [View.canon_unit_zero zeros2]
    simp only [View.readAt_eq_ld, h3.read_unread, h4.read_unread, h5.read_unread,
      View.readCov_cons_unit_lit' (S := S1024x1024) _ _ _ _ _ (congrFun zeros2) (congrFun zeros2),
      View.ld_unit_zero (S := S1024x1024) zeros2]
  have h0 : k0_pay1 (F := Ideal) (ix2 r d) = (0 : EReal) := by pointwise [k0_pay1]
  rw [e, pay3_at, pay2_at, h0, zero_add]

variable (m : (ℓ : Loc nD τ sig) → Buf (Elt Ideal) ℓ) (c : Dev nD)

def aA : Vec Ideal S8192x1024 .bf16 := m ((c.tc : Thread nD τ).loc main_arg0)
def aB : Vec Ideal S1024x1024 .bf16 := m ((c.tc : Thread nD τ).loc main_arg1)
def aC : Vec Ideal S8192x1024 .f32 := m ((c.tc : Thread nD τ).loc main_arg2)

/-- The product added to the array, entry by entry. -/
def prod : Vec Ideal S8192x1024 .f32 := fun i =>
  ∑ n : Fin 1024, aA m c (ix2 (i 0) n) * aB m c (ix2 n (i 1)) + aC m c (ix2 (i 0) (i 1))

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = t.val ∧ win0_3.index t 1 = 0 := by decide +kernel

/-- The place in the result of a point's entry. -/
abbrev at_ (t : Fin cfg0.N) (y : S1024x1024.Idx) : S8192x1024.Idx := (win0_3.blk t).view.emb y

theorem blkA_at (t : Fin cfg0.N) (y : S1024x1024.Idx) (k : Fin 1024) :
    iblk m c 0 t (ix2 (y 0) k : S1024x1024.Idx) = aA m c (ix2 (at_ t y 0) k) := by
  obtain ⟨e0, e1⟩ := idx0 t
  obtain ⟨f0, f1⟩ := idx3 t
  unfold iblk aA
  rw [View.read_apply]
  show V m c main_arg0 _ = m ((c.tc : Thread nD τ).loc main_arg0) _
  rw [V_main_arg0]
  refine congrArg (m ((c.tc : Thread nD τ).loc main_arg0)) (ix2_of _ _ _ ?_ ?_)
  · show win0_0.index t 0 * 1024 + 1 * (y 0).val = win0_3.index t 0 * 1024 + 1 * (y 0).val
    rw [e0, f0]
  · show win0_0.index t 1 * 1024 + 1 * k.val = k.val
    rw [e1]; omega

theorem blkB_at (t : Fin cfg0.N) (y : S1024x1024.Idx) (k : Fin 1024) :
    iblk m c 1 t (ix2 k (y 1) : S1024x1024.Idx) = aB m c (ix2 k (at_ t y 1)) := by
  obtain ⟨e0, e1⟩ := idx1 t
  obtain ⟨f0, f1⟩ := idx3 t
  unfold iblk aB
  rw [View.read_apply]
  show V m c main_arg1 _ = m ((c.tc : Thread nD τ).loc main_arg1) _
  rw [V_main_arg1]
  refine congrArg (m ((c.tc : Thread nD τ).loc main_arg1)) (ix2_of _ _ _ ?_ ?_)
  · show win0_1.index t 0 * 1024 + 1 * k.val = k.val
    rw [e0]; omega
  · show win0_1.index t 1 * 1024 + 1 * (y 1).val = win0_3.index t 1 * 1024 + 1 * (y 1).val
    rw [e1, f1]

theorem blkC_at (t : Fin cfg0.N) (y : S1024x1024.Idx) :
    iblk m c 2 t (ix2 (y 0) (y 1) : S1024x1024.Idx) = aC m c (ix2 (at_ t y 0) (at_ t y 1)) := by
  obtain ⟨e0, e1⟩ := idx2 t
  obtain ⟨f0, f1⟩ := idx3 t
  unfold iblk aC
  rw [View.read_apply]
  show V m c main_arg2 _ = m ((c.tc : Thread nD τ).loc main_arg2) _
  rw [V_main_arg2]
  refine congrArg (m ((c.tc : Thread nD τ).loc main_arg2)) (ix2_of _ _ _ ?_ ?_)
  · show win0_2.index t 0 * 1024 + 1 * (y 0).val = win0_3.index t 0 * 1024 + 1 * (y 0).val
    rw [e0, f0]
  · show win0_2.index t 1 * 1024 + 1 * (y 1).val = win0_3.index t 1 * 1024 + 1 * (y 1).val
    rw [e1, f1]

theorem final : (dats m 0 c).arrAt 3 cfg0.N = prod m c := by
  refine (dats m 0 c).arrAt_eq_of_covers 3 _ (by decide +kernel) fun t hf y => ?_
  blk_simp
  rw [after0_3]
  have key : outsAt0 m c t (ix2 (y 0) (y 1) : S1024x1024.Idx) = prod m c (at_ t y) := by
    unfold outsAt0
    exact (out_at c _ _ _ _ _ _ _ _ _ _ _ _ _ _ _ _ (y 0) (y 1)).trans (congrArg₂ (· + ·)
      (Finset.sum_congr rfl fun k _ => congrArg₂ (· * ·) (blkA_at m c t y k) (blkB_at m c t y k)) (blkC_at m c t y))
  rw [(eq_ix2 (n0 := 1024) (n1 := 1024) y).symm] at key
  exact key

theorem algebraic : Cert.algebraic_Kernel15Ideal_Reference15Ideal := by
  intro m g m' g' _ hagree
  refine ⟨fun c => prod m c, ?_, ?_⟩
  · exact (θ_run _ _ _).mono (fun r h c => ⟨(h c).1.trans (final m c), (h c).2⟩) (Cert.Kernel15Ideal.Value.run_blocks m g)
  · refine (θ_run _ _ _).mono (fun r h c => ⟨(h c).1.trans ?_, (h c).2⟩) (Cert.Reference15Ideal.Value.run m' g')
    obtain ⟨g0, g1, g2⟩ := hagree c
    rw [g0, g1, g2]
    funext i
    rw [eq_ix2 i]
    exact Ref.ref_at _ _ _ _ _

end Cert.ProjOut
end
-- ==== Proof.ProjOutGrad.lean ====
module
public import proofs.«01_k».proof.Proof.Tiles
public import proofs.«01_k».proof.Defs
public import proofs.«01_k».proof.Proof.Gen.Kernel16Ideal.Value
public import proofs.«01_k».proof.Proof.Gen.Reference16Ideal.Run

/-! The gradient of the attention's result: a product with the transposed output weight in tiles of rows, each contracted
at once. -/

@[expose] public section
set_option maxRecDepth 16384
noncomputable section
namespace Cert.ProjOutGrad.Ref
open Idealize.ShloMosaic Idealize.ShloMosaic.Tactic
open Cert.Reference16Ideal Cert.Reference16Ideal.Gen

/-- The reference's result, entry by entry. -/
theorem ref_at (A : FVec Ideal S8192x1024 .f32) (B : FVec Ideal S1024x1024 .bf16) (r : Fin 8192) (d : Fin 1024) :
    truncf (F := Ideal) .bf16 (Host.dotGeneral dot_S8192x1024_S1024x1024_S8192x1024_1_1_0_0_n_n none A
      (extf .f32 B bitsLt_bf16_f32)) bitsLt_bf16_f32 (ix2 r d) = ∑ n : Fin 1024, A (ix2 r n) * B (ix2 d n) := by
  pointwise

end Cert.ProjOutGrad.Ref

namespace Cert.ProjOutGrad
open Idealize.ShloMosaic Idealize.ShloMosaic.TcCoe Idealize.ShloMosaic.Tactic
open Idealize.SL Idealize.SL.Sem
open Cert.Kernel16Ideal Cert.Kernel16Ideal.Gen Cert.Tiles

theorem pay2_at (v a : Vec Ideal S1024x1024 .f32) (b : Vec Ideal S1024x1024 .bf16) (r d : Fin 1024) :
    k0_pay2 (F := Ideal) v a b (ix2 r d) = v (ix2 r d) + ∑ k : Fin 1024, a (ix2 r k) * b (ix2 d k) := by
  pointwise [k0_pay2]

/-- A point's block of the result is the product of its blocks. -/
theorem out_at (c : Dev nD) (i : grid0.Coords)
    (arg3 : Memref sig .tc .vmem S1024x1024 .f32) (h3 : arg3.IsWhole)
    (arg4 : Memref sig .tc .vmem S1024x1024 .bf16) (h4 : arg4.IsWhole)
    (arg5 : Memref sig .tc .vmem S1024x1024 .bf16) (h5 : arg5.IsWhole)
    (arg6 : Memref sig .tc .vmem S1024x1024 .f32) (h6 : arg6.IsWhole)
    (a : Vec Ideal S1024x1024 .f32) (b : Vec Ideal S1024x1024 .bf16) (hc0 : cond0_0 i) (hc1 : cond0_1 i) (r d : Fin 1024) :
    out0_A_2 (F := Ideal) c i arg3 h3 arg4 h4 arg5 h5 arg6 h6 hc0 hc1 a b (ix2 r d)
      = ∑ k : Fin 1024, a (ix2 r k) * b (ix2 d k) := by
  have e : out0_A_2 (F := Ideal) c i arg3 h3 arg4 h4 arg5 h5 arg6 h6 hc0 hc1 a b =
      k0_pay3 (F := Ideal) (k0_pay2 (k0_pay1 (F := Ideal)) a b) := by
    unfold out0_A_2
    rw [View.read_writes_eq_canon _ _ _ (cover0_A_2 c i arg3 h3 arg4 h4 arg5 h5 arg6 h6 hc0 hc1 a b)]
    unfold kernelRun0_A
    dsimp only
    sl_unfold_words
    rw [View.canon_unit_zero zeros2]
    simp only [View.readAt_eq_ld, h3.read_unread, h4.read_unread,
      View.readCov_cons_unit_lit' (S := S1024x1024) _ _ _ _ _ (congrFun zeros2) (congrFun zeros2),
      View.ld_unit_zero (S := S1024x1024) zeros2]
  have h0 : k0_pay1 (F := Ideal) (ix2 r d) = (0 : EReal) := by pointwise [k0_pay1]
  rw [e]
  show k0_pay2 (F := Ideal) (k0_pay1 (F := Ideal)) a b (ix2 r d) = _
  rw [pay2_at, h0, zero_add]

variable (m : (ℓ : Loc nD τ sig) → Buf (Elt Ideal) ℓ) (c : Dev nD)

def aA : Vec Ideal S8192x1024 .f32 := m ((c.tc : Thread nD τ).loc main_arg0)
def aB : Vec Ideal S1024x1024 .bf16 := m ((c.tc : Thread nD τ).loc main_arg1)

/-- The product, entry by entry. -/
def prod : Vec Ideal S8192x1024 .bf16 := fun i => ∑ n : Fin 1024, aA m c (ix2 (i 0) n) * aB m c (ix2 (i 1) n)

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel

/-- The place in the result of a point's entry. -/
abbrev at_ (t : Fin cfg0.N) (y : S1024x1024.Idx) : S8192x1024.Idx := (win0_2.blk t).view.emb y

theorem blkA_at (t : Fin cfg0.N) (y : S1024x1024.Idx) (k : Fin 1024) :
    iblk m c 0 t (ix2 (y 0) k : S1024x1024.Idx) = aA m c (ix2 (at_ t y 0) k) := by
  obtain ⟨e0, e1⟩ := idx0 t
  obtain ⟨f0, f1⟩ := idx2 t
  unfold iblk aA
  rw [View.read_apply]
  show V m c main_arg0 _ = m ((c.tc : Thread nD τ).loc main_arg0) _
  rw [V_main_arg0]
  refine congrArg (m ((c.tc : Thread nD τ).loc main_arg0)) (ix2_of _ _ _ ?_ ?_)
  · show win0_0.index t 0 * 1024 + 1 * (y 0).val = win0_2.index t 0 * 1024 + 1 * (y 0).val
    rw [e0, f0]
  · show win0_0.index t 1 * 1024 + 1 * k.val = k.val
    rw [e1]; omega

theorem blkB_at (t : Fin cfg0.N) (y : S1024x1024.Idx) (k : Fin 1024) :
    iblk m c 1 t (ix2 (y 1) k : S1024x1024.Idx) = aB m c (ix2 (at_ t y 1) k) := by
  obtain ⟨e0, e1⟩ := idx1 t
  obtain ⟨f0, f1⟩ := idx2 t
  unfold iblk aB
  rw [View.read_apply]
  show V m c main_arg1 _ = m ((c.tc : Thread nD τ).loc main_arg1) _
  rw [V_main_arg1]
  refine congrArg (m ((c.tc : Thread nD τ).loc main_arg1)) (ix2_of _ _ _ ?_ ?_)
  · show win0_1.index t 0 * 1024 + 1 * (y 1).val = win0_2.index t 1 * 1024 + 1 * (y 1).val
    rw [e0, f1]
  · show win0_1.index t 1 * 1024 + 1 * k.val = k.val
    rw [e1]; omega

theorem final : (dats m 0 c).arrAt 2 cfg0.N = prod m c := by
  refine (dats m 0 c).arrAt_eq_of_covers 2 _ (by decide +kernel) fun t hf y => ?_
  blk_simp
  rw [after0_2]
  have key : outsAt0 m c t (ix2 (y 0) (y 1) : S1024x1024.Idx) = prod m c (at_ t y) := by
    unfold outsAt0
    exact (out_at c _ _ _ _ _ _ _ _ _ _ _ _ _ (y 0) (y 1)).trans
      (Finset.sum_congr rfl fun k _ => congrArg₂ (· * ·) (blkA_at m c t y k) (blkB_at m c t y k))
  rw [(eq_ix2 (n0 := 1024) (n1 := 1024) y).symm] at key
  exact key

theorem algebraic : Cert.algebraic_Kernel16Ideal_Reference16Ideal := by
  intro m g m' g' _ hagree
  refine ⟨fun c => prod m c, ?_, ?_⟩
  · exact (θ_run _ _ _).mono (fun r h c => ⟨(h c).1.trans (final m c), (h c).2⟩) (Cert.Kernel16Ideal.Value.run_blocks m g)
  · refine (θ_run _ _ _).mono (fun r h c => ⟨(h c).1.trans ?_, (h c).2⟩) (Cert.Reference16Ideal.Value.run m' g')
    obtain ⟨g0, g1⟩ := hagree c
    rw [g0, g1]
    funext i
    rw [eq_ix2 i]
    exact Ref.ref_at _ _ _ _

end Cert.ProjOutGrad
end
-- ==== Proof.ProjQGrad.lean ====
module
public import proofs.«01_k».proof.Proof.Tiles
public import proofs.«01_k».proof.Defs
public import proofs.«01_k».proof.Proof.Gen.Kernel17Ideal.Value
public import proofs.«01_k».proof.Proof.Gen.Reference17Ideal.Run

/-! The queries' share of the gradient of the projections' input: a product with the transposed weight in tiles of rows,
each contracted at once. -/

@[expose] public section
set_option maxRecDepth 16384
noncomputable section
namespace Cert.ProjQGrad.Ref
open Idealize.ShloMosaic Idealize.ShloMosaic.Tactic
open Cert.Reference17Ideal Cert.Reference17Ideal.Gen

/-- The reference's result, entry by entry. -/
theorem ref_at (A : FVec Ideal S8192x1024 .bf16) (B : FVec Ideal S1024x1024 .bf16) (r : Fin 8192) (d : Fin 1024) :
    Host.dotGeneral dot_S8192x1024_S1024x1024_S8192x1024_1_1_0_0_n_n none (extf .f32 A bitsLt_bf16_f32)
      (extf .f32 B bitsLt_bf16_f32) (ix2 r d) = ∑ n : Fin 1024, A (ix2 r n) * B (ix2 d n) := by
  pointwise

end Cert.ProjQGrad.Ref

namespace Cert.ProjQGrad
open Idealize.ShloMosaic Idealize.ShloMosaic.TcCoe Idealize.ShloMosaic.Tactic
open Idealize.SL Idealize.SL.Sem
open Cert.Kernel17Ideal Cert.Kernel17Ideal.Gen Cert.Tiles

theorem pay2_at (v : Vec Ideal S1024x1024 .f32) (a b : Vec Ideal S1024x1024 .bf16) (r d : Fin 1024) :
    k0_pay2 (F := Ideal) v a b (ix2 r d) = v (ix2 r d) + ∑ k : Fin 1024, a (ix2 r k) * b (ix2 d k) := by
  pointwise [k0_pay2]

/-- A point's block of the result is the product of its blocks. -/
theorem out_at (c : Dev nD) (i : grid0.Coords)
    (arg3 : Memref sig .tc .vmem S1024x1024 .bf16) (h3 : arg3.IsWhole)
    (arg4 : Memref sig .tc .vmem S1024x1024 .bf16) (h4 : arg4.IsWhole)
    (arg5 : Memref sig .tc .vmem S1024x1024 .f32) (h5 : arg5.IsWhole)
    (arg6 : Memref sig .tc .vmem S1024x1024 .f32) (h6 : arg6.IsWhole)
    (a b : Vec Ideal S1024x1024 .bf16) (hc0 : cond0_0 i) (hc1 : cond0_1 i) (r d : Fin 1024) :
    out0_A_2 (F := Ideal) c i arg3 h3 arg4 h4 arg5 h5 arg6 h6 hc0 hc1 a b (ix2 r d)
      = ∑ k : Fin 1024, a (ix2 r k) * b (ix2 d k) := by
  have e : out0_A_2 (F := Ideal) c i arg3 h3 arg4 h4 arg5 h5 arg6 h6 hc0 hc1 a b = k0_pay2 k0_pay1 a b := by
    unfold out0_A_2
    rw [View.read_writes_eq_canon _ _ _ (cover0_A_2 c i arg3 h3 arg4 h4 arg5 h5 arg6 h6 hc0 hc1 a b)]
    unfold kernelRun0_A
    dsimp only
    sl_unfold_words
    rw [View.canon_unit_zero zeros2]
    simp only [View.readAt_eq_ld, h3.read_unread, h4.read_unread,
      View.readCov_cons_unit_lit' (S := S1024x1024) _ _ _ _ _ (congrFun zeros2) (congrFun zeros2),
      View.ld_unit_zero (S := S1024x1024) zeros2]
  have h0 : k0_pay1 (F := Ideal) (ix2 r d) = (0 : EReal) := by pointwise [k0_pay1]
  rw [e, pay2_at, h0, zero_add]

variable (m : (ℓ : Loc nD τ sig) → Buf (Elt Ideal) ℓ) (c : Dev nD)

def aA : Vec Ideal S8192x1024 .bf16 := m ((c.tc : Thread nD τ).loc main_arg0)
def aB : Vec Ideal S1024x1024 .bf16 := m ((c.tc : Thread nD τ).loc main_arg1)

/-- The product, entry by entry. -/
def prod : Vec Ideal S8192x1024 .f32 := fun i => ∑ n : Fin 1024, aA m c (ix2 (i 0) n) * aB m c (ix2 (i 1) n)

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel

/-- The place in the result of a point's entry. -/
abbrev at_ (t : Fin cfg0.N) (y : S1024x1024.Idx) : S8192x1024.Idx := (win0_2.blk t).view.emb y

theorem blkA_at (t : Fin cfg0.N) (y : S1024x1024.Idx) (k : Fin 1024) :
    iblk m c 0 t (ix2 (y 0) k : S1024x1024.Idx) = aA m c (ix2 (at_ t y 0) k) := by
  obtain ⟨e0, e1⟩ := idx0 t
  obtain ⟨f0, f1⟩ := idx2 t
  unfold iblk aA
  rw [View.read_apply]
  show V m c main_arg0 _ = m ((c.tc : Thread nD τ).loc main_arg0) _
  rw [V_main_arg0]
  refine congrArg (m ((c.tc : Thread nD τ).loc main_arg0)) (ix2_of _ _ _ ?_ ?_)
  · show win0_0.index t 0 * 1024 + 1 * (y 0).val = win0_2.index t 0 * 1024 + 1 * (y 0).val
    rw [e0, f0]
  · show win0_0.index t 1 * 1024 + 1 * k.val = k.val
    rw [e1]; omega

theorem blkB_at (t : Fin cfg0.N) (y : S1024x1024.Idx) (k : Fin 1024) :
    iblk m c 1 t (ix2 (y 1) k : S1024x1024.Idx) = aB m c (ix2 (at_ t y 1) k) := by
  obtain ⟨e0, e1⟩ := idx1 t
  obtain ⟨f0, f1⟩ := idx2 t
  unfold iblk aB
  rw [View.read_apply]
  show V m c main_arg1 _ = m ((c.tc : Thread nD τ).loc main_arg1) _
  rw [V_main_arg1]
  refine congrArg (m ((c.tc : Thread nD τ).loc main_arg1)) (ix2_of _ _ _ ?_ ?_)
  · show win0_1.index t 0 * 1024 + 1 * (y 1).val = win0_2.index t 1 * 1024 + 1 * (y 1).val
    rw [e0, f1]
  · show win0_1.index t 1 * 1024 + 1 * k.val = k.val
    rw [e1]; omega

theorem final : (dats m 0 c).arrAt 2 cfg0.N = prod m c := by
  refine (dats m 0 c).arrAt_eq_of_covers 2 _ (by decide +kernel) fun t hf y => ?_
  blk_simp
  rw [after0_2]
  have key : outsAt0 m c t (ix2 (y 0) (y 1) : S1024x1024.Idx) = prod m c (at_ t y) := by
    unfold outsAt0
    exact (out_at c _ _ _ _ _ _ _ _ _ _ _ _ _ (y 0) (y 1)).trans
      (Finset.sum_congr rfl fun k _ => congrArg₂ (· * ·) (blkA_at m c t y k) (blkB_at m c t y k))
  rw [(eq_ix2 (n0 := 1024) (n1 := 1024) y).symm] at key
  exact key

theorem algebraic : Cert.algebraic_Kernel17Ideal_Reference17Ideal := by
  intro m g m' g' _ hagree
  refine ⟨fun c => prod m c, ?_, ?_⟩
  · exact (θ_run _ _ _).mono (fun r h c => ⟨(h c).1.trans (final m c), (h c).2⟩) (Cert.Kernel17Ideal.Value.run_blocks m g)
  · refine (θ_run _ _ _).mono (fun r h c => ⟨(h c).1.trans ?_, (h c).2⟩) (Cert.Reference17Ideal.Value.run m' g')
    obtain ⟨g0, g1⟩ := hagree c
    rw [g0, g1]
    funext i
    rw [eq_ix2 i]
    exact Ref.ref_at _ _ _ _

end Cert.ProjQGrad
end
-- ==== Proof.ProjOWGrad.lean ====
module
public import proofs.«01_k».proof.Proof.Tiles
public import proofs.«01_k».proof.Defs
public import proofs.«01_k».proof.Proof.Gen.Kernel18Ideal.Value
public import proofs.«01_k».proof.Proof.Gen.Reference18Ideal.Run

/-! The gradient of the attention's output weight: a product contracted over the rows in eight tiles, its second factor in
float32. -/

@[expose] public section
set_option maxRecDepth 16384
noncomputable section
namespace Cert.ProjOWGrad.Ref
open Idealize.ShloMosaic Idealize.ShloMosaic.Tactic
open Cert.Reference18Ideal Cert.Reference18Ideal.Gen

/-- The reference's result, entry by entry. -/
theorem ref_at (A : FVec Ideal S8192x1024 .bf16) (B : FVec Ideal S8192x1024 .f32) (r d : Fin 1024) :
    transpose S1024x1024 [1, 0] (Host.dotGeneral dot_S8192x1024_S8192x1024_S1024x1024_0_0_1_1_n_n none
      B (extf .f32 A bitsLt_bf16_f32)) transposes_S1024x1024_S1024x1024_1_0 (ix2 r d)
      = ∑ n : Fin 8192, A (ix2 n r) * B (ix2 n d) := by
  refine Eq.trans (b := ∑ n : Fin 8192, B (ix2 n d) * A (ix2 n r)) ?_ (Finset.sum_congr rfl fun n _ => EReal.mul_comm _ _)
  pointwise

end Cert.ProjOWGrad.Ref

namespace Cert.ProjOWGrad
open Idealize.ShloMosaic Idealize.ShloMosaic.TcCoe Idealize.ShloMosaic.Tactic
open Idealize.SL Idealize.SL.Sem
open Cert.Kernel18Ideal Cert.Kernel18Ideal.Gen Cert.Tiles

theorem pay1_at (r d : Fin 1024) : k0_pay1 (F := Ideal) (ix2 r d) = (0 : EReal) := by
  pointwise [k0_pay1]

theorem pay2_at (v : Vec Ideal S1024x1024 .f32) (a : Vec Ideal S1024x1024 .bf16) (b : Vec Ideal S1024x1024 .f32)
    (r d : Fin 1024) :
    k0_pay2 (F := Ideal) v a b (ix2 r d) = v (ix2 r d) + ∑ k : Fin 1024, a (ix2 k r) * b (ix2 k d) := by
  pointwise [k0_pay2]

section
variable (c : Dev nD) (i : grid0.Coords)
  (arg3 : Memref sig .tc .vmem S1024x1024 .bf16) (h3 : arg3.IsWhole)
  (arg4 : Memref sig .tc .vmem S1024x1024 .f32) (h4 : arg4.IsWhole)
  (arg5 : Memref sig .tc .vmem S1024x1024 .f32) (h5 : arg5.IsWhole)
  (arg6 : Memref sig .tc .vmem S1024x1024 .f32) (h6 : arg6.IsWhole)
  (a : Vec Ideal S1024x1024 .bf16) (b : Vec Ideal S1024x1024 .f32) (v : Vec Ideal S1024x1024 .f32)

theorem acc_A (hc0 : cond0_0 i) (hc1 : ¬cond0_1 i) :
    sout0_A_0 (F := Ideal) c i arg3 h3 arg4 h4 arg5 h5 arg6 h6 hc0 hc1 a b = k0_pay2 k0_pay1 a b := by
  unfold sout0_A_0
  rw [View.read_writes_eq_canon _ _ _ (scover0_A_0 c i arg3 h3 arg4 h4 arg5 h5 arg6 h6 hc0 hc1 a b)]
  unfold kernelRun0_A
  dsimp only
  sl_unfold_words
  rw [View.canon_cons_unit_zero (S := S1024x1024) zeros2]
  simp only [View.readAt_eq_ld, h3.read_unread, h4.read_unread, View.readCov_unit_zero (S := S1024x1024) _ zeros2,
    View.ld_unit_zero (S := S1024x1024) zeros2, View.ld_unit_zero (S := S1024x1024) zeros2]

theorem acc_B (hc0 : ¬cond0_0 i) (hc1 : ¬cond0_1 i) :
    sout0_B_0 (F := Ideal) c i arg3 h3 arg4 h4 arg5 h5 arg6 h6 hc0 hc1 a b v = k0_pay2 v a b := by
  unfold sout0_B_0
  rw [View.read_writes_eq_canon _ _ _ (scover0_B_0 c i arg3 h3 arg4 h4 arg5 h5 arg6 h6 hc0 hc1 a b v)]
  unfold kernelRun0_B
  dsimp only
  sl_unfold_words
  rw [View.canon_unit_zero zeros2]
  simp only [View.readAt_eq_ld, h3.read_unread, h4.read_unread, h6.read_unread,
    View.ld_unit_zero (S := S1024x1024) zeros2,
    View.ld_unit_zero (S := S1024x1024) zeros2, View.ld_unit_zero (S := S1024x1024) zeros2]

theorem acc_C (hc0 : ¬cond0_0 i) (hc1 : cond0_1 i) :
    sout0_C_0 (F := Ideal) c i arg3 h3 arg4 h4 arg5 h5 arg6 h6 hc0 hc1 a b v = k0_pay2 v a b := by
  unfold sout0_C_0
  rw [View.read_writes_eq_canon _ _ _ (scover0_C_0 c i arg3 h3 arg4 h4 arg5 h5 arg6 h6 hc0 hc1 a b v)]
  unfold kernelRun0_C
  dsimp only
  sl_unfold_words
  rw [View.canon_unit_zero zeros2]
  simp only [View.readAt_eq_ld, h3.read_unread, h4.read_unread, h6.read_unread,
    View.ld_unit_zero (S := S1024x1024) zeros2,
    View.ld_unit_zero (S := S1024x1024) zeros2, View.ld_unit_zero (S := S1024x1024) zeros2]

theorem out_C (hc0 : ¬cond0_0 i) (hc1 : cond0_1 i) :
    out0_C_2 (F := Ideal) c i arg3 h3 arg4 h4 arg5 h5 arg6 h6 hc0 hc1 a b v = k0_pay2 v a b := by
  unfold out0_C_2
  rw [View.read_writes_eq_canon _ _ _ (cover0_C_2 c i arg3 h3 arg4 h4 arg5 h5 arg6 h6 hc0 hc1 a b v)]
  unfold kernelRun0_C
  dsimp only
  sl_unfold_words
  rw [View.canon_unit_zero zeros2]
  simp only [View.readAt_eq_ld, h3.read_unread, h4.read_unread, h6.read_unread,
    View.ld_unit_zero (S := S1024x1024) zeros2, View.readCov_unit_zero (S := S1024x1024) _ zeros2,
    View.ld_unit_zero (S := S1024x1024) zeros2, View.ld_unit_zero (S := S1024x1024) zeros2]

end

variable (m : (ℓ : Loc nD τ sig) → Buf (Elt Ideal) ℓ) (c : Dev nD)

def aA : Vec Ideal S8192x1024 .bf16 := m ((c.tc : Thread nD τ).loc main_arg0)
def aB : Vec Ideal S8192x1024 .f32 := m ((c.tc : Thread nD τ).loc main_arg1)
def blkA (t : Fin cfg0.N) : Vec Ideal S1024x1024 .bf16 := iblk m c 0 t
def blkB (t : Fin cfg0.N) : Vec Ideal S1024x1024 .f32 := iblk m c 1 t

/-- The product, entry by entry. -/
def prod : Vec Ideal S1024x1024 .f32 := fun i => ∑ n : Fin 8192, aA m c (ix2 n (i 0)) * aB m c (ix2 n (i 1))

theorem idx0 : ∀ t : Fin grid0.N, win0_0.index t 0 = t.val % 8 ∧ win0_0.index t 1 = 0 := by decide +kernel
theorem idx1 : ∀ t : Fin grid0.N, win0_1.index t 0 = t.val % 8 ∧ win0_1.index t 1 = 0 := by decide +kernel
theorem idx2 : ∀ t : Fin grid0.N, win0_2.index t 0 = 0 ∧ win0_2.index t 1 = 0 := by decide +kernel

/-- The row of the arrays at place `k` of a point's blocks. -/
def row (t : ℕ) (k : Fin 1024) : Fin 8192 := ⟨t % 8 * 1024 + k.val, by omega⟩

theorem blkA_at (t : Fin cfg0.N) (k r : Fin 1024) :
    blkA m c t (ix2 k r) = aA m c (ix2 (row t.val k) r) := by
  obtain ⟨e0, e1⟩ := idx0 t
  unfold blkA iblk aA
  rw [View.read_apply]
  show V m c main_arg0 _ = m ((c.tc : Thread nD τ).loc main_arg0) _
  rw [V_main_arg0]
  congr 1
  funext x
  apply Fin.ext
  match x with
  | ⟨0, _⟩ => show win0_0.index t 0 * 1024 + 1 * k.val = t.val % 8 * 1024 + k.val; rw [e0]; omega
  | ⟨1, _⟩ => show win0_0.index t 1 * 1024 + 1 * r.val = r.val; rw [e1]; omega

theorem blkB_at (t : Fin cfg0.N) (k d : Fin 1024) :
    blkB m c t (ix2 k d) = aB m c (ix2 (row t.val k) d) := by
  obtain ⟨e0, e1⟩ := idx1 t
  unfold blkB iblk aB
  rw [View.read_apply]
  show V m c main_arg1 _ = m ((c.tc : Thread nD τ).loc main_arg1) _
  rw [V_main_arg1]
  congr 1
  funext x
  apply Fin.ext
  match x with
  | ⟨0, _⟩ => show win0_1.index t 0 * 1024 + 1 * k.val = t.val % 8 * 1024 + k.val; rw [e0]; omega
  | ⟨1, _⟩ => show win0_1.index t 1 * 1024 + 1 * d.val = d.val; rw [e1]; omega

/-- What point `t` adds. -/
def part (r d : Fin 1024) (t : ℕ) : EReal :=
  ∑ k : Fin 1024, aA m c (ix2 (row t k) r) * aB m c (ix2 (row t k) d)

theorem part_at (t : Fin cfg0.N) (v : Vec Ideal S1024x1024 .f32) (r d : Fin 1024) :
    k0_pay2 (F := Ideal) v (blkA m c t) (blkB m c t) (ix2 r d) = v (ix2 r d) + part m c r d t.val := by
  rw [pay2_at]
  exact congrArg (v (ix2 r d) + ·) (Finset.sum_congr rfl fun k _ => by rw [blkA_at, blkB_at])

theorem scratch (r d : Fin 1024) (t : Fin cfg0.N) :
    (outsAt0 m c t.val t.isLt).2 (ix2 r d) = ∑ s ∈ Finset.range (t.val % 8 + 1), part m c r d (8 * (t.val / 8) + s) := by
  refine fold_sum 8 cfg0.N (fun n h => (outsAt0 m c n h).2 (ix2 r d)) (part m c r d) (by decide) ?_ ?_ t.val t.isLt
  · intro n h hn
    show (outsAt0 m c n h).2 (ix2 r d) = _
    have e := outsAt0_A m c ⟨n, h⟩ hn (by show ¬n % 8 = 7; omega)
    dsimp only at e
    rw [e]
    dsimp only
    rw [acc_A]
    refine (part_at m c ⟨n, h⟩ _ r d).trans ?_
    rw [pay1_at, zero_add]
  · intro n h h' hn
    show (outsAt0 m c n h).2 (ix2 r d) = (outsAt0 m c (n - 1) h').2 (ix2 r d) + _
    by_cases h7 : n % 8 = 7
    · have e := outsAt0_C m c ⟨n, h⟩ hn h7
      dsimp only at e
      rw [e]
      dsimp only
      rw [acc_C]
      exact part_at m c ⟨n, h⟩ _ r d
    · have e := outsAt0_B m c ⟨n, h⟩ hn h7
      dsimp only at e
      rw [e]
      dsimp only
      rw [acc_B]
      exact part_at m c ⟨n, h⟩ _ r d

theorem out_end (t : Fin cfg0.N) (h7 : t.val % 8 = 7) (r d : Fin 1024) :
    (outsAt0 m c t.val t.isLt).1 (ix2 r d) = ∑ n : Fin 8192, aA m c (ix2 n r) * aB m c (ix2 n d) := by
  have h0 : ¬t.val % 8 = 0 := by omega
  have e : (outsAt0 m c t.val t.isLt).1 = (outsAt0 m c t.val t.isLt).2 := by
    rw [outsAt0_C m c t h0 h7]
    dsimp only
    rw [acc_C, out_C]
  rw [e, scratch, h7]
  refine sum_tiles 8 1024 (fun n : Fin 8192 => aA m c (ix2 n r) * aB m c (ix2 n d)) _ fun s hs => ?_
  have hr : ∀ k, row (8 * (t.val / 8) + s) k = ⟨s * 1024 + k.val, by omega⟩ := fun k => Fin.ext (by
    show (8 * (t.val / 8) + s) % 8 * 1024 + k.val = s * 1024 + k.val
    omega)
  unfold part
  simp only [hr]

theorem final : (dats m 0 c).arrAt 2 cfg0.N = prod m c := by
  refine (dats m 0 c).arrAt_eq_of_covers 2 _ (by decide +kernel) fun t hf y => ?_
  blk_simp
  rw [after0_2]
  obtain ⟨e0, e1⟩ := idx2 t
  have key := out_end m c t ((flush0_2 t).mp hf) (y 0) (y 1)
  have hy : (ix2 (y 0) (y 1) : S1024x1024.Idx) = y := (eq_ix2 (n0 := 1024) (n1 := 1024) y).symm
  rw [hy] at key
  refine key.trans ?_
  have q0 : y 0 = (win0_2.blk t).view.emb y 0 := by
    apply Fin.ext
    show (y 0).val = win0_2.index t 0 * 1024 + 1 * (y 0).val
    rw [e0]; omega
  have q1 : y 1 = (win0_2.blk t).view.emb y 1 := by
    apply Fin.ext
    show (y 1).val = win0_2.index t 1 * 1024 + 1 * (y 1).val
    rw [e1]; omega
  exact congrArg₂ (fun x z : Fin 1024 => ∑ n : Fin 8192, aA m c (ix2 n x) * aB m c (ix2 n z)) q0 q1

theorem algebraic : Cert.algebraic_Kernel18Ideal_Reference18Ideal := by
  intro m g m' g' _ hagree
  refine ⟨fun c => prod m c, ?_, ?_⟩
  · exact (θ_run _ _ _).mono (fun r h c => ⟨(h c).1.trans (final m c), (h c).2⟩) (Cert.Kernel18Ideal.Value.run_blocks m g)
  · refine (θ_run _ _ _).mono (fun r h c => ⟨(h c).1.trans ?_, (h c).2⟩) (Cert.Reference18Ideal.Value.run m' g')
    obtain ⟨g0, g1⟩ := hagree c
    rw [g0, g1]
    funext i
    rw [eq_ix2 i]
    exact Ref.ref_at _ _ _ _

end Cert.ProjOWGrad
end
-- ==== Proof.ProjQWGrad.lean ====
module
public import proofs.«01_k».proof.Proof.Tiles
public import proofs.«01_k».proof.Defs
public import proofs.«01_k».proof.Proof.Gen.Kernel19Ideal.Value
public import proofs.«01_k».proof.Proof.Gen.Reference19Ideal.Run

/-! The gradient of the weight that projects the queries: a product contracted over the rows in eight tiles. -/

@[expose] public section
set_option maxRecDepth 16384
noncomputable section
namespace Cert.ProjQWGrad.Ref
open Idealize.ShloMosaic Idealize.ShloMosaic.Tactic
open Cert.Reference19Ideal Cert.Reference19Ideal.Gen

/-- The reference's result, entry by entry. -/
theorem ref_at (A : FVec Ideal S8192x1024 .bf16) (B : FVec Ideal S8192x1024 .bf16) (r d : Fin 1024) :
    transpose S1024x1024 [1, 0] (Host.dotGeneral dot_S8192x1024_S8192x1024_S1024x1024_0_0_1_1_n_n none
      (extf .f32 B bitsLt_bf16_f32) (extf .f32 A bitsLt_bf16_f32)) transposes_S1024x1024_S1024x1024_1_0 (ix2 r d)
      = ∑ n : Fin 8192, A (ix2 n r) * B (ix2 n d) := by
  refine Eq.trans (b := ∑ n : Fin 8192, B (ix2 n d) * A (ix2 n r)) ?_ (Finset.sum_congr rfl fun n _ => EReal.mul_comm _ _)
  pointwise

end Cert.ProjQWGrad.Ref

namespace Cert.ProjQWGrad
open Idealize.ShloMosaic Idealize.ShloMosaic.TcCoe Idealize.ShloMosaic.Tactic
open Idealize.SL Idealize.SL.Sem
open Cert.Kernel19Ideal Cert.Kernel19Ideal.Gen Cert.Tiles

theorem pay1_at (r d : Fin 1024) : k0_pay1 (F := Ideal) (ix2 r d) = (0 : EReal) := by
  pointwise [k0_pay1]

theorem pay2_at (v : Vec Ideal S1024x1024 .f32) (a : Vec Ideal S1024x1024 .bf16) (b : Vec Ideal S1024x1024 .bf16)
    (r d : Fin 1024) :
    k0_pay2 (F := Ideal) v a b (ix2 r d) = v (ix2 r d) + ∑ k : Fin 1024, a (ix2 k r) * b (ix2 k d) := by
  pointwise [k0_pay2]

section
variable (c : Dev nD) (i : grid0.Coords)
  (arg3 : Memref sig .tc .vmem S1024x1024 .bf16) (h3 : arg3.IsWhole)
  (arg4 : Memref sig .tc .vmem S1024x1024 .bf16) (h4 : arg4.IsWhole)
  (arg5 : Memref sig .tc .vmem S1024x1024 .f32) (h5 : arg5.IsWhole)
  (arg6 : Memref sig .tc .vmem S1024x1024 .f32) (h6 : arg6.IsWhole)
  (a : Vec Ideal S1024x1024 .bf16) (b : Vec Ideal S1024x1024 .bf16) (v : Vec Ideal S1024x1024 .f32)

theorem acc_A (hc0 : cond0_0 i) (hc1 : ¬cond0_1 i) :
    sout0_A_0 (F := Ideal) c i arg3 h3 arg4 h4 arg5 h5 arg6 h6 hc0 hc1 a b = k0_pay2 k0_pay1 a b := by
  unfold sout0_A_0
  rw [View.read_writes_eq_canon _ _ _ (scover0_A_0 c i arg3 h3 arg4 h4 arg5 h5 arg6 h6 hc0 hc1 a b)]
  unfold kernelRun0_A
  dsimp only
  sl_unfold_words
  rw [View.canon_cons_unit_zero (S := S1024x1024) zeros2]
  simp only [View.readAt_eq_ld, h3.read_unread, h4.read_unread, View.readCov_unit_zero (S := S1024x1024) _ zeros2,
    View.ld_unit_zero (S := S1024x1024) zeros2, View.ld_unit_zero (S := S1024x1024) zeros2]

theorem acc_B (hc0 : ¬cond0_0 i) (hc1 : ¬cond0_1 i) :
    sout0_B_0 (F := Ideal) c i arg3 h3 arg4 h4 arg5 h5 arg6 h6 hc0 hc1 a b v = k0_pay2 v a b := by
  unfold sout0_B_0
  rw [View.read_writes_eq_canon _ _ _ (scover0_B_0 c i arg3 h3 arg4 h4 arg5 h5 arg6 h6 hc0 hc1 a b v)]
  unfold kernelRun0_B
  dsimp only
  sl_unfold_words
  rw [View.canon_unit_zero zeros2]
  simp only [View.readAt_eq_ld, h3.read_unread, h4.read_unread, h6.read_unread,
    View.ld_unit_zero (S := S1024x1024) zeros2,
    View.ld_unit_zero (S := S1024x1024) zeros2, View.ld_unit_zero (S := S1024x1024) zeros2]

theorem acc_C (hc0 : ¬cond0_0 i) (hc1 : cond0_1 i) :
    sout0_C_0 (F := Ideal) c i arg3 h3 arg4 h4 arg5 h5 arg6 h6 hc0 hc1 a b v = k0_pay2 v a b := by
  unfold sout0_C_0
  rw [View.read_writes_eq_canon _ _ _ (scover0_C_0 c i arg3 h3 arg4 h4 arg5 h5 arg6 h6 hc0 hc1 a b v)]
  unfold kernelRun0_C
  dsimp only
  sl_unfold_words
  rw [View.canon_unit_zero zeros2]
  simp only [View.readAt_eq_ld, h3.read_unread, h4.read_unread, h6.read_unread,
    View.ld_unit_zero (S := S1024x1024) zeros2,
    View.ld_unit_zero (S := S1024x1024) zeros2, View.ld_unit_zero (S := S1024x1024) zeros2]

theorem out_C (hc0 : ¬cond0_0 i) (hc1 : cond0_1 i) :
    out0_C_2 (F := Ideal) c i arg3 h3 arg4 h4 arg5 h5 arg6 h6 hc0 hc1 a b v = k0_pay2 v a b := by
  unfold out0_C_2
  rw [View.read_writes_eq_canon _ _ _ (cover0_C_2 c i arg3 h3 arg4 h4 arg5 h5 arg6 h6 hc0 hc1 a b v)]
  unfold kernelRun0_C
  dsimp only
  sl_unfold_words
  rw [View.canon_unit_zero zeros2]
  simp only [View.readAt_eq_ld, h3.read_unread, h4.read_unread, h6.read_unread,
    View.ld_unit_zero (S := S1024x1024) zeros2, View.readCov_unit_zero (S := S1024x1024) _ zeros2,
    View.ld_unit_zero (S := S1024x1024) zeros2, View.ld_unit_zero (S := S1024x1024) zeros2]

end

variable (m : (ℓ : Loc nD τ sig) → Buf (Elt Ideal) ℓ) (c : Dev nD)

def aA : Vec Ideal S8192x1024 .bf16 := m ((c.tc : Thread nD τ).loc main_arg0)
def aB : Vec Ideal S8192x1024 .bf16 := m ((c.tc : Thread nD τ).loc main_arg1)
def blkA (t : Fin cfg0.N) : Vec Ideal S1024x1024 .bf16 := iblk m c 0 t
def blkB (t : Fin cfg0.N) : Vec Ideal S1024x1024 .bf16 := iblk m c 1 t

/-- The product, entry by entry. -/
def prod : Vec Ideal S1024x1024 .f32 := fun i => ∑ n : Fin 8192, aA m c (ix2 n (i 0)) * aB m c (ix2 n (i 1))

theorem idx0 : ∀ t : Fin grid0.N, win0_0.index t 0 = t.val % 8 ∧ win0_0.index t 1 = 0 := by decide +kernel
theorem idx1 : ∀ t : Fin grid0.N, win0_1.index t 0 = t.val % 8 ∧ win0_1.index t 1 = 0 := by decide +kernel
theorem idx2 : ∀ t : Fin grid0.N, win0_2.index t 0 = 0 ∧ win0_2.index t 1 = 0 := by decide +kernel

/-- The row of the arrays at place `k` of a point's blocks. -/
def row (t : ℕ) (k : Fin 1024) : Fin 8192 := ⟨t % 8 * 1024 + k.val, by omega⟩

theorem blkA_at (t : Fin cfg0.N) (k r : Fin 1024) :
    blkA m c t (ix2 k r) = aA m c (ix2 (row t.val k) r) := by
  obtain ⟨e0, e1⟩ := idx0 t
  unfold blkA iblk aA
  rw [View.read_apply]
  show V m c main_arg0 _ = m ((c.tc : Thread nD τ).loc main_arg0) _
  rw [V_main_arg0]
  congr 1
  funext x
  apply Fin.ext
  match x with
  | ⟨0, _⟩ => show win0_0.index t 0 * 1024 + 1 * k.val = t.val % 8 * 1024 + k.val; rw [e0]; omega
  | ⟨1, _⟩ => show win0_0.index t 1 * 1024 + 1 * r.val = r.val; rw [e1]; omega

theorem blkB_at (t : Fin cfg0.N) (k d : Fin 1024) :
    blkB m c t (ix2 k d) = aB m c (ix2 (row t.val k) d) := by
  obtain ⟨e0, e1⟩ := idx1 t
  unfold blkB iblk aB
  rw [View.read_apply]
  show V m c main_arg1 _ = m ((c.tc : Thread nD τ).loc main_arg1) _
  rw [V_main_arg1]
  congr 1
  funext x
  apply Fin.ext
  match x with
  | ⟨0, _⟩ => show win0_1.index t 0 * 1024 + 1 * k.val = t.val % 8 * 1024 + k.val; rw [e0]; omega
  | ⟨1, _⟩ => show win0_1.index t 1 * 1024 + 1 * d.val = d.val; rw [e1]; omega

/-- What point `t` adds. -/
def part (r d : Fin 1024) (t : ℕ) : EReal :=
  ∑ k : Fin 1024, aA m c (ix2 (row t k) r) * aB m c (ix2 (row t k) d)

theorem part_at (t : Fin cfg0.N) (v : Vec Ideal S1024x1024 .f32) (r d : Fin 1024) :
    k0_pay2 (F := Ideal) v (blkA m c t) (blkB m c t) (ix2 r d) = v (ix2 r d) + part m c r d t.val := by
  rw [pay2_at]
  exact congrArg (v (ix2 r d) + ·) (Finset.sum_congr rfl fun k _ => by rw [blkA_at, blkB_at])

theorem scratch (r d : Fin 1024) (t : Fin cfg0.N) :
    (outsAt0 m c t.val t.isLt).2 (ix2 r d) = ∑ s ∈ Finset.range (t.val % 8 + 1), part m c r d (8 * (t.val / 8) + s) := by
  refine fold_sum 8 cfg0.N (fun n h => (outsAt0 m c n h).2 (ix2 r d)) (part m c r d) (by decide) ?_ ?_ t.val t.isLt
  · intro n h hn
    show (outsAt0 m c n h).2 (ix2 r d) = _
    have e := outsAt0_A m c ⟨n, h⟩ hn (by show ¬n % 8 = 7; omega)
    dsimp only at e
    rw [e]
    dsimp only
    rw [acc_A]
    refine (part_at m c ⟨n, h⟩ _ r d).trans ?_
    rw [pay1_at, zero_add]
  · intro n h h' hn
    show (outsAt0 m c n h).2 (ix2 r d) = (outsAt0 m c (n - 1) h').2 (ix2 r d) + _
    by_cases h7 : n % 8 = 7
    · have e := outsAt0_C m c ⟨n, h⟩ hn h7
      dsimp only at e
      rw [e]
      dsimp only
      rw [acc_C]
      exact part_at m c ⟨n, h⟩ _ r d
    · have e := outsAt0_B m c ⟨n, h⟩ hn h7
      dsimp only at e
      rw [e]
      dsimp only
      rw [acc_B]
      exact part_at m c ⟨n, h⟩ _ r d

theorem out_end (t : Fin cfg0.N) (h7 : t.val % 8 = 7) (r d : Fin 1024) :
    (outsAt0 m c t.val t.isLt).1 (ix2 r d) = ∑ n : Fin 8192, aA m c (ix2 n r) * aB m c (ix2 n d) := by
  have h0 : ¬t.val % 8 = 0 := by omega
  have e : (outsAt0 m c t.val t.isLt).1 = (outsAt0 m c t.val t.isLt).2 := by
    rw [outsAt0_C m c t h0 h7]
    dsimp only
    rw [acc_C, out_C]
  rw [e, scratch, h7]
  refine sum_tiles 8 1024 (fun n : Fin 8192 => aA m c (ix2 n r) * aB m c (ix2 n d)) _ fun s hs => ?_
  have hr : ∀ k, row (8 * (t.val / 8) + s) k = ⟨s * 1024 + k.val, by omega⟩ := fun k => Fin.ext (by
    show (8 * (t.val / 8) + s) % 8 * 1024 + k.val = s * 1024 + k.val
    omega)
  unfold part
  simp only [hr]

theorem final : (dats m 0 c).arrAt 2 cfg0.N = prod m c := by
  refine (dats m 0 c).arrAt_eq_of_covers 2 _ (by decide +kernel) fun t hf y => ?_
  blk_simp
  rw [after0_2]
  obtain ⟨e0, e1⟩ := idx2 t
  have key := out_end m c t ((flush0_2 t).mp hf) (y 0) (y 1)
  have hy : (ix2 (y 0) (y 1) : S1024x1024.Idx) = y := (eq_ix2 (n0 := 1024) (n1 := 1024) y).symm
  rw [hy] at key
  refine key.trans ?_
  have q0 : y 0 = (win0_2.blk t).view.emb y 0 := by
    apply Fin.ext
    show (y 0).val = win0_2.index t 0 * 1024 + 1 * (y 0).val
    rw [e0]; omega
  have q1 : y 1 = (win0_2.blk t).view.emb y 1 := by
    apply Fin.ext
    show (y 1).val = win0_2.index t 1 * 1024 + 1 * (y 1).val
    rw [e1]; omega
  exact congrArg₂ (fun x z : Fin 1024 => ∑ n : Fin 8192, aA m c (ix2 n x) * aB m c (ix2 n z)) q0 q1

theorem algebraic : Cert.algebraic_Kernel19Ideal_Reference19Ideal := by
  intro m g m' g' _ hagree
  refine ⟨fun c => prod m c, ?_, ?_⟩
  · exact (θ_run _ _ _).mono (fun r h c => ⟨(h c).1.trans (final m c), (h c).2⟩) (Cert.Kernel19Ideal.Value.run_blocks m g)
  · refine (θ_run _ _ _).mono (fun r h c => ⟨(h c).1.trans ?_, (h c).2⟩) (Cert.Reference19Ideal.Value.run m' g')
    obtain ⟨g0, g1⟩ := hagree c
    rw [g0, g1]
    funext i
    rw [eq_ix2 i]
    exact Ref.ref_at _ _ _ _

end Cert.ProjQWGrad
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Loops
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Loops
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference11Ideal
public import proofs.«01_k».proof.Proof.Gen.Reference11Ideal.Run
public import proofs.«01_k».proof.Proof.Gen.Reference12Ideal
public import proofs.«01_k».proof.Proof.Gen.Reference12Ideal.Run
public import proofs.«01_k».proof.Proof.Gen.Reference13Ideal
public import proofs.«01_k».proof.Proof.Gen.Reference13Ideal.Run
public import proofs.«01_k».proof.Proof.Gen.Reference14Ideal
public import proofs.«01_k».proof.Proof.Gen.Reference14Ideal.Run
public import proofs.«01_k».proof.Proof.Gen.Reference15Ideal
public import proofs.«01_k».proof.Proof.Gen.Reference15Ideal.Run
public import proofs.«01_k».proof.Proof.Gen.Reference16Ideal
public import proofs.«01_k».proof.Proof.Gen.Reference16Ideal.Run
public import proofs.«01_k».proof.Proof.Gen.Reference17Ideal
public import proofs.«01_k».proof.Proof.Gen.Reference17Ideal.Run
public import proofs.«01_k».proof.Proof.Gen.Reference18Ideal
public import proofs.«01_k».proof.Proof.Gen.Reference18Ideal.Run
public import proofs.«01_k».proof.Proof.Gen.Reference19Ideal
public import proofs.«01_k».proof.Proof.Gen.Reference19Ideal.Run
public import proofs.«01_k».proof.Proof.Final
public import proofs.«01_k».proof.Proof.GateUpGrad
public import proofs.«01_k».proof.Proof.WGrad
public import proofs.«01_k».proof.Proof.WOutGrad
public import proofs.«01_k».proof.Proof.Down
public import proofs.«01_k».proof.Proof.HnGrad
public import proofs.«01_k».proof.Proof.GateUp
public import proofs.«01_k».proof.Proof.AttnFwd
public import proofs.«01_k».proof.Proof.MlaGrad
public import proofs.«01_k».proof.Proof.MlaFwd
public import proofs.«01_k».proof.Proof.ProjB
public import proofs.«01_k».proof.Proof.ProjBWGrad
public import proofs.«01_k».proof.Proof.ProjBGrad
public import proofs.«01_k».proof.Proof.ProjQ
public import proofs.«01_k».proof.Proof.ProjOut
public import proofs.«01_k».proof.Proof.ProjOutGrad
public import proofs.«01_k».proof.Proof.ProjQGrad
public import proofs.«01_k».proof.Proof.ProjOWGrad
public import proofs.«01_k».proof.Proof.ProjQWGrad
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, keeps its arguments, and has no semaphore to leave above zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2.2.2, sem_eq_zero_of_no_sems (by decide) r.2⟩) (Cert.Attn.Ref.run m g)

/-- The same for the reference of the activation's gradient. -/
theorem frame_reference2 (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0) :=
  (θ_run _ _ _).mono (fun r h => ⟨fun c => (h c).2.2, sem_eq_zero_of_no_sems (by decide) r.2⟩) (Cert.Reference2Ideal.Value.run m g)

/-- The same for the reference of the gate weight's gradient. -/
theorem frame_reference3 (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0) :=
  (θ_run _ _ _).mono (fun r h => ⟨fun c => (h c).2, sem_eq_zero_of_no_sems (by decide) r.2⟩) (Cert.Reference3Ideal.Value.run m g)

/-- The same for the reference of the output weight's gradient. -/
theorem frame_reference4 (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0) :=
  (θ_run _ _ _).mono (fun r h => ⟨fun c => (h c).2, sem_eq_zero_of_no_sems (by decide) r.2⟩) (Cert.Reference4Ideal.Value.run m g)

/-- The same for the reference of the product added to an array. -/
theorem frame_reference5 (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0) :=
  (θ_run _ _ _).mono (fun r h => ⟨fun c => (h c).2, sem_eq_zero_of_no_sems (by decide) r.2⟩) (Cert.Reference5Ideal.Value.run m g)

/-- The same for the reference of the hidden state's gradient. -/
theorem frame_reference6 (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0) :=
  (θ_run _ _ _).mono (fun r h => ⟨fun c => (h c).2, sem_eq_zero_of_no_sems (by decide) r.2⟩) (Cert.Reference6Ideal.Value.run m g)

/-- The same for the reference of the gate and up products. -/
theorem frame_reference7 (m : (ℓ : Loc Cert.Reference7Ideal.nD Cert.Reference7Ideal.τ Cert.Reference7Ideal.sig) → Buf (Elt Ideal) ℓ) (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0) :=
  (θ_run _ _ _).mono (fun r h => ⟨fun c => (h c).2.2.2, sem_eq_zero_of_no_sems (by decide) r.2⟩) (Cert.Reference7Ideal.Value.run m g)

/-- The same for the reference of the forward attention. -/
theorem frame_reference8 (m : (ℓ : Loc Cert.Reference8Ideal.nD Cert.Reference8Ideal.τ Cert.Reference8Ideal.sig) → Buf (Elt Ideal) ℓ) (g : Dev Cert.Reference8Ideal.nD → PrngReg) :
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0) :=
  (θ_run _ _ _).mono (fun r h => ⟨fun c => (h c).2.2, sem_eq_zero_of_no_sems (by decide) r.2⟩) (Cert.Reference8Ideal.Value.run m g)

/-- The same for the reference of the latent attention's backward. -/
theorem frame_reference9 (m : (ℓ : Loc Cert.Reference9Ideal.nD Cert.Reference9Ideal.τ Cert.Reference9Ideal.sig) → Buf (Elt Ideal) ℓ) (g : Dev Cert.Reference9Ideal.nD → PrngReg) :
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0) :=
  (θ_run _ _ _).mono (fun r h => ⟨fun c => (h c).2.2.2, sem_eq_zero_of_no_sems (by decide) r.2⟩) (Cert.Mla.Ref.run m g)

/-- The same for the reference of the latent attention's forward call. -/
theorem frame_reference10 (m : (ℓ : Loc Cert.Reference10Ideal.nD Cert.Reference10Ideal.τ Cert.Reference10Ideal.sig) → Buf (Elt Ideal) ℓ) (g : Dev Cert.Reference10Ideal.nD → PrngReg) :
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0) :=
  (θ_run _ _ _).mono (fun r h => ⟨fun c => (h c).2.2, sem_eq_zero_of_no_sems (by decide) r.2⟩) (Cert.Reference10Ideal.Value.run m g)

/-- The same for the reference of the dilated attention's input projection. -/
theorem frame_reference11 (m : (ℓ : Loc Cert.Reference11Ideal.nD Cert.Reference11Ideal.τ Cert.Reference11Ideal.sig) → Buf (Elt Ideal) ℓ) (g : Dev Cert.Reference11Ideal.nD → PrngReg) :
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0) :=
  (θ_run _ _ _).mono (fun r h => ⟨fun c => (h c).2, sem_eq_zero_of_no_sems (by decide) r.2⟩) (Cert.Reference11Ideal.Value.run m g)

/-- The same for the reference of the gradient of its weight. -/
theorem frame_reference12 (m : (ℓ : Loc Cert.Reference12Ideal.nD Cert.Reference12Ideal.τ Cert.Reference12Ideal.sig) → Buf (Elt Ideal) ℓ) (g : Dev Cert.Reference12Ideal.nD → PrngReg) :
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0) :=
  (θ_run _ _ _).mono (fun r h => ⟨fun c => (h c).2, sem_eq_zero_of_no_sems (by decide) r.2⟩) (Cert.Reference12Ideal.Value.run m g)

/-- The same for the reference of the gradient of its input. -/
theorem frame_reference13 (m : (ℓ : Loc Cert.Reference13Ideal.nD Cert.Reference13Ideal.τ Cert.Reference13Ideal.sig) → Buf (Elt Ideal) ℓ) (g : Dev Cert.Reference13Ideal.nD → PrngReg) :
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0) :=
  (θ_run _ _ _).mono (fun r h => ⟨fun c => (h c).2, sem_eq_zero_of_no_sems (by decide) r.2⟩) (Cert.Reference13Ideal.Value.run m g)

/-- The same for the reference of the query projection. -/
theorem frame_reference14 (m : (ℓ : Loc Cert.Reference14Ideal.nD Cert.Reference14Ideal.τ Cert.Reference14Ideal.sig) → Buf (Elt Ideal) ℓ) (g : Dev Cert.Reference14Ideal.nD → PrngReg) :
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0) :=
  (θ_run _ _ _).mono (fun r h => ⟨fun c => (h c).2, sem_eq_zero_of_no_sems (by decide) r.2⟩) (Cert.Reference14Ideal.Value.run m g)

/-- The same for the reference of the attention's output projection. -/
theorem frame_reference15 (m : (ℓ : Loc Cert.Reference15Ideal.nD Cert.Reference15Ideal.τ Cert.Reference15Ideal.sig) → Buf (Elt Ideal) ℓ) (g : Dev Cert.Reference15Ideal.nD → PrngReg) :
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0) :=
  (θ_run _ _ _).mono (fun r h => ⟨fun c => (h c).2, sem_eq_zero_of_no_sems (by decide) r.2⟩) (Cert.Reference15Ideal.Value.run m g)

/-- The same for the reference of the gradient of the attention's result. -/
theorem frame_reference16 (m : (ℓ : Loc Cert.Reference16Ideal.nD Cert.Reference16Ideal.τ Cert.Reference16Ideal.sig) → Buf (Elt Ideal) ℓ) (g : Dev Cert.Reference16Ideal.nD → PrngReg) :
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0) :=
  (θ_run _ _ _).mono (fun r h => ⟨fun c => (h c).2, sem_eq_zero_of_no_sems (by decide) r.2⟩) (Cert.Reference16Ideal.Value.run m g)

/-- The same for the reference of the gradient of the query projection's input. -/
theorem frame_reference17 (m : (ℓ : Loc Cert.Reference17Ideal.nD Cert.Reference17Ideal.τ Cert.Reference17Ideal.sig) → Buf (Elt Ideal) ℓ) (g : Dev Cert.Reference17Ideal.nD → PrngReg) :
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0) :=
  (θ_run _ _ _).mono (fun r h => ⟨fun c => (h c).2, sem_eq_zero_of_no_sems (by decide) r.2⟩) (Cert.Reference17Ideal.Value.run m g)

/-- The same for the reference of the gradient of the output projection's weight. -/
theorem frame_reference18 (m : (ℓ : Loc Cert.Reference18Ideal.nD Cert.Reference18Ideal.τ Cert.Reference18Ideal.sig) → Buf (Elt Ideal) ℓ) (g : Dev Cert.Reference18Ideal.nD → PrngReg) :
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0) :=
  (θ_run _ _ _).mono (fun r h => ⟨fun c => (h c).2, sem_eq_zero_of_no_sems (by decide) r.2⟩) (Cert.Reference18Ideal.Value.run m g)

/-- The same for the reference of the gradient of the query projection's weight. -/
theorem frame_reference19 (m : (ℓ : Loc Cert.Reference19Ideal.nD Cert.Reference19Ideal.τ Cert.Reference19Ideal.sig) → Buf (Elt Ideal) ℓ) (g : Dev Cert.Reference19Ideal.nD → PrngReg) :
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0) :=
  (θ_run _ _ _).mono (fun r h => ⟨fun c => (h c).2, sem_eq_zero_of_no_sems (by decide) r.2⟩) (Cert.Reference19Ideal.Value.run m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Attn.Pre.facts, Cert.GateUpGrad.Pre.facts, Cert.AttnFwd.Pre.facts, Cert.Mla.Pre.facts, Cert.MlaFwd.Pre.facts,
  fun m g _ => Cert.Kernel.Gen.frame m g,
  fun m g _ => Cert.KernelIdeal.Gen.frame m g,
  fun m g _ => Cert.KernelIdeal.Gen.frame m g,
  fun m g _ => frame_reference m g,
  fun m g _ => frame_reference m g,
  fun m g _ => Cert.Kernel2.Gen.frame m g,
  fun m g _ => Cert.Kernel2Ideal.Gen.frame m g,
  fun m g _ => Cert.Kernel2Ideal.Gen.frame m g,
  fun m g _ => frame_reference2 m g,
  fun m g _ => frame_reference2 m g,
  fun m g _ => Cert.Kernel3.Gen.frame m g,
  fun m g _ => Cert.Kernel3Ideal.Gen.frame m g,
  fun m g _ => frame_reference3 m g,
  fun m g _ => Cert.Kernel4.Gen.frame m g,
  fun m g _ => Cert.Kernel4Ideal.Gen.frame m g,
  fun m g _ => frame_reference4 m g,
  fun m g _ => Cert.Kernel5.Gen.frame m g,
  fun m g _ => Cert.Kernel5Ideal.Gen.frame m g,
  fun m g _ => frame_reference5 m g,
  fun m g _ => Cert.Kernel6.Gen.frame m g,
  fun m g _ => Cert.Kernel6Ideal.Gen.frame m g,
  fun m g _ => frame_reference6 m g,
  fun m g _ => Cert.Kernel7.Gen.frame m g,
  fun m g _ => Cert.Kernel7Ideal.Gen.frame m g,
  fun m g _ => frame_reference7 m g,
  fun m g _ => Cert.Kernel8.Gen.frame m g,
  fun m g _ => Cert.Kernel8Ideal.Gen.frame m g,
  fun m g _ => Cert.Kernel8Ideal.Gen.frame m g,
  fun m g _ => frame_reference8 m g,
  fun m g _ => frame_reference8 m g,
  fun m g _ => Cert.Kernel9.Gen.frame m g,
  fun m g _ => Cert.Kernel9Ideal.Gen.frame m g,
  fun m g _ => Cert.Kernel9Ideal.Gen.frame m g,
  fun m g _ => frame_reference9 m g,
  fun m g _ => frame_reference9 m g,
  fun m g _ => Cert.Kernel10.Gen.frame m g,
  fun m g _ => Cert.Kernel10Ideal.Gen.frame m g,
  fun m g _ => Cert.Kernel10Ideal.Gen.frame m g,
  fun m g _ => frame_reference10 m g,
  fun m g _ => frame_reference10 m g,
  fun m g _ => Cert.Kernel11.Gen.frame m g,
  fun m g _ => Cert.Kernel11Ideal.Gen.frame m g,
  fun m g _ => frame_reference11 m g,
  fun m g _ => Cert.Kernel12.Gen.frame m g,
  fun m g _ => Cert.Kernel12Ideal.Gen.frame m g,
  fun m g _ => frame_reference12 m g,
  fun m g _ => Cert.Kernel13.Gen.frame m g,
  fun m g _ => Cert.Kernel13Ideal.Gen.frame m g,
  fun m g _ => frame_reference13 m g,
  fun m g _ => Cert.Kernel14.Gen.frame m g,
  fun m g _ => Cert.Kernel14Ideal.Gen.frame m g,
  fun m g _ => frame_reference14 m g,
  fun m g _ => Cert.Kernel15.Gen.frame m g,
  fun m g _ => Cert.Kernel15Ideal.Gen.frame m g,
  fun m g _ => frame_reference15 m g,
  fun m g _ => Cert.Kernel16.Gen.frame m g,
  fun m g _ => Cert.Kernel16Ideal.Gen.frame m g,
  fun m g _ => frame_reference16 m g,
  fun m g _ => Cert.Kernel17.Gen.frame m g,
  fun m g _ => Cert.Kernel17Ideal.Gen.frame m g,
  fun m g _ => frame_reference17 m g,
  fun m g _ => Cert.Kernel18.Gen.frame m g,
  fun m g _ => Cert.Kernel18Ideal.Gen.frame m g,
  fun m g _ => frame_reference18 m g,
  fun m g _ => Cert.Kernel19.Gen.frame m g,
  fun m g _ => Cert.Kernel19Ideal.Gen.frame m g,
  fun m g _ => frame_reference19 m g,
  IdealRules.named_const.statement Cert.KernelIdeal.κ "ln_2" .f32 0x3F317218#32 ((Real.log 2 : ℝ) : EReal) rfl,
  fun m g m' g' hpre hagree => Cert.Attn.algebraic m g m' g' hpre hagree,
  trivial,
  Cert.GateUpGrad.algebraic,
  trivial,
  Cert.WGrad.algebraic,
  trivial,
  Cert.WOutGrad.algebraic,
  trivial,
  Cert.Down.algebraic,
  trivial,
  Cert.HnGrad.algebraic,
  trivial,
  Cert.GateUp.algebraic,
  IdealRules.named_const.statement Cert.Kernel8Ideal.κ "log2_e" .f32 0x3FB8AA3B#32 (((Real.log 2)⁻¹ : ℝ) : EReal) rfl,
  Cert.AttnFwd.algebraic,
  ⟨IdealRules.named_const.statement Cert.Kernel9Ideal.κ "scale" .f32 0x3DD105EC#32 (((Real.sqrt 96)⁻¹ : ℝ) : EReal) rfl,
    IdealRules.named_const.statement Cert.Kernel9Ideal.κ "ln_2" .f32 0x3F317218#32 ((Real.log 2 : ℝ) : EReal) rfl⟩,
  Cert.Mla.algebraic,
  IdealRules.named_const.statement Cert.Kernel10Ideal.κ "log2_e" .f32 0x3FB8AA3B#32 (((Real.log 2)⁻¹ : ℝ) : EReal) rfl,
  Cert.MlaFwd.algebraic,
  trivial,
  Cert.ProjB.algebraic,
  trivial,
  Cert.ProjBWGrad.algebraic,
  trivial,
  Cert.ProjBGrad.algebraic,
  trivial,
  Cert.ProjQ.algebraic,
  trivial,
  Cert.ProjOut.algebraic,
  trivial,
  Cert.ProjOutGrad.algebraic,
  trivial,
  Cert.ProjQGrad.algebraic,
  trivial,
  Cert.ProjOWGrad.algebraic,
  trivial,
  Cert.ProjQWGrad.algebraic⟩

end Cert.Proof

end
